-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_gqa_finite [hPre_gqa_finite : Cert.Pre_gqa_finite.Facts] (m : (ℓ : Loc Cert.GqaIdeal.nD Cert.GqaIdeal.τ Cert.GqaIdeal.sig) → Buf (Elt Ideal) ℓ) : Prop :=
  ∀ c : Dev Cert.GqaIdeal.nD,
    (Cert.Pre_gqa_finite.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3)) (m ((c.tc : Thread Cert.GqaIdeal.nD Cert.GqaIdeal.τ).loc Cert.GqaIdeal.main_arg4))) = (fun _ => 1#1)

def Pre_GqaReferenceIdeal (m : (ℓ : Loc Cert.GqaReferenceIdeal.nD Cert.GqaReferenceIdeal.τ Cert.GqaReferenceIdeal.sig) → Buf (Elt Ideal) ℓ) : Prop :=
  True

def Pre_GqaReferenceIdeal_gqa_finite [hPre_gqa_finite : Cert.Pre_gqa_finite.Facts] (m : (ℓ : Loc Cert.GqaReferenceIdeal.nD Cert.GqaReferenceIdeal.τ Cert.GqaReferenceIdeal.sig) → Buf (Elt Ideal) ℓ) : Prop :=
  ∀ c : Dev Cert.GqaReferenceIdeal.nD,
    (Cert.Pre_gqa_finite.fn (F := Ideal) (m ((c.tc : Thread Cert.GqaReferenceIdeal.nD Cert.GqaReferenceIdeal.τ).loc Cert.GqaReferenceIdeal.main_arg0)) (m ((c.tc : Thread Cert.GqaReferenceIdeal.nD Cert.GqaReferenceIdeal.τ).loc Cert.GqaReferenceIdeal.main_arg1)) (m ((c.tc : Thread Cert.GqaReferenceIdeal.nD Cert.GqaReferenceIdeal.τ).loc Cert.GqaReferenceIdeal.main_arg2)) (m ((c.tc : Thread Cert.GqaReferenceIdeal.nD Cert.GqaReferenceIdeal.τ).loc Cert.GqaReferenceIdeal.main_arg3)) (m ((c.tc : Thread Cert.GqaReferenceIdeal.nD Cert.GqaReferenceIdeal.τ).loc Cert.GqaReferenceIdeal.main_arg4))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10))
      ∧ r.2.sem = fun _ => 0)

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2)
      ∧ r.2.mem ((c.tc : Thread Cert.Gqa.nD Cert.Gqa.τ).loc Cert.Gqa.main_arg3) = m ((c.tc : Thread Cert.Gqa.nD Cert.Gqa.τ).loc Cert.Gqa.main_arg3)
      ∧ r.2.mem ((c.tc : Thread Cert.Gqa.nD Cert.Gqa.τ).loc Cert.Gqa.main_arg4) = m ((c.tc : Thread Cert.Gqa.nD Cert.Gqa.τ).loc Cert.Gqa.main_arg4))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
      ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4))
      ∧ r.2.sem = fun _ => 0)

def quiescent_GqaIdeal_pre_gqa_finite [hGqaIdeal : Cert.GqaIdeal.Facts] [hPre_gqa_finite : Cert.Pre_gqa_finite.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_gqa_finite m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
      ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4))
      ∧ r.2.sem = fun _ => 0)

def quiescent_GqaReferenceIdeal [hGqaReferenceIdeal : Cert.GqaReferenceIdeal.Facts] : Prop :=
  ∀ (m : (ℓ : Loc Cert.GqaReferenceIdeal.nD Cert.GqaReferenceIdeal.τ Cert.GqaReferenceIdeal.sig) → Buf (Elt Ideal) ℓ) (g : Dev Cert.GqaReferenceIdeal.nD → PrngReg), Pre_GqaReferenceIdeal m →
    θ_run (Cert.GqaReferenceIdeal.defs (F := Ideal)) (onTc (τ := Cert.GqaReferenceIdeal.τ) (Cert.GqaReferenceIdeal.main (F := Ideal))) ⟨m, fun _ => 0, g⟩ (fun r => (∀ c : Dev Cert.GqaReferenceIdeal.nD,
      r.2.mem ((c.tc : Thread Cert.GqaReferenceIdeal.nD Cert.GqaReferenceIdeal.τ).loc Cert.GqaReferenceIdeal.main_arg0) = m ((c.tc : Thread Cert.GqaReferenceIdeal.nD Cert.GqaReferenceIdeal.τ).loc Cert.GqaReferenceIdeal.main_arg0)
      ∧ r.2.mem ((c.tc : Thread Cert.GqaReferenceIdeal.nD Cert.GqaReferenceIdeal.τ).loc Cert.GqaReferenceIdeal.main_arg1) = m ((c.tc : Thread Cert.GqaReferenceIdeal.nD Cert.GqaReferenceIdeal.τ).loc Cert.GqaReferenceIdeal.main_arg1)
      ∧ r.2.mem ((c.tc : Thread Cert.GqaReferenceIdeal.nD Cert.GqaReferenceIdeal.τ).loc Cert.GqaReferenceIdeal.main_arg2) = m ((c.tc : Thread Cert.GqaReferenceIdeal.nD Cert.GqaReferenceIdeal.τ).loc Cert.GqaReferenceIdeal.main_arg2)
      ∧ r.2.mem ((c.tc : Thread Cert.GqaReferenceIdeal.nD Cert.GqaReferenceIdeal.τ).loc Cert.GqaReferenceIdeal.main_arg3) = m ((c.tc : Thread Cert.GqaReferenceIdeal.nD Cert.GqaReferenceIdeal.τ).loc Cert.GqaReferenceIdeal.main_arg3)
      ∧ r.2.mem ((c.tc : Thread Cert.GqaReferenceIdeal.nD Cert.GqaReferenceIdeal.τ).loc Cert.GqaReferenceIdeal.main_arg4) = m ((c.tc : Thread Cert.GqaReferenceIdeal.nD Cert.GqaReferenceIdeal.τ).loc Cert.GqaReferenceIdeal.main_arg4))
      ∧ r.2.sem = fun _ => 0)

def quiescent_GqaReferenceIdeal_pre_gqa_finite [hGqaReferenceIdeal : Cert.GqaReferenceIdeal.Facts] [hPre_gqa_finite : Cert.Pre_gqa_finite.Facts] : Prop :=
  ∀ (m : (ℓ : Loc Cert.GqaReferenceIdeal.nD Cert.GqaReferenceIdeal.τ Cert.GqaReferenceIdeal.sig) → Buf (Elt Ideal) ℓ) (g : Dev Cert.GqaReferenceIdeal.nD → PrngReg), Pre_GqaReferenceIdeal_gqa_finite m →
    θ_run (Cert.GqaReferenceIdeal.defs (F := Ideal)) (onTc (τ := Cert.GqaReferenceIdeal.τ) (Cert.GqaReferenceIdeal.main (F := Ideal))) ⟨m, fun _ => 0, g⟩ (fun r => (∀ c : Dev Cert.GqaReferenceIdeal.nD,
      r.2.mem ((c.tc : Thread Cert.GqaReferenceIdeal.nD Cert.GqaReferenceIdeal.τ).loc Cert.GqaReferenceIdeal.main_arg0) = m ((c.tc : Thread Cert.GqaReferenceIdeal.nD Cert.GqaReferenceIdeal.τ).loc Cert.GqaReferenceIdeal.main_arg0)
      ∧ r.2.mem ((c.tc : Thread Cert.GqaReferenceIdeal.nD Cert.GqaReferenceIdeal.τ).loc Cert.GqaReferenceIdeal.main_arg1) = m ((c.tc : Thread Cert.GqaReferenceIdeal.nD Cert.GqaReferenceIdeal.τ).loc Cert.GqaReferenceIdeal.main_arg1)
      ∧ r.2.mem ((c.tc : Thread Cert.GqaReferenceIdeal.nD Cert.GqaReferenceIdeal.τ).loc Cert.GqaReferenceIdeal.main_arg2) = m ((c.tc : Thread Cert.GqaReferenceIdeal.nD Cert.GqaReferenceIdeal.τ).loc Cert.GqaReferenceIdeal.main_arg2)
      ∧ r.2.mem ((c.tc : Thread Cert.GqaReferenceIdeal.nD Cert.GqaReferenceIdeal.τ).loc Cert.GqaReferenceIdeal.main_arg3) = m ((c.tc : Thread Cert.GqaReferenceIdeal.nD Cert.GqaReferenceIdeal.τ).loc Cert.GqaReferenceIdeal.main_arg3)
      ∧ r.2.mem ((c.tc : Thread Cert.GqaReferenceIdeal.nD Cert.GqaReferenceIdeal.τ).loc Cert.GqaReferenceIdeal.main_arg4) = m ((c.tc : Thread Cert.GqaReferenceIdeal.nD Cert.GqaReferenceIdeal.τ).loc Cert.GqaReferenceIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9)
      ∧ r.2.mem ((c.tc : Thread Cert.Proj.nD Cert.Proj.τ).loc Cert.Proj.main_arg10) = m ((c.tc : Thread Cert.Proj.nD Cert.Proj.τ).loc Cert.Proj.main_arg10)
      ∧ r.2.mem ((c.tc : Thread Cert.Proj.nD Cert.Proj.τ).loc Cert.Proj.main_arg11) = m ((c.tc : Thread Cert.Proj.nD Cert.Proj.τ).loc Cert.Proj.main_arg11)
      ∧ r.2.mem ((c.tc : Thread Cert.Proj.nD Cert.Proj.τ).loc Cert.Proj.main_arg12) = m ((c.tc : Thread Cert.Proj.nD Cert.Proj.τ).loc Cert.Proj.main_arg12)
      ∧ r.2.mem ((c.tc : Thread Cert.Proj.nD Cert.Proj.τ).loc Cert.Proj.main_arg13) = m ((c.tc : Thread Cert.Proj.nD Cert.Proj.τ).loc Cert.Proj.main_arg13)
      ∧ r.2.mem ((c.tc : Thread Cert.Proj.nD Cert.Proj.τ).loc Cert.Proj.main_arg14) = m ((c.tc : Thread Cert.Proj.nD Cert.Proj.τ).loc Cert.Proj.main_arg14))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
      ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11)
      ∧ r.2.mem ((c.tc : Thread Cert.ProjIdeal.nD Cert.ProjIdeal.τ).loc Cert.ProjIdeal.main_arg12) = m ((c.tc : Thread Cert.ProjIdeal.nD Cert.ProjIdeal.τ).loc Cert.ProjIdeal.main_arg12)
      ∧ r.2.mem ((c.tc : Thread Cert.ProjIdeal.nD Cert.ProjIdeal.τ).loc Cert.ProjIdeal.main_arg13) = m ((c.tc : Thread Cert.ProjIdeal.nD Cert.ProjIdeal.τ).loc Cert.ProjIdeal.main_arg13)
      ∧ r.2.mem ((c.tc : Thread Cert.ProjIdeal.nD Cert.ProjIdeal.τ).loc Cert.ProjIdeal.main_arg14) = m ((c.tc : Thread Cert.ProjIdeal.nD Cert.ProjIdeal.τ).loc Cert.ProjIdeal.main_arg14))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8)
      ∧ r.2.mem ((c.tc : Thread Cert.ProjReferenceIdeal.nD Cert.ProjReferenceIdeal.τ).loc Cert.ProjReferenceIdeal.main_arg9) = m ((c.tc : Thread Cert.ProjReferenceIdeal.nD Cert.ProjReferenceIdeal.τ).loc Cert.ProjReferenceIdeal.main_arg9)
      ∧ r.2.mem ((c.tc : Thread Cert.ProjReferenceIdeal.nD Cert.ProjReferenceIdeal.τ).loc Cert.ProjReferenceIdeal.main_arg10) = m ((c.tc : Thread Cert.ProjReferenceIdeal.nD Cert.ProjReferenceIdeal.τ).loc Cert.ProjReferenceIdeal.main_arg10)
      ∧ r.2.mem ((c.tc : Thread Cert.ProjReferenceIdeal.nD Cert.ProjReferenceIdeal.τ).loc Cert.ProjReferenceIdeal.main_arg11) = m ((c.tc : Thread Cert.ProjReferenceIdeal.nD Cert.ProjReferenceIdeal.τ).loc Cert.ProjReferenceIdeal.main_arg11)
      ∧ r.2.mem ((c.tc : Thread Cert.ProjReferenceIdeal.nD Cert.ProjReferenceIdeal.τ).loc Cert.ProjReferenceIdeal.main_arg12) = m ((c.tc : Thread Cert.ProjReferenceIdeal.nD Cert.ProjReferenceIdeal.τ).loc Cert.ProjReferenceIdeal.main_arg12)
      ∧ r.2.mem ((c.tc : Thread Cert.ProjReferenceIdeal.nD Cert.ProjReferenceIdeal.τ).loc Cert.ProjReferenceIdeal.main_arg13) = m ((c.tc : Thread Cert.ProjReferenceIdeal.nD Cert.ProjReferenceIdeal.τ).loc Cert.ProjReferenceIdeal.main_arg13)
      ∧ r.2.mem ((c.tc : Thread Cert.ProjReferenceIdeal.nD Cert.ProjReferenceIdeal.τ).loc Cert.ProjReferenceIdeal.main_arg14) = m ((c.tc : Thread Cert.ProjReferenceIdeal.nD Cert.ProjReferenceIdeal.τ).loc Cert.ProjReferenceIdeal.main_arg14))
      ∧ r.2.sem = fun _ => 0)

def preserves_Kernel_KernelIdeal : Prop :=
  IdealRules.named_const.Statement Cert.KernelIdeal.κ "qscale" .f32 0x3E38AA3B#32 (((8 * (Real.log 2))⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v12)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v12) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v41) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10))

def preserves_Gqa_GqaIdeal : Prop :=
  IdealRules.named_const.Statement Cert.GqaIdeal.κ "qscale" .f32 0x3E38AA3B#32 (((8 * (Real.log 2))⁻¹ : ℝ) : EReal)
  ∧ IdealRules.named_const.Statement Cert.GqaIdeal.κ "mask" .f32 0xF149F2CA#32 ⊥

def algebraic_GqaIdeal_GqaReferenceIdeal_pre_gqa_finite [hGqaIdeal : Cert.GqaIdeal.Facts] [hGqaReferenceIdeal : Cert.GqaReferenceIdeal.Facts] [hPre_gqa_finite : Cert.Pre_gqa_finite.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaReferenceIdeal.nD Cert.GqaReferenceIdeal.τ Cert.GqaReferenceIdeal.sig) → Buf (Elt Ideal) ℓ) (g' : Dev Cert.GqaReferenceIdeal.nD → PrngReg), Pre_GqaIdeal_gqa_finite m →
    (∀ c : Dev Cert.GqaIdeal.nD,
      m' ((c.tc : Thread Cert.GqaReferenceIdeal.nD Cert.GqaReferenceIdeal.τ).loc Cert.GqaReferenceIdeal.main_arg0) = m ((c.tc : Thread Cert.GqaIdeal.nD Cert.GqaIdeal.τ).loc Cert.GqaIdeal.main_arg0)
      ∧ m' ((c.tc : Thread Cert.GqaReferenceIdeal.nD Cert.GqaReferenceIdeal.τ).loc Cert.GqaReferenceIdeal.main_arg1) = m ((c.tc : Thread Cert.GqaIdeal.nD Cert.GqaIdeal.τ).loc Cert.GqaIdeal.main_arg1)
      ∧ m' ((c.tc : Thread Cert.GqaReferenceIdeal.nD Cert.GqaReferenceIdeal.τ).loc Cert.GqaReferenceIdeal.main_arg2) = m ((c.tc : Thread Cert.GqaIdeal.nD Cert.GqaIdeal.τ).loc Cert.GqaIdeal.main_arg2)
      ∧ m' ((c.tc : Thread Cert.GqaReferenceIdeal.nD Cert.GqaReferenceIdeal.τ).loc Cert.GqaReferenceIdeal.main_arg3) = m ((c.tc : Thread Cert.GqaIdeal.nD Cert.GqaIdeal.τ).loc Cert.GqaIdeal.main_arg3)
      ∧ m' ((c.tc : Thread Cert.GqaReferenceIdeal.nD Cert.GqaReferenceIdeal.τ).loc Cert.GqaReferenceIdeal.main_arg4) = m ((c.tc : Thread Cert.GqaIdeal.nD Cert.GqaIdeal.τ).loc Cert.GqaIdeal.main_arg4)) →
    ∃ (v0 : (c : Dev Cert.GqaIdeal.nD) → Buf (Elt Ideal) ((c.tc : Thread Cert.GqaIdeal.nD Cert.GqaIdeal.τ).loc Cert.GqaIdeal.main_v37)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v37) = v0 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
          ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
          ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4))
      ∧ θ_run (Cert.GqaReferenceIdeal.defs (F := Ideal)) (onTc (τ := Cert.GqaReferenceIdeal.τ) (Cert.GqaReferenceIdeal.main (F := Ideal))) ⟨m', fun _ => 0, g'⟩ (fun r => ∀ c : Dev Cert.GqaReferenceIdeal.nD,
          r.2.mem ((c.tc : Thread Cert.GqaReferenceIdeal.nD Cert.GqaReferenceIdeal.τ).loc Cert.GqaReferenceIdeal.main_v18) = v0 c
          ∧ r.2.mem ((c.tc : Thread Cert.GqaReferenceIdeal.nD Cert.GqaReferenceIdeal.τ).loc Cert.GqaReferenceIdeal.main_arg0) = m' ((c.tc : Thread Cert.GqaReferenceIdeal.nD Cert.GqaReferenceIdeal.τ).loc Cert.GqaReferenceIdeal.main_arg0)
          ∧ r.2.mem ((c.tc : Thread Cert.GqaReferenceIdeal.nD Cert.GqaReferenceIdeal.τ).loc Cert.GqaReferenceIdeal.main_arg1) = m' ((c.tc : Thread Cert.GqaReferenceIdeal.nD Cert.GqaReferenceIdeal.τ).loc Cert.GqaReferenceIdeal.main_arg1)
          ∧ r.2.mem ((c.tc : Thread Cert.GqaReferenceIdeal.nD Cert.GqaReferenceIdeal.τ).loc Cert.GqaReferenceIdeal.main_arg2) = m' ((c.tc : Thread Cert.GqaReferenceIdeal.nD Cert.GqaReferenceIdeal.τ).loc Cert.GqaReferenceIdeal.main_arg2)
          ∧ r.2.mem ((c.tc : Thread Cert.GqaReferenceIdeal.nD Cert.GqaReferenceIdeal.τ).loc Cert.GqaReferenceIdeal.main_arg3) = m' ((c.tc : Thread Cert.GqaReferenceIdeal.nD Cert.GqaReferenceIdeal.τ).loc Cert.GqaReferenceIdeal.main_arg3)
          ∧ r.2.mem ((c.tc : Thread Cert.GqaReferenceIdeal.nD Cert.GqaReferenceIdeal.τ).loc Cert.GqaReferenceIdeal.main_arg4) = m' ((c.tc : Thread Cert.GqaReferenceIdeal.nD Cert.GqaReferenceIdeal.τ).loc Cert.GqaReferenceIdeal.main_arg4))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)
      ∧ m' ((c.tc : Thread Cert.ProjReferenceIdeal.nD Cert.ProjReferenceIdeal.τ).loc Cert.ProjReferenceIdeal.main_arg7) = m ((c.tc : Thread Cert.ProjIdeal.nD Cert.ProjIdeal.τ).loc Cert.ProjIdeal.main_arg7)
      ∧ m' ((c.tc : Thread Cert.ProjReferenceIdeal.nD Cert.ProjReferenceIdeal.τ).loc Cert.ProjReferenceIdeal.main_arg8) = m ((c.tc : Thread Cert.ProjIdeal.nD Cert.ProjIdeal.τ).loc Cert.ProjIdeal.main_arg8)
      ∧ m' ((c.tc : Thread Cert.ProjReferenceIdeal.nD Cert.ProjReferenceIdeal.τ).loc Cert.ProjReferenceIdeal.main_arg9) = m ((c.tc : Thread Cert.ProjIdeal.nD Cert.ProjIdeal.τ).loc Cert.ProjIdeal.main_arg9)
      ∧ m' ((c.tc : Thread Cert.ProjReferenceIdeal.nD Cert.ProjReferenceIdeal.τ).loc Cert.ProjReferenceIdeal.main_arg10) = m ((c.tc : Thread Cert.ProjIdeal.nD Cert.ProjIdeal.τ).loc Cert.ProjIdeal.main_arg10)
      ∧ m' ((c.tc : Thread Cert.ProjReferenceIdeal.nD Cert.ProjReferenceIdeal.τ).loc Cert.ProjReferenceIdeal.main_arg11) = m ((c.tc : Thread Cert.ProjIdeal.nD Cert.ProjIdeal.τ).loc Cert.ProjIdeal.main_arg11)
      ∧ m' ((c.tc : Thread Cert.ProjReferenceIdeal.nD Cert.ProjReferenceIdeal.τ).loc Cert.ProjReferenceIdeal.main_arg12) = m ((c.tc : Thread Cert.ProjIdeal.nD Cert.ProjIdeal.τ).loc Cert.ProjIdeal.main_arg12)
      ∧ m' ((c.tc : Thread Cert.ProjReferenceIdeal.nD Cert.ProjReferenceIdeal.τ).loc Cert.ProjReferenceIdeal.main_arg13) = m ((c.tc : Thread Cert.ProjIdeal.nD Cert.ProjIdeal.τ).loc Cert.ProjIdeal.main_arg13)
      ∧ m' ((c.tc : Thread Cert.ProjReferenceIdeal.nD Cert.ProjReferenceIdeal.τ).loc Cert.ProjReferenceIdeal.main_arg14) = m ((c.tc : Thread Cert.ProjIdeal.nD Cert.ProjIdeal.τ).loc Cert.ProjIdeal.main_arg14)) →
    ∃ (v0 : (c : Dev Cert.ProjIdeal.nD) → Buf (Elt Ideal) ((c.tc : Thread Cert.ProjIdeal.nD Cert.ProjIdeal.τ).loc Cert.ProjIdeal.main_v38_0)) (v1 : (c : Dev Cert.ProjIdeal.nD) → Buf (Elt Ideal) ((c.tc : Thread Cert.ProjIdeal.nD Cert.ProjIdeal.τ).loc Cert.ProjIdeal.main_v38_2)) (v2 : (c : Dev Cert.ProjIdeal.nD) → Buf (Elt Ideal) ((c.tc : Thread Cert.ProjIdeal.nD Cert.ProjIdeal.τ).loc Cert.ProjIdeal.main_v38_4)) (v3 : (c : Dev Cert.ProjIdeal.nD) → Buf (Elt Ideal) ((c.tc : Thread Cert.ProjIdeal.nD Cert.ProjIdeal.τ).loc Cert.ProjIdeal.main_v38_6)) (v4 : (c : Dev Cert.ProjIdeal.nD) → Buf (Elt Ideal) ((c.tc : Thread Cert.ProjIdeal.nD Cert.ProjIdeal.τ).loc Cert.ProjIdeal.main_v38_7)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v38_0) = v0 c
          ∧ r.2.mem ((c.tc : Thread Cert.ProjIdeal.nD Cert.ProjIdeal.τ).loc Cert.ProjIdeal.main_v38_2) = v1 c
          ∧ r.2.mem ((c.tc : Thread Cert.ProjIdeal.nD Cert.ProjIdeal.τ).loc Cert.ProjIdeal.main_v38_4) = v2 c
          ∧ r.2.mem ((c.tc : Thread Cert.ProjIdeal.nD Cert.ProjIdeal.τ).loc Cert.ProjIdeal.main_v38_6) = v3 c
          ∧ r.2.mem ((c.tc : Thread Cert.ProjIdeal.nD Cert.ProjIdeal.τ).loc Cert.ProjIdeal.main_v38_7) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
          ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
          ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11)
          ∧ r.2.mem ((c.tc : Thread Cert.ProjIdeal.nD Cert.ProjIdeal.τ).loc Cert.ProjIdeal.main_arg12) = m ((c.tc : Thread Cert.ProjIdeal.nD Cert.ProjIdeal.τ).loc Cert.ProjIdeal.main_arg12)
          ∧ r.2.mem ((c.tc : Thread Cert.ProjIdeal.nD Cert.ProjIdeal.τ).loc Cert.ProjIdeal.main_arg13) = m ((c.tc : Thread Cert.ProjIdeal.nD Cert.ProjIdeal.τ).loc Cert.ProjIdeal.main_arg13)
          ∧ r.2.mem ((c.tc : Thread Cert.ProjIdeal.nD Cert.ProjIdeal.τ).loc Cert.ProjIdeal.main_arg14) = m ((c.tc : Thread Cert.ProjIdeal.nD Cert.ProjIdeal.τ).loc Cert.ProjIdeal.main_arg14))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v67) = v0 c
          ∧ r.2.mem ((c.tc : Thread Cert.ProjReferenceIdeal.nD Cert.ProjReferenceIdeal.τ).loc Cert.ProjReferenceIdeal.main_v69) = v1 c
          ∧ r.2.mem ((c.tc : Thread Cert.ProjReferenceIdeal.nD Cert.ProjReferenceIdeal.τ).loc Cert.ProjReferenceIdeal.main_v71) = v2 c
          ∧ r.2.mem ((c.tc : Thread Cert.ProjReferenceIdeal.nD Cert.ProjReferenceIdeal.τ).loc Cert.ProjReferenceIdeal.main_v73) = v3 c
          ∧ r.2.mem ((c.tc : Thread Cert.ProjReferenceIdeal.nD Cert.ProjReferenceIdeal.τ).loc Cert.ProjReferenceIdeal.main_v75) = v4 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7)
          ∧ r.2.mem ((c.tc : Thread Cert.ProjReferenceIdeal.nD Cert.ProjReferenceIdeal.τ).loc Cert.ProjReferenceIdeal.main_arg8) = m' ((c.tc : Thread Cert.ProjReferenceIdeal.nD Cert.ProjReferenceIdeal.τ).loc Cert.ProjReferenceIdeal.main_arg8)
          ∧ r.2.mem ((c.tc : Thread Cert.ProjReferenceIdeal.nD Cert.ProjReferenceIdeal.τ).loc Cert.ProjReferenceIdeal.main_arg9) = m' ((c.tc : Thread Cert.ProjReferenceIdeal.nD Cert.ProjReferenceIdeal.τ).loc Cert.ProjReferenceIdeal.main_arg9)
          ∧ r.2.mem ((c.tc : Thread Cert.ProjReferenceIdeal.nD Cert.ProjReferenceIdeal.τ).loc Cert.ProjReferenceIdeal.main_arg10) = m' ((c.tc : Thread Cert.ProjReferenceIdeal.nD Cert.ProjReferenceIdeal.τ).loc Cert.ProjReferenceIdeal.main_arg10)
          ∧ r.2.mem ((c.tc : Thread Cert.ProjReferenceIdeal.nD Cert.ProjReferenceIdeal.τ).loc Cert.ProjReferenceIdeal.main_arg11) = m' ((c.tc : Thread Cert.ProjReferenceIdeal.nD Cert.ProjReferenceIdeal.τ).loc Cert.ProjReferenceIdeal.main_arg11)
          ∧ r.2.mem ((c.tc : Thread Cert.ProjReferenceIdeal.nD Cert.ProjReferenceIdeal.τ).loc Cert.ProjReferenceIdeal.main_arg12) = m' ((c.tc : Thread Cert.ProjReferenceIdeal.nD Cert.ProjReferenceIdeal.τ).loc Cert.ProjReferenceIdeal.main_arg12)
          ∧ r.2.mem ((c.tc : Thread Cert.ProjReferenceIdeal.nD Cert.ProjReferenceIdeal.τ).loc Cert.ProjReferenceIdeal.main_arg13) = m' ((c.tc : Thread Cert.ProjReferenceIdeal.nD Cert.ProjReferenceIdeal.τ).loc Cert.ProjReferenceIdeal.main_arg13)
          ∧ r.2.mem ((c.tc : Thread Cert.ProjReferenceIdeal.nD Cert.ProjReferenceIdeal.τ).loc Cert.ProjReferenceIdeal.main_arg14) = m' ((c.tc : Thread Cert.ProjReferenceIdeal.nD Cert.ProjReferenceIdeal.τ).loc Cert.ProjReferenceIdeal.main_arg14))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeReferenceIdeal : Cert.MergeReferenceIdeal.Facts) (hGqa : Cert.Gqa.Facts) (hGqaIdeal : Cert.GqaIdeal.Facts) (hGqaReferenceIdeal : Cert.GqaReferenceIdeal.Facts) (hProj : Cert.Proj.Facts) (hProjIdeal : Cert.ProjIdeal.Facts) (hProjReferenceIdeal : Cert.ProjReferenceIdeal.Facts) (hPre_finite : Cert.Pre_finite.Facts) (hPre_gqa_finite : Cert.Pre_gqa_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Merge (hMerge := hMerge)
    ∧ quiescent_MergeIdeal (hMergeIdeal := hMergeIdeal)
    ∧ quiescent_MergeReferenceIdeal (hMergeReferenceIdeal := hMergeReferenceIdeal)
    ∧ quiescent_Gqa (hGqa := hGqa)
    ∧ quiescent_GqaIdeal (hGqaIdeal := hGqaIdeal)
    ∧ quiescent_GqaIdeal_pre_gqa_finite (hGqaIdeal := hGqaIdeal) (hPre_gqa_finite := hPre_gqa_finite)
    ∧ quiescent_GqaReferenceIdeal (hGqaReferenceIdeal := hGqaReferenceIdeal)
    ∧ quiescent_GqaReferenceIdeal_pre_gqa_finite (hGqaReferenceIdeal := hGqaReferenceIdeal) (hPre_gqa_finite := hPre_gqa_finite)
    ∧ quiescent_Proj (hProj := hProj)
    ∧ quiescent_ProjIdeal (hProjIdeal := hProjIdeal)
    ∧ quiescent_ProjReferenceIdeal (hProjReferenceIdeal := hProjReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Merge_MergeIdeal
    ∧ algebraic_MergeIdeal_MergeReferenceIdeal (hMergeIdeal := hMergeIdeal) (hMergeReferenceIdeal := hMergeReferenceIdeal)
    ∧ preserves_Gqa_GqaIdeal
    ∧ algebraic_GqaIdeal_GqaReferenceIdeal_pre_gqa_finite (hGqaIdeal := hGqaIdeal) (hGqaReferenceIdeal := hGqaReferenceIdeal) (hPre_gqa_finite := hPre_gqa_finite)
    ∧ preserves_Proj_ProjIdeal
    ∧ algebraic_ProjIdeal_ProjReferenceIdeal (hProjIdeal := hProjIdeal) (hProjReferenceIdeal := hProjReferenceIdeal)
-- ==== Pre_finite.lean ====
abbrev S4x8192x4x2x64 : Shape := ⟨5, ![4, 8192, 4, 2, 64]⟩
abbrev S4x8192x4x128 : Shape := ⟨4, ![4, 8192, 4, 128]⟩
abbrev S64 : Shape := ⟨1, ![64]⟩
abbrev S128 : Shape := ⟨1, ![128]⟩
abbrev S_ : Shape := ⟨0, ![]⟩

class Facts : Prop where
  bcast_S_S4x8192x4x2x64 : S_.BroadcastsInDim S4x8192x4x2x64 (![] : Fin 0 → Fin S4x8192x4x2x64.rank)
  reducesTo_S4x8192x4x2x64_S_d0_1_2_3_4 : S4x8192x4x2x64.ReducesTo [0, 1, 2, 3, 4] S_
  h_S_ : 0 < S_.numel
  bcast_S_S4x8192x4x128 : S_.BroadcastsInDim S4x8192x4x128 (![] : Fin 0 → Fin S4x8192x4x128.rank)
  reducesTo_S4x8192x4x128_S_d0_1_2_3 : S4x8192x4x128.ReducesTo [0, 1, 2, 3] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_arg7 : FVec F S64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S4x8192x4x2x64 .f32) (main_arg1 : FVec F S4x8192x4x2x64 .f32) (main_arg2 : FVec F S4x8192x4x128 .f32) (main_arg3 : FVec F S64 .f32) (main_arg4 : FVec F S64 .f32) (main_arg5 : FVec F S64 .f32) (main_arg6 : FVec F S64 .f32) (main_arg7 : FVec F S64 .f32) (main_arg8 : FVec F S64 .f32) (main_arg9 : FVec F S128 .f32) : IVec S_ 1 :=
  let main_v0 : FVec F S4x8192x4x2x64 .f32 := Host.absf main_arg0
  let main_cst : FVec F S_ .f32 := constant S_ .f32 0x7F800000#32
  let main_v1 : FVec F S4x8192x4x2x64 .f32 := broadcastInDim S4x8192x4x2x64 ![] bcast_S_S4x8192x4x2x64 main_cst
  let main_v2 : IVec S4x8192x4x2x64 1 := cmpf .olt main_v0 main_v1
  let main_c : IVec S_ 1 := constantI S_ 1 1#1
  let main_v3 : IVec S_ 1 := (fun x v => Host.reduce IntOp.andi x v reducesTo_S4x8192x4x2x64_S_d0_1_2_3_4 h_S_) main_v2 main_c
  let main_v4 : FVec F S4x8192x4x2x64 .f32 := Host.absf main_arg1
  let main_cst_0 : FVec F S_ .f32 := constant S_ .f32 0x7F800000#32
  let main_v5 : FVec F S4x8192x4x2x64 .f32 := broadcastInDim S4x8192x4x2x64 ![] bcast_S_S4x8192x4x2x64 main_cst_0
  let main_v6 : IVec S4x8192x4x2x64 1 := cmpf .olt main_v4 main_v5
  let main_c_1 : IVec S_ 1 := constantI S_ 1 1#1
  let main_v7 : IVec S_ 1 := (fun x v => Host.reduce IntOp.andi x v reducesTo_S4x8192x4x2x64_S_d0_1_2_3_4 h_S_) main_v6 main_c_1
  let main_v8 : IVec S_ 1 := andi main_v3 main_v7
  let main_v9 : FVec F S4x8192x4x128 .f32 := Host.absf main_arg2
  let main_cst_2 : FVec F S_ .f32 := constant S_ .f32 0x7F800000#32
  let main_v10 : FVec F S4x8192x4x128 .f32 := broadcastInDim S4x8192x4x128 ![] bcast_S_S4x8192x4x128 main_cst_2
  let main_v11 : IVec S4x8192x4x128 1 := cmpf .olt main_v9 main_v10
  let main_c_3 : IVec S_ 1 := constantI S_ 1 1#1
  let main_v12 : IVec S_ 1 := (fun x v => Host.reduce IntOp.andi x v reducesTo_S4x8192x4x128_S_d0_1_2_3 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_v13 main_v16
-- ==== Pre_gqa_finite.lean ====
abbrev S4x8192x2x4x64 : Shape := ⟨5, ![4, 8192, 2, 4, 64]⟩
abbrev S4x8192x2x64 : Shape := ⟨4, ![4, 8192, 2, 64]⟩
abbrev S64 : Shape := ⟨1, ![64]⟩
abbrev S_ : Shape := ⟨0, ![]⟩

class Facts : Prop where
  bcast_S_S4x8192x2x4x64 : S_.BroadcastsInDim S4x8192x2x4x64 (![] : Fin 0 → Fin S4x8192x2x4x64.rank)
  reducesTo_S4x8192x2x4x64_S_d0_1_2_3_4 : S4x8192x2x4x64.ReducesTo [0, 1, 2, 3, 4] S_
  h_S_ : 0 < S_.numel
  bcast_S_S4x8192x2x64 : S_.BroadcastsInDim S4x8192x2x64 (![] : Fin 0 → Fin S4x8192x2x64.rank)
  reducesTo_S4x8192x2x64_S_d0_1_2_3 : S4x8192x2x64.ReducesTo [0, 1, 2, 3] S_

variable [Facts]

def fn {F : FTy → Type} [FloatOps F] (main_arg0 : FVec F S4x8192x2x4x64 .f32) (main_arg1 : FVec F S4x8192x2x64 .f32) (main_arg2 : FVec F S4x8192x2x64 .f32) (main_arg3 : FVec F S64 .f32) (main_arg4 : FVec F S64 .f32) : IVec S_ 1 :=
  let main_v0 : FVec F S4x8192x2x4x64 .f32 := Host.absf main_arg0
  let main_cst : FVec F S_ .f32 := constant S_ .f32 0x7F800000#32
  let main_v1 : FVec F S4x8192x2x4x64 .f32 := broadcastInDim S4x8192x2x4x64 ![] bcast_S_S4x8192x2x4x64 main_cst
  let main_v2 : IVec S4x8192x2x4x64 1 := cmpf .olt main_v0 main_v1
  let main_c : IVec S_ 1 := constantI S_ 1 1#1
  let main_v3 : IVec S_ 1 := (fun x v => Host.reduce IntOp.andi x v reducesTo_S4x8192x2x4x64_S_d0_1_2_3_4 h_S_) main_v2 main_c
  let main_v4 : FVec F S4x8192x2x64 .f32 := Host.absf main_arg1
  let main_cst_0 : FVec F S_ .f32 := constant S_ .f32 0x7F800000#32
  let main_v5 : FVec F S4x8192x2x64 .f32 := broadcastInDim S4x8192x2x64 ![] bcast_S_S4x8192x2x64 main_cst_0
  let main_v6 : IVec S4x8192x2x64 1 := cmpf .olt main_v4 main_v5
  let main_c_1 : IVec S_ 1 := constantI S_ 1 1#1
  let main_v7 : IVec S_ 1 := (fun x v => Host.reduce IntOp.andi x v reducesTo_S4x8192x2x64_S_d0_1_2_3 h_S_) main_v6 main_c_1
  let main_v8 : IVec S_ 1 := andi main_v3 main_v7
  let main_v9 : FVec F S4x8192x2x64 .f32 := Host.absf main_arg2
  let main_cst_2 : FVec F S_ .f32 := constant S_ .f32 0x7F800000#32
  let main_v10 : FVec F S4x8192x2x64 .f32 := broadcastInDim S4x8192x2x64 ![] bcast_S_S4x8192x2x64 main_cst_2
  let main_v11 : IVec S4x8192x2x64 1 := cmpf .olt main_v9 main_v10
  let main_c_3 : IVec S_ 1 := constantI S_ 1 1#1
  let main_v12 : IVec S_ 1 := (fun x v => Host.reduce IntOp.andi x v reducesTo_S4x8192x2x64_S_d0_1_2_3 h_S_) main_v11 main_c_3
  let main_v13 : IVec S_ 1 := andi main_v8 main_v12
  main_v13
-- ==== Kernel.lean ====
abbrev S4x8192x4x2x64 : Shape := ⟨5, ![4, 8192, 4, 2, 64]⟩
abbrev S4x8192x4x128 : Shape := ⟨4, ![4, 8192, 4, 128]⟩
abbrev S64 : Shape := ⟨1, ![64]⟩
abbrev S128 : Shape := ⟨1, ![128]⟩
abbrev S64x512x4x2x64 : Shape := ⟨5, ![64, 512, 4, 2, 64]⟩
abbrev S_ : Shape := ⟨0, ![]⟩
abbrev S64x512x4x64 : Shape := ⟨4, ![64, 512, 4, 64]⟩
abbrev S64x512x4x1x64 : Shape := ⟨5, ![64, 512, 4, 1, 64]⟩
abbrev S64x512x4x128 : Shape := ⟨4, ![64, 512, 4, 128]⟩
abbrev S64x4x128x512 : Shape := ⟨4, ![64, 4, 128, 512]⟩
abbrev S64x4x128x1024 : Shape := ⟨4, ![64, 4, 128, 1024]⟩
abbrev S32768x512 : Shape := ⟨2, ![32768, 512]⟩
abbrev S64x4x16x512 : Shape := ⟨4, ![64, 4, 16, 512]⟩
abbrev S64x4x144x512 : Shape := ⟨4, ![64, 4, 144, 512]⟩
abbrev S1x64 : Shape := ⟨2, ![1, 64]⟩
abbrev S4x64 : Shape := ⟨2, ![4, 64]⟩
abbrev S1 : Shape := ⟨1, ![1]⟩
abbrev S1x128 : Shape := ⟨2, ![1, 128]⟩
abbrev S2x1x128x1024 : Shape := ⟨4, ![2, 1, 128, 1024]⟩
abbrev S8192x128 : Shape := ⟨2, ![8192, 128]⟩
abbrev S16x1x144x512 : Shape := ⟨4, ![16, 1, 144, 512]⟩
abbrev S1024x128 : Shape := ⟨2, ![1024, 128]⟩
abbrev S1x2048 : Shape := ⟨2, ![1, 2048]⟩
abbrev S144x2048 : Shape := ⟨2, ![144, 2048]⟩
abbrev S1x1 : Shape := ⟨2, ![1, 1]⟩
abbrev S1x1x128x1024 : Shape := ⟨4, ![1, 1, 128, 1024]⟩
abbrev S128x1024 : Shape := ⟨2, ![128, 1024]⟩
abbrev S128x2048 : Shape := ⟨2, ![128, 2048]⟩
abbrev S2048x128 : Shape := ⟨2, ![2048, 128]⟩
abbrev S1x1x144x512 : Shape := ⟨4, ![1, 1, 144, 512]⟩
abbrev S144x512 : Shape := ⟨2, ![144, 512]⟩
abbrev S2048x2048 : Shape := ⟨2, ![2048, 2048]⟩
abbrev S2048 : Shape := ⟨1, ![2048]⟩
abbrev S128x256 : Shape := ⟨2, ![128, 256]⟩
abbrev S2048x256 : Shape := ⟨2, ![2048, 256]⟩
abbrev S1x256 : Shape := ⟨2, ![1, 256]⟩
abbrev S256 : Shape := ⟨1, ![256]⟩
abbrev S144x256 : Shape := ⟨2, ![144, 256]⟩
abbrev S128x512 : Shape := ⟨2, ![128, 512]⟩
abbrev S1x512 : Shape := ⟨2, ![1, 512]⟩
abbrev S512 : Shape := ⟨1, ![512]⟩
abbrev S512x128 : Shape := ⟨2, ![512, 128]⟩

abbrev nBuf : Space → Nat
  | .hbm => 59
  | .vmem => 12
  | .smem => 1
  | _ => 0

abbrev bufTy : (tb : Table) → Fin (tcTables nBuf tb) → BufTy
  | .hbm, ⟨0, _⟩ => ⟨S4x8192x4x2x64, .f32⟩
  | .hbm, ⟨1, _⟩ => ⟨S4x8192x4x2x64, .f32⟩
  | .hbm, ⟨2, _⟩ => ⟨S4x8192x4x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S64x512x4x2x64, .f32⟩
  | .hbm, ⟨11, _⟩ => ⟨S_, .f32⟩
  | .hbm, ⟨12, _⟩ => ⟨S64x512x4x64, .f32⟩
  | .hbm, ⟨13, _⟩ => ⟨S64x512x4x1x64, .f32⟩
  | .hbm, ⟨14, _⟩ => ⟨S64x512x4x64, .f32⟩
  | .hbm, ⟨15, _⟩ => ⟨S64x512x4x128, .f32⟩
  | .hbm, ⟨16, _⟩ => ⟨S64x512x4x1x64, .f32⟩
  | .hbm, ⟨17, _⟩ => ⟨S64x512x4x64, .f32⟩
  | .hbm, ⟨18, _⟩ => ⟨S64x512x4x128, .f32⟩
  | .hbm, ⟨19, _⟩ => ⟨S64x4x128x512, .f32⟩
  | .hbm, ⟨20, _⟩ => ⟨S64x4x128x512, .f32⟩
  | .hbm, ⟨21, _⟩ => ⟨S64x4x128x1024, .f32⟩
  | .hbm, ⟨22, _⟩ => ⟨S64x4x128x1024, .bf16⟩
  | .hbm, ⟨23, _⟩ => ⟨S32768x512, .f32⟩
  | .hbm, ⟨24, _⟩ => ⟨S32768x512, .bf16⟩
  | .hbm, ⟨25, _⟩ => ⟨S64x4x16x512, .i32⟩
  | .hbm, ⟨26, _⟩ => ⟨S_, .i32⟩
  | .hbm, ⟨27, _⟩ => ⟨S64x4x16x512, .i32⟩
  | .hbm, ⟨28, _⟩ => ⟨S64x4x16x512, .i1⟩
  | .hbm, ⟨29, _⟩ => ⟨S_, .f32⟩
  | .hbm, ⟨30, _⟩ => ⟨S_, .f32⟩
  | .hbm, ⟨31, _⟩ => ⟨S64x4x16x512, .f32⟩
  | .hbm, ⟨32, _⟩ => ⟨S64x4x16x512, .f32⟩
  | .hbm, ⟨33, _⟩ => ⟨S64x4x16x512, .f32⟩
  | .hbm, ⟨34, _⟩ => ⟨S64x512x4x128, .f32⟩
  | .hbm, ⟨35, _⟩ => ⟨S64x4x128x512, .f32⟩
  | .hbm, ⟨36, _⟩ => ⟨S64x4x16x512, .f32⟩
  | .hbm, ⟨37, _⟩ => ⟨S64x4x144x512, .f32⟩
  | .hbm, ⟨38, _⟩ => ⟨S64x4x144x512, .bf16⟩
  | .hbm, ⟨39, _⟩ => ⟨S1x64, .f32⟩
  | .hbm, ⟨40, _⟩ => ⟨S1x64, .f32⟩
  | .hbm, ⟨41, _⟩ => ⟨S1x64, .f32⟩
  | .hbm, ⟨42, _⟩ => ⟨S1x64, .f32⟩
  | .hbm, ⟨43, _⟩ => ⟨S4x64, .f32⟩
  | .hbm, ⟨44, _⟩ => ⟨S64, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S64, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .i1⟩
  | .hbm, ⟨55, _⟩ => ⟨S_, .i32⟩
  | .hbm, ⟨56, _⟩ => ⟨S1, .i32⟩
  | .hbm, ⟨57, _⟩ => ⟨S1x128, .f32⟩
  | .hbm, ⟨58, _⟩ => ⟨S32768x512, .bf16⟩
  | .local _ .vmem, ⟨0, _⟩ => ⟨S4x64, .f32⟩
  | .local _ .vmem, ⟨1, _⟩ => ⟨S1x128, .f32⟩
  | .local _ .vmem, ⟨2, _⟩ => ⟨S2x1x128x1024, .bf16⟩
  | .local _ .vmem, ⟨3, _⟩ => ⟨S2x1x128x1024, .bf16⟩
  | .local _ .vmem, ⟨4, _⟩ => ⟨S8192x128, .bf16⟩
  | .local _ .vmem, ⟨5, _⟩ => ⟨S8192x128, .bf16⟩
  | .local _ .vmem, ⟨6, _⟩ => ⟨S16x1x144x512, .bf16⟩
  | .local _ .vmem, ⟨7, _⟩ => ⟨S16x1x144x512, .bf16⟩
  | .local _ .vmem, ⟨8, _⟩ => ⟨S1024x128, .bf16⟩
  | .local _ .vmem, ⟨9, _⟩ => ⟨S1024x128, .bf16⟩
  | .local _ .vmem, ⟨10, _⟩ => ⟨S1x2048, .f32⟩
  | .local _ .vmem, ⟨11, _⟩ => ⟨S144x2048, .f32⟩
  | .local _ .smem, ⟨0, _⟩ => ⟨S1, .i32⟩
  | _, _ => ⟨S4x8192x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_cst_1 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_2 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![4, 4, 8], ![false, false, false]⟩

def k0_mult1 : BitVec 32 :=
  let c0_i32_43 : BitVec 32 := 0#32
  let c4_i32 : BitVec 32 := 4#32
  let v94 : BitVec 32 := Scalar.muli c0_i32_43 c4_i32
  let c0_i32_44 : BitVec 32 := 0#32
  let v95 : BitVec 32 := Scalar.addi v94 c0_i32_44
  let c2048_i32 : BitVec 32 := 2048#32
  let v96 : BitVec 32 := Scalar.muli v95 c2048_i32
  v96
def k0_off1 (c0_i32_44 : BitVec 32) : Fin 2 → Nat :=
  let c0_i32_43 : BitVec 32 := 0#32
  let c4_i32 : BitVec 32 := 4#32
  let v94 : BitVec 32 := Scalar.muli c0_i32_43 c4_i32
  let v95 : BitVec 32 := Scalar.addi v94 c0_i32_44
  let c2048_i32 : BitVec 32 := 2048#32
  let v96 : BitVec 32 := Scalar.muli v95 c2048_i32
  let v97 : BitVec 32 := v96
  let v98 : Index := Scalar.indexCast v97
  let c0_45 : Index := 0#32
  ![v98.toNat, 0]
def k0_off2 (c0_i32_44 : BitVec 32) (c0_i32_47 : BitVec 32) : Fin 4 → Nat :=
  let c0_i32_43 : BitVec 32 := 0#32
  let c4_i32 : BitVec 32 := 4#32
  let v94 : BitVec 32 := Scalar.muli c0_i32_43 c4_i32
  let v95 : BitVec 32 := Scalar.addi v94 c0_i32_44
  let c4_i32_46 : BitVec 32 := 4#32
  let v101 : BitVec 32 := Scalar.muli v95 c4_i32_46
  let v102 : BitVec 32 := Scalar.addi v101 c0_i32_47
  let v103 : Index := Scalar.indexCast v102
  let c0_48 : Index := 0#32
  let c0_49 : Index := 0#32
  let c0_50 : Index := 0#32
  ![v103.toNat, 0, 0, 0]
def k0_mult2 : BitVec 32 :=
  let c0_i32_43 : BitVec 32 := 0#32
  let c4_i32_67 : BitVec 32 := 4#32
  let v129 : BitVec 32 := Scalar.muli c0_i32_43 c4_i32_67
  let c1_i32_68 : BitVec 32 := 1#32
  let v130 : BitVec 32 := Scalar.addi v129 c1_i32_68
  let c2048_i32_69 : BitVec 32 := 2048#32
  let v131 : BitVec 32 := Scalar.muli v130 c2048_i32_69
  v131
def k0_mult3 : BitVec 32 :=
  let c0_i32_43 : BitVec 32 := 0#32
  let c4_i32_94 : BitVec 32 := 4#32
  let v166 : BitVec 32 := Scalar.muli c0_i32_43 c4_i32_94
  let c2_i32_95 : BitVec 32 := 2#32
  let v167 : BitVec 32 := Scalar.addi v166 c2_i32_95
  let c2048_i32_96 : BitVec 32 := 2048#32
  let v168 : BitVec 32 := Scalar.muli v167 c2048_i32_96
  v168
def k0_mult4 : BitVec 32 :=
  let c0_i32_43 : BitVec 32 := 0#32
  let c4_i32_121 : BitVec 32 := 4#32
  let v203 : BitVec 32 := Scalar.muli c0_i32_43 c4_i32_121
  let c3_i32_122 : BitVec 32 := 3#32
  let v204 : BitVec 32 := Scalar.addi v203 c3_i32_122
  let c2048_i32_123 : BitVec 32 := 2048#32
  let v205 : BitVec 32 := Scalar.muli v204 c2048_i32_123
  v205
@[reducible] def k0_t1_loop : Scf.Loop 32 :=
  let c0_i32_49 : BitVec 32 := 0#32
  let c4_i32 : BitVec 32 := 4#32
  let v102 : BitVec 32 := Scalar.addi c0_i32_49 c4_i32
  let c1_i32_50 : BitVec 32 := 1#32
  ⟨c0_i32_49, v102, c1_i32_50⟩
def k0_mult5 (k0_t1 : Fin k0_t1_loop.trips) : BitVec 32 :=
  let c0_i32_49 : BitVec 32 := 0#32
  let c1_i32_50 : BitVec 32 := 1#32
  let arg12 : BitVec 32 := Scf.iv c0_i32_49 c1_i32_50 k0_t1
  let c2048_i32 : BitVec 32 := 2048#32
  let v103 : BitVec 32 := Scalar.muli arg12 c2048_i32
  v103
def k0_off3 (k0_t1 : Fin k0_t1_loop.trips) : Fin 2 → Nat :=
  let c0_i32_49 : BitVec 32 := 0#32
  let c1_i32_50 : BitVec 32 := 1#32
  let arg12 : BitVec 32 := Scf.iv c0_i32_49 c1_i32_50 k0_t1
  let c2048_i32 : BitVec 32 := 2048#32
  let v103 : BitVec 32 := Scalar.muli arg12 c2048_i32
  let v104 : BitVec 32 := v103
  let v105 : Index := Scalar.indexCast v104
  let c0_52 : Index := 0#32
  ![v105.toNat, 0]
def k0_off4 (k0_t1 : Fin k0_t1_loop.trips) (c0_i32_54 : BitVec 32) : Fin 4 → Nat :=
  let c0_i32_49 : BitVec 32 := 0#32
  let c1_i32_50 : BitVec 32 := 1#32
  let arg12 : BitVec 32 := Scf.iv c0_i32_49 c1_i32_50 k0_t1
  let c4_i32_53 : BitVec 32 := 4#32
  let v108 : BitVec 32 := Scalar.muli arg12 c4_i32_53
  let v109 : BitVec 32 := Scalar.addi v108 c0_i32_54
  let v110 : Index := Scalar.indexCast v109
  let c0_55 : Index := 0#32
  let c0_56 : Index := 0#32
  let c0_57 : Index := 0#32
  ![v110.toNat, 0, 0, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  let c0_i32_1 : BitVec 32 := 0#32
  ![v1.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S2x1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S16x1x144x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "mask" => some ⊥
  | "qscale" => some (((8 * (Real.log 2))⁻¹ : ℝ) : EReal)
  | _ => none
-- ==== ReferenceIdeal.lean ====
abbrev S4x8192x4x2x64 : Shape := ⟨5, ![4, 8192, 4, 2, 64]⟩
abbrev S4x8192x4x128 : Shape := ⟨4, ![4, 8192, 4, 128]⟩
abbrev S64 : Shape := ⟨1, ![64]⟩
abbrev S128 : Shape := ⟨1, ![128]⟩
abbrev S_ : Shape := ⟨0, ![]⟩
abbrev S4x4x2x8192x8192 : Shape := ⟨5, ![4, 4, 2, 8192, 8192]⟩
abbrev S4x4x2x8192 : Shape := ⟨4, ![4, 4, 2, 8192]⟩
abbrev S4x4x2x8192x1 : Shape := ⟨5, ![4, 4, 2, 8192, 1]⟩
abbrev S4x4x1x8192x8192 : Shape := ⟨5, ![4, 4, 1, 8192, 8192]⟩
abbrev S4x4x8192x8192 : Shape := ⟨4, ![4, 4, 8192, 8192]⟩
abbrev S4x4x128x8192 : Shape := ⟨4, ![4, 4, 128, 8192]⟩
abbrev S4x8192x4 : Shape := ⟨3, ![4, 8192, 4]⟩
abbrev S4x8192x4x1 : Shape := ⟨4, ![4, 8192, 4, 1]⟩
abbrev S1x1x1x128 : Shape := ⟨4, ![1, 1, 1, 128]⟩
abbrev S32768x512 : Shape := ⟨2, ![32768, 512]⟩

abbrev nBuf : Space → Nat
  | .hbm => 69
  | .vmem => 0
  | .smem => 0
  | _ => 0

abbrev bufTy : (tb : Table) → Fin (tcTables nBuf tb) → BufTy
  | .hbm, ⟨0, _⟩ => ⟨S4x8192x4x2x64, .f32⟩
  | .hbm, ⟨1, _⟩ => ⟨S4x8192x4x2x64, .f32⟩
  | .hbm, ⟨2, _⟩ => ⟨S4x8192x4x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S4x4x2x8192x8192, .f32⟩
  | .hbm, ⟨22, _⟩ => ⟨S_, .f32⟩
  | .hbm, ⟨23, _⟩ => ⟨S4x4x2x8192x8192, .f32⟩
  | .hbm, ⟨24, _⟩ => ⟨S4x4x2x8192x8192, .f32⟩
  | .hbm, ⟨25, _⟩ => ⟨S_, .f32⟩
  | .hbm, ⟨26, _⟩ => ⟨S4x4x2x8192, .f32⟩
  | .hbm, ⟨27, _⟩ => ⟨S_, .f32⟩
  | .hbm, ⟨28, _⟩ => ⟨S4x4x2x8192, .f32⟩
  | .hbm, ⟨29, _⟩ => ⟨S4x4x2x8192, .f32⟩
  | .hbm, ⟨30, _⟩ => ⟨S4x4x2x8192x1, .f32⟩
  | .hbm, ⟨31, _⟩ => ⟨S4x4x2x8192x8192, .f32⟩
  | .hbm, ⟨32, _⟩ => ⟨S4x4x2x8192x8192, .f32⟩
  | .hbm, ⟨33, _⟩ => ⟨S4x4x2x8192x8192, .f32⟩
  | .hbm, ⟨34, _⟩ => ⟨S_, .f32⟩
  | .hbm, ⟨35, _⟩ => ⟨S4x4x2x8192, .f32⟩
  | .hbm, ⟨36, _⟩ => ⟨S4x4x2x8192x1, .f32⟩
  | .hbm, ⟨37, _⟩ => ⟨S4x4x2x8192x8192, .f32⟩
  | .hbm, ⟨38, _⟩ => ⟨S4x4x2x8192x8192, .f32⟩
  | .hbm, ⟨39, _⟩ => ⟨S4x4x1x8192x8192, .f32⟩
  | .hbm, ⟨40, _⟩ => ⟨S4x4x8192x8192, .f32⟩
  | .hbm, ⟨41, _⟩ => ⟨S4x4x1x8192x8192, .f32⟩
  | .hbm, ⟨42, _⟩ => ⟨S4x4x8192x8192, .f32⟩
  | .hbm, ⟨43, _⟩ => ⟨S4x4x8192x8192, .f32⟩
  | .hbm, ⟨44, _⟩ => ⟨S4x4x8192x8192, .f32⟩
  | .hbm, ⟨45, _⟩ => ⟨S4x4x8192x8192, .f32⟩
  | .hbm, ⟨46, _⟩ => ⟨S4x4x128x8192, .f32⟩
  | .hbm, ⟨47, _⟩ => ⟨S4x8192x4x128, .f32⟩
  | .hbm, ⟨48, _⟩ => ⟨S4x8192x4x128, .f32⟩
  | .hbm, ⟨49, _⟩ => ⟨S_, .f32⟩
  | .hbm, ⟨50, _⟩ => ⟨S4x8192x4, .f32⟩
  | .hbm, ⟨51, _⟩ => ⟨S4x8192x4x1, .f32⟩
  | .hbm, ⟨52, _⟩ => ⟨S_, .f32⟩
  | .hbm, ⟨53, _⟩ => ⟨S4x8192x4x1, .f32⟩
  | .hbm, ⟨54, _⟩ => ⟨S4x8192x4x1, .f32⟩
  | .hbm, ⟨55, _⟩ => ⟨S_, .f32⟩
  | .hbm, ⟨56, _⟩ => ⟨S4x8192x4x1, .f32⟩
  | .hbm, ⟨57, _⟩ => ⟨S4x8192x4x1, .f32⟩
  | .hbm, ⟨58, _⟩ => ⟨S4x8192x4x1, .f32⟩
  | .hbm, ⟨59, _⟩ => ⟨S4x8192x4x128, .f32⟩
  | .hbm, ⟨60, _⟩ => ⟨S4x8192x4x128, .f32⟩
  | .hbm, ⟨61, _⟩ => ⟨S1x1x1x128, .f32⟩
  | .hbm, ⟨62, _⟩ => ⟨S4x8192x4x128, .f32⟩
  | .hbm, ⟨63, _⟩ => ⟨S4x8192x4x128, .f32⟩
  | .hbm, ⟨64, _⟩ => ⟨S_, .f32⟩
  | .hbm, ⟨65, _⟩ => ⟨S4x8192x4x128, .f32⟩
  | .hbm, ⟨66, _⟩ => ⟨S4x8192x4x128, .f32⟩
  | .hbm, ⟨67, _⟩ => ⟨S32768x512, .f32⟩
  | .hbm, ⟨68, _⟩ => ⟨S32768x512, .bf16⟩
  | _, _ => ⟨S4x8192x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_cst_4 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩

abbrev nD : Nat := 1
abbrev τ : Topo := Topo.v7x

variable {F : FTy → Type} [FloatOps F]
-- ==== Merge.lean ====
abbrev S4x8192x1024 : Shape := ⟨3, ![4, 8192, 1024]⟩
abbrev S4x8192x512 : Shape := ⟨3, ![4, 8192, 512]⟩
abbrev S1024x7424 : Shape := ⟨2, ![1024, 7424]⟩
abbrev S3x512x1024 : Shape := ⟨3, ![3, 512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1024x3072 : Shape := ⟨2, ![1024, 3072]⟩
abbrev S32768x1024 : Shape := ⟨2, ![32768, 1024]⟩
abbrev S32768x512 : Shape := ⟨2, ![32768, 512]⟩
abbrev S1x1024 : Shape := ⟨2, ![1, 1024]⟩
abbrev S512x1024 : Shape := ⟨2, ![512, 1024]⟩
abbrev S512x512 : Shape := ⟨2, ![512, 512]⟩
abbrev S1x512x1024 : Shape := ⟨3, ![1, 512, 1024]⟩
abbrev S256x1024 : Shape := ⟨2, ![256, 1024]⟩
abbrev S256 : Shape := ⟨1, ![256]⟩
abbrev S256x1 : Shape := ⟨2, ![256, 1]⟩

abbrev nBuf : Space → Nat
  | .hbm => 24
  | .vmem => 18
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .bf16⟩
  | .hbm, ⟨2, _⟩ => ⟨S4x8192x512, .bf16⟩
  | .hbm, ⟨3, _⟩ => ⟨S4x8192x512, .bf16⟩
  | .hbm, ⟨4, _⟩ => ⟨S4x8192x512, .bf16⟩
  | .hbm, ⟨5, _⟩ => ⟨S1024x7424, .f32⟩
  | .hbm, ⟨6, _⟩ => ⟨S3x512x1024, .f32⟩
  | .hbm, ⟨7, _⟩ => ⟨S1024x1024, .f32⟩
  | .hbm, ⟨8, _⟩ => ⟨S1024, .f32⟩
  | .hbm, ⟨9, _⟩ => ⟨S1024x4096, .f32⟩
  | .hbm, ⟨10, _⟩ => ⟨S4096x1024, .f32⟩
  | .hbm, ⟨11, _⟩ => ⟨S1024x3072, .f32⟩
  | .hbm, ⟨12, _⟩ => ⟨S1024x3072, .bf16⟩
  | .hbm, ⟨13, _⟩ => ⟨S32768x1024, .f32⟩
  | .hbm, ⟨14, _⟩ => ⟨S32768x1024, .bf16⟩
  | .hbm, ⟨15, _⟩ => ⟨S32768x512, .bf16⟩
  | .hbm, ⟨16, _⟩ => ⟨S32768x512, .bf16⟩
  | .hbm, ⟨17, _⟩ => ⟨S32768x512, .bf16⟩
  | .hbm, ⟨18, _⟩ => ⟨S3x512x1024, .bf16⟩
  | .hbm, ⟨19, _⟩ => ⟨S1024x1024, .bf16⟩
  | .hbm, ⟨20, _⟩ => ⟨S1x1024, .f32⟩
  | .hbm, ⟨21, _⟩ => ⟨S1024x4096, .bf16⟩
  | .hbm, ⟨22, _⟩ => ⟨S4096x1024, .bf16⟩
  | .hbm, ⟨23, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S1024x3072, .bf16⟩
  | .local _ .vmem, ⟨11, _⟩ => ⟨S3x512x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x4096, .bf16⟩
  | .local _ .vmem, ⟨15, _⟩ => ⟨S4096x1024, .bf16⟩
  | .local _ .vmem, ⟨16, _⟩ => ⟨S512x1024, .f32⟩
  | .local _ .vmem, ⟨17, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4096x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeReferenceIdeal.lean ====
abbrev S4x8192x1024 : Shape := ⟨3, ![4, 8192, 1024]⟩
abbrev S4x8192x512 : Shape := ⟨3, ![4, 8192, 512]⟩
abbrev S1024x7424 : Shape := ⟨2, ![1024, 7424]⟩
abbrev S3x512x1024 : Shape := ⟨3, ![3, 512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S4x8192x7424 : Shape := ⟨3, ![4, 8192, 7424]⟩
abbrev S4x8192x3072 : Shape := ⟨3, ![4, 8192, 3072]⟩
abbrev S4x8192x1x512 : Shape := ⟨4, ![4, 8192, 1, 512]⟩
abbrev S4x8192x3x512 : Shape := ⟨4, ![4, 8192, 3, 512]⟩
abbrev S3x1024x4x8192 : Shape := ⟨4, ![3, 1024, 4, 8192]⟩
abbrev S4x8192x3x1024 : Shape := ⟨4, ![4, 8192, 3, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4096 : Shape := ⟨3, ![4, 8192, 4096]⟩
abbrev S32768x1024 : Shape := ⟨2, ![32768, 1024]⟩

abbrev nBuf : Space → Nat
  | .hbm => 61
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .bf16⟩
  | .hbm, ⟨2, _⟩ => ⟨S4x8192x512, .bf16⟩
  | .hbm, ⟨3, _⟩ => ⟨S4x8192x512, .bf16⟩
  | .hbm, ⟨4, _⟩ => ⟨S4x8192x512, .bf16⟩
  | .hbm, ⟨5, _⟩ => ⟨S1024x7424, .f32⟩
  | .hbm, ⟨6, _⟩ => ⟨S3x512x1024, .f32⟩
  | .hbm, ⟨7, _⟩ => ⟨S1024x1024, .f32⟩
  | .hbm, ⟨8, _⟩ => ⟨S1024, .f32⟩
  | .hbm, ⟨9, _⟩ => ⟨S1024x4096, .f32⟩
  | .hbm, ⟨10, _⟩ => ⟨S4096x1024, .f32⟩
  | .hbm, ⟨11, _⟩ => ⟨S4x8192x1024, .f32⟩
  | .hbm, ⟨12, _⟩ => ⟨S4x8192x512, .f32⟩
  | .hbm, ⟨13, _⟩ => ⟨S4x8192x512, .f32⟩
  | .hbm, ⟨14, _⟩ => ⟨S4x8192x512, .f32⟩
  | .hbm, ⟨15, _⟩ => ⟨S4x8192x7424, .f32⟩
  | .hbm, ⟨16, _⟩ => ⟨S4x8192x3072, .f32⟩
  | .hbm, ⟨17, _⟩ => ⟨S4x8192x1x512, .f32⟩
  | .hbm, ⟨18, _⟩ => ⟨S4x8192x1x512, .f32⟩
  | .hbm, ⟨19, _⟩ => ⟨S4x8192x1x512, .f32⟩
  | .hbm, ⟨20, _⟩ => ⟨S4x8192x3x512, .f32⟩
  | .hbm, ⟨21, _⟩ => ⟨S3x1024x4x8192, .f32⟩
  | .hbm, ⟨22, _⟩ => ⟨S4x8192x3x1024, .f32⟩
  | .hbm, ⟨23, _⟩ => ⟨S4x8192x3x1024, .f32⟩
  | .hbm, ⟨24, _⟩ => ⟨S4x8192x3x1024, .f32⟩
  | .hbm, ⟨25, _⟩ => ⟨S4x8192x3x1024, .f32⟩
  | .hbm, ⟨26, _⟩ => ⟨S_, .f32⟩
  | .hbm, ⟨27, _⟩ => ⟨S4x8192x3x1024, .f32⟩
  | .hbm, ⟨28, _⟩ => ⟨S4x8192x3x1024, .f32⟩
  | .hbm, ⟨29, _⟩ => ⟨S_, .f32⟩
  | .hbm, ⟨30, _⟩ => ⟨S4x8192x3x1024, .f32⟩
  | .hbm, ⟨31, _⟩ => ⟨S4x8192x3x1024, .f32⟩
  | .hbm, ⟨32, _⟩ => ⟨S4x8192x3x1024, .f32⟩
  | .hbm, ⟨33, _⟩ => ⟨S_, .f32⟩
  | .hbm, ⟨34, _⟩ => ⟨S4x8192x1024, .f32⟩
  | .hbm, ⟨35, _⟩ => ⟨S4x8192x1024, .f32⟩
  | .hbm, ⟨36, _⟩ => ⟨S4x8192x1024, .f32⟩
  | .hbm, ⟨37, _⟩ => ⟨S4x8192x1024, .f32⟩
  | .hbm, ⟨38, _⟩ => ⟨S_, .f32⟩
  | .hbm, ⟨39, _⟩ => ⟨S4x8192, .f32⟩
  | .hbm, ⟨40, _⟩ => ⟨S4x8192x1, .f32⟩
  | .hbm, ⟨41, _⟩ => ⟨S_, .f32⟩
  | .hbm, ⟨42, _⟩ => ⟨S4x8192x1, .f32⟩
  | .hbm, ⟨43, _⟩ => ⟨S4x8192x1, .f32⟩
  | .hbm, ⟨44, _⟩ => ⟨S_, .f32⟩
  | .hbm, ⟨45, _⟩ => ⟨S4x8192x1, .f32⟩
  | .hbm, ⟨46, _⟩ => ⟨S4x8192x1, .f32⟩
  | .hbm, ⟨47, _⟩ => ⟨S4x8192x1, .f32⟩
  | .hbm, ⟨48, _⟩ => ⟨S4x8192x1024, .f32⟩
  | .hbm, ⟨49, _⟩ => ⟨S4x8192x1024, .f32⟩
  | .hbm, ⟨50, _⟩ => ⟨S1x1x1024, .f32⟩
  | .hbm, ⟨51, _⟩ => ⟨S4x8192x1024, .f32⟩
  | .hbm, ⟨52, _⟩ => ⟨S4x8192x1024, .f32⟩
  | .hbm, ⟨53, _⟩ => ⟨S4x8192x4096, .f32⟩
  | .hbm, ⟨54, _⟩ => ⟨S_, .f32⟩
  | .hbm, ⟨55, _⟩ => ⟨S4x8192x4096, .f32⟩
  | .hbm, ⟨56, _⟩ => ⟨S4x8192x4096, .f32⟩
  | .hbm, ⟨57, _⟩ => ⟨S4x8192x4096, .f32⟩
  | .hbm, ⟨58, _⟩ => ⟨S4x8192x1024, .f32⟩
  | .hbm, ⟨59, _⟩ => ⟨S4x8192x1024, .f32⟩
  | .hbm, ⟨60, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_call0_cst : Ref sig .tc := ⟨.hbm, 54, rfl⟩
abbrev main_call0_v0 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]
-- ==== Gqa.lean ====
abbrev S4x8192x2x4x64 : Shape := ⟨5, ![4, 8192, 2, 4, 64]⟩
abbrev S4x8192x2x64 : Shape := ⟨4, ![4, 8192, 2, 64]⟩
abbrev S64 : Shape := ⟨1, ![64]⟩
abbrev S256x128x2x4x64 : Shape := ⟨5, ![256, 128, 2, 4, 64]⟩
abbrev S_ : Shape := ⟨0, ![]⟩
abbrev S256x128x4x64 : Shape := ⟨4, ![256, 128, 4, 64]⟩
abbrev S256x128x1x4x64 : Shape := ⟨5, ![256, 128, 1, 4, 64]⟩
abbrev S256x128x4x128 : Shape := ⟨4, ![256, 128, 4, 128]⟩
abbrev S256x128x8x128 : Shape := ⟨4, ![256, 128, 8, 128]⟩
abbrev S256x128x1024 : Shape := ⟨3, ![256, 128, 1024]⟩
abbrev S256x256x1024 : Shape := ⟨3, ![256, 256, 1024]⟩
abbrev S32768x128 : Shape := ⟨2, ![32768, 128]⟩
abbrev S32768x256 : Shape := ⟨2, ![32768, 256]⟩
abbrev S64x16x512 : Shape := ⟨3, ![64, 16, 512]⟩
abbrev S64x512x128 : Shape := ⟨3, ![64, 512, 128]⟩
abbrev S64x128x512 : Shape := ⟨3, ![64, 128, 512]⟩
abbrev S64x144x512 : Shape := ⟨3, ![64, 144, 512]⟩
abbrev S1 : Shape := ⟨1, ![1]⟩
abbrev S32768x512 : Shape := ⟨2, ![32768, 512]⟩
abbrev S2x128x1024 : Shape := ⟨3, ![2, 128, 1024]⟩
abbrev S8192x128 : Shape := ⟨2, ![8192, 128]⟩
abbrev S16x144x512 : Shape := ⟨3, ![16, 144, 512]⟩
abbrev S256x512 : Shape := ⟨2, ![256, 512]⟩
abbrev S1x2048 : Shape := ⟨2, ![1, 2048]⟩
abbrev S144x2048 : Shape := ⟨2, ![144, 2048]⟩
abbrev S1x128x1024 : Shape := ⟨3, ![1, 128, 1024]⟩
abbrev S128x1024 : Shape := ⟨2, ![128, 1024]⟩
abbrev S128x2048 : Shape := ⟨2, ![128, 2048]⟩
abbrev S2048x128 : Shape := ⟨2, ![2048, 128]⟩
abbrev S1x144x512 : Shape := ⟨3, ![1, 144, 512]⟩
abbrev S144x512 : Shape := ⟨2, ![144, 512]⟩
abbrev S2048x2048 : Shape := ⟨2, ![2048, 2048]⟩
abbrev S2048 : Shape := ⟨1, ![2048]⟩
abbrev S128x256 : Shape := ⟨2, ![128, 256]⟩
abbrev S2048x256 : Shape := ⟨2, ![2048, 256]⟩
abbrev S1x256 : Shape := ⟨2, ![1, 256]⟩
abbrev S256 : Shape := ⟨1, ![256]⟩
abbrev S144x256 : Shape := ⟨2, ![144, 256]⟩
abbrev S64x128 : Shape := ⟨2, ![64, 128]⟩
abbrev S1x128 : Shape := ⟨2, ![1, 128]⟩
abbrev S128x128 : Shape := ⟨2, ![128, 128]⟩

abbrev nBuf : Space → Nat
  | .hbm => 55
  | .vmem => 10
  | .smem => 1
  | _ => 0

abbrev bufTy : (tb : Table) → Fin (tcTables nBuf tb) → BufTy
  | .hbm, ⟨0, _⟩ => ⟨S4x8192x2x4x64, .f32⟩
  | .hbm, ⟨1, _⟩ => ⟨S4x8192x2x64, .f32⟩
  | .hbm, ⟨2, _⟩ => ⟨S4x8192x2x64, .f32⟩
  | .hbm, ⟨3, _⟩ => ⟨S64, .f32⟩
  | .hbm, ⟨4, _⟩ => ⟨S64, .f32⟩
  | .hbm, ⟨5, _⟩ => ⟨S256x128x2x4x64, .f32⟩
  | .hbm, ⟨6, _⟩ => ⟨S_, .f32⟩
  | .hbm, ⟨7, _⟩ => ⟨S256x128x4x64, .f32⟩
  | .hbm, ⟨8, _⟩ => ⟨S256x128x1x4x64, .f32⟩
  | .hbm, ⟨9, _⟩ => ⟨S256x128x4x64, .f32⟩
  | .hbm, ⟨10, _⟩ => ⟨S256x128x4x128, .f32⟩
  | .hbm, ⟨11, _⟩ => ⟨S256x128x1x4x64, .f32⟩
  | .hbm, ⟨12, _⟩ => ⟨S256x128x4x64, .f32⟩
  | .hbm, ⟨13, _⟩ => ⟨S256x128x4x128, .f32⟩
  | .hbm, ⟨14, _⟩ => ⟨S256x128x4x128, .f32⟩
  | .hbm, ⟨15, _⟩ => ⟨S256x128x4x128, .f32⟩
  | .hbm, ⟨16, _⟩ => ⟨S256x128x8x128, .f32⟩
  | .hbm, ⟨17, _⟩ => ⟨S256x128x1024, .f32⟩
  | .hbm, ⟨18, _⟩ => ⟨S_, .f32⟩
  | .hbm, ⟨19, _⟩ => ⟨S256x128x1024, .f32⟩
  | .hbm, ⟨20, _⟩ => ⟨S256x256x1024, .f32⟩
  | .hbm, ⟨21, _⟩ => ⟨S256x256x1024, .bf16⟩
  | .hbm, ⟨22, _⟩ => ⟨S32768x128, .f32⟩
  | .hbm, ⟨23, _⟩ => ⟨S_, .f32⟩
  | .hbm, ⟨24, _⟩ => ⟨S32768x128, .f32⟩
  | .hbm, ⟨25, _⟩ => ⟨S32768x256, .f32⟩
  | .hbm, ⟨26, _⟩ => ⟨S32768x256, .bf16⟩
  | .hbm, ⟨27, _⟩ => ⟨S64x16x512, .i32⟩
  | .hbm, ⟨28, _⟩ => ⟨S_, .i32⟩
  | .hbm, ⟨29, _⟩ => ⟨S64x16x512, .i32⟩
  | .hbm, ⟨30, _⟩ => ⟨S64x16x512, .i1⟩
  | .hbm, ⟨31, _⟩ => ⟨S_, .f32⟩
  | .hbm, ⟨32, _⟩ => ⟨S_, .f32⟩
  | .hbm, ⟨33, _⟩ => ⟨S64x16x512, .f32⟩
  | .hbm, ⟨34, _⟩ => ⟨S64x16x512, .f32⟩
  | .hbm, ⟨35, _⟩ => ⟨S64x16x512, .f32⟩
  | .hbm, ⟨36, _⟩ => ⟨S64x512x128, .f32⟩
  | .hbm, ⟨37, _⟩ => ⟨S64x128x512, .f32⟩
  | .hbm, ⟨38, _⟩ => ⟨S64x16x512, .f32⟩
  | .hbm, ⟨39, _⟩ => ⟨S64x144x512, .f32⟩
  | .hbm, ⟨40, _⟩ => ⟨S64x144x512, .bf16⟩
  | .hbm, ⟨41, _⟩ => ⟨S64, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S64, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .i1⟩
  | .hbm, ⟨52, _⟩ => ⟨S_, .i32⟩
  | .hbm, ⟨53, _⟩ => ⟨S1, .i32⟩
  | .hbm, ⟨54, _⟩ => ⟨S32768x512, .bf16⟩
  | .local _ .vmem, ⟨0, _⟩ => ⟨S2x128x1024, .bf16⟩
  | .local _ .vmem, ⟨1, _⟩ => ⟨S2x128x1024, .bf16⟩
  | .local _ .vmem, ⟨2, _⟩ => ⟨S8192x128, .bf16⟩
  | .local _ .vmem, ⟨3, _⟩ => ⟨S8192x128, .bf16⟩
  | .local _ .vmem, ⟨4, _⟩ => ⟨S16x144x512, .bf16⟩
  | .local _ .vmem, ⟨5, _⟩ => ⟨S16x144x512, .bf16⟩
  | .local _ .vmem, ⟨6, _⟩ => ⟨S256x512, .bf16⟩
  | .local _ .vmem, ⟨7, _⟩ => ⟨S256x512, .bf16⟩
  | .local _ .vmem, ⟨8, _⟩ => ⟨S1x2048, .f32⟩
  | .local _ .vmem, ⟨9, _⟩ => ⟨S144x2048, .f32⟩
  | .local _ .smem, ⟨0, _⟩ => ⟨S1, .i32⟩
  | _, _ => ⟨S4x8192x2x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 32], ![false, false]⟩

def k0_mult1 : BitVec 32 :=
  let c0_i32_72 : BitVec 32 := 0#32
  let c4_i32 : BitVec 32 := 4#32
  let v113 : BitVec 32 := Scalar.muli c0_i32_72 c4_i32
  let c0_i32_73 : BitVec 32 := 0#32
  let v114 : BitVec 32 := Scalar.addi v113 c0_i32_73
  let c2048_i32 : BitVec 32 := 2048#32
  let v115 : BitVec 32 := Scalar.muli v114 c2048_i32
  v115
def k0_off1 (c0_i32_73 : BitVec 32) : Fin 2 → Nat :=
  let c0_i32_72 : BitVec 32 := 0#32
  let c4_i32 : BitVec 32 := 4#32
  let v113 : BitVec 32 := Scalar.muli c0_i32_72 c4_i32
  let v114 : BitVec 32 := Scalar.addi v113 c0_i32_73
  let c2048_i32 : BitVec 32 := 2048#32
  let v115 : BitVec 32 := Scalar.muli v114 c2048_i32
  let v116 : BitVec 32 := v115
  let v117 : Index := Scalar.indexCast v116
  let c0_74 : Index := 0#32
  ![v117.toNat, 0]
def k0_off2 (c0_i32_73 : BitVec 32) (c0_i32_76 : BitVec 32) : Fin 3 → Nat :=
  let c0_i32_72 : BitVec 32 := 0#32
  let c4_i32 : BitVec 32 := 4#32
  let v113 : BitVec 32 := Scalar.muli c0_i32_72 c4_i32
  let v114 : BitVec 32 := Scalar.addi v113 c0_i32_73
  let c4_i32_75 : BitVec 32 := 4#32
  let v120 : BitVec 32 := Scalar.muli v114 c4_i32_75
  let v121 : BitVec 32 := Scalar.addi v120 c0_i32_76
  let v122 : Index := Scalar.indexCast v121
  let c0_77 : Index := 0#32
  let c0_78 : Index := 0#32
  ![v122.toNat, 0, 0]
def k0_mult2 : BitVec 32 :=
  let c0_i32_72 : BitVec 32 := 0#32
  let c4_i32_92 : BitVec 32 := 4#32
  let v148 : BitVec 32 := Scalar.muli c0_i32_72 c4_i32_92
  let c1_i32_93 : BitVec 32 := 1#32
  let v149 : BitVec 32 := Scalar.addi v148 c1_i32_93
  let c2048_i32_94 : BitVec 32 := 2048#32
  let v150 : BitVec 32 := Scalar.muli v149 c2048_i32_94
  v150
def k0_mult3 : BitVec 32 :=
  let c0_i32_72 : BitVec 32 := 0#32
  let c4_i32_115 : BitVec 32 := 4#32
  let v185 : BitVec 32 := Scalar.muli c0_i32_72 c4_i32_115
  let c2_i32_116 : BitVec 32 := 2#32
  let v186 : BitVec 32 := Scalar.addi v185 c2_i32_116
  let c2048_i32_117 : BitVec 32 := 2048#32
  let v187 : BitVec 32 := Scalar.muli v186 c2048_i32_117
  v187
def k0_mult4 : BitVec 32 :=
  let c0_i32_72 : BitVec 32 := 0#32
  let c4_i32_138 : BitVec 32 := 4#32
  let v222 : BitVec 32 := Scalar.muli c0_i32_72 c4_i32_138
  let c3_i32_139 : BitVec 32 := 3#32
  let v223 : BitVec 32 := Scalar.addi v222 c3_i32_139
  let c2048_i32_140 : BitVec 32 := 2048#32
  let v224 : BitVec 32 := Scalar.muli v223 c2048_i32_140
  v224
@[reducible] def k0_t1_loop : Scf.Loop 32 :=
  let c0_i32_78 : BitVec 32 := 0#32
  let c4_i32 : BitVec 32 := 4#32
  let v121 : BitVec 32 := Scalar.addi c0_i32_78 c4_i32
  let c1_i32_79 : BitVec 32 := 1#32
  ⟨c0_i32_78, v121, c1_i32_79⟩
def k0_mult5 (k0_t1 : Fin k0_t1_loop.trips) : BitVec 32 :=
  let c0_i32_78 : BitVec 32 := 0#32
  let c1_i32_79 : BitVec 32 := 1#32
  let arg9 : BitVec 32 := Scf.iv c0_i32_78 c1_i32_79 k0_t1
  let c2048_i32 : BitVec 32 := 2048#32
  let v122 : BitVec 32 := Scalar.muli arg9 c2048_i32
  v122
def k0_off3 (k0_t1 : Fin k0_t1_loop.trips) : Fin 2 → Nat :=
  let c0_i32_78 : BitVec 32 := 0#32
  let c1_i32_79 : BitVec 32 := 1#32
  let arg9 : BitVec 32 := Scf.iv c0_i32_78 c1_i32_79 k0_t1
  let c2048_i32 : BitVec 32 := 2048#32
  let v122 : BitVec 32 := Scalar.muli arg9 c2048_i32
  let v123 : BitVec 32 := v122
  let v124 : Index := Scalar.indexCast v123
  let c0_81 : Index := 0#32
  ![v124.toNat, 0]
def k0_off4 (k0_t1 : Fin k0_t1_loop.trips) (c0_i32_83 : BitVec 32) : Fin 3 → Nat :=
  let c0_i32_78 : BitVec 32 := 0#32
  let c1_i32_79 : BitVec 32 := 1#32
  let arg9 : BitVec 32 := Scf.iv c0_i32_78 c1_i32_79 k0_t1
  let c4_i32_82 : BitVec 32 := 4#32
  let v127 : BitVec 32 := Scalar.muli arg9 c4_i32_82
  let v128 : BitVec 32 := Scalar.addi v127 c0_i32_83
  let v129 : Index := Scalar.indexCast v128
  let c0_84 : Index := 0#32
  let c0_85 : Index := 0#32
  ![v129.toNat, 0, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x144x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GqaIdeal.lean ====
variable {F : FTy → Type} [FloatOps F] [Named F]
def κ : String → Option EReal := fun
  | "mask" => some ⊥
  | "qscale" => some (((8 * (Real.log 2))⁻¹ : ℝ) : EReal)
  | _ => none
-- ==== GqaReferenceIdeal.lean ====
abbrev S4x8192x2x4x64 : Shape := ⟨5, ![4, 8192, 2, 4, 64]⟩
abbrev S4x8192x2x64 : Shape := ⟨4, ![4, 8192, 2, 64]⟩
abbrev S64 : Shape := ⟨1, ![64]⟩
abbrev S4x2x8192x8192x4 : Shape := ⟨5, ![4, 2, 8192, 8192, 4]⟩
abbrev S4x2x4x8192x8192 : Shape := ⟨5, ![4, 2, 4, 8192, 8192]⟩
abbrev S_ : Shape := ⟨0, ![]⟩
abbrev S4x2x4x8192 : Shape := ⟨4, ![4, 2, 4, 8192]⟩
abbrev S4x2x4x8192x1 : Shape := ⟨5, ![4, 2, 4, 8192, 1]⟩
abbrev S4x2x64x4x8192 : Shape := ⟨5, ![4, 2, 64, 4, 8192]⟩
abbrev S32768x512 : Shape := ⟨2, ![32768, 512]⟩

abbrev nBuf : Space → Nat
  | .hbm => 28
  | .vmem => 0
  | .smem => 0
  | _ => 0

abbrev bufTy : (tb : Table) → Fin (tcTables nBuf tb) → BufTy
  | .hbm, ⟨0, _⟩ => ⟨S4x8192x2x4x64, .f32⟩
  | .hbm, ⟨1, _⟩ => ⟨S4x8192x2x64, .f32⟩
  | .hbm, ⟨2, _⟩ => ⟨S4x8192x2x64, .f32⟩
  | .hbm, ⟨3, _⟩ => ⟨S64, .f32⟩
  | .hbm, ⟨4, _⟩ => ⟨S64, .f32⟩
  | .hbm, ⟨5, _⟩ => ⟨S4x2x8192x8192x4, .f32⟩
  | .hbm, ⟨6, _⟩ => ⟨S4x2x4x8192x8192, .f32⟩
  | .hbm, ⟨7, _⟩ => ⟨S_, .f32⟩
  | .hbm, ⟨8, _⟩ => ⟨S4x2x4x8192x8192, .f32⟩
  | .hbm, ⟨9, _⟩ => ⟨S4x2x4x8192x8192, .f32⟩
  | .hbm, ⟨10, _⟩ => ⟨S_, .f32⟩
  | .hbm, ⟨11, _⟩ => ⟨S4x2x4x8192, .f32⟩
  | .hbm, ⟨12, _⟩ => ⟨S_, .f32⟩
  | .hbm, ⟨13, _⟩ => ⟨S4x2x4x8192, .f32⟩
  | .hbm, ⟨14, _⟩ => ⟨S4x2x4x8192, .f32⟩
  | .hbm, ⟨15, _⟩ => ⟨S4x2x4x8192x1, .f32⟩
  | .hbm, ⟨16, _⟩ => ⟨S4x2x4x8192x8192, .f32⟩
  | .hbm, ⟨17, _⟩ => ⟨S4x2x4x8192x8192, .f32⟩
  | .hbm, ⟨18, _⟩ => ⟨S4x2x4x8192x8192, .f32⟩
  | .hbm, ⟨19, _⟩ => ⟨S_, .f32⟩
  | .hbm, ⟨20, _⟩ => ⟨S4x2x4x8192, .f32⟩
  | .hbm, ⟨21, _⟩ => ⟨S4x2x4x8192x1, .f32⟩
  | .hbm, ⟨22, _⟩ => ⟨S4x2x4x8192x8192, .f32⟩
  | .hbm, ⟨23, _⟩ => ⟨S4x2x4x8192x8192, .f32⟩
  | .hbm, ⟨24, _⟩ => ⟨S4x2x64x4x8192, .f32⟩
  | .hbm, ⟨25, _⟩ => ⟨S4x8192x2x4x64, .f32⟩
  | .hbm, ⟨26, _⟩ => ⟨S32768x512, .f32⟩
  | .hbm, ⟨27, _⟩ => ⟨S32768x512, .bf16⟩
  | _, _ => ⟨S4x8192x2x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Proj.lean ====
abbrev S4x8192x1024 : Shape := ⟨3, ![4, 8192, 1024]⟩
abbrev S1024 : Shape := ⟨1, ![1024]⟩
abbrev S1024x7424 : Shape := ⟨2, ![1024, 7424]⟩
abbrev S64 : Shape := ⟨1, ![64]⟩
abbrev S8192x8 : Shape := ⟨2, ![8192, 8]⟩
abbrev S8192x16 : Shape := ⟨2, ![8192, 16]⟩
abbrev S8192x64 : Shape := ⟨2, ![8192, 64]⟩
abbrev S_ : Shape := ⟨0, ![]⟩
abbrev S8192x48 : Shape := ⟨2, ![8192, 48]⟩
abbrev S8192x128 : Shape := ⟨2, ![8192, 128]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S128 : Shape := ⟨1, ![128]⟩
abbrev S1x128 : Shape := ⟨2, ![1, 128]⟩
abbrev S4x128 : Shape := ⟨2, ![4, 128]⟩
abbrev S32768x1024 : Shape := ⟨2, ![32768, 1024]⟩
abbrev S1x1024 : Shape := ⟨2, ![1, 1024]⟩
abbrev S1024x4352 : Shape := ⟨2, ![1024, 4352]⟩
abbrev S64x4x128x1024 : Shape := ⟨4, ![64, 4, 128, 1024]⟩
abbrev S32768x512 : Shape := ⟨2, ![32768, 512]⟩
abbrev S64x4x144x512 : Shape := ⟨4, ![64, 4, 144, 512]⟩
abbrev S64x4x128x512 : Shape := ⟨4, ![64, 4, 128, 512]⟩
abbrev S256x256x1024 : Shape := ⟨3, ![256, 256, 1024]⟩
abbrev S32768x256 : Shape := ⟨2, ![32768, 256]⟩
abbrev S64x144x512 : Shape := ⟨3, ![64, 144, 512]⟩
abbrev S128x2x64x256 : Shape := ⟨4, ![128, 2, 64, 256]⟩
abbrev S512x1024 : Shape := ⟨2, ![512, 1024]⟩
abbrev S512x128 : Shape := ⟨2, ![512, 128]⟩
abbrev S1x4x128x1024 : Shape := ⟨4, ![1, 4, 128, 1024]⟩
abbrev S512x512 : Shape := ⟨2, ![512, 512]⟩
abbrev S1x4x144x512 : Shape := ⟨4, ![1, 4, 144, 512]⟩
abbrev S1x4x128x512 : Shape := ⟨4, ![1, 4, 128, 512]⟩
abbrev S4x256x1024 : Shape := ⟨3, ![4, 256, 1024]⟩
abbrev S512x256 : Shape := ⟨2, ![512, 256]⟩
abbrev S1x144x512 : Shape := ⟨3, ![1, 144, 512]⟩
abbrev S2x2x64x256 : Shape := ⟨4, ![2, 2, 64, 256]⟩
abbrev S512 : Shape := ⟨1, ![512]⟩
abbrev S512x1 : Shape := ⟨2, ![512, 1]⟩
abbrev S16x512 : Shape := ⟨2, ![16, 512]⟩
abbrev S1024x512 : Shape := ⟨2, ![1024, 512]⟩
abbrev S128x512 : Shape := ⟨2, ![128, 512]⟩
abbrev S128x128 : Shape := ⟨2, ![128, 128]⟩
abbrev S1x128x128 : Shape := ⟨3, ![1, 128, 128]⟩
abbrev S4x128x1024 : Shape := ⟨3, ![4, 128, 1024]⟩
abbrev S1x1x128x512 : Shape := ⟨4, ![1, 1, 128, 512]⟩
abbrev S1x1x16x512 : Shape := ⟨4, ![1, 1, 16, 512]⟩
abbrev S1024x256 : Shape := ⟨2, ![1024, 256]⟩
abbrev S1x128x512 : Shape := ⟨3, ![1, 128, 512]⟩
abbrev S1x16x512 : Shape := ⟨3, ![1, 16, 512]⟩
abbrev S64x256 : Shape := ⟨2, ![64, 256]⟩
abbrev S1x1x64x256 : Shape := ⟨4, ![1, 1, 64, 256]⟩

abbrev nBuf : Space → Nat
  | .hbm => 88
  | .vmem => 42
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x7424, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S8192x8, .f32⟩
  | .hbm, ⟨8, _⟩ => ⟨S8192x8, .f32⟩
  | .hbm, ⟨9, _⟩ => ⟨S8192x16, .f32⟩
  | .hbm, ⟨10, _⟩ => ⟨S8192x16, .f32⟩
  | .hbm, ⟨11, _⟩ => ⟨S8192x16, .f32⟩
  | .hbm, ⟨12, _⟩ => ⟨S8192x16, .f32⟩
  | .hbm, ⟨13, _⟩ => ⟨S8192x64, .f32⟩
  | .hbm, ⟨14, _⟩ => ⟨S8192x64, .f32⟩
  | .hbm, ⟨15, _⟩ => ⟨S_, .f32⟩
  | .hbm, ⟨16, _⟩ => ⟨S8192x48, .f32⟩
  | .hbm, ⟨17, _⟩ => ⟨S_, .f32⟩
  | .hbm, ⟨18, _⟩ => ⟨S8192x48, .f32⟩
  | .hbm, ⟨19, _⟩ => ⟨S8192x64, .f32⟩
  | .hbm, ⟨20, _⟩ => ⟨S8192x128, .f32⟩
  | .hbm, ⟨21, _⟩ => ⟨S8192x8, .f32⟩
  | .hbm, ⟨22, _⟩ => ⟨S8192x64, .f32⟩
  | .hbm, ⟨23, _⟩ => ⟨S8192x128, .f32⟩
  | .hbm, ⟨24, _⟩ => ⟨S8192x64, .f32⟩
  | .hbm, ⟨25, _⟩ => ⟨S8192x128, .f32⟩
  | .hbm, ⟨26, _⟩ => ⟨S8192x16, .f32⟩
  | .hbm, ⟨27, _⟩ => ⟨S8192x16, .f32⟩
  | .hbm, ⟨28, _⟩ => ⟨S8192x64, .f32⟩
  | .hbm, ⟨29, _⟩ => ⟨S8192x128, .f32⟩
  | .hbm, ⟨30, _⟩ => ⟨S8192x128, .f32⟩
  | .hbm, ⟨31, _⟩ => ⟨S8192x64, .f32⟩
  | .hbm, ⟨32, _⟩ => ⟨S8192x128, .f32⟩
  | .hbm, ⟨33, _⟩ => ⟨S256, .i32⟩
  | .hbm, ⟨34, _⟩ => ⟨S_, .i32⟩
  | .hbm, ⟨35, _⟩ => ⟨S_, .i32⟩
  | .hbm, ⟨36, _⟩ => ⟨S256, .i32⟩
  | .hbm, ⟨37, _⟩ => ⟨S256, .i32⟩
  | .hbm, ⟨38, _⟩ => ⟨S256, .i32⟩
  | .hbm, ⟨39, _⟩ => ⟨S_, .i32⟩
  | .hbm, ⟨40, _⟩ => ⟨S256, .i32⟩
  | .hbm, ⟨41, _⟩ => ⟨S256, .i1⟩
  | .hbm, ⟨42, _⟩ => ⟨S256, .i32⟩
  | .hbm, ⟨43, _⟩ => ⟨S256, .i32⟩
  | .hbm, ⟨44, _⟩ => ⟨S_, .i32⟩
  | .hbm, ⟨45, _⟩ => ⟨S256, .i32⟩
  | .hbm, ⟨46, _⟩ => ⟨S256, .i1⟩
  | .hbm, ⟨47, _⟩ => ⟨S256, .i1⟩
  | .hbm, ⟨48, _⟩ => ⟨S_, .i32⟩
  | .hbm, ⟨49, _⟩ => ⟨S256, .i32⟩
  | .hbm, ⟨50, _⟩ => ⟨S256, .i32⟩
  | .hbm, ⟨51, _⟩ => ⟨S256, .i32⟩
  | .hbm, ⟨52, _⟩ => ⟨S256x1, .i32⟩
  | .hbm, ⟨53, _⟩ => ⟨S1x256, .i32⟩
  | .hbm, ⟨54, _⟩ => ⟨S256x256, .i32⟩
  | .hbm, ⟨55, _⟩ => ⟨S256x256, .i32⟩
  | .hbm, ⟨56, _⟩ => ⟨S256x256, .i1⟩
  | .hbm, ⟨57, _⟩ => ⟨S_, .f32⟩
  | .hbm, ⟨58, _⟩ => ⟨S_, .f32⟩
  | .hbm, ⟨59, _⟩ => ⟨S256x256, .f32⟩
  | .hbm, ⟨60, _⟩ => ⟨S256x256, .f32⟩
  | .hbm, ⟨61, _⟩ => ⟨S256x256, .f32⟩
  | .hbm, ⟨62, _⟩ => ⟨S256x256, .bf16⟩
  | .hbm, ⟨63, _⟩ => ⟨S128, .f32⟩
  | .hbm, ⟨64, _⟩ => ⟨S128, .f32⟩
  | .hbm, ⟨65, _⟩ => ⟨S128, .f32⟩
  | .hbm, ⟨66, _⟩ => ⟨S128, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S4x128, .f32⟩
  | .hbm, ⟨72, _⟩ => ⟨S32768x1024, .f32⟩
  | .hbm, ⟨73, _⟩ => ⟨S1x1024, .f32⟩
  | .hbm, ⟨74, _⟩ => ⟨S1024x4352, .f32⟩
  | .hbm, ⟨75, _⟩ => ⟨S1024x4352, .bf16⟩
  | .hbm, ⟨76, _⟩ => ⟨S32768x1024, .bf16⟩
  | .hbm, ⟨77, _⟩ => ⟨S64x4x128x1024, .bf16⟩
  | .hbm, ⟨78, _⟩ => ⟨S32768x512, .bf16⟩
  | .hbm, ⟨79, _⟩ => ⟨S64x4x144x512, .bf16⟩
  | .hbm, ⟨80, _⟩ => ⟨S32768x512, .bf16⟩
  | .hbm, ⟨81, _⟩ => ⟨S64x4x128x512, .bf16⟩
  | .hbm, ⟨82, _⟩ => ⟨S32768x512, .bf16⟩
  | .hbm, ⟨83, _⟩ => ⟨S32768x512, .bf16⟩
  | .hbm, ⟨84, _⟩ => ⟨S256x256x1024, .bf16⟩
  | .hbm, ⟨85, _⟩ => ⟨S32768x256, .bf16⟩
  | .hbm, ⟨86, _⟩ => ⟨S64x144x512, .bf16⟩
  | .hbm, ⟨87, _⟩ => ⟨S128x2x64x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4352, .bf16⟩
  | .local _ .vmem, ⟨4, _⟩ => ⟨S256x256, .bf16⟩
  | .local _ .vmem, ⟨5, _⟩ => ⟨S4x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x1024, .bf16⟩
  | .local _ .vmem, ⟨19, _⟩ => ⟨S512x1024, .bf16⟩
  | .local _ .vmem, ⟨20, _⟩ => ⟨S1x4x128x1024, .bf16⟩
  | .local _ .vmem, ⟨21, _⟩ => ⟨S1x4x128x1024, .bf16⟩
  | .local _ .vmem, ⟨22, _⟩ => ⟨S512x512, .bf16⟩
  | .local _ .vmem, ⟨23, _⟩ => ⟨S512x512, .bf16⟩
  | .local _ .vmem, ⟨24, _⟩ => ⟨S1x4x144x512, .bf16⟩
  | .local _ .vmem, ⟨25, _⟩ => ⟨S1x4x144x512, .bf16⟩
  | .local _ .vmem, ⟨26, _⟩ => ⟨S512x512, .bf16⟩
  | .local _ .vmem, ⟨27, _⟩ => ⟨S512x512, .bf16⟩
  | .local _ .vmem, ⟨28, _⟩ => ⟨S1x4x128x512, .bf16⟩
  | .local _ .vmem, ⟨29, _⟩ => ⟨S1x4x128x512, .bf16⟩
  | .local _ .vmem, ⟨30, _⟩ => ⟨S512x512, .bf16⟩
  | .local _ .vmem, ⟨31, _⟩ => ⟨S512x512, .bf16⟩
  | .local _ .vmem, ⟨32, _⟩ => ⟨S512x512, .bf16⟩
  | .local _ .vmem, ⟨33, _⟩ => ⟨S512x512, .bf16⟩
  | .local _ .vmem, ⟨34, _⟩ => ⟨S4x256x1024, .bf16⟩
  | .local _ .vmem, ⟨35, _⟩ => ⟨S4x256x1024, .bf16⟩
  | .local _ .vmem, ⟨36, _⟩ => ⟨S512x256, .bf16⟩
  | .local _ .vmem, ⟨37, _⟩ => ⟨S512x256, .bf16⟩
  | .local _ .vmem, ⟨38, _⟩ => ⟨S1x144x512, .bf16⟩
  | .local _ .vmem, ⟨39, _⟩ => ⟨S1x144x512, .bf16⟩
  | .local _ .vmem, ⟨40, _⟩ => ⟨S2x2x64x256, .bf16⟩
  | .local _ .vmem, ⟨41, _⟩ => ⟨S2x2x64x256, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_c : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_c_0 : Ref sig .tc := ⟨.hbm, 48, rfl⟩
abbrev main_call0_v12 : Ref sig .tc := ⟨.hbm, 49, rfl⟩
abbrev main_call0_v13 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_cst_1 : Ref sig .tc := ⟨.hbm, 57, rfl⟩
abbrev main_cst_2 : Ref sig .tc := ⟨.hbm, 58, rfl⟩
abbrev main_call1_v0 : Ref sig .tc := ⟨.hbm, 59, rfl⟩
abbrev main_call1_v1 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38_0 : Ref sig .tc := ⟨.hbm, 76, rfl⟩
abbrev main_v38_1 : Ref sig .tc := ⟨.hbm, 77, rfl⟩
abbrev main_v38_2 : Ref sig .tc := ⟨.hbm, 78, rfl⟩
abbrev main_v38_3 : Ref sig .tc := ⟨.hbm, 79, rfl⟩
abbrev main_v38_4 : Ref sig .tc := ⟨.hbm, 80, rfl⟩
abbrev main_v38_5 : Ref sig .tc := ⟨.hbm, 81, rfl⟩
abbrev main_v38_6 : Ref sig .tc := ⟨.hbm, 82, rfl⟩
abbrev main_v38_7 : Ref sig .tc := ⟨.hbm, 83, rfl⟩
abbrev main_v38_8 : Ref sig .tc := ⟨.hbm, 84, rfl⟩
abbrev main_v38_9 : Ref sig .tc := ⟨.hbm, 85, rfl⟩
abbrev main_v38_10 : Ref sig .tc := ⟨.hbm, 86, rfl⟩
abbrev main_v38_11 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_stg21_1 : Ref sig .tc := ⟨.vmem, 39, rfl⟩
abbrev cc0_stg22_0 : Ref sig .tc := ⟨.vmem, 40, rfl⟩
abbrev cc0_stg22_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37
abbrev cc0_sem21_0 : DmaSem sig := 38
abbrev cc0_sem21_1 : DmaSem sig := 39
abbrev cc0_sem22_0 : DmaSem sig := 40
abbrev cc0_sem22_1 : DmaSem sig := 41

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4352 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x4x128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x4x144x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x4x128x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S4x256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x144x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S2x2x64x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== ProjReferenceIdeal.lean ====
abbrev S4x8192x1024 : Shape := ⟨3, ![4, 8192, 1024]⟩
abbrev S1024 : Shape := ⟨1, ![1024]⟩
abbrev S1024x7424 : Shape := ⟨2, ![1024, 7424]⟩
abbrev S64 : Shape := ⟨1, ![64]⟩
abbrev S8192x8 : Shape := ⟨2, ![8192, 8]⟩
abbrev S8192x16 : Shape := ⟨2, ![8192, 16]⟩
abbrev S8192x64 : Shape := ⟨2, ![8192, 64]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x7424 : Shape := ⟨3, ![4, 8192, 7424]⟩
abbrev S4x8192x512 : Shape := ⟨3, ![4, 8192, 512]⟩
abbrev S4x8192x8x64 : Shape := ⟨4, ![4, 8192, 8, 64]⟩
abbrev S4x8192x8 : Shape := ⟨3, ![4, 8192, 8]⟩
abbrev S4x8192x8x1 : Shape := ⟨4, ![4, 8192, 8, 1]⟩
abbrev S1x1x1x64 : Shape := ⟨4, ![1, 1, 1, 64]⟩
abbrev S4x8192x8x16 : Shape := ⟨4, ![4, 8192, 8, 16]⟩
abbrev S1x8192x1x8 : Shape := ⟨4, ![1, 8192, 1, 8]⟩
abbrev S4x8192x8x8 : Shape := ⟨4, ![4, 8192, 8, 8]⟩
abbrev S4x8192x8x48 : Shape := ⟨4, ![4, 8192, 8, 48]⟩
abbrev S4x8192x4x128 : Shape := ⟨4, ![4, 8192, 4, 128]⟩
abbrev S1x8192x1x64 : Shape := ⟨4, ![1, 8192, 1, 64]⟩
abbrev S4x8192x4x64 : Shape := ⟨4, ![4, 8192, 4, 64]⟩
abbrev S32768x1024 : Shape := ⟨2, ![32768, 1024]⟩
abbrev S32768x512 : Shape := ⟨2, ![32768, 512]⟩

abbrev nBuf : Space → Nat
  | .hbm => 97
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x7424, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S8192x8, .f32⟩
  | .hbm, ⟨8, _⟩ => ⟨S8192x8, .f32⟩
  | .hbm, ⟨9, _⟩ => ⟨S8192x16, .f32⟩
  | .hbm, ⟨10, _⟩ => ⟨S8192x16, .f32⟩
  | .hbm, ⟨11, _⟩ => ⟨S8192x16, .f32⟩
  | .hbm, ⟨12, _⟩ => ⟨S8192x16, .f32⟩
  | .hbm, ⟨13, _⟩ => ⟨S8192x64, .f32⟩
  | .hbm, ⟨14, _⟩ => ⟨S8192x64, .f32⟩
  | .hbm, ⟨15, _⟩ => ⟨S4x8192x1024, .f32⟩
  | .hbm, ⟨16, _⟩ => ⟨S_, .f32⟩
  | .hbm, ⟨17, _⟩ => ⟨S4x8192, .f32⟩
  | .hbm, ⟨18, _⟩ => ⟨S4x8192x1, .f32⟩
  | .hbm, ⟨19, _⟩ => ⟨S_, .f32⟩
  | .hbm, ⟨20, _⟩ => ⟨S4x8192x1, .f32⟩
  | .hbm, ⟨21, _⟩ => ⟨S4x8192x1, .f32⟩
  | .hbm, ⟨22, _⟩ => ⟨S_, .f32⟩
  | .hbm, ⟨23, _⟩ => ⟨S4x8192x1, .f32⟩
  | .hbm, ⟨24, _⟩ => ⟨S4x8192x1, .f32⟩
  | .hbm, ⟨25, _⟩ => ⟨S4x8192x1, .f32⟩
  | .hbm, ⟨26, _⟩ => ⟨S4x8192x1024, .f32⟩
  | .hbm, ⟨27, _⟩ => ⟨S4x8192x1024, .f32⟩
  | .hbm, ⟨28, _⟩ => ⟨S1x1x1024, .f32⟩
  | .hbm, ⟨29, _⟩ => ⟨S4x8192x1024, .f32⟩
  | .hbm, ⟨30, _⟩ => ⟨S4x8192x1024, .f32⟩
  | .hbm, ⟨31, _⟩ => ⟨S4x8192x7424, .f32⟩
  | .hbm, ⟨32, _⟩ => ⟨S4x8192x512, .f32⟩
  | .hbm, ⟨33, _⟩ => ⟨S4x8192x8x64, .f32⟩
  | .hbm, ⟨34, _⟩ => ⟨S4x8192x8x64, .f32⟩
  | .hbm, ⟨35, _⟩ => ⟨S_, .f32⟩
  | .hbm, ⟨36, _⟩ => ⟨S4x8192x8, .f32⟩
  | .hbm, ⟨37, _⟩ => ⟨S4x8192x8x1, .f32⟩
  | .hbm, ⟨38, _⟩ => ⟨S_, .f32⟩
  | .hbm, ⟨39, _⟩ => ⟨S4x8192x8x1, .f32⟩
  | .hbm, ⟨40, _⟩ => ⟨S4x8192x8x1, .f32⟩
  | .hbm, ⟨41, _⟩ => ⟨S_, .f32⟩
  | .hbm, ⟨42, _⟩ => ⟨S4x8192x8x1, .f32⟩
  | .hbm, ⟨43, _⟩ => ⟨S4x8192x8x1, .f32⟩
  | .hbm, ⟨44, _⟩ => ⟨S4x8192x8x1, .f32⟩
  | .hbm, ⟨45, _⟩ => ⟨S4x8192x8x64, .f32⟩
  | .hbm, ⟨46, _⟩ => ⟨S4x8192x8x64, .f32⟩
  | .hbm, ⟨47, _⟩ => ⟨S1x1x1x64, .f32⟩
  | .hbm, ⟨48, _⟩ => ⟨S4x8192x8x64, .f32⟩
  | .hbm, ⟨49, _⟩ => ⟨S4x8192x8x64, .f32⟩
  | .hbm, ⟨50, _⟩ => ⟨S4x8192x8x16, .f32⟩
  | .hbm, ⟨51, _⟩ => ⟨S1x8192x1x8, .f32⟩
  | .hbm, ⟨52, _⟩ => ⟨S1x8192x1x8, .f32⟩
  | .hbm, ⟨53, _⟩ => ⟨S4x8192x8x8, .f32⟩
  | .hbm, ⟨54, _⟩ => ⟨S4x8192x8x8, .f32⟩
  | .hbm, ⟨55, _⟩ => ⟨S4x8192x8x8, .f32⟩
  | .hbm, ⟨56, _⟩ => ⟨S4x8192x8x8, .f32⟩
  | .hbm, ⟨57, _⟩ => ⟨S4x8192x8x8, .f32⟩
  | .hbm, ⟨58, _⟩ => ⟨S4x8192x8x8, .f32⟩
  | .hbm, ⟨59, _⟩ => ⟨S4x8192x8x8, .f32⟩
  | .hbm, ⟨60, _⟩ => ⟨S4x8192x8x8, .f32⟩
  | .hbm, ⟨61, _⟩ => ⟨S4x8192x8x8, .f32⟩
  | .hbm, ⟨62, _⟩ => ⟨S4x8192x8x8, .f32⟩
  | .hbm, ⟨63, _⟩ => ⟨S4x8192x8x8, .f32⟩
  | .hbm, ⟨64, _⟩ => ⟨S4x8192x8x8, .f32⟩
  | .hbm, ⟨65, _⟩ => ⟨S4x8192x8x16, .f32⟩
  | .hbm, ⟨66, _⟩ => ⟨S4x8192x8x48, .f32⟩
  | .hbm, ⟨67, _⟩ => ⟨S4x8192x8x64, .f32⟩
  | .hbm, ⟨68, _⟩ => ⟨S4x8192x512, .f32⟩
  | .hbm, ⟨69, _⟩ => ⟨S4x8192x4x128, .f32⟩
  | .hbm, ⟨70, _⟩ => ⟨S1x8192x1x64, .f32⟩
  | .hbm, ⟨71, _⟩ => ⟨S1x8192x1x64, .f32⟩
  | .hbm, ⟨72, _⟩ => ⟨S4x8192x4x64, .f32⟩
  | .hbm, ⟨73, _⟩ => ⟨S4x8192x4x64, .f32⟩
  | .hbm, ⟨74, _⟩ => ⟨S4x8192x4x64, .f32⟩
  | .hbm, ⟨75, _⟩ => ⟨S4x8192x4x64, .f32⟩
  | .hbm, ⟨76, _⟩ => ⟨S4x8192x4x64, .f32⟩
  | .hbm, ⟨77, _⟩ => ⟨S4x8192x4x64, .f32⟩
  | .hbm, ⟨78, _⟩ => ⟨S4x8192x4x64, .f32⟩
  | .hbm, ⟨79, _⟩ => ⟨S4x8192x4x64, .f32⟩
  | .hbm, ⟨80, _⟩ => ⟨S4x8192x4x64, .f32⟩
  | .hbm, ⟨81, _⟩ => ⟨S4x8192x4x64, .f32⟩
  | .hbm, ⟨82, _⟩ => ⟨S4x8192x4x64, .f32⟩
  | .hbm, ⟨83, _⟩ => ⟨S4x8192x4x64, .f32⟩
  | .hbm, ⟨84, _⟩ => ⟨S4x8192x4x128, .f32⟩
  | .hbm, ⟨85, _⟩ => ⟨S4x8192x512, .f32⟩
  | .hbm, ⟨86, _⟩ => ⟨S4x8192x512, .f32⟩
  | .hbm, ⟨87, _⟩ => ⟨S32768x1024, .f32⟩
  | .hbm, ⟨88, _⟩ => ⟨S32768x1024, .bf16⟩
  | .hbm, ⟨89, _⟩ => ⟨S32768x512, .f32⟩
  | .hbm, ⟨90, _⟩ => ⟨S32768x512, .bf16⟩
  | .hbm, ⟨91, _⟩ => ⟨S32768x512, .f32⟩
  | .hbm, ⟨92, _⟩ => ⟨S32768x512, .bf16⟩
  | .hbm, ⟨93, _⟩ => ⟨S32768x512, .f32⟩
  | .hbm, ⟨94, _⟩ => ⟨S32768x512, .bf16⟩
  | .hbm, ⟨95, _⟩ => ⟨S32768x512, .f32⟩
  | .hbm, ⟨96, _⟩ => ⟨S32768x512, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_cst_3 : Ref sig .tc := ⟨.hbm, 38, rfl⟩
abbrev main_v19 : Ref sig .tc := ⟨.hbm, 39, rfl⟩
abbrev main_v20 : Ref sig .tc := ⟨.hbm, 40, rfl⟩
abbrev main_cst_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩

abbrev nD : Nat := 1
abbrev τ : Topo := Topo.v7x

variable {F : FTy → Type} [FloatOps F]
-- ==== Proof.KernelFrame.lean ====
module

public import proofs.«01_k».proof.Proof.Gen.Kernel.Frame
public import proofs.«01_k».proof.Proof.Gen.Kernel.Skeleton
public import proofs.«01_k».proof.Proof.Gen.Kernel.Loops
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The kernel over words runs and leaves its arguments: nothing is said of what it writes. -/

/-- The conditions of the body's two branches, over the flag word it reads. -/
abbrev cond0_0 (i : grid0.Coords) (v26 : BitVec 32) : Prop := (Scalar.cmpi .ne (Scalar.extui (Scalar.cmpi .eq v26 1#32)) 0#32) = 1#1
abbrev cond0_1 (i : grid0.Coords) (v30 : BitVec 32) : Prop := (Scalar.cmpi .ne (Scalar.extui (Scalar.cmpi .eq v30 0#32)) 0#32) = 1#1

/-- Each window's staging memref at a point, and the scratch. -/
abbrev ms0_0 (t : Fin cfg0.N) : Memref sig .tc .smem S1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x1x128x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8192x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x1x144x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x128 .bf16 := win0_6.stage (cfg0.slots t 6)
abbrev hs0_6 (t : Fin cfg0.N) : (ms0_6 t).IsWhole := hstage0_6 ((cfg0.slots t 6).cast nbuf0_6)
abbrev scM0_0 : Memref sig .tc .vmem S1x2048 .f32 := Memref.whole cc0_scratch0
abbrev scM0_1 : Memref sig .tc .vmem S144x2048 .f32 := Memref.whole cc0_scratch1

/-- The invariant between points: the two scratch buffers at some contents, and the generator's register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

set_option maxHeartbeats 4000000 in
/-- The body runs whatever the flag is: the inputs stay, the output and the scratch end at something. -/
theorem run_any (c : Dev nD) (i : grid0.Coords) (arg3 : Memref sig .tc .smem S1 .i32) (harg3 : arg3.IsWhole) (arg4 : Memref sig .tc .vmem S4x64 .f32) (harg4 : arg4.IsWhole) (arg5 : Memref sig .tc .vmem S1x128 .f32) (harg5 : arg5.IsWhole) (arg6 : Memref sig .tc .vmem S2x1x128x1024 .bf16) (harg6 : arg6.IsWhole) (arg7 : Memref sig .tc .vmem S8192x128 .bf16) (harg7 : arg7.IsWhole) (arg8 : Memref sig .tc .vmem S16x1x144x512 .bf16) (harg8 : arg8.IsWhole) (arg9 : Memref sig .tc .vmem S1024x128 .bf16) (harg9 : arg9.IsWhole) (arg10 : Memref sig .tc .vmem S1x2048 .f32) (harg10 : arg10.IsWhole) (arg11 : Memref sig .tc .vmem S144x2048 .f32) (harg11 : arg11.IsWhole)
    (x0 : Vec F S1 .i32) (x1 : Vec F S4x64 .f32) (x2 : Vec F S1x128 .f32) (x3 : Vec F S2x1x128x1024 .bf16) (x4 : Vec F S8192x128 .bf16) (x5 : Vec F S16x1x144x512 .bf16) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_diff_attn i arg3 harg3 arg4 harg4 arg5 harg5 arg6 harg6 arg7 harg7 arg8 harg8 arg9 harg9 arg10 harg10 arg11 harg11) K := by
    intro E K
    simp only [cc0_diff_attn_eq_skeleton]; unfold cc0_diff_attn_skel
    simp only [k0_part10_eq_skeleton, k0_part1_eq_skeleton, k0_part2_eq_skeleton, k0_part3_eq_skeleton, k0_part4_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    by_cases hc0 : cond0_0 i (arg3.view.readAt (Elt F) (Rect.unit (s := S1) ![0] S1.size inb_S1_S1_0).toLoadRect (harg3.unread x0) (Shape.Idx.first (numel1_S1.symm ▸ Nat.one_pos))) <;>
    by_cases hc1 : cond0_1 i (arg3.view.readAt (Elt F) (Rect.unit (s := S1) ![0] S1.size inb_S1_S1_0).toLoadRect (harg3.unread x0) (Shape.Idx.first (numel1_S1.symm ▸ Nat.one_pos)))
    all_goals
      sl_exec (disch := first | sl_exact hc0 | sl_exact hc1)
      sl_step
      iapply Hk
      isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr; · ipureintro; exact harg7.read_unread _
        iexact H4
      isplitl [H5]
      · iexists _; isplitr; · ipureintro; exact harg8.read_unread _
        iexact H5
      isplitl [H6]
      · iexists _, _; isplitr; swap; · iexact H6
        ipureintro; rfl
      isplitl [HS0]
      · iexists _, _; isplitr; swap; · iexact HS0
        ipureintro; rfl
      iexists _, _; isplitr; swap; · iexact HS1
      ipureintro; rfl

variable (m : (ℓ : Loc nD τ sig) → Buf (Elt F) ℓ) (ρ : Dev nD → PrngReg)
/-- Of window 6, the output, nothing is said. -/
def forgets0 : Fin 7 → Bool := fun w => w.val == 6

/-- The proof data: the arrays as the region finds them, each input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

/-- Its arrays. -/
theorem A_eq (c : Dev nD) (w : Fin cfg0.W) : (dats m 0 c).A w = V m c (Pipeline.arrRef spec0 w) := by
  dsimp only [dats]

/-- What the body leaves in the inputs' buffers, -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- and what it finds there. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply ((run_any c (grid0.coords t) _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The table's row at a point is the body. -/
theorem defs₀_row (t : Fin cfg0.N) :
    defs₀ (F := F) .tc cfg0.body (cfg0.bodyArgs t (cfg0.slots t)) = bodyAt0 t := by
  unfold defs₀; rw [Defs.onTc_tc]

/-- The body obligation. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The run, with every counter at zero at its end. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) (run_main m ρ)

/-- The arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Kernel.Gen

end
-- ==== Proof.Host.lean ====
module

public import proofs.«01_k».proof.Proof.Gen.KernelIdeal.Frame
public import Idealize.ShloMosaic.Lib.Claim
public import Idealize.ShloMosaic.Lib.Pipeline.ValueKit
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The arrays the host code packs for the launch. -/

theorem concat2_congr {T : EltTy} {t sa sb : Shape} {d : Fin t.rank} {A A' : sa.Idx → Elt Ideal T} {B B' : sb.Idx → Elt Ideal T} {h}
    (hA : A = A') (hB : B = B') : concatenate t d [⟨sa, A⟩, ⟨sb, B⟩] h = concatenate t d [⟨sa, A'⟩, ⟨sb, B'⟩] h := by
  subst hA hB
  rfl

/-- The zeros beside each map's queries. -/
abbrev zeroQ : FVec Ideal S64x512x4x64 .f32 := broadcastInDim S64x512x4x64 ![] bcast_S_S64x512x4x64 (constant S_ .f32 0x00000000#32)

/-- The queries in tiles of 512 tokens. -/
abbrev tileQ (x : FVec Ideal S4x8192x4x2x64 .f32) : FVec Ideal S64x512x4x2x64 .f32 := shapeCast S64x512x4x2x64 x shapeCasts_S4x8192x4x2x64_S64x512x4x2x64

/-- Map 1's queries in lanes 0 to 63 of their columns. -/
abbrev padQ0 (x : FVec Ideal S4x8192x4x2x64 .f32) : FVec Ideal S64x4x128x512 .f32 :=
  transpose S64x4x128x512 [0, 2, 3, 1] (concatenate S64x512x4x128 3
    [⟨S64x512x4x64, shapeCast S64x512x4x64 (extractStridedSlice S64x512x4x1x64 ![0, 0, 0, 0, 0] (tileQ x) slices_S64x512x4x2x64_S64x512x4x1x64_0_0_0_0_0) shapeCasts_S64x512x4x1x64_S64x512x4x64⟩,
      ⟨S64x512x4x64, zeroQ⟩] concatenates_S64x512x4x64_S64x512x4x64_S64x512x4x128_d3) transposes_S64x512x4x128_S64x4x128x512_0_2_3_1

/-- Map 2's queries in lanes 64 to 127 of their columns. -/
abbrev padQ1 (x : FVec Ideal S4x8192x4x2x64 .f32) : FVec Ideal S64x4x128x512 .f32 :=
  transpose S64x4x128x512 [0, 2, 3, 1] (concatenate S64x512x4x128 3
    [⟨S64x512x4x64, zeroQ⟩,
      ⟨S64x512x4x64, shapeCast S64x512x4x64 (extractStridedSlice S64x512x4x1x64 ![0, 0, 0, 1, 0] (tileQ x) slices_S64x512x4x2x64_S64x512x4x1x64_0_0_0_1_0) shapeCasts_S64x512x4x1x64_S64x512x4x64⟩]
    concatenates_S64x512x4x64_S64x512x4x64_S64x512x4x128_d3) transposes_S64x512x4x128_S64x4x128x512_0_2_3_1

/-- The queries as packed. -/
def packQ (x : FVec Ideal S4x8192x4x2x64 .f32) : FVec Ideal S64x4x128x1024 .bf16 :=
  truncf .bf16 (concatenate S64x4x128x1024 3 [⟨S64x4x128x512, padQ0 x⟩, ⟨S64x4x128x512, padQ1 x⟩]
    concatenates_S64x4x128x512_S64x4x128x512_S64x4x128x1024_d3) bitsLt_bf16_f32

/-- The keys as packed. -/
def packK (x : FVec Ideal S4x8192x4x2x64 .f32) : FVec Ideal S32768x512 .bf16 :=
  truncf .bf16 (shapeCast S32768x512 x shapeCasts_S4x8192x4x2x64_S32768x512) bitsLt_bf16_f32

/-- The rows below the values: ones, then zeros. -/
abbrev onesV : FVec Ideal S64x4x16x512 .f32 :=
  select (cmpi .eq (iotaInDim S64x4x16x512 32 2) (broadcastInDim S64x4x16x512 ![] bcast_S_S64x4x16x512 (constantI S_ 32 0#32)))
    (broadcastInDim S64x4x16x512 ![] bcast_S_S64x4x16x512 (constant S_ .f32 0x3F800000#32))
    (broadcastInDim S64x4x16x512 ![] bcast_S_S64x4x16x512 (constant S_ .f32 0x00000000#32))

/-- The values as packed. -/
def packV (x : FVec Ideal S4x8192x4x128 .f32) : FVec Ideal S64x4x144x512 .bf16 :=
  truncf .bf16 (concatenate S64x4x144x512 2
    [⟨S64x4x128x512, transpose S64x4x128x512 [0, 2, 3, 1] (shapeCast S64x512x4x128 x shapeCasts_S4x8192x4x128_S64x512x4x128) transposes_S64x512x4x128_S64x4x128x512_0_2_3_1⟩,
      ⟨S64x4x16x512, onesV⟩] concatenates_S64x4x128x512_S64x4x16x512_S64x4x144x512_d2) bitsLt_bf16_f32

/-- The four lambda vectors as packed. -/
def packLam (a b c d : FVec Ideal S64 .f32) : FVec Ideal S4x64 .f32 :=
  concatenate S4x64 0 [⟨S1x64, broadcastInDim S1x64 ![1] bcast_S64_S1x64_1 a⟩, ⟨S1x64, broadcastInDim S1x64 ![1] bcast_S64_S1x64_1 b⟩,
    ⟨S1x64, broadcastInDim S1x64 ![1] bcast_S64_S1x64_1 c⟩, ⟨S1x64, broadcastInDim S1x64 ![1] bcast_S64_S1x64_1 d⟩] concatenates_S1x64_S1x64_S1x64_S1x64_S4x64_d0

variable (m : (ℓ : Loc nD τ sig) → Buf (Elt Ideal) ℓ)

theorem flag_at (z : IVec S_ 1) : shapeCast S1 (extui 32 z natLt_1_32) shapeCasts_S_S1 (ix1 0) = 1#32
    ∨ shapeCast S1 (extui 32 z natLt_1_32) shapeCasts_S_S1 (ix1 0) = 0#32 := by
  have h : ∀ w : BitVec 1, w.zeroExtend 32 = 1#32 ∨ w.zeroExtend 32 = 0#32 := by decide
  exact h _

theorem flag_cases (c : Dev nD) : (V m c main_v36 : Vec Ideal S1 .i32) (ix1 0) = 1#32 ∨ (V m c main_v36 : Vec Ideal S1 .i32) (ix1 0) = 0#32 := by
  simp only [V, hostOps0, hostOps0_1, hostOps0_2, List.flatten_cons, List.flatten_nil, List.append_nil, List.cons_append, List.nil_append]
  after_results_simp
  exact flag_at _

theorem packQ_eq (c : Dev nD) : V m c main_v11 = packQ (m ((c : Thread nD τ).loc main_arg0)) := by
  simp only [V, hostOps0, hostOps0_1, hostOps0_2, List.flatten_cons, List.flatten_nil, List.append_nil, List.cons_append, List.nil_append]
  after_results_simp
  refine congrArg (fun z => truncf (F := Ideal) .bf16 z bitsLt_bf16_f32) (concat2_congr ?_ ?_)
  · after_results_simp
    refine congrArg (fun z => transpose S64x4x128x512 [0, 2, 3, 1] z transposes_S64x512x4x128_S64x4x128x512_0_2_3_1) (concat2_congr ?_ ?_)
    · after_results_simp
      rfl
    · after_results_simp
  · after_results_simp
    refine congrArg (fun z => transpose S64x4x128x512 [0, 2, 3, 1] z transposes_S64x512x4x128_S64x4x128x512_0_2_3_1) (concat2_congr ?_ ?_)
    · after_results_simp
    · after_results_simp
      rfl

theorem packK_eq (c : Dev nD) : V m c main_v13 = packK (m ((c : Thread nD τ).loc main_arg1)) := by
  simp only [V, hostOps0, hostOps0_1, hostOps0_2, List.flatten_cons, List.flatten_nil, List.append_nil, List.cons_append, List.nil_append]
  after_results_simp
  rfl

theorem packV_eq (c : Dev nD) : V m c main_v22 = packV (m ((c : Thread nD τ).loc main_arg2)) := by
  simp only [V, hostOps0, hostOps0_1, hostOps0_2, List.flatten_cons, List.flatten_nil, List.append_nil, List.cons_append, List.nil_append]
  after_results_simp
  refine congrArg (fun z => truncf (F := Ideal) .bf16 z bitsLt_bf16_f32) (concat2_congr ?_ ?_)
  · after_results_simp
    rfl
  · after_results_simp
    rfl

theorem packLam_eq (c : Dev nD) : V m c main_v27 = packLam (m ((c : Thread nD τ).loc main_arg5)) (m ((c : Thread nD τ).loc main_arg6))
    (m ((c : Thread nD τ).loc main_arg7)) (m ((c : Thread nD τ).loc main_arg8)) := by
  simp only [V, hostOps0, hostOps0_1, hostOps0_2, List.flatten_cons, List.flatten_nil, List.append_nil, List.cons_append, List.nil_append]
  after_results_simp
  rfl

theorem sub_eq (c : Dev nD) : V m c main_v37 = shapeCast S1x128 (m ((c : Thread nD τ).loc main_arg9) : FVec Ideal S128 .f32) shapeCasts_S128_S1x128 := by
  simp only [V, hostOps0, hostOps0_1, hostOps0_2, List.flatten_cons, List.flatten_nil, List.append_nil, List.cons_append, List.nil_append]
  after_results_simp
  rfl

end Cert.KernelIdeal.Gen

end
-- ==== Proof.Words.lean ====
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Pipeline.ValueKit
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! The two tests the body makes of the flag it is handed. -/

/-- What the body's first conditional asks of the flag word: that it is one. -/
abbrev flagOne (w : BitVec 32) : Prop := (Scalar.cmpi .ne (Scalar.extui (Scalar.cmpi .eq w 1#32)) 0#32) = 1#1
/-- What the second asks: that it is zero. -/
abbrev flagZero (w : BitVec 32) : Prop := (Scalar.cmpi .ne (Scalar.extui (Scalar.cmpi .eq w 0#32)) 0#32) = 1#1

/-- The flag word, read off the contents of its buffer as the body's load spells it. -/
abbrev flagAt (M : Memref sig .tc .smem S1 .i32) (hM : M.IsWhole) (x : Vec F S1 .i32) : BitVec 32 :=
  M.view.readAt (Elt F) (Rect.unit (s := S1) ![0] S1.size inb_S1_S1_0).toLoadRect (hM.unread x) (Shape.Idx.first (numel1_S1.symm ▸ Nat.one_pos))

end Cert.KernelIdeal.Gen

end
-- ==== Proof.Cols.lean ====
module

public import proofs.«01_k».proof.Proof.Words

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The online softmax of the slow branch, column by column: a column is one query row of one of the
two maps of a head. -/

/-- The score of key row `r` of block `k` against column `c`. -/
def sc (q : FVec Ideal S128x2048 .bf16) (K : Vec Ideal S8192x128 .bf16) (k : Fin 4) (r c : Fin 2048) : EReal :=
  ∑ d : Fin 128, (K (ix2 (⟨2048 * k.val + r.val, by omega⟩ : Fin 8192) d) : EReal) * q (ix2 d c)

/-- Row `e` of the values at key row `r` of block `k`. -/
def vl (V : Vec Ideal S16x1x144x512 .bf16) (k : Fin 4) (r : Fin 2048) (e : Fin 144) : EReal :=
  V (ix4 (⟨4 * k.val + r.val / 512, by omega⟩ : Fin 16) (0 : Fin 1) e (⟨r.val % 512, by omega⟩ : Fin 512))

/-- The running maximum after `k` blocks. -/
def mSt (q : FVec Ideal S128x2048 .bf16) (K : Vec Ideal S8192x128 .bf16) : ℕ → Fin 2048 → EReal
  | 0 => fun _ => ⊥
  | k + 1 => fun c => if h : k < 4 then max (mSt q K k c) (Finset.univ.fold max ⊥ fun r => sc q K ⟨k, h⟩ r c) else mSt q K k c

/-- The accumulator after `k` blocks. -/
def aSt (q : FVec Ideal S128x2048 .bf16) (K : Vec Ideal S8192x128 .bf16) (V : Vec Ideal S16x1x144x512 .bf16) :
    ℕ → Fin 144 → Fin 2048 → EReal
  | 0 => fun _ _ => 0
  | k + 1 => fun e c => if h : k < 4 then
      aSt q K V k e c * Ideal.exp2 (mSt q K k c - mSt q K (k + 1) c)
        + ∑ r : Fin 2048, vl V ⟨k, h⟩ r e * Ideal.exp2 (sc q K ⟨k, h⟩ r c - mSt q K (k + 1) c)
      else aSt q K V k e c

theorem mSt_succ (q : FVec Ideal S128x2048 .bf16) (K : Vec Ideal S8192x128 .bf16) (k : Fin 4) (c : Fin 2048) :
    mSt q K (k.val + 1) c = max (mSt q K k.val c) (Finset.univ.fold max ⊥ fun r => sc q K k r c) :=
  dif_pos k.isLt

theorem aSt_succ (q : FVec Ideal S128x2048 .bf16) (K : Vec Ideal S8192x128 .bf16) (V : Vec Ideal S16x1x144x512 .bf16) (k : Fin 4)
    (e : Fin 144) (c : Fin 2048) :
    aSt q K V (k.val + 1) e c = aSt q K V k.val e c * Ideal.exp2 (mSt q K k.val c - mSt q K (k.val + 1) c)
      + ∑ r : Fin 2048, vl V k r e * Ideal.exp2 (sc q K k r c - mSt q K (k.val + 1) c) :=
  dif_pos k.isLt

end Cert.KernelIdeal.Gen

end
-- ==== Proof.Tile.lean ====
module

public import proofs.«01_k».proof.Proof.Cols

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! One tile of 256 columns of one trip of the slow branch, read at a column. -/

/-- The scores of a tile: the columns `o, …, o + 255`. -/
abbrev tileS (q : FVec Ideal S128x2048 .bf16) (kb : FVec Ideal S2048x128 .bf16) (o : ℕ) (hs : S128x2048.Slices ![0, o] S128x256) :
    FVec Ideal S2048x256 .f32 :=
  matmul dot_S2048x128_S128x256_S2048x256_1_0_0_1_n_n none kb (extractStridedSlice S128x256 ![0, o] q hs)
    (constant S2048x256 .f32 0x00000000#32)

/-- The new running maximum of a tile whose old one is `w`. -/
abbrev tileM (q : FVec Ideal S128x2048 .bf16) (kb : FVec Ideal S2048x128 .bf16) (o : ℕ) (hs : S128x2048.Slices ![0, o] S128x256)
    (w : FVec Ideal S1x256 .f32) : FVec Ideal S1x256 .f32 :=
  maximumf w (shapeCast S1x256
    (multiReduction .maximumf [0] S256 (tileS q kb o hs) 0xFF800000#32 reduces_S2048x256_S256 (.inl rfl) rfl) shapeCasts_S256_S1x256)

/-- The new accumulator of a tile whose old one is `a`. -/
abbrev tileA (q : FVec Ideal S128x2048 .bf16) (kb : FVec Ideal S2048x128 .bf16) (vv : FVec Ideal S144x2048 .bf16) (o : ℕ)
    (hs : S128x2048.Slices ![0, o] S128x256) (w : FVec Ideal S1x256 .f32) (a : FVec Ideal S144x256 .f32) : FVec Ideal S144x256 .f32 :=
  addf (mulf a (broadcastTo S144x256 (exp2 (subf w (tileM q kb o hs w))) broadcasts_S1x256_S144x256))
    (matmul dot_S144x2048_S2048x256_S144x256_1_0_0_1_n_n none vv
      (truncf .bf16 (exp2 (subf (tileS q kb o hs) (broadcastTo S2048x256 (tileM q kb o hs w) broadcasts_S1x256_S2048x256))) bitsLt_bf16_f32)
      (constant S144x256 .f32 0x00000000#32))

variable {q : FVec Ideal S128x2048 .bf16} {K : Vec Ideal S8192x128 .bf16} {V : Vec Ideal S16x1x144x512 .bf16} {k : Fin 4}
  {kb : FVec Ideal S2048x128 .bf16} {vv : FVec Ideal S144x2048 .bf16}
  {o : ℕ} {hs : S128x2048.Slices ![0, o] S128x256}

theorem ofBits_negInf : Ideal.ofBits .f32 0xFF800000#32 = (⊥ : EReal) := by
  simp [Ideal.ofBits, Ideal.ieee]

theorem tileS_at (hkb : ∀ r d, (kb (ix2 r d) : EReal) = K (ix2 (⟨2048 * k.val + r.val, by omega⟩ : Fin 8192) d))
    (r : Fin 2048) (x : Fin 256) (C : Fin 2048) (hC : C.val = o + x.val) : tileS q kb o hs (ix2 r x) = sc q K k r C := by
  have hlt : o + x.val < 2048 := hC ▸ C.isLt
  obtain rfl : C = ⟨o + x.val, hlt⟩ := Fin.ext hC
  pointwise [tileS, sc]
  exact Finset.sum_congr rfl fun d _ => by rw [hkb]

theorem tileM_at (hkb : ∀ r d, (kb (ix2 r d) : EReal) = K (ix2 (⟨2048 * k.val + r.val, by omega⟩ : Fin 8192) d))
    (w : FVec Ideal S1x256 .f32) (x : Fin 256) (C : Fin 2048) (hC : C.val = o + x.val) (hw : (w (ix2 0 x) : EReal) = mSt q K k.val C) :
    tileM q kb o hs w (ix2 0 x) = mSt q K (k.val + 1) C := by
  have h : tileM q kb o hs w (ix2 0 x)
      = max (w (ix2 0 x)) (Finset.univ.fold max (Ideal.ofBits .f32 0xFF800000#32) fun r => tileS q kb o hs (ix2 r x)) := by
    generalize hs : tileS q kb o hs = s
    pointwise [tileM, hs]
  rw [h, hw, ofBits_negInf, mSt_succ]
  exact congrArg _ (congrArg (fun f => Finset.univ.fold max ⊥ f) (funext fun r => tileS_at hkb r x C hC))

theorem tileA_at (hkb : ∀ r d, (kb (ix2 r d) : EReal) = K (ix2 (⟨2048 * k.val + r.val, by omega⟩ : Fin 8192) d))
    (hvv : ∀ e r, (vv (ix2 e r) : EReal) = vl V k r e)
    (w : FVec Ideal S1x256 .f32) (a : FVec Ideal S144x256 .f32) (e : Fin 144) (x : Fin 256) (C : Fin 2048) (hC : C.val = o + x.val)
    (hw : (w (ix2 0 x) : EReal) = mSt q K k.val C) (ha : (a (ix2 e x) : EReal) = aSt q K V k.val e C) :
    tileA q kb vv o hs w a (ix2 e x) = aSt q K V (k.val + 1) e C := by
  have hm := tileM_at (hs := hs) hkb w x C hC hw
  have hS := fun r => tileS_at (q := q) (hs := hs) hkb r x C hC
  have h : tileA q kb vv o hs w a (ix2 e x)
      = a (ix2 e x) * Ideal.exp2 (w (ix2 0 x) - tileM q kb o hs w (ix2 0 x))
        + ∑ r : Fin 2048, vv (ix2 e r) * Ideal.exp2 (tileS q kb o hs (ix2 r x) - tileM q kb o hs w (ix2 0 x)) := by
    unfold tileA
    generalize tileM q kb o hs w = m
    generalize tileS q kb o hs = s
    pointwise
    rfl
  rw [h, ha, hw, hm, aSt_succ]
  exact congrArg _ (Finset.sum_congr rfl fun r _ => by rw [hvv, hS])

end Cert.KernelIdeal.Gen

end
-- ==== Proof.Pieces.lean ====
module

public import proofs.«01_k».proof.Proof.Tile

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The blocks a trip of the slow branch loads and the pieces it writes, at coordinates. -/

/-- The key block a trip loads, at coordinates. -/
theorem keyBlock_at (M : Memref sig .tc .vmem S8192x128 .bf16) (X : BufTy.Contents (Elt Ideal) M.view.ty) (k : Fin 4) (off : Fin 2 → ℕ) (hoff : off = ![2048 * k.val, 0])
    (inb : ∀ a, off a + S2048x128.size a ≤ S8192x128.size a) (r : Fin 2048) (d : Fin 128) :
    (shapeCast S2048x128 (M.view.readAt (Elt Ideal) (Rect.unit (s := S8192x128) off S2048x128.size inb).toLoadRect X) shapeCasts_S2048x128_S2048x128 (ix2 r d) : EReal)
      = M.view.read (Elt Ideal) X (ix2 (⟨2048 * k.val + r.val, by omega⟩ : Fin 8192) d) := by
  subst hoff
  refine (congrFun (shapeCast_self _ shapeCasts_S2048x128_S2048x128) _).trans ?_
  exact View.ld_unit_apply_of (M.view.read (Elt Ideal) X) _ _ inb (ix2 r d) (ix2 (⟨2048 * k.val + r.val, by omega⟩ : Fin 8192) d)
    (by intro a; match a with | 0 => rfl | 1 => simp)

/-- Four value blocks side by side, at coordinates. -/
theorem vcat_at {V : Vec Ideal S16x1x144x512 .bf16} {k : Fin 4} (g : Fin 4 → Vec Ideal S1x1x144x512 .bf16) (e : Fin 144) (r : Fin 2048)
    (hg : ∀ j x, (g j (ix4 0 0 e x) : EReal) = V (ix4 (⟨4 * k.val + j.val, by omega⟩ : Fin 16) 0 e x)) :
    (k0_pay21 (g 0) (g 1) (g 2) (g 3) (ix2 e r) : EReal) = vl V k r e := by
  have hp : ∀ (j : Fin 4) (x : Fin 512), r.val = 512 * j.val + x.val → (g j (ix4 0 0 e x) : EReal) = vl V k r e := fun j x h => by
    have h1 : (⟨4 * k.val + j.val, by omega⟩ : Fin 16) = ⟨4 * k.val + r.val / 512, by omega⟩ := Fin.ext (by simp only; omega)
    have h2 : x = (⟨r.val % 512, by omega⟩ : Fin 512) := Fin.ext (by simp only; omega)
    rw [hg, vl, ← h1, ← h2]
  pointwise [k0_pay21]
  split_ifs
  all_goals first
    | exact hp 0 ⟨r.val, by omega⟩ (by simp)
    | exact hp 1 ⟨r.val - 512, by omega⟩ (by simp; omega)
    | exact hp 2 ⟨r.val - 512 - 512, by omega⟩ (by simp; omega)
    | exact hp 3 ⟨r.val - 512 - 512 - 512, by omega⟩ (by simp; omega)

/-- A value block loaded from the staged values, at coordinates. -/
theorem valBlock_at (M : Memref sig .tc .vmem S16x1x144x512 .bf16) (X : BufTy.Contents (Elt Ideal) M.view.ty) (n : Fin 16) (off : Fin 4 → ℕ)
    (hoff : off = ![n.val, 0, 0, 0])
    (inb : ∀ a, off a + S1x1x144x512.size a ≤ S16x1x144x512.size a) (e : Fin 144) (x : Fin 512) :
    M.view.readAt (Elt Ideal) (Rect.unit (s := S16x1x144x512) off S1x1x144x512.size inb).toLoadRect X (ix4 0 0 e x)
      = M.view.read (Elt Ideal) X (ix4 n 0 e x) := by
  subst hoff
  exact View.ld_unit_apply_of (M.view.read (Elt Ideal) X) _ _ inb (ix4 0 0 e x) (ix4 n 0 e x)
      (by intro a; match a with | 0 => rfl | 1 => rfl | 2 => simp | 3 => simp)

/-- The four value blocks a trip loads, side by side, at coordinates. -/
theorem valBlocks_at (M : Memref sig .tc .vmem S16x1x144x512 .bf16) (X : BufTy.Contents (Elt Ideal) M.view.ty) (k : Fin 4) (off : Fin 4 → Fin 4 → ℕ)
    (hoff : ∀ j, off j = ![4 * k.val + j.val, 0, 0, 0])
    (inb : ∀ j a, off j a + S1x1x144x512.size a ≤ S16x1x144x512.size a) (e : Fin 144) (r : Fin 2048) :
    (k0_pay21 (M.view.readAt (Elt Ideal) (Rect.unit (s := S16x1x144x512) (off 0) S1x1x144x512.size (inb 0)).toLoadRect X)
      (M.view.readAt (Elt Ideal) (Rect.unit (s := S16x1x144x512) (off 1) S1x1x144x512.size (inb 1)).toLoadRect X)
      (M.view.readAt (Elt Ideal) (Rect.unit (s := S16x1x144x512) (off 2) S1x1x144x512.size (inb 2)).toLoadRect X)
      (M.view.readAt (Elt Ideal) (Rect.unit (s := S16x1x144x512) (off 3) S1x1x144x512.size (inb 3)).toLoadRect X) (ix2 e r) : EReal)
      = vl (M.view.read (Elt Ideal) X) k r e :=
  vcat_at (fun j => M.view.readAt (Elt Ideal) (Rect.unit (s := S16x1x144x512) (off j) S1x1x144x512.size (inb j)).toLoadRect X) e r
    fun j x => valBlock_at M X ⟨4 * k.val + j.val, by omega⟩ (off j) (hoff j) (inb j) e x

/-- One piece the trip writes in the running maximum. -/
theorem pieceM {q : FVec Ideal S128x2048 .bf16} {K : Vec Ideal S8192x128 .bf16} {k : Fin 4} {kb : FVec Ideal S2048x128 .bf16}
    (hkb : ∀ r d, (kb (ix2 r d) : EReal) = K (ix2 (⟨2048 * k.val + r.val, by omega⟩ : Fin 8192) d))
    {M : Memref sig .tc .vmem S1x2048 .f32} {f : BufTy.Contents (Elt Ideal) M.view.ty}
    (hf : ∀ x : Fin 2048, M.view.read (Elt Ideal) f (ix2 (0 : Fin 1) x) = mSt q K k.val x) (X : Fin 2048) (o : ℕ)
    (hs : S128x2048.Slices ![0, o] S128x256) (inb : ∀ a, (![0, o] : Fin 2 → ℕ) a + S1x256.size a ≤ S1x2048.size a) :
    View.TileAt (Val := Elt Ideal) (S := S1x2048) (e := .f32) (ix2 (0 : Fin 1) X) ![0, o] S1x256.size
      (shapeCast S1x256 (tileM q kb o hs (M.view.readAt (Elt Ideal) (Rect.unit (s := S1x2048) ![0, o] S1x256.size inb).toLoadRect f)) shapeCasts_S1x256_S1x256)
      (mSt q K (k.val + 1) X) := by
  intro x hx
  rw [shapeCast_self]
  obtain ⟨x0, x1, rfl⟩ : ∃ (x0 : Fin 1) (x1 : Fin 256), x = ix2 x0 x1 := ⟨x 0, x 1, eq_ix2 x⟩
  obtain rfl : x0 = 0 := Subsingleton.elim _ _
  have hC : X.val = o + x1.val := hx 1
  refine tileM_at hkb _ x1 X hC ((View.ld_unit_apply_of (M.view.read (Elt Ideal) f) _ _ inb (ix2 0 x1) (ix2 (0 : Fin 1) X) hx).trans (hf X))

/-- One piece the trip writes in the accumulator. -/
theorem pieceA {q : FVec Ideal S128x2048 .bf16} {K : Vec Ideal S8192x128 .bf16} {V : Vec Ideal S16x1x144x512 .bf16} {k : Fin 4}
    {kb : FVec Ideal S2048x128 .bf16} {vv : FVec Ideal S144x2048 .bf16}
    (hkb : ∀ r d, (kb (ix2 r d) : EReal) = K (ix2 (⟨2048 * k.val + r.val, by omega⟩ : Fin 8192) d))
    (hvv : ∀ e r, (vv (ix2 e r) : EReal) = vl V k r e)
    {M : Memref sig .tc .vmem S1x2048 .f32} {f : BufTy.Contents (Elt Ideal) M.view.ty}
    (hf : ∀ x : Fin 2048, M.view.read (Elt Ideal) f (ix2 (0 : Fin 1) x) = mSt q K k.val x)
    {A : Memref sig .tc .vmem S144x2048 .f32} {g : BufTy.Contents (Elt Ideal) A.view.ty}
    (hg : ∀ (e : Fin 144) (x : Fin 2048), A.view.read (Elt Ideal) g (ix2 e x) = aSt q K V k.val e x) (e : Fin 144) (X : Fin 2048) (o : ℕ)
    (hs : S128x2048.Slices ![0, o] S128x256) (inb : ∀ a, (![0, o] : Fin 2 → ℕ) a + S1x256.size a ≤ S1x2048.size a)
    (inb' : ∀ a, (![0, o] : Fin 2 → ℕ) a + S144x256.size a ≤ S144x2048.size a) :
    View.TileAt (Val := Elt Ideal) (S := S144x2048) (e := .f32) (ix2 e X) ![0, o] S144x256.size
      (shapeCast S144x256 (tileA q kb vv o hs (M.view.readAt (Elt Ideal) (Rect.unit (s := S1x2048) ![0, o] S1x256.size inb).toLoadRect f)
        (A.view.readAt (Elt Ideal) (Rect.unit (s := S144x2048) ![0, o] S144x256.size inb').toLoadRect g)) shapeCasts_S144x256_S144x256)
      (aSt q K V (k.val + 1) e X) := by
  intro x hx
  rw [shapeCast_self]
  obtain ⟨x0, x1, rfl⟩ : ∃ (x0 : Fin 144) (x1 : Fin 256), x = ix2 x0 x1 := ⟨x 0, x 1, eq_ix2 x⟩
  obtain rfl : x0 = e := Fin.ext ((hx 0).trans (Nat.zero_add _)).symm
  have hC : X.val = o + x1.val := hx 1
  have h0 : ∀ a, ((ix2 (0 : Fin 1) X : S1x2048.Idx) a : ℕ) = (![0, o] : Fin 2 → ℕ) a + ((ix2 (0 : Fin 1) x1 : S1x256.Idx) a : ℕ) := by
    intro a; match a with | 0 => rfl | 1 => exact hC
  exact tileA_at hkb hvv _ _ x0 x1 X hC
    ((View.ld_unit_apply_of (M.view.read (Elt Ideal) f) _ _ inb (ix2 0 x1) (ix2 (0 : Fin 1) X) h0).trans (hf X))
    ((View.ld_unit_apply_of (A.view.read (Elt Ideal) g) _ _ inb' (ix2 x0 x1) (ix2 x0 X) hx).trans (hg x0 X))

end Cert.KernelIdeal.Gen

end
-- ==== Proof.Fast.lean ====
module

public import proofs.«01_k».proof.Proof.Pieces

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The fast branch's sums, column by column: weights `2^s` with no running maximum. -/

/-- The weighted sum of lane `e` of the values in column `c`. -/
def fP (q : FVec Ideal S128x2048 .bf16) (K : Vec Ideal S8192x128 .bf16) (V : Vec Ideal S16x1x144x512 .bf16) (e : Fin 128) (c : Fin 2048) : EReal :=
  ∑ k : Fin 4, ∑ r : Fin 2048, vl V k r ⟨e.val, by omega⟩ * Ideal.exp2 (sc q K k r c)

/-- The sum of the weights of column `c`. -/
def fL (q : FVec Ideal S128x2048 .bf16) (K : Vec Ideal S8192x128 .bf16) (c : Fin 2048) : EReal :=
  ∑ k : Fin 4, ∑ r : Fin 2048, Ideal.exp2 (sc q K k r c)

/-- The weights of a block. -/
abbrev wS (q : FVec Ideal S128x2048 .bf16) (kb : FVec Ideal S2048x128 .bf16) : FVec Ideal S2048x2048 .f32 :=
  exp2 (matmul dot_S2048x128_S128x2048_S2048x2048_1_0_0_1_n_n none kb q (constant S2048x2048 .f32 0x00000000#32))

/-- A block's contribution to the weighted sums. -/
abbrev wP (q : FVec Ideal S128x2048 .bf16) (kb : FVec Ideal S2048x128 .bf16) (vv : FVec Ideal S144x2048 .bf16) : FVec Ideal S128x2048 .f32 :=
  matmul dot_S128x2048_S2048x2048_S128x2048_1_0_0_1_n_n none (extractStridedSlice S128x2048 ![0, 0] vv slices_S144x2048_o0_0_S128x2048)
    (truncf .bf16 (wS q kb) bitsLt_bf16_f32) (constant S128x2048 .f32 0x00000000#32)

/-- A block's contribution to the sums of the weights. -/
abbrev wL (q : FVec Ideal S128x2048 .bf16) (kb : FVec Ideal S2048x128 .bf16) : FVec Ideal S1x2048 .f32 :=
  shapeCast S1x2048 (multiReduction .add [0] S2048 (wS q kb) 0x00000000#32 reduces_S2048x2048_S2048 (.inl rfl) rfl) shapeCasts_S2048_S1x2048

variable {q : FVec Ideal S128x2048 .bf16} {K : Vec Ideal S8192x128 .bf16} {V : Vec Ideal S16x1x144x512 .bf16} {k : Fin 4}
  {kb : FVec Ideal S2048x128 .bf16} {vv : FVec Ideal S144x2048 .bf16}

theorem wS_at (hkb : ∀ r d, (kb (ix2 r d) : EReal) = K (ix2 (⟨2048 * k.val + r.val, by omega⟩ : Fin 8192) d)) (r c : Fin 2048) :
    wS q kb (ix2 r c) = Ideal.exp2 (sc q K k r c) := by
  pointwise [wS, sc, hkb]
  rfl

theorem wP_at (hkb : ∀ r d, (kb (ix2 r d) : EReal) = K (ix2 (⟨2048 * k.val + r.val, by omega⟩ : Fin 8192) d))
    (hvv : ∀ e r, (vv (ix2 e r) : EReal) = vl V k r e) (e : Fin 128) (c : Fin 2048) :
    wP q kb vv (ix2 e c) = ∑ r : Fin 2048, vl V k r ⟨e.val, by omega⟩ * Ideal.exp2 (sc q K k r c) := by
  have h := fun r => wS_at (q := q) hkb r c
  unfold wP
  generalize wS q kb = s at h
  pointwise
  exact Finset.sum_congr rfl fun r _ => by rw [← h, ← hvv]

theorem wL_at (hkb : ∀ r d, (kb (ix2 r d) : EReal) = K (ix2 (⟨2048 * k.val + r.val, by omega⟩ : Fin 8192) d)) (c : Fin 2048) :
    wL q kb (ix2 0 c) = ∑ r : Fin 2048, Ideal.exp2 (sc q K k r c) := by
  have h := fun r => wS_at (q := q) hkb r c
  unfold wL
  generalize wS q kb = s at h
  pointwise
  exact Finset.sum_congr rfl fun r _ => by rw [← h]

/-- An accumulator with two pieces written, at the rows of either. -/
theorem two_read (A : Memref sig .tc .vmem S144x2048 .f32) (f : BufTy.Contents (Elt Ideal) A.view.ty) (i1 i2)
    (w1 : FVec Ideal S1x2048 .f32) (w2 : FVec Ideal S128x2048 .f32) :
    (∀ (e : Fin 128) (c : Fin 2048), A.view.read (Elt Ideal) (A.view.writes (Elt Ideal) f
        [⟨Rect.unit (s := S144x2048) ![128, 0] S1x2048.size i1, w1⟩, ⟨Rect.unit (s := S144x2048) ![0, 0] S128x2048.size i2, w2⟩])
          (ix2 (⟨e.val, by omega⟩ : Fin 144) c) = w2 (ix2 e c))
    ∧ ∀ c : Fin 2048, A.view.read (Elt Ideal) (A.view.writes (Elt Ideal) f
        [⟨Rect.unit (s := S144x2048) ![128, 0] S1x2048.size i1, w1⟩, ⟨Rect.unit (s := S144x2048) ![0, 0] S128x2048.size i2, w2⟩])
          (ix2 (⟨128, by omega⟩ : Fin 144) c) = w1 (ix2 0 c) := by
  constructor
  · intro e c
    have hm : (ix2 (⟨e.val, by omega⟩ : Fin 144) c : S144x2048.Idx) ∈ (Rect.unit (s := S144x2048) ![0, 0] S128x2048.size i2).set :=
      Rect.mem_set_unit.mpr fun a => match a with
        | 0 => ⟨Nat.zero_le _, Nat.lt_of_lt_of_eq e.isLt (Nat.zero_add 128).symm⟩
        | 1 => ⟨Nat.zero_le _, Nat.lt_of_lt_of_eq c.isLt (Nat.zero_add 2048).symm⟩
    have hc : ∃ p ∈ [(⟨Rect.unit (s := S144x2048) ![128, 0] S1x2048.size i1, w1⟩ : View.Piece (Elt Ideal) S144x2048 .f32), ⟨Rect.unit (s := S144x2048) ![0, 0] S128x2048.size i2, w2⟩],
        (ix2 (⟨e.val, by omega⟩ : Fin 144) c : S144x2048.Idx) ∈ p.1.set :=
      ⟨⟨Rect.unit (s := S144x2048) ![0, 0] S128x2048.size i2, w2⟩, List.mem_cons_of_mem _ List.mem_cons_self, hm⟩
    refine (View.read_writes_apply_eq_canon _ _ _ _ hc).trans (View.canon_eq_of_allAt _ _ _ hc ?_)
    refine View.allAt_cons_unit _ _ _ _ _ (fun x hx => ?_) (View.allAt_cons_unit _ _ _ _ _ (fun x hx => ?_) (View.allAt_nil _ _))
    · have h0 : e.val = 128 + (x 0).val := hx 0
      omega
    · obtain ⟨x0, x1, rfl⟩ : ∃ (x0 : Fin 128) (x1 : Fin 2048), x = ix2 x0 x1 := ⟨x 0, x 1, eq_ix2 x⟩
      obtain rfl : e = x0 := Fin.ext ((hx 0).trans (Nat.zero_add _))
      obtain rfl : c = x1 := Fin.ext ((hx 1).trans (Nat.zero_add _))
      rfl
  · intro c
    have hm : (ix2 (⟨128, by omega⟩ : Fin 144) c : S144x2048.Idx) ∈ (Rect.unit (s := S144x2048) ![128, 0] S1x2048.size i1).set :=
      Rect.mem_set_unit.mpr fun a => match a with
        | 0 => ⟨Nat.le_refl _, Nat.lt_succ_self 128⟩
        | 1 => ⟨Nat.zero_le _, Nat.lt_of_lt_of_eq c.isLt (Nat.zero_add 2048).symm⟩
    have hc : ∃ p ∈ [(⟨Rect.unit (s := S144x2048) ![128, 0] S1x2048.size i1, w1⟩ : View.Piece (Elt Ideal) S144x2048 .f32), ⟨Rect.unit (s := S144x2048) ![0, 0] S128x2048.size i2, w2⟩],
        (ix2 (⟨128, by omega⟩ : Fin 144) c : S144x2048.Idx) ∈ p.1.set :=
      ⟨⟨Rect.unit (s := S144x2048) ![128, 0] S1x2048.size i1, w1⟩, List.mem_cons_self, hm⟩
    refine (View.read_writes_apply_eq_canon _ _ _ _ hc).trans (View.canon_eq_of_allAt _ _ _ hc ?_)
    refine View.allAt_cons_unit _ _ _ _ _ (fun x hx => ?_) (View.allAt_cons_unit _ _ _ _ _ (fun x hx => ?_) (View.allAt_nil _ _))
    · obtain ⟨x0, x1, rfl⟩ : ∃ (x0 : Fin 1) (x1 : Fin 2048), x = ix2 x0 x1 := ⟨x 0, x 1, eq_ix2 x⟩
      obtain rfl : x0 = 0 := Subsingleton.elim _ _
      obtain rfl : c = x1 := Fin.ext ((hx 1).trans (Nat.zero_add _))
      rfl
    · have h0 : 128 = 0 + (x 0).val := hx 0
      have h1 : (x 0).val < 128 := (x 0).isLt
      omega

theorem pay57_at {kb : Fin 4 → FVec Ideal S2048x128 .bf16} {vv : Fin 4 → FVec Ideal S144x2048 .bf16}
    (hkb : ∀ k r d, (kb k (ix2 r d) : EReal) = K (ix2 (⟨2048 * k.val + r.val, by omega⟩ : Fin 8192) d))
    (hvv : ∀ k e r, (vv k (ix2 e r) : EReal) = vl V k r e) (e : Fin 128) (c : Fin 2048) :
    (addf (addf (addf (wP q (kb 0) (vv 0)) (wP q (kb 1) (vv 1))) (wP q (kb 2) (vv 2))) (wP q (kb 3) (vv 3)) (ix2 e c) : EReal) = fP q K V e c := by
  have hp := fun k => wP_at (q := q) (hkb k) (hvv k) e c
  show wP q (kb 0) (vv 0) (ix2 e c) + wP q (kb 1) (vv 1) (ix2 e c) + wP q (kb 2) (vv 2) (ix2 e c) + wP q (kb 3) (vv 3) (ix2 e c) = _
  rw [hp, hp, hp, hp, fP, Fin.sum_univ_four]

theorem pay58_at {kb : Fin 4 → FVec Ideal S2048x128 .bf16}
    (hkb : ∀ k r d, (kb k (ix2 r d) : EReal) = K (ix2 (⟨2048 * k.val + r.val, by omega⟩ : Fin 8192) d)) (c : Fin 2048) :
    (addf (addf (addf (wL q (kb 0)) (wL q (kb 1))) (wL q (kb 2))) (wL q (kb 3)) (ix2 0 c) : EReal) = fL q K c := by
  have hl := fun k => wL_at (q := q) (hkb k) c
  show wL q (kb 0) (ix2 0 c) + wL q (kb 1) (ix2 0 c) + wL q (kb 2) (ix2 0 c) + wL q (kb 3) (ix2 0 c) = _
  rw [hl, hl, hl, hl, fL, Fin.sum_univ_four]

/-- The weighted sums the fast branch stores. -/
theorem fast57 (v17 v19 : Vec Ideal S1x1x128x1024 .bf16) {kb : Fin 4 → FVec Ideal S2048x128 .bf16} {g : Fin 16 → Vec Ideal S1x1x144x512 .bf16}
    (hkb : ∀ k r d, (kb k (ix2 r d) : EReal) = K (ix2 (⟨2048 * k.val + r.val, by omega⟩ : Fin 8192) d))
    (hg : ∀ n e x, (g n (ix4 0 0 e x) : EReal) = V (ix4 n 0 e x)) (e : Fin 128) (c : Fin 2048) :
    (k0_pay57 v17 v19 (addf (addf (wP (k0_pay55 v17 v19) (kb 0) (k0_pay21 (g 0) (g 1) (g 2) (g 3)))
        (wP (k0_pay55 v17 v19) (kb 1) (k0_pay21 (g 4) (g 5) (g 6) (g 7)))) (wP (k0_pay55 v17 v19) (kb 2) (k0_pay21 (g 8) (g 9) (g 10) (g 11))))
      (kb 3) (shapeCast S144x512 (g 12) shapeCasts_S1x1x144x512_S144x512) (shapeCast S144x512 (g 13) shapeCasts_S1x1x144x512_S144x512)
      (shapeCast S144x512 (g 14) shapeCasts_S1x1x144x512_S144x512) (g 15) (ix2 e c) : EReal) = fP (k0_pay55 v17 v19) K V e c := by
  have hvv : ∀ (k : Fin 4) e r, (k0_pay21 (g ⟨4 * k.val + 0, by omega⟩) (g ⟨4 * k.val + 1, by omega⟩) (g ⟨4 * k.val + 2, by omega⟩)
      (g ⟨4 * k.val + 3, by omega⟩) (ix2 e r) : EReal) = vl V k r e := fun k e r =>
    vcat_at (fun j => g ⟨4 * k.val + j.val, by omega⟩) e r fun j x => hg _ e x
  exact (congrFun (shapeCast_self _ shapeCasts_S128x2048_S128x2048) _).trans (pay57_at hkb hvv e c)

/-- The sums of the weights it stores. -/
theorem fast58 (v17 v19 : Vec Ideal S1x1x128x1024 .bf16) {kb : Fin 4 → FVec Ideal S2048x128 .bf16}
    (hkb : ∀ k r d, (kb k (ix2 r d) : EReal) = K (ix2 (⟨2048 * k.val + r.val, by omega⟩ : Fin 8192) d)) (c : Fin 2048) :
    (k0_pay58 v17 v19 (addf (addf (wL (k0_pay55 v17 v19) (kb 0)) (wL (k0_pay55 v17 v19) (kb 1))) (wL (k0_pay55 v17 v19) (kb 2))) (kb 3) (ix2 0 c) : EReal)
      = fL (k0_pay55 v17 v19) K c :=
  (congrFun (shapeCast_self _ shapeCasts_S1x2048_S1x2048) _).trans (pay58_at hkb c)

end Cert.KernelIdeal.Gen

end
-- ==== Proof.Math.lean ====
module

public import proofs.«01_k».proof.Proof.Fast

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! Softmax over the reals: the running one, the one without a maximum, and the reference's. -/

theorem div_real {x y : ℝ} (h : 0 < y) : Ideal.div (x : EReal) (y : EReal) = ((x / y : ℝ) : EReal) := by
  rw [Ideal.div_coe h.ne', ← EReal.coe_mul, mul_one_div]

theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The largest of finitely many reals is a real. -/
theorem fold_real {ι : Type*} [Fintype ι] [Nonempty ι] (s : ι → ℝ) :
    ∃ M : ℝ, Finset.univ.fold max (⊥ : EReal) (fun r => (s r : EReal)) = M := by
  obtain ⟨i⟩ := ‹Nonempty ι›
  have h1 : (⊥ : EReal) < Finset.univ.fold max (⊥ : EReal) (fun r => (s r : EReal)) :=
    (Finset.lt_fold_max _).2 (Or.inr ⟨i, Finset.mem_univ _, EReal.bot_lt_coe _⟩)
  have h2 : Finset.univ.fold max (⊥ : EReal) (fun r => (s r : EReal)) < ⊤ :=
    (Finset.fold_max_lt _).2 ⟨bot_lt_top, fun r _ => EReal.coe_lt_top _⟩
  exact ⟨_, (EReal.coe_toReal h2.ne h1.ne').symm⟩

theorem max_real (a b : ℝ) : max (a : EReal) (b : EReal) = ((max a b : ℝ) : EReal) :=
  (EReal.coe_strictMono.monotone.map_max).symm

theorem online_max (s : ℕ → Fin 2048 → ℝ) (m : ℕ → EReal) (h0 : m 0 = ⊥)
    (h : ∀ k < 4, m (k + 1) = max (m k) (Finset.univ.fold max ⊥ fun r => (s k r : EReal))) : ∀ k < 4, ∃ M : ℝ, m (k + 1) = M := by
  intro k
  induction k with
  | zero =>
    intro hk
    obtain ⟨M, hM⟩ := fold_real (s 0)
    exact ⟨M, by rw [h 0 hk, h0, hM]; exact max_eq_right bot_le⟩
  | succ k ih =>
    intro hk
    obtain ⟨A, hA⟩ := ih (by omega)
    obtain ⟨M, hM⟩ := fold_real (s (k + 1))
    exact ⟨max A M, by rw [h _ hk, hA, hM, max_real]⟩

/-- A weight at a real shift. -/
theorem exp2_sub (x M : ℝ) : Ideal.exp2 ((x : EReal) - (M : EReal)) = (((2 : ℝ) ^ (x - M) : ℝ) : EReal) := by
  rw [← EReal.coe_sub, Ideal.exp2_coe]
  rfl

theorem block_real (s w : Fin 2048 → ℝ) (M : ℝ) :
    ∑ r, (w r : EReal) * Ideal.exp2 ((s r : EReal) - (M : EReal)) = ((∑ r, w r * (2 : ℝ) ^ (s r - M) : ℝ) : EReal) := by
  rw [coe_sum]
  exact Finset.sum_congr rfl fun r _ => by rw [exp2_sub, EReal.coe_mul]

theorem online_acc (s w : ℕ → Fin 2048 → ℝ) (m a : ℕ → EReal) (h0 : m 0 = ⊥) (a0 : a 0 = 0)
    (h : ∀ k < 4, m (k + 1) = max (m k) (Finset.univ.fold max ⊥ fun r => (s k r : EReal)))
    (ha : ∀ k < 4, a (k + 1) = a k * Ideal.exp2 (m k - m (k + 1)) + ∑ r, (w k r : EReal) * Ideal.exp2 ((s k r : EReal) - m (k + 1))) :
    ∀ k < 4, a (k + 1) = ((∑ i ∈ Finset.range (k + 1), ∑ r, w i r * (2 : ℝ) ^ (s i r - (m (k + 1)).toReal) : ℝ) : EReal) := by
  intro k
  induction k with
  | zero =>
    intro hk
    obtain ⟨M, hM⟩ := online_max s m h0 h 0 hk
    rw [ha 0 hk, hM, a0, zero_mul, zero_add, block_real, Finset.sum_range_one, EReal.toReal_coe]
  | succ k ih =>
    intro hk
    obtain ⟨A, hA⟩ := online_max s m h0 h k (by omega)
    obtain ⟨M, hM⟩ := online_max s m h0 h (k + 1) hk
    have e := ih (by omega)
    rw [hA, EReal.toReal_coe] at e
    rw [ha _ hk, e, hA, hM, exp2_sub, block_real, ← EReal.coe_mul, ← EReal.coe_add, EReal.toReal_coe, Finset.sum_range_succ _ (k + 1), Finset.sum_mul]
    refine congrArg (fun z : ℝ => ((z + ∑ r, w (k + 1) r * (2 : ℝ) ^ (s (k + 1) r - M) : ℝ) : EReal)) (Finset.sum_congr rfl fun i _ => ?_)
    rw [Finset.sum_mul]
    refine Finset.sum_congr rfl fun r _ => ?_
    rw [mul_assoc, ← Real.rpow_add two_pos]
    congr 2
    ring

/-- A weighted mean does not see a common shift of the exponents. -/
theorem mean_shift {ι : Type*} [Fintype ι] (s w : ι → ℝ) (M : ℝ) :
    (∑ i, w i * (2 : ℝ) ^ (s i - M)) / (∑ i, (2 : ℝ) ^ (s i - M)) = (∑ i, w i * (2 : ℝ) ^ s i) / ∑ i, (2 : ℝ) ^ s i := by
  have h : (2 : ℝ) ^ (-M) ≠ 0 := (Real.rpow_pos_of_pos two_pos _).ne'
  have e : ∀ i, (2 : ℝ) ^ (s i - M) = (2 : ℝ) ^ s i * (2 : ℝ) ^ (-M) := fun i => by rw [← Real.rpow_add two_pos, sub_eq_add_neg]
  simp only [e, ← mul_assoc, ← Finset.sum_mul]
  exact mul_div_mul_right _ _ h

/-- The weighted mean with weights `exp t`. -/
def mean {ι : Type*} [Fintype ι] (t w : ι → ℝ) : ℝ := (∑ i, w i * Real.exp (t i)) / ∑ i, Real.exp (t i)

theorem two_pow (t : ℝ) : (2 : ℝ) ^ (t / Real.log 2) = Real.exp t := by
  rw [Real.rpow_def_of_pos two_pos, mul_div_cancel₀ _ (Real.log_pos one_lt_two).ne']

theorem exp_sum_pos {ι : Type*} [Fintype ι] [Nonempty ι] (t : ι → ℝ) : 0 < ∑ i, Real.exp (t i) :=
  Finset.sum_pos (fun i _ => Real.exp_pos _) Finset.univ_nonempty

variable {q : FVec Ideal S128x2048 .bf16} {K : Vec Ideal S8192x128 .bf16} {V : Vec Ideal S16x1x144x512 .bf16}

/-- The running softmax's quotient is the weighted mean. -/
theorem slow_mean (c : Fin 2048) (e u : Fin 144) (t w : Fin 4 × Fin 2048 → ℝ)
    (hs : ∀ k r, sc q K k r c = ((t (k, r) / Real.log 2 : ℝ) : EReal)) (hv : ∀ k r, vl V k r e = (w (k, r) : EReal))
    (hu : ∀ k r, vl V k r u = 1) : Ideal.div (aSt q K V 4 e c) (aSt q K V 4 u c) = ((mean t w : ℝ) : EReal) := by
  have hm : ∀ k < 4, mSt q K (k + 1) c = max (mSt q K k c) (Finset.univ.fold max ⊥ fun r =>
      (((fun (k : ℕ) (r : Fin 2048) => if h : k < 4 then t (⟨k, h⟩, r) / Real.log 2 else 0) k r : ℝ) : EReal)) := fun k h => by
    refine (mSt_succ q K ⟨k, h⟩ c).trans ?_
    simp only [hs, dif_pos h]
  have acc : ∀ (e : Fin 144) (w : Fin 4 × Fin 2048 → ℝ), (∀ k r, vl V k r e = (w (k, r) : EReal)) →
      aSt q K V 4 e c = ((∑ i, w i * (2 : ℝ) ^ (t i / Real.log 2 - (mSt q K 4 c).toReal) : ℝ) : EReal) := by
    intro e w hv
    have h := online_acc _ (fun (k : ℕ) (r : Fin 2048) => if h : k < 4 then w (⟨k, h⟩, r) else 0) (fun k => mSt q K k c)
      (fun k => aSt q K V k e c) rfl rfl hm (fun k h => by
        refine (aSt_succ q K V ⟨k, h⟩ e c).trans ?_
        simp only [hs, hv, dif_pos h]) 3 (by omega)
    refine h.trans ?_
    rw [Fintype.sum_prod_type, Finset.sum_range]
    refine congrArg _ (Finset.sum_congr rfl fun k _ => Finset.sum_congr rfl fun r _ => ?_)
    simp only [dif_pos k.isLt]
  rw [acc e w hv, acc u (fun _ => 1) (fun k r => by rw [hu]; rfl)]
  simp only [one_mul]
  rw [div_real (Finset.sum_pos (fun i _ => Real.rpow_pos_of_pos two_pos _) Finset.univ_nonempty), mean_shift, mean]
  simp only [two_pow]

/-- So is the fast branch's. -/
theorem fast_mean (c : Fin 2048) (e : Fin 128) (t w : Fin 4 × Fin 2048 → ℝ)
    (hs : ∀ k r, sc q K k r c = ((t (k, r) / Real.log 2 : ℝ) : EReal)) (hv : ∀ k r, vl V k r ⟨e.val, by omega⟩ = (w (k, r) : EReal)) :
    Ideal.div (fP q K V e c) (fL q K c) = ((mean t w : ℝ) : EReal) := by
  have hx : ∀ k r, Ideal.exp2 (sc q K k r c) = ((Real.exp (t (k, r)) : ℝ) : EReal) := fun k r => by
    rw [hs, Ideal.exp2_coe]
    exact congrArg _ (two_pow _)
  have hP : fP q K V e c = ((∑ i, w i * Real.exp (t i) : ℝ) : EReal) := by
    rw [Fintype.sum_prod_type, coe_sum, fP]
    refine Finset.sum_congr rfl fun k _ => ?_
    rw [coe_sum]
    exact Finset.sum_congr rfl fun r _ => by rw [hx, hv, EReal.coe_mul]
  have hL : fL q K c = ((∑ i, Real.exp (t i) : ℝ) : EReal) := by
    rw [Fintype.sum_prod_type, coe_sum, fL]
    refine Finset.sum_congr rfl fun k _ => ?_
    rw [coe_sum]
    exact Finset.sum_congr rfl fun r _ => hx k r
  rw [hP, hL, div_real (exp_sum_pos t), mean]

/-- The tokens of a batch, as the blocks and rows the kernel walks. -/
theorem mean_tiles (t w : Fin 8192 → ℝ) :
    mean (fun p : Fin 4 × Fin 2048 => t ⟨2048 * p.1.val + p.2.val, by omega⟩) (fun p => w ⟨2048 * p.1.val + p.2.val, by omega⟩) = mean t w := by
  have h : ∀ f : Fin 8192 → ℝ, ∑ p : Fin 4 × Fin 2048, f ⟨2048 * p.1.val + p.2.val, by omega⟩ = ∑ i, f i := fun f => by
    rw [Fintype.sum_prod_type]
    refine Eq.trans ?_ (Fin.sum_univ_tiles 4 2048 rfl f).symm
    exact Finset.sum_congr rfl fun k _ => Finset.sum_congr rfl fun r _ => congrArg f (Fin.ext (by show 2048 * k.val + r.val = k.val * 2048 + r.val; omega))
  unfold mean
  rw [← h (fun i => w i * Real.exp (t i)), ← h (fun i => Real.exp (t i))]

/-- The reference's weight of a token: the exponential at a shift over the sum of all of them. -/
theorem ref_weight {ι : Type*} [Fintype ι] [Nonempty ι] (t : ι → ℝ) (i : ι) :
    Ideal.div (Ideal.exp ((t i : EReal) - Finset.univ.fold max ⊥ fun j => (t j : EReal)))
      (∑ j, Ideal.exp ((t j : EReal) - Finset.univ.fold max ⊥ fun j => (t j : EReal)))
    = ((Real.exp (t i) / ∑ j, Real.exp (t j) : ℝ) : EReal) := by
  obtain ⟨M, hM⟩ := fold_real t
  rw [hM]
  have e : ∀ j, Ideal.exp ((t j : EReal) - (M : EReal)) = ((Real.exp (t j - M) : ℝ) : EReal) := fun j => by
    rw [← EReal.coe_sub, Ideal.exp_coe]
  simp only [e]
  rw [← coe_sum, div_real (exp_sum_pos _)]
  simp only [Real.exp_sub, ← Finset.sum_div]
  rw [div_div_div_cancel_right₀ (Real.exp_pos M).ne']

/-- Weights of two maps combined before the sum over the tokens, or after. -/
theorem ref_mean {ι : Type*} [Fintype ι] (t₁ t₂ w : ι → ℝ) (l : ℝ) :
    ∑ i, (w i : EReal) * (((Real.exp (t₁ i) / ∑ j, Real.exp (t₁ j) : ℝ) : EReal) - (l : EReal) * ((Real.exp (t₂ i) / ∑ j, Real.exp (t₂ j) : ℝ) : EReal))
      = ((mean t₁ w : ℝ) : EReal) - (l : EReal) * ((mean t₂ w : ℝ) : EReal) := by
  rw [← EReal.coe_mul, ← EReal.coe_sub, mean, mean, Finset.sum_div, Finset.sum_div, Finset.mul_sum, ← Finset.sum_sub_distrib, coe_sum]
  refine Finset.sum_congr rfl fun i _ => ?_
  rw [← EReal.coe_mul, ← EReal.coe_sub, ← EReal.coe_mul]
  congr 1
  ring

end Cert.KernelIdeal.Gen

end
-- ==== Proof.Queries.lean ====
module

public import proofs.«01_k».proof.Proof.Cols

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The queries a point's body works on. -/

/-- Map `j`'s queries of a head, as the body loads them. -/
def qv (x : Vec Ideal S2x1x128x1024 .bf16) (j : Fin 2) : Vec Ideal S1x1x128x1024 .bf16 := fun y => x (ix4 j (0 : Fin 1) (y 2) (y 3))

/-- They are what its load reads. -/
theorem qv_eq (M : Memref sig .tc .vmem S2x1x128x1024 .bf16) (f : BufTy.Contents (Elt Ideal) M.view.ty) (j : Fin 2) (off : Fin 4 → ℕ)
    (hoff : off = ![j.val, 0, 0, 0]) (inb : ∀ a, off a + S1x1x128x1024.size a ≤ S2x1x128x1024.size a) :
    M.view.readAt (Elt Ideal) (Rect.unit (s := S2x1x128x1024) off S1x1x128x1024.size inb).toLoadRect f = qv (M.view.read (Elt Ideal) f) j := by
  subst hoff
  funext y
  obtain ⟨y0, y1, y2, y3, rfl⟩ : ∃ (y0 y1 : Fin 1) (y2 : Fin 128) (y3 : Fin 1024), y = ix4 y0 y1 y2 y3 := ⟨y 0, y 1, y 2, y 3, eq_ix4 y⟩
  obtain rfl : y0 = 0 := Subsingleton.elim _ _
  obtain rfl : y1 = 0 := Subsingleton.elim _ _
  exact View.ld_unit_apply_of (M.view.read (Elt Ideal) f) _ _ inb (ix4 0 0 y2 y3) (ix4 j (0 : Fin 1) y2 y3)
      (by intro a; match a with | 0 => rfl | 1 => rfl | 2 => simp | 3 => simp)

/-- The scaled queries of both maps, column by column. -/
def qc (x : Vec Ideal S2x1x128x1024 .bf16) : FVec Ideal S128x2048 .bf16 := k0_pay55 (qv x 0) (qv x 1)

end Cert.KernelIdeal.Gen

end
-- ==== Proof.Coords.lean ====
module

public import proofs.«01_k».proof.Proof.Host
public import proofs.«01_k».proof.Proof.Math
public import proofs.«01_k».proof.Proof.Queries

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The packed arrays at coordinates. -/

variable (x : FVec Ideal S4x8192x4x2x64 .f32) (n : Fin 64) (h : Fin 4) (r : Fin 512) (d : Fin 64)

theorem packQ_00 : packQ x (ix4 n h (⟨d.val, by omega⟩ : Fin 128) (⟨r.val, by omega⟩ : Fin 1024))
    = x (ix5 (⟨n.val / 16, by omega⟩ : Fin 4) (⟨n.val % 16 * 512 + r.val, by omega⟩ : Fin 8192) h (0 : Fin 2) d) := by
  pointwise [packQ, padQ0, padQ1, tileQ, zeroQ]

theorem packQ_01 : packQ x (ix4 n h (⟨64 + d.val, by omega⟩ : Fin 128) (⟨r.val, by omega⟩ : Fin 1024)) = (0 : EReal) := by
  pointwise [packQ, padQ0, padQ1, tileQ, zeroQ]

theorem packQ_10 : packQ x (ix4 n h (⟨d.val, by omega⟩ : Fin 128) (⟨512 + r.val, by omega⟩ : Fin 1024)) = (0 : EReal) := by
  pointwise [packQ, padQ0, padQ1, tileQ, zeroQ]

theorem packQ_11 : packQ x (ix4 n h (⟨64 + d.val, by omega⟩ : Fin 128) (⟨512 + r.val, by omega⟩ : Fin 1024))
    = x (ix5 (⟨n.val / 16, by omega⟩ : Fin 4) (⟨n.val % 16 * 512 + r.val, by omega⟩ : Fin 8192) h (1 : Fin 2) d) := by
  pointwise [packQ, padQ0, padQ1, tileQ, zeroQ]

theorem packK_at (T : Fin 32768) (j : Fin 2) : packK x (ix2 T (⟨128 * h.val + 64 * j.val + d.val, by omega⟩ : Fin 512))
    = x (ix5 (⟨T.val / 8192, by omega⟩ : Fin 4) (⟨T.val % 8192, by omega⟩ : Fin 8192) h j d) := by
  pointwise [packK]

theorem packV_at (y : FVec Ideal S4x8192x4x128 .f32) (e : Fin 128) : packV y (ix4 n h (⟨e.val, by omega⟩ : Fin 144) r)
    = y (ix4 (⟨n.val / 16, by omega⟩ : Fin 4) (⟨n.val % 16 * 512 + r.val, by omega⟩ : Fin 8192) h e) := by
  pointwise [packV]

theorem packV_one (y : FVec Ideal S4x8192x4x128 .f32) : packV y (ix4 n h (⟨128, by omega⟩ : Fin 144) r) = (1 : EReal) := by
  pointwise [packV, onesV]

theorem packLam_at (a b c e : FVec Ideal S64 .f32) : (k0_pay54 (F := Ideal) (packLam a b c e) (ix2 0 0) : EReal)
    = Ideal.exp (∑ i : Fin 64, a (ix1 i) * b (ix1 i)) - Ideal.exp (∑ i : Fin 64, c (ix1 i) * e (ix1 i)) + Ideal.ofBits .f32 0x3E4CCCCD#32 := by
  pointwise [k0_pay54, packLam]

/-- A scaled query: map `j`'s columns sit beside each other. -/
theorem qc_at (y : Vec Ideal S2x1x128x1024 .bf16) (j : Fin 2) (d : Fin 128) (C : Fin 1024) :
    qc y (ix2 d (⟨1024 * j.val + C.val, by omega⟩ : Fin 2048)) = (y (ix4 j (0 : Fin 1) d C) : EReal) * (((8 * Real.log 2)⁻¹ : ℝ) : EReal) := by
  have hκ : (Named.named κ "qscale" 0x3E38AA3B#32 : Ideal .f32) = (((8 * Real.log 2)⁻¹ : ℝ) : EReal) :=
    IdealRules.named_const.ideal_named_scalar _ _ _ _ rfl
  pointwise [qc, k0_pay55, qv]
  refine congrArg₂ (· * ·) ?_ hκ
  obtain rfl | rfl : j = 0 ∨ j = 1 := by omega
  · rw [dif_pos (by simp)]
    exact congrArg y (by congr 1; exact Fin.ext (by simp))
  · rw [dif_neg (by simp)]
    exact congrArg y (by congr 1; exact Fin.ext (by simp))

end Cert.KernelIdeal.Gen

end
-- ==== Proof.Slow.lean ====
module

public import proofs.«01_k».proof.Proof.Pieces

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (arg3 : Memref sig .tc .smem S1 .i32) (harg3 : arg3.IsWhole) (arg4 : Memref sig .tc .vmem S4x64 .f32) (harg4 : arg4.IsWhole) (arg5 : Memref sig .tc .vmem S1x128 .f32) (harg5 : arg5.IsWhole) (arg6 : Memref sig .tc .vmem S2x1x128x1024 .bf16) (harg6 : arg6.IsWhole) (arg7 : Memref sig .tc .vmem S8192x128 .bf16) (harg7 : arg7.IsWhole) (arg8 : Memref sig .tc .vmem S16x1x144x512 .bf16) (harg8 : arg8.IsWhole) (arg9 : Memref sig .tc .vmem S1024x128 .bf16) (harg9 : arg9.IsWhole) (arg10 : Memref sig .tc .vmem S1x2048 .f32) (harg10 : arg10.IsWhole) (arg11 : Memref sig .tc .vmem S144x2048 .f32) (harg11 : arg11.IsWhole)

/-- What the slow branch holds before block `k`. -/
abbrev slowInv (c : Dev nD) (q : FVec Ideal S128x2048 .bf16) (X7 : BufTy.Contents (Elt Ideal) arg7.view.ty)
    (X8 : BufTy.Contents (Elt Ideal) arg8.view.ty) (k : ℕ) (_u : Unit) : sProp 𝕄 :=
  iprop((arg7.view.loc (c : Thread nD τ) ↦[arg7.view.set]{fullShare} X7) ∗ (arg8.view.loc (c : Thread nD τ) ↦[arg8.view.set]{fullShare} X8)
    ∗ (∃ f, (arg10.view.loc (c : Thread nD τ) ↦[arg10.view.set]{fullShare} f)
        ∗ ⌜∀ x : Fin 2048, arg10.view.read (Elt Ideal) f (ix2 (0 : Fin 1) x) = mSt q (arg7.view.read (Elt Ideal) X7) k x⌝)
    ∗ (∃ f, (arg11.view.loc (c : Thread nD τ) ↦[arg11.view.set]{fullShare} f)
        ∗ ⌜∀ (e : Fin 144) (x : Fin 2048), arg11.view.read (Elt Ideal) f (ix2 e x)
            = aSt q (arg7.view.read (Elt Ideal) X7) (arg8.view.read (Elt Ideal) X8) k e x⌝))

set_option maxHeartbeats 1000000 in
/-- One trip keeps it. -/
theorem slowStep (𝒱 : Variants) (c : Dev nD) (bd : Option 𝒱.V) (E : Set ℕ) (i : grid0.Coords)
    (v17 v19 : Vec Ideal S1x1x128x1024 .bf16) (X7 : BufTy.Contents (Elt Ideal) arg7.view.ty)
    (X8 : BufTy.Contents (Elt Ideal) arg8.view.ty) (k : Fin k0_t1_loop.trips) :
    slowInv arg7 arg8 arg10 arg11 c (k0_pay55 v17 v19) X7 X8 k.val ⟨⟩
      ⊢ wp frame (wpE (defs₀ (F := Ideal)) 𝒱 (c : Thread nD τ) bd) E
          (k0_t1_body (F := Ideal) i arg3 harg3 arg4 harg4 arg5 harg5 arg6 harg6 arg7 harg7 arg8 harg8 arg9 harg9 arg10 harg10 arg11 harg11 v17 v19 k ())
          (fun _ => slowInv arg7 arg8 arg10 arg11 c (k0_pay55 v17 v19) X7 X8 (k.val + 1) ⟨⟩) := by
  have hk : k.val < 4 := Nat.lt_of_lt_of_le k.isLt k0_t1_abs.2.1
  have hK := keyBlock_at arg7 X7 ⟨k.val, hk⟩ (k0_off3 k) (k0_off3_eq k) (k0_off3_inb k)
  have hV := valBlocks_at arg8 X8 ⟨k.val, hk⟩ (fun j => k0_off4 k (BitVec.ofNat 32 j.val)) (k0_off4_eq k) (k0_off4_inb k)
  unfold k0_t1_body
  iintro ⟨H7, H8, ⟨%f10, H10, %h10⟩, ⟨%f11, H11, %h11⟩⟩
  sl_exec
  sl_step
  isplitl [H7]; · iexact H7
  isplitl [H8]; · iexact H8
  isplitl [H10]
  · iexists _; isplitl [H10]; · iexact H10
    ipureintro
    sl_unfold_words
    intro x
    refine (View.read_writes_apply_eq_canon _ _ _ _ (View.cover_of_tiled_head _ _ _ rfl _)).trans ?_
    refine View.canon_eq_of_allAt _ _ _ (View.cover_of_tiled_head _ _ _ rfl _) ?_
    repeat (refine View.allAt_cons_unit _ _ _ _ _ ?_ ?_; · exact pieceM hK h10 x _ _ _)
    exact View.allAt_nil _ _
  · iexists _; isplitl [H11]; · iexact H11
    ipureintro
    sl_unfold_words
    intro e x
    refine (View.read_writes_apply_eq_canon _ _ _ _ (View.cover_of_tiled_head _ _ _ rfl _)).trans ?_
    refine View.canon_eq_of_allAt _ _ _ (View.cover_of_tiled_head _ _ _ rfl _) ?_
    repeat (refine View.allAt_cons_unit _ _ _ _ _ ?_ ?_; · exact pieceA hK hV h10 h11 e x _ _ _ _)
    exact View.allAt_nil _ _

set_option warn.classDefReducibility false in
/-- The slow branch's loop by that invariant. -/
@[sl_loop] def slowLoop (𝒱 : Variants) (c : Dev nD) (bd : Option 𝒱.V) (E : Set ℕ) (i : grid0.Coords)
    (v17 v19 : Vec Ideal S1x1x128x1024 .bf16) (X7 : BufTy.Contents (Elt Ideal) arg7.view.ty)
    (X8 : BufTy.Contents (Elt Ideal) arg8.view.ty) :
    LoopInv (M := 𝕄) frame (wpE (defs₀ (F := Ideal)) 𝒱 (c : Thread nD τ) bd) E
      k0_t1_loop.lb k0_t1_loop.ub k0_t1_loop.st k0_t1_ok ()
      (k0_t1_body (F := Ideal) i arg3 harg3 arg4 harg4 arg5 harg5 arg6 harg6 arg7 harg7 arg8 harg8 arg9 harg9 arg10 harg10 arg11 harg11 v17 v19) where
  inv := slowInv arg7 arg8 arg10 arg11 c (k0_pay55 v17 v19) X7 X8
  step k _ := slowStep arg3 harg3 arg4 harg4 arg5 harg5 arg6 harg6 arg7 harg7 arg8 harg8 arg9 harg9 arg10 harg10 arg11 harg11 𝒱 c bd E i v17 v19 X7 X8 k

end Cert.KernelIdeal.Gen

end
-- ==== Proof.Out.lean ====
module

public import proofs.«01_k».proof.Proof.Cols

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! What the body stores in the output block, from the weighted sums and the normalizers of its columns. -/

/-- The difference of the two maps' outputs at lane `e`: columns `C₁` and `C₂`. -/
def dif (lam : EReal) (P : Fin 128 → Fin 2048 → EReal) (L : Fin 2048 → EReal) (C₁ C₂ : Fin 2048) (e : Fin 128) : EReal :=
  Ideal.div (P e C₁) (L C₁) - lam * Ideal.div (P e C₂) (L C₂)

/-- The sub-norm of that difference. -/
def outF (lam : EReal) (g : FVec Ideal S1x128 .f32) (P : Fin 128 → Fin 2048 → EReal) (L : Fin 2048 → EReal) (C₁ C₂ : Fin 2048)
    (e : Fin 128) : EReal :=
  dif lam P L C₁ C₂ e
      * Ideal.rsqrt (Ideal.div (∑ e' : Fin 128, dif lam P L C₁ C₂ e' * dif lam P L C₁ C₂ e') (Ideal.ofBits .f32 0x43000000#32)
          + Ideal.ofBits .f32 0x3727C5AC#32)
    * (g (ix2 0 e) * Ideal.ofBits .f32 0x3F4CCCCD#32)

/-- The output block at lane `e` of query row `r`. -/
def outB (lam : EReal) (g : FVec Ideal S1x128 .f32) (P : Fin 128 → Fin 2048 → EReal) (L : Fin 2048 → EReal) (r : Fin 1024) (e : Fin 128) : EReal :=
  outF lam g P L ⟨1024 * (r.val / 512) + r.val % 512, by omega⟩ ⟨1024 * (r.val / 512) + 512 + r.val % 512, by omega⟩ e

variable {P : Fin 128 → Fin 2048 → EReal} {L : Fin 2048 → EReal}

theorem pay65_at (w : FVec Ideal S1x1 .f32) (p₁ : Vec Ideal S128x512 .f32) (l₁ : Vec Ideal S1x512 .f32) (p₂ : Vec Ideal S128x512 .f32)
    (l₂ : Vec Ideal S1x512 .f32) (g : Vec Ideal S1x128 .f32) (r : Fin 512) (C₁ C₂ : Fin 2048)
    (h₁ : ∀ e, (p₁ (ix2 e r) : EReal) = P e C₁) (k₁ : (l₁ (ix2 0 r) : EReal) = L C₁)
    (h₂ : ∀ e, (p₂ (ix2 e r) : EReal) = P e C₂) (k₂ : (l₂ (ix2 0 r) : EReal) = L C₂) (e : Fin 128) :
    k0_pay65 w p₁ l₁ p₂ l₂ g (ix2 r e) = outF (w (ix2 0 0)) g P L C₁ C₂ e := by
  unfold outF dif
  rw [← k₁, ← k₂]
  simp only [← h₁, ← h₂]
  pointwise [k0_pay65]

theorem pay1_at (w : FVec Ideal S1x1 .f32) (p₁ : Vec Ideal S128x512 .f32) (l₁ : Vec Ideal S1x512 .f32) (p₂ : Vec Ideal S128x512 .f32)
    (l₂ : Vec Ideal S1x512 .f32) (g : Vec Ideal S1x128 .f32) (r : Fin 512) (C₁ C₂ : Fin 2048)
    (h₁ : ∀ e, (p₁ (ix2 e r) : EReal) = P e C₁) (k₁ : (l₁ (ix2 0 r) : EReal) = L C₁)
    (h₂ : ∀ e, (p₂ (ix2 e r) : EReal) = P e C₂) (k₂ : (l₂ (ix2 0 r) : EReal) = L C₂) (e : Fin 128) :
    k0_pay1 w (k0_pay66 p₁ l₁) p₂ l₂ g (ix2 r e) = outF (w (ix2 0 0)) g P L C₁ C₂ e :=
  pay65_at w p₁ l₁ p₂ l₂ g r C₁ C₂ h₁ k₁ h₂ k₂ e

/-- The output block read back off the two pieces the body stores. -/
theorem out_read (A : Memref sig .tc .vmem S144x2048 .f32) (f : BufTy.Contents (Elt Ideal) A.view.ty)
    (hP : ∀ (e : Fin 128) (C : Fin 2048), A.view.read (Elt Ideal) f (ix2 (⟨e.val, by omega⟩ : Fin 144) C) = P e C)
    (hL : ∀ C : Fin 2048, A.view.read (Elt Ideal) f (ix2 (⟨128, by omega⟩ : Fin 144) C) = L C)
    (M : Memref sig .tc .vmem S1024x128 .bf16) (f6 : BufTy.Contents (Elt Ideal) M.view.ty) (w : FVec Ideal S1x1 .f32) (g : Vec Ideal S1x128 .f32)
    (r : Fin 1024) (e : Fin 128) :
    M.view.read (Elt Ideal) (M.view.writes (Elt Ideal) f6
      [⟨Rect.unit (s := S1024x128) ![512, 0] S512x128.size inb_S1024x128_S512x128_512_0,
          k0_pay1 w (k0_pay66 (A.view.readAt (Elt Ideal) (Rect.unit (s := S144x2048) ![0, 1024] S128x512.size inb_S144x2048_S128x512_0_1024).toLoadRect f)
            (A.view.readAt (Elt Ideal) (Rect.unit (s := S144x2048) ![128, 1024] S1x512.size inb_S144x2048_S1x512_128_1024).toLoadRect f))
            (A.view.readAt (Elt Ideal) (Rect.unit (s := S144x2048) ![0, 1536] S128x512.size inb_S144x2048_S128x512_0_1536).toLoadRect f)
            (A.view.readAt (Elt Ideal) (Rect.unit (s := S144x2048) ![128, 1536] S1x512.size inb_S144x2048_S1x512_128_1536).toLoadRect f) g⟩,
        ⟨Rect.unit (s := S1024x128) ![0, 0] S512x128.size inb_S1024x128_S512x128_0_0,
          k0_pay65 w (A.view.readAt (Elt Ideal) (Rect.unit (s := S144x2048) ![0, 0] S128x512.size inb_S144x2048_S128x512_0_0).toLoadRect f)
            (A.view.readAt (Elt Ideal) (Rect.unit (s := S144x2048) ![128, 0] S1x512.size inb_S144x2048_S1x512_128_0).toLoadRect f)
            (A.view.readAt (Elt Ideal) (Rect.unit (s := S144x2048) ![0, 512] S128x512.size inb_S144x2048_S128x512_0_512).toLoadRect f)
            (A.view.readAt (Elt Ideal) (Rect.unit (s := S144x2048) ![128, 512] S1x512.size inb_S144x2048_S1x512_128_512).toLoadRect f) g⟩]) (ix2 r e)
      = outB (w (ix2 0 0)) g P L r e := by
  have hp : ∀ (o : ℕ) (inb : ∀ a, (![0, o] : Fin 2 → ℕ) a + S128x512.size a ≤ S144x2048.size a) (e : Fin 128) (x : Fin 512) (C : Fin 2048), C.val = o + x.val →
      (A.view.readAt (Elt Ideal) (Rect.unit (s := S144x2048) ![0, o] S128x512.size inb).toLoadRect f (ix2 e x) : EReal) = P e C := fun o inb e x C h =>
    (View.ld_unit_apply_of (A.view.read (Elt Ideal) f) _ _ inb (ix2 e x) (ix2 (⟨e.val, by omega⟩ : Fin 144) C)
      (by intro a; match a with | 0 => simp | 1 => exact h)).trans (hP e C)
  have hl : ∀ (o : ℕ) (inb : ∀ a, (![128, o] : Fin 2 → ℕ) a + S1x512.size a ≤ S144x2048.size a) (x : Fin 512) (C : Fin 2048), C.val = o + x.val →
      (A.view.readAt (Elt Ideal) (Rect.unit (s := S144x2048) ![128, o] S1x512.size inb).toLoadRect f (ix2 0 x) : EReal) = L C := fun o inb x C h =>
    (View.ld_unit_apply_of (A.view.read (Elt Ideal) f) _ _ inb (ix2 0 x) (ix2 (⟨128, by omega⟩ : Fin 144) C)
      (by intro a; match a with | 0 => rfl | 1 => exact h)).trans (hL C)
  refine (View.read_writes_apply_eq_canon _ _ _ _ (View.cover_of_tiled_head _ _ _ rfl _)).trans ?_
  refine View.canon_eq_of_allAt _ _ _ (View.cover_of_tiled_head _ _ _ rfl _) ?_
  refine View.allAt_cons_unit _ _ _ _ _ (fun x hx => ?_) (View.allAt_cons_unit _ _ _ _ _ (fun x hx => ?_) (View.allAt_nil _ _))
  · obtain ⟨x0, x1, rfl⟩ : ∃ (x0 : Fin 512) (x1 : Fin 128), x = ix2 x0 x1 := ⟨x 0, x 1, eq_ix2 x⟩
    obtain rfl : e = x1 := Fin.ext ((hx 1).trans (Nat.zero_add _))
    have hr : r.val = 512 + x0.val := hx 0
    have h₁ : (1024 * (r.val / 512) + r.val % 512 : ℕ) = 1024 + x0.val := by omega
    have h₂ : (1024 * (r.val / 512) + 512 + r.val % 512 : ℕ) = 1536 + x0.val := by omega
    exact pay1_at w _ _ _ _ g x0 ⟨_, _⟩ ⟨_, _⟩ (fun e => hp 1024 _ e x0 _ h₁) (hl 1024 _ x0 _ h₁)
      (fun e => hp 1536 _ e x0 _ h₂) (hl 1536 _ x0 _ h₂) e
  · obtain ⟨x0, x1, rfl⟩ : ∃ (x0 : Fin 512) (x1 : Fin 128), x = ix2 x0 x1 := ⟨x 0, x 1, eq_ix2 x⟩
    obtain rfl : e = x1 := Fin.ext ((hx 1).trans (Nat.zero_add _))
    have hr : r.val = 0 + x0.val := hx 0
    have h₁ : (1024 * (r.val / 512) + r.val % 512 : ℕ) = 0 + x0.val := by omega
    have h₂ : (1024 * (r.val / 512) + 512 + r.val % 512 : ℕ) = 512 + x0.val := by omega
    exact pay65_at w _ _ _ _ g x0 ⟨_, _⟩ ⟨_, _⟩ (fun e => hp 0 _ e x0 _ h₁) (hl 0 _ x0 _ h₁)
      (fun e => hp 512 _ e x0 _ h₂) (hl 512 _ x0 _ h₂) e

end Cert.KernelIdeal.Gen

end
-- ==== Proof.RunSlow.lean ====
module

public import proofs.«01_k».proof.Proof.Slow
public import proofs.«01_k».proof.Proof.Out
public import proofs.«01_k».proof.Proof.Queries

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-! The body at a point whose flag is zero: the online softmax. -/

/-- The running maximum's buffer before the first block: every column at minus infinity. -/
theorem start_m (M : Memref sig .tc .vmem S1x2048 .f32) (q : FVec Ideal S128x2048 .bf16) (K : Vec Ideal S8192x128 .bf16) (x : Fin 2048) :
    M.view.read (Elt Ideal) (M.view.writes (Elt Ideal) M.view.junk
      [⟨Rect.unit (s := S1x2048) ![0, 0] S1x2048.size inb_S1x2048_S1x2048_0_0, k0_pay60 (F := Ideal)⟩]) (ix2 (0 : Fin 1) x) = mSt q K 0 x := by
  refine (View.read_writes_apply_eq_canon _ _ _ _ (View.cover_of_tiled_head _ _ _ rfl _)).trans ?_
  refine View.canon_eq_of_allAt _ _ _ (View.cover_of_tiled_head _ _ _ rfl _) ?_
  refine View.allAt_cons_unit _ _ _ _ _ (fun y hy => ?_) (View.allAt_nil _ _)
  unfold k0_pay60
  refine (congrFun (shapeCast_self _ _) _).trans ?_
  exact IdealRules.named_const.ideal_named_scalar _ _ _ _ rfl

/-- The accumulator before the first block: zero. -/
theorem start_a (A : Memref sig .tc .vmem S144x2048 .f32) (q : FVec Ideal S128x2048 .bf16) (K : Vec Ideal S8192x128 .bf16)
    (V : Vec Ideal S16x1x144x512 .bf16) (e : Fin 144) (x : Fin 2048) :
    A.view.read (Elt Ideal) (A.view.writes (Elt Ideal) A.view.junk
      [⟨Rect.unit (s := S144x2048) ![0, 0] S144x2048.size inb_S144x2048_S144x2048_0_0, k0_pay59 (F := Ideal)⟩]) (ix2 e x) = aSt q K V 0 e x := by
  refine (View.read_writes_apply_eq_canon _ _ _ _ (View.cover_of_tiled_head _ _ _ rfl _)).trans ?_
  refine View.canon_eq_of_allAt _ _ _ (View.cover_of_tiled_head _ _ _ rfl _) ?_
  refine View.allAt_cons_unit _ _ _ _ _ (fun y hy => ?_) (View.allAt_nil _ _)
  unfold k0_pay59
  refine (congrFun (shapeCast_self _ _) _).trans ?_
  show Ideal.ofBits .f32 0x00000000#32 = 0
  simp [Ideal.ofBits, Ideal.ieee]

/-- What the slow branch leaves in the output block. -/
def outSlow (x1 : Vec Ideal S4x64 .f32) (x2 : Vec Ideal S1x128 .f32) (x3 : Vec Ideal S2x1x128x1024 .bf16) (x4 : Vec Ideal S8192x128 .bf16)
    (x5 : Vec Ideal S16x1x144x512 .bf16) : Vec Ideal S1024x128 .bf16 := fun y =>
  outB (k0_pay54 x1 (ix2 0 0)) x2 (fun e C => aSt (qc x3) x4 x5 4 ⟨e.val, by omega⟩ C) (fun C => aSt (qc x3) x4 x5 4 ⟨128, by omega⟩ C) (y 0) (y 1)

theorem outSlow_of (x1 : Vec Ideal S4x64 .f32) (x2 : Vec Ideal S1x128 .f32) (x3 : Vec Ideal S2x1x128x1024 .bf16) (x4 : Vec Ideal S8192x128 .bf16)
    (x5 : Vec Ideal S16x1x144x512 .bf16) {y1 : Vec Ideal S4x64 .f32} {y2 : Vec Ideal S1x128 .f32} (e1 : y1 = x1) (e2 : y2 = x2) (r : Fin 1024) (e : Fin 128) :
    outB (k0_pay54 y1 (ix2 0 0)) y2 (fun e C => aSt (qc x3) x4 x5 4 ⟨e.val, by omega⟩ C) (fun C => aSt (qc x3) x4 x5 4 ⟨128, by omega⟩ C) r e
      = outSlow x1 x2 x3 x4 x5 (ix2 r e) := by
  subst e1 e2
  rfl

variable (arg3 : Memref sig .tc .smem S1 .i32) (harg3 : arg3.IsWhole) (arg4 : Memref sig .tc .vmem S4x64 .f32) (harg4 : arg4.IsWhole) (arg5 : Memref sig .tc .vmem S1x128 .f32) (harg5 : arg5.IsWhole) (arg6 : Memref sig .tc .vmem S2x1x128x1024 .bf16) (harg6 : arg6.IsWhole) (arg7 : Memref sig .tc .vmem S8192x128 .bf16) (harg7 : arg7.IsWhole) (arg8 : Memref sig .tc .vmem S16x1x144x512 .bf16) (harg8 : arg8.IsWhole) (arg9 : Memref sig .tc .vmem S1024x128 .bf16) (harg9 : arg9.IsWhole) (arg10 : Memref sig .tc .vmem S1x2048 .f32) (harg10 : arg10.IsWhole) (arg11 : Memref sig .tc .vmem S144x2048 .f32) (harg11 : arg11.IsWhole)

set_option maxHeartbeats 1000000 in
/-- The body at such a point: it gives back what it read and leaves `outSlow` in the output block. -/
theorem runSlow (c : Dev nD) (i : grid0.Coords)
    (x0 : Vec Ideal S1 .i32) (x1 : Vec Ideal S4x64 .f32) (x2 : Vec Ideal S1x128 .f32) (x3 : Vec Ideal S2x1x128x1024 .bf16) (x4 : Vec Ideal S8192x128 .bf16) (x5 : Vec Ideal S16x1x144x512 .bf16) (h1 : ¬flagOne (flagAt arg3 harg3 x0)) (h0 : flagZero (flagAt arg3 harg3 x0)) (E : Set ℕ) (Φ : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (outSlow x1 x2 x3 x4 x5) ∗ (∃ d, owns (c : Thread nD τ) arg10 fullShare d) ∗ (∃ d, owns (c : Thread nD τ) arg11 fullShare d)) -∗ Φ ⟨⟩))
      ⊢ wp frame (wpE (defs₀ (F := Ideal)) Variants.none c none) E (cc0_diff_attn i arg3 harg3 arg4 harg4 arg5 harg5 arg6 harg6 arg7 harg7 arg8 harg8 arg9 harg9 arg10 harg10 arg11 harg11) Φ := by
  simp only [cc0_diff_attn_eq_skeleton]; unfold cc0_diff_attn_skel
  simp only [k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
  obtain rfl := harg3.eq_unread hf0
  subst hf1 hf2 hf3 hf4 hf5
  have hm := start_m arg10 (k0_pay55 (arg6.view.readAt (Elt Ideal) (Rect.unit (s := S2x1x128x1024) ![0, 0, 0, 0] S1x1x128x1024.size inb_S2x1x128x1024_S1x1x128x1024_0_0_0_0).toLoadRect f3)
    (arg6.view.readAt (Elt Ideal) (Rect.unit (s := S2x1x128x1024) ![1, 0, 0, 0] S1x1x128x1024.size inb_S2x1x128x1024_S1x1x128x1024_1_0_0_0).toLoadRect f3)) (arg7.view.read (Elt Ideal) f4)
  have ha := start_a arg11 (k0_pay55 (arg6.view.readAt (Elt Ideal) (Rect.unit (s := S2x1x128x1024) ![0, 0, 0, 0] S1x1x128x1024.size inb_S2x1x128x1024_S1x1x128x1024_0_0_0_0).toLoadRect f3)
    (arg6.view.readAt (Elt Ideal) (Rect.unit (s := S2x1x128x1024) ![1, 0, 0, 0] S1x1x128x1024.size inb_S2x1x128x1024_S1x1x128x1024_1_0_0_0).toLoadRect f3)) (arg7.view.read (Elt Ideal) f4) (arg8.view.read (Elt Ideal) f5)
  sl_exec (disch := first | sl_exact h1 | sl_exact h0)
  sl_step
  iapply Hk
  isplitl [H0]; · iexists _; isplitr; · ipureintro; exact hf0
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]
  · iexists _; isplitr; swap
    · iexact H6
    · ipureintro
      sl_unfold_words
      have e1 : arg4.view.readAt (Elt Ideal) (Rect.unit (s := S4x64) ![0, 0] S4x64.size inb_S4x64_S4x64_0_0).toLoadRect f1 = arg4.view.read (Elt Ideal) f1 :=
        View.ld_unit_zero (by decide) _ _
      have e2 : arg5.view.readAt (Elt Ideal) (Rect.unit (s := S1x128) ![0, 0] S1x128.size inb_S1x128_S1x128_0_0).toLoadRect f2 = arg5.view.read (Elt Ideal) f2 :=
        View.ld_unit_zero (by decide) _ _
      have e3 : k0_pay55 (arg6.view.readAt (Elt Ideal) (Rect.unit (s := S2x1x128x1024) ![0, 0, 0, 0] S1x1x128x1024.size inb_S2x1x128x1024_S1x1x128x1024_0_0_0_0).toLoadRect f3)
          (arg6.view.readAt (Elt Ideal) (Rect.unit (s := S2x1x128x1024) ![1, 0, 0, 0] S1x1x128x1024.size inb_S2x1x128x1024_S1x1x128x1024_1_0_0_0).toLoadRect f3)
          = qc (arg6.view.read (Elt Ideal) f3) :=
        congrArg₂ k0_pay55 (qv_eq arg6 f3 0 _ rfl _) (qv_eq arg6 f3 1 _ rfl _)
      have ht : Scf.trips k0_t1_loop.lb k0_t1_loop.ub k0_t1_loop.st = 4 := by decide +kernel
      have hA : ∀ (e : Fin 144) (C : Fin 2048), arg11.view.read (Elt Ideal) fL1 (ix2 e C)
          = aSt (qc (arg6.view.read (Elt Ideal) f3)) (arg7.view.read (Elt Ideal) f4) (arg8.view.read (Elt Ideal) f5) 4 e C := fun e C =>
        (hL5 e C).trans (congrArg₂ (fun q n => aSt q (arg7.view.read (Elt Ideal) f4) (arg8.view.read (Elt Ideal) f5) n e C) e3 ht)
      clear hL5
      funext y
      obtain ⟨r, e, rfl⟩ : ∃ (r : Fin 1024) (e : Fin 128), y = ix2 r e := ⟨y 0, y 1, eq_ix2 y⟩
      refine (out_read arg11 fL1 (fun e C => hA ⟨e.val, by omega⟩ C) (fun C => hA ⟨128, by omega⟩ C) arg9 f6 _ _ r e).trans ?_
      exact outSlow_of _ _ _ _ _ e1 e2 r e
  isplitl [HS0]
  · iexists _, _; isplitr; swap
    · iexact HS0
    · ipureintro; rfl
  iexists _, _; isplitr; swap
  · iexact HS1
  · ipureintro; rfl

end Cert.KernelIdeal.Gen

end
-- ==== Proof.RunFast.lean ====
module

public import proofs.«01_k».proof.Proof.Fast
public import proofs.«01_k».proof.Proof.Out
public import proofs.«01_k».proof.Proof.Queries

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-! The body at a point whose flag is one: one pass with no running maximum. -/

/-- What the fast branch leaves in the output block. -/
def outFast (x1 : Vec Ideal S4x64 .f32) (x2 : Vec Ideal S1x128 .f32) (x3 : Vec Ideal S2x1x128x1024 .bf16) (x4 : Vec Ideal S8192x128 .bf16)
    (x5 : Vec Ideal S16x1x144x512 .bf16) : Vec Ideal S1024x128 .bf16 := fun y =>
  outB (k0_pay54 x1 (ix2 0 0)) x2 (fun e C => fP (qc x3) x4 x5 e C) (fun C => fL (qc x3) x4 C) (y 0) (y 1)

theorem outFast_of (x1 : Vec Ideal S4x64 .f32) (x2 : Vec Ideal S1x128 .f32) (x3 : Vec Ideal S2x1x128x1024 .bf16) (x4 : Vec Ideal S8192x128 .bf16)
    (x5 : Vec Ideal S16x1x144x512 .bf16) {y1 : Vec Ideal S4x64 .f32} {y2 : Vec Ideal S1x128 .f32} (e1 : y1 = x1) (e2 : y2 = x2) (r : Fin 1024) (e : Fin 128) :
    outB (k0_pay54 y1 (ix2 0 0)) y2 (fun e C => fP (qc x3) x4 x5 e C) (fun C => fL (qc x3) x4 C) r e
      = outFast x1 x2 x3 x4 x5 (ix2 r e) := by
  subst e1 e2
  rfl

theorem kinb (k : Fin 4) : ∀ a, (![2048 * k.val, 0] : Fin 2 → ℕ) a + S2048x128.size a ≤ S8192x128.size a := by
  intro a; match a with | 0 => show 2048 * k.val + 2048 ≤ 8192; omega | 1 => exact Nat.le_refl _

theorem vinb (n : Fin 16) : ∀ a, (![n.val, 0, 0, 0] : Fin 4 → ℕ) a + S1x1x144x512.size a ≤ S16x1x144x512.size a := by
  intro a; match a with | 0 => show n.val + 1 ≤ 16; omega | 1 => exact Nat.le_refl _ | 2 => exact Nat.le_refl _ | 3 => exact Nat.le_refl _

variable (arg3 : Memref sig .tc .smem S1 .i32) (harg3 : arg3.IsWhole) (arg4 : Memref sig .tc .vmem S4x64 .f32) (harg4 : arg4.IsWhole) (arg5 : Memref sig .tc .vmem S1x128 .f32) (harg5 : arg5.IsWhole) (arg6 : Memref sig .tc .vmem S2x1x128x1024 .bf16) (harg6 : arg6.IsWhole) (arg7 : Memref sig .tc .vmem S8192x128 .bf16) (harg7 : arg7.IsWhole) (arg8 : Memref sig .tc .vmem S16x1x144x512 .bf16) (harg8 : arg8.IsWhole) (arg9 : Memref sig .tc .vmem S1024x128 .bf16) (harg9 : arg9.IsWhole) (arg10 : Memref sig .tc .vmem S1x2048 .f32) (harg10 : arg10.IsWhole) (arg11 : Memref sig .tc .vmem S144x2048 .f32) (harg11 : arg11.IsWhole)

set_option maxHeartbeats 1000000 in
/-- The body at such a point: it gives back what it read and leaves `outFast` in the output block. -/
theorem runFast (c : Dev nD) (i : grid0.Coords)
    (x0 : Vec Ideal S1 .i32) (x1 : Vec Ideal S4x64 .f32) (x2 : Vec Ideal S1x128 .f32) (x3 : Vec Ideal S2x1x128x1024 .bf16) (x4 : Vec Ideal S8192x128 .bf16) (x5 : Vec Ideal S16x1x144x512 .bf16) (h1 : flagOne (flagAt arg3 harg3 x0)) (h0 : ¬flagZero (flagAt arg3 harg3 x0)) (E : Set ℕ) (Φ : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (outFast x1 x2 x3 x4 x5) ∗ (∃ d, owns (c : Thread nD τ) arg10 fullShare d) ∗ (∃ d, owns (c : Thread nD τ) arg11 fullShare d)) -∗ Φ ⟨⟩))
      ⊢ wp frame (wpE (defs₀ (F := Ideal)) Variants.none c none) E (cc0_diff_attn i arg3 harg3 arg4 harg4 arg5 harg5 arg6 harg6 arg7 harg7 arg8 harg8 arg9 harg9 arg10 harg10 arg11 harg11) Φ := by
  simp only [cc0_diff_attn_eq_skeleton]; unfold cc0_diff_attn_skel
  simp only [k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
  obtain rfl := harg3.eq_unread hf0
  subst hf1 hf2 hf3 hf4 hf5
  sl_exec (disch := first | sl_exact h1 | sl_exact h0)
  sl_step
  iapply Hk
  isplitl [H0]; · iexists _; isplitr; · ipureintro; exact hf0
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]
  · iexists _; isplitr; swap
    · iexact H6
    · ipureintro
      sl_unfold_words
      have e1 : arg4.view.readAt (Elt Ideal) (Rect.unit (s := S4x64) ![0, 0] S4x64.size inb_S4x64_S4x64_0_0).toLoadRect f1 = arg4.view.read (Elt Ideal) f1 :=
        View.ld_unit_zero (by decide) _ _
      have e2 : arg5.view.readAt (Elt Ideal) (Rect.unit (s := S1x128) ![0, 0] S1x128.size inb_S1x128_S1x128_0_0).toLoadRect f2 = arg5.view.read (Elt Ideal) f2 :=
        View.ld_unit_zero (by decide) _ _
      have e3 : k0_pay55 (arg6.view.readAt (Elt Ideal) (Rect.unit (s := S2x1x128x1024) ![0, 0, 0, 0] S1x1x128x1024.size inb_S2x1x128x1024_S1x1x128x1024_0_0_0_0).toLoadRect f3)
          (arg6.view.readAt (Elt Ideal) (Rect.unit (s := S2x1x128x1024) ![1, 0, 0, 0] S1x1x128x1024.size inb_S2x1x128x1024_S1x1x128x1024_1_0_0_0).toLoadRect f3)
          = qc (arg6.view.read (Elt Ideal) f3) :=
        congrArg₂ k0_pay55 (qv_eq arg6 f3 0 _ rfl _) (qv_eq arg6 f3 1 _ rfl _)
      have hK := fun (k : Fin 4) r d => keyBlock_at arg7 f4 k ![2048 * k.val, 0] rfl (kinb k) r d
      have hV := fun (n : Fin 16) e x => valBlock_at arg8 f5 n ![n.val, 0, 0, 0] rfl (vinb n) e x
      have hT := two_read arg11 arg11.view.junk inb_S144x2048_S1x2048_128_0 inb_S144x2048_S128x2048_0_0
      have h57 := fun e c => (fast57 (arg6.view.readAt (Elt Ideal) (Rect.unit (s := S2x1x128x1024) ![0, 0, 0, 0] S1x1x128x1024.size inb_S2x1x128x1024_S1x1x128x1024_0_0_0_0).toLoadRect f3)
          (arg6.view.readAt (Elt Ideal) (Rect.unit (s := S2x1x128x1024) ![1, 0, 0, 0] S1x1x128x1024.size inb_S2x1x128x1024_S1x1x128x1024_1_0_0_0).toLoadRect f3) hK hV e c).trans
          (congrArg (fun q => fP q (arg7.view.read (Elt Ideal) f4) (arg8.view.read (Elt Ideal) f5) e c) e3)
      have h58 := fun c => (fast58 (arg6.view.readAt (Elt Ideal) (Rect.unit (s := S2x1x128x1024) ![0, 0, 0, 0] S1x1x128x1024.size inb_S2x1x128x1024_S1x1x128x1024_0_0_0_0).toLoadRect f3)
          (arg6.view.readAt (Elt Ideal) (Rect.unit (s := S2x1x128x1024) ![1, 0, 0, 0] S1x1x128x1024.size inb_S2x1x128x1024_S1x1x128x1024_1_0_0_0).toLoadRect f3) hK c).trans
          (congrArg (fun q => fL q (arg7.view.read (Elt Ideal) f4) c) e3)
      funext y
      obtain ⟨r, e, rfl⟩ : ∃ (r : Fin 1024) (e : Fin 128), y = ix2 r e := ⟨y 0, y 1, eq_ix2 y⟩
      refine (out_read arg11 (arg11.view.writes (Elt Ideal) arg11.view.junk _) (fun e C => ((hT _ _).1 e C).trans (h57 e C))
        (fun C => ((hT _ _).2 C).trans (h58 C)) arg9 f6 _ _ r e).trans ?_
      exact outFast_of _ _ _ _ _ e1 e2 r e
  isplitl [HS0]
  · iexists _, _; isplitr; swap
    · iexact HS0
    · ipureintro; rfl
  iexists _, _; isplitr; swap
  · iexact HS1
  · ipureintro; rfl

end Cert.KernelIdeal.Gen

end
-- ==== Proof.Staging.lean ====
module

public import proofs.«01_k».proof.Proof.Words
public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! The staging buffers a point's body works on. -/

/-- Window 0's staging buffer at point `t`, and that it is a whole buffer. -/
abbrev stg0 (t : Fin cfg0.N) : Memref sig .tc .smem S1 .i32 := win0_0.stage (cfg0.slots t 0)
abbrev stgW0 (t : Fin cfg0.N) : (stg0 t).IsWhole := hstage0_0 ((cfg0.slots t 0).cast nbuf0_0)
/-- Window 1's staging buffer at point `t`, and that it is a whole buffer. -/
abbrev stg1 (t : Fin cfg0.N) : Memref sig .tc .vmem S4x64 .f32 := win0_1.stage (cfg0.slots t 1)
abbrev stgW1 (t : Fin cfg0.N) : (stg1 t).IsWhole := hstage0_1 ((cfg0.slots t 1).cast nbuf0_1)
/-- Window 2's staging buffer at point `t`, and that it is a whole buffer. -/
abbrev stg2 (t : Fin cfg0.N) : Memref sig .tc .vmem S1x128 .f32 := win0_2.stage (cfg0.slots t 2)
abbrev stgW2 (t : Fin cfg0.N) : (stg2 t).IsWhole := hstage0_2 ((cfg0.slots t 2).cast nbuf0_2)
/-- Window 3's staging buffer at point `t`, and that it is a whole buffer. -/
abbrev stg3 (t : Fin cfg0.N) : Memref sig .tc .vmem S2x1x128x1024 .bf16 := win0_3.stage (cfg0.slots t 3)
abbrev stgW3 (t : Fin cfg0.N) : (stg3 t).IsWhole := hstage0_3 ((cfg0.slots t 3).cast nbuf0_3)
/-- Window 4's staging buffer at point `t`, and that it is a whole buffer. -/
abbrev stg4 (t : Fin cfg0.N) : Memref sig .tc .vmem S8192x128 .bf16 := win0_4.stage (cfg0.slots t 4)
abbrev stgW4 (t : Fin cfg0.N) : (stg4 t).IsWhole := hstage0_4 ((cfg0.slots t 4).cast nbuf0_4)
/-- Window 5's staging buffer at point `t`, and that it is a whole buffer. -/
abbrev stg5 (t : Fin cfg0.N) : Memref sig .tc .vmem S16x1x144x512 .bf16 := win0_5.stage (cfg0.slots t 5)
abbrev stgW5 (t : Fin cfg0.N) : (stg5 t).IsWhole := hstage0_5 ((cfg0.slots t 5).cast nbuf0_5)
/-- Window 6's staging buffer at point `t`, and that it is a whole buffer. -/
abbrev stg6 (t : Fin cfg0.N) : Memref sig .tc .vmem S1024x128 .bf16 := win0_6.stage (cfg0.slots t 6)
abbrev stgW6 (t : Fin cfg0.N) : (stg6 t).IsWhole := hstage0_6 ((cfg0.slots t 6).cast nbuf0_6)
/-- The running maximum's scratch buffer and the accumulator's. -/
abbrev scrM : Memref sig .tc .vmem S1x2048 .f32 := Memref.whole cc0_scratch0
abbrev scrA : Memref sig .tc .vmem S144x2048 .f32 := Memref.whole cc0_scratch1

/-- The launch's invariant with the two scratch buffers as memrefs at some contents. -/
theorem scratch_eq (c : Dev nD) :
    (Pipeline.ΦA spec0 c : sProp 𝕄)
      = iprop(iprop((∃ d, owns (c : Thread nD τ) scrM fullShare d) ∗ (∃ d, owns (c : Thread nD τ) scrA fullShare d)) ∗ (∃ r, prngReg c r)) := by
  unfold Pipeline.ΦA; rw [scopedRest0_eq]; simp only [scrM, scrA, owns_whole]; try rfl

end Cert.KernelIdeal.Gen

end
-- ==== Proof.Launch.lean ====
module

public import proofs.«01_k».proof.Proof.RunSlow
public import proofs.«01_k».proof.Proof.RunFast
public import proofs.«01_k».proof.Proof.Staging
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-! The launch: at every point the body leaves the fast branch's block where the flag is one and the slow branch's where it is zero. -/

/-- The flag word is the flag array's only element. -/
theorem flagAt_eq (M : Memref sig .tc .smem S1 .i32) (hM : M.IsWhole) (x : Vec Ideal S1 .i32) : flagAt M hM x = x (ix1 0) := by
  have e1 : M.view.readAt (Elt Ideal) (Rect.unit (s := S1) ![0] S1.size inb_S1_S1_0).toLoadRect (hM.unread x) = M.view.read (Elt Ideal) (hM.unread x) :=
    View.ld_unit_zero (by decide) _ _
  have e2 : (Shape.Idx.first (numel1_S1.symm ▸ Nat.one_pos) : S1.Idx) = ix1 0 := by
    funext a; match a with | 0 => exact Subsingleton.elim (α := Fin 1) _ _
  unfold flagAt
  rw [e2]
  exact (congrFun e1 _).trans (congrFun (hM.read_unread x) _)

/-- What the two branches leave, by the flag. -/
def outOf (w : BitVec 32) (x1 : Vec Ideal S4x64 .f32) (x2 : Vec Ideal S1x128 .f32) (x3 : Vec Ideal S2x1x128x1024 .bf16) (x4 : Vec Ideal S8192x128 .bf16)
    (x5 : Vec Ideal S16x1x144x512 .bf16) : Vec Ideal S1024x128 .bf16 :=
  if w = 1#32 then outFast x1 x2 x3 x4 x5 else outSlow x1 x2 x3 x4 x5

/-- The body at a point, the flag being one or zero. -/
theorem run_body (c : Dev nD) (i : grid0.Coords) (arg3 : Memref sig .tc .smem S1 .i32) (harg3 : arg3.IsWhole) (arg4 : Memref sig .tc .vmem S4x64 .f32) (harg4 : arg4.IsWhole) (arg5 : Memref sig .tc .vmem S1x128 .f32) (harg5 : arg5.IsWhole) (arg6 : Memref sig .tc .vmem S2x1x128x1024 .bf16) (harg6 : arg6.IsWhole) (arg7 : Memref sig .tc .vmem S8192x128 .bf16) (harg7 : arg7.IsWhole) (arg8 : Memref sig .tc .vmem S16x1x144x512 .bf16) (harg8 : arg8.IsWhole) (arg9 : Memref sig .tc .vmem S1024x128 .bf16) (harg9 : arg9.IsWhole) (arg10 : Memref sig .tc .vmem S1x2048 .f32) (harg10 : arg10.IsWhole) (arg11 : Memref sig .tc .vmem S144x2048 .f32) (harg11 : arg11.IsWhole)
    (x0 : Vec Ideal S1 .i32) (x1 : Vec Ideal S4x64 .f32) (x2 : Vec Ideal S1x128 .f32) (x3 : Vec Ideal S2x1x128x1024 .bf16) (x4 : Vec Ideal S8192x128 .bf16) (x5 : Vec Ideal S16x1x144x512 .bf16)
    (h : x0 (ix1 0) = 1#32 ∨ x0 (ix1 0) = 0#32) (E : Set ℕ) (Φ : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (outOf (x0 (ix1 0)) x1 x2 x3 x4 x5) ∗ (∃ d, owns (c : Thread nD τ) arg10 fullShare d) ∗ (∃ d, owns (c : Thread nD τ) arg11 fullShare d)) -∗ Φ ⟨⟩))
      ⊢ wp frame (wpE (defs₀ (F := Ideal)) Variants.none c none) E (cc0_diff_attn i arg3 harg3 arg4 harg4 arg5 harg5 arg6 harg6 arg7 harg7 arg8 harg8 arg9 harg9 arg10 harg10 arg11 harg11) Φ := by
  have hw := flagAt_eq arg3 harg3 x0
  rcases h with h | h
  · rw [show outOf (x0 (ix1 0)) x1 x2 x3 x4 x5 = outFast x1 x2 x3 x4 x5 from if_pos h]
    exact runFast arg3 harg3 arg4 harg4 arg5 harg5 arg6 harg6 arg7 harg7 arg8 harg8 arg9 harg9 arg10 harg10 arg11 harg11 c i x0 x1 x2 x3 x4 x5
      (by rw [hw, h]; decide) (by rw [hw, h]; decide) E Φ
  · rw [show outOf (x0 (ix1 0)) x1 x2 x3 x4 x5 = outSlow x1 x2 x3 x4 x5 from if_neg (by rw [h]; decide)]
    exact runSlow arg3 harg3 arg4 harg4 arg5 harg5 arg6 harg6 arg7 harg7 arg8 harg8 arg9 harg9 arg10 harg10 arg11 harg11 c i x0 x1 x2 x3 x4 x5
      (by rw [hw, h]; decide) (by rw [hw, h]; decide) E Φ

variable (m : (ℓ : Loc nD τ sig) → Buf (Elt Ideal) ℓ) (ρ : Dev nD → PrngReg)

/-- The block the body leaves at point `t`. -/
def outAt (c : Dev nD) (t : Fin cfg0.N) : Vec Ideal S1024x128 .bf16 :=
  outOf ((iblk m c 0 t : Vec Ideal S1 .i32) (ix1 0)) (iblk m c 1 t) (iblk m c 2 t) (iblk m c 3 t) (iblk m c 4 t) (iblk m c 5 t)

/-- The proof data: the arrays as the region finds them, each input's buffer at its block, the output's at `outAt`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t))

/-- The body at any point. -/
theorem sound_body (c : Dev nD) (t : Fin cfg0.N)
    (h : (iblk m c 0 t : Vec Ideal S1 .i32) (ix1 0) = 1#32 ∨ (iblk m c 0 t : Vec Ideal S1 .i32) (ix1 0) = 0#32) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, scratch_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply (run_body c (grid0.coords t) _ _ _ _ _ _ _ _ _ _ _ _ _ _ _ _ _ _ (iblk m c 0 t) (iblk m c 1 t) (iblk m c 2 t) (iblk m c 3 t) (iblk m c 4 t) (iblk m c 5 t) h Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := Ideal) .tc cfg0.body (cfg0.bodyArgs t (cfg0.slots t)) = bodyAt0 t := by
  unfold defs₀; rw [Defs.onTc_tc]

/-- The body obligation, at every point, the flag being one or zero. -/
theorem body_obligation (c : Dev nD)
    (h : ∀ t, (iblk m c 0 t : Vec Ideal S1 .i32) (ix1 0) = 1#32 ∨ (iblk m c 0 t : Vec Ideal S1 .i32) (ix1 0) = 0#32) :
    BodyObligation (dats m 0 c) (defs₀ (F := Ideal)) Variants.none () Set.univ := fun t => by
  rw [bigSep_W0, bigSep_W0, defs₀_row]
  exact triple_restated (sound_body m c t (h t)) rfl .rfl fun _ => .rfl

set_option backward.isDefEq.respectTransparency.types false in
set_option maxHeartbeats 800000 in
/-- The run: every array of the pipeline ends at what the proof data says, every counter at zero. -/
theorem run_quiescent (h : ∀ c t, (iblk m c 0 t : Vec Ideal S1 .i32) (ix1 0) = 1#32 ∨ (iblk m c 0 t : Vec Ideal S1 .i32) (ix1 0) = 0#32) :
    θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c (h c)).loose) (hshare := fun c => (dats m 0 c).share_full fun _ => rfl)
    (howed := fun _ _ => rfl) (V := V m) (hmain := hmain m Variants.none) (hA := A_eq m) (hΦ := fun _ _ => rfl)

end Cert.KernelIdeal.Gen

end
-- ==== Proof.Block.lean ====
module

public import proofs.«01_k».proof.Proof.Coords
public import proofs.«01_k».proof.Proof.Launch

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The value of an output element: the two maps' weighted means, their difference, its sub-norm. -/

section Spec

variable (xq xk : FVec Ideal S4x8192x4x2x64 .f32) (xv : FVec Ideal S4x8192x4x128 .f32) (b : Fin 4) (s : Fin 8192) (h : Fin 4)

/-- The scaled score of token `T` for the query of token `s` in map `j` of head `h`. -/
def score (j : Fin 2) (T : Fin 8192) : ℝ :=
  (∑ d : Fin 64, EReal.toReal (xq (ix5 b s h j d)) * EReal.toReal (xk (ix5 b T h j d))) / 8

/-- Map `j`'s softmax of the values. -/
def att (j : Fin 2) (e : Fin 128) : ℝ := mean (score xq xk b s h j) fun T => EReal.toReal (xv (ix4 b T h e))

/-- The difference of the two maps. -/
def diffAt (lam : EReal) (e : Fin 128) : EReal := ((att xq xk xv b s h 0 e : ℝ) : EReal) - lam * ((att xq xk xv b s h 1 e : ℝ) : EReal)

/-- Its sub-norm with gains `g`. -/
def normAt (lam : EReal) (g : Fin 128 → EReal) (e : Fin 128) : EReal :=
  diffAt xq xk xv b s h lam e
      * Ideal.rsqrt (Ideal.div (∑ e' : Fin 128, diffAt xq xk xv b s h lam e' * diffAt xq xk xv b s h lam e') (Ideal.ofBits .f32 0x43000000#32)
          + Ideal.ofBits .f32 0x3727C5AC#32)
    * (g e * Ideal.ofBits .f32 0x3F4CCCCD#32)

end Spec

/-- A score is the sum over the two halves of the lanes. -/
theorem sc_halves (q : FVec Ideal S128x2048 .bf16) (K : Vec Ideal S8192x128 .bf16) (k : Fin 4) (r c : Fin 2048) :
    sc q K k r c = (∑ d : Fin 64, (K (ix2 (⟨2048 * k.val + r.val, by omega⟩ : Fin 8192) (⟨d.val, by omega⟩ : Fin 128)) : EReal) * q (ix2 (⟨d.val, by omega⟩ : Fin 128) c))
      + ∑ d : Fin 64, (K (ix2 (⟨2048 * k.val + r.val, by omega⟩ : Fin 8192) (⟨64 + d.val, by omega⟩ : Fin 128)) : EReal) * q (ix2 (⟨64 + d.val, by omega⟩ : Fin 128) c) :=
  Fin.sum_univ_add (a := 64) (b := 64) (fun d : Fin (64 + 64) => (K (ix2 (⟨2048 * k.val + r.val, by omega⟩ : Fin 8192) d) : EReal) * q (ix2 d c))

/-- A scaled product of reals. -/
theorem dot_real (a k : Fin 64 → ℝ) : ∑ d, (k d : EReal) * ((a d : EReal) * (((8 * Real.log 2)⁻¹ : ℝ) : EReal))
    = (((∑ d, a d * k d) / 8 / Real.log 2 : ℝ) : EReal) := by
  rw [div_div, div_eq_mul_inv, Finset.sum_mul, coe_sum]
  refine Finset.sum_congr rfl fun d _ => ?_
  rw [← EReal.coe_mul, ← EReal.coe_mul]
  congr 1
  ring

section Block

variable (x3 : Vec Ideal S2x1x128x1024 .bf16) (x4 : Vec Ideal S8192x128 .bf16) (j : Fin 2) (r : Fin 512) (a : Fin 64 → ℝ) (κv : Fin 8192 → Fin 64 → ℝ)

/-- A score against a column of map 1. -/
theorem sc_map0 (h0 : ∀ d : Fin 64, (x3 (ix4 j (0 : Fin 1) (⟨d.val, by omega⟩ : Fin 128) (⟨r.val, by omega⟩ : Fin 1024)) : EReal) = a d)
    (h1 : ∀ d : Fin 64, (x3 (ix4 j (0 : Fin 1) (⟨64 + d.val, by omega⟩ : Fin 128) (⟨r.val, by omega⟩ : Fin 1024)) : EReal) = 0)
    (hk : ∀ (T : Fin 8192) (d : Fin 64), (x4 (ix2 T (⟨d.val, by omega⟩ : Fin 128)) : EReal) = κv T d) (k : Fin 4) (u : Fin 2048) :
    sc (qc x3) x4 k u ⟨1024 * j.val + r.val, by omega⟩ = (((∑ d, a d * κv ⟨2048 * k.val + u.val, by omega⟩ d) / 8 / Real.log 2 : ℝ) : EReal) := by
  have e := fun d => qc_at x3 j d ⟨r.val, by omega⟩
  rw [sc_halves]
  simp only [e, h0, h1, hk, zero_mul, mul_zero, Finset.sum_const_zero, add_zero]
  exact dot_real a _

/-- A score against a column of map 2. -/
theorem sc_map1 (h0 : ∀ d : Fin 64, (x3 (ix4 j (0 : Fin 1) (⟨d.val, by omega⟩ : Fin 128) (⟨512 + r.val, by omega⟩ : Fin 1024)) : EReal) = 0)
    (h1 : ∀ d : Fin 64, (x3 (ix4 j (0 : Fin 1) (⟨64 + d.val, by omega⟩ : Fin 128) (⟨512 + r.val, by omega⟩ : Fin 1024)) : EReal) = a d)
    (hk : ∀ (T : Fin 8192) (d : Fin 64), (x4 (ix2 T (⟨64 + d.val, by omega⟩ : Fin 128)) : EReal) = κv T d) (k : Fin 4) (u : Fin 2048) :
    sc (qc x3) x4 k u ⟨1024 * j.val + (512 + r.val), by omega⟩ = (((∑ d, a d * κv ⟨2048 * k.val + u.val, by omega⟩ d) / 8 / Real.log 2 : ℝ) : EReal) := by
  have e := fun d => qc_at x3 j d ⟨512 + r.val, by omega⟩
  rw [sc_halves]
  simp only [e, h0, h1, hk, zero_mul, mul_zero, Finset.sum_const_zero, zero_add]
  exact dot_real a _

end Block

/-- The output block from the quotients of its columns. -/
theorem outF_of {xq xk : FVec Ideal S4x8192x4x2x64 .f32} {xv : FVec Ideal S4x8192x4x128 .f32} {b : Fin 4} {s : Fin 8192} {h : Fin 4}
    (lam : EReal) (g : FVec Ideal S1x128 .f32) (P : Fin 128 → Fin 2048 → EReal) (L : Fin 2048 → EReal) (C₁ C₂ : Fin 2048)
    (h₁ : ∀ e, Ideal.div (P e C₁) (L C₁) = ((att xq xk xv b s h 0 e : ℝ) : EReal))
    (h₂ : ∀ e, Ideal.div (P e C₂) (L C₂) = ((att xq xk xv b s h 1 e : ℝ) : EReal)) (e : Fin 128) :
    outF lam g P L C₁ C₂ e = normAt xq xk xv b s h lam (fun e => g (ix2 0 e)) e := by
  unfold outF dif normAt diffAt
  simp only [h₁, h₂]

/-- What a point leaves at row `r` of tile `j` of its output block, from its input blocks at coordinates. -/
theorem outOf_at {xq xk : FVec Ideal S4x8192x4x2x64 .f32} {xv : FVec Ideal S4x8192x4x128 .f32} {b : Fin 4} {s : Fin 8192} {h : Fin 4}
    (w : BitVec 32) (x1 : Vec Ideal S4x64 .f32) (x2 : Vec Ideal S1x128 .f32) (x3 : Vec Ideal S2x1x128x1024 .bf16) (x4 : Vec Ideal S8192x128 .bf16)
    (x5 : Vec Ideal S16x1x144x512 .bf16) (j : Fin 2) (r : Fin 512)
    (q00 : ∀ d : Fin 64, (x3 (ix4 j (0 : Fin 1) (⟨d.val, by omega⟩ : Fin 128) (⟨r.val, by omega⟩ : Fin 1024)) : EReal) = ((EReal.toReal (xq (ix5 b s h (0 : Fin 2) d)) : ℝ) : EReal))
    (q01 : ∀ d : Fin 64, (x3 (ix4 j (0 : Fin 1) (⟨64 + d.val, by omega⟩ : Fin 128) (⟨r.val, by omega⟩ : Fin 1024)) : EReal) = 0)
    (q10 : ∀ d : Fin 64, (x3 (ix4 j (0 : Fin 1) (⟨d.val, by omega⟩ : Fin 128) (⟨512 + r.val, by omega⟩ : Fin 1024)) : EReal) = 0)
    (q11 : ∀ d : Fin 64, (x3 (ix4 j (0 : Fin 1) (⟨64 + d.val, by omega⟩ : Fin 128) (⟨512 + r.val, by omega⟩ : Fin 1024)) : EReal) = ((EReal.toReal (xq (ix5 b s h (1 : Fin 2) d)) : ℝ) : EReal))
    (k0 : ∀ (T : Fin 8192) (d : Fin 64), (x4 (ix2 T (⟨d.val, by omega⟩ : Fin 128)) : EReal) = ((EReal.toReal (xk (ix5 b T h (0 : Fin 2) d)) : ℝ) : EReal))
    (k1 : ∀ (T : Fin 8192) (d : Fin 64), (x4 (ix2 T (⟨64 + d.val, by omega⟩ : Fin 128)) : EReal) = ((EReal.toReal (xk (ix5 b T h (1 : Fin 2) d)) : ℝ) : EReal))
    (v0 : ∀ (n : Fin 16) (y : Fin 512) (e : Fin 128), (x5 (ix4 n (0 : Fin 1) (⟨e.val, by omega⟩ : Fin 144) y) : EReal)
      = ((EReal.toReal (xv (ix4 b (⟨n.val * 512 + y.val, by omega⟩ : Fin 8192) h e)) : ℝ) : EReal))
    (v1 : ∀ (n : Fin 16) (y : Fin 512), (x5 (ix4 n (0 : Fin 1) (⟨128, by omega⟩ : Fin 144) y) : EReal) = 1) (e : Fin 128) :
    outOf w x1 x2 x3 x4 x5 (ix2 (⟨512 * j.val + r.val, by omega⟩ : Fin 1024) e)
      = normAt xq xk xv b s h (k0_pay54 (F := Ideal) x1 (ix2 0 0)) (fun e => x2 (ix2 0 e)) e := by
  have s0 := sc_map0 x3 x4 j r _ _ q00 q01 k0
  have s1 := sc_map1 x3 x4 j r _ _ q10 q11 k1
  have hv : ∀ (k : Fin 4) (u : Fin 2048) (e : Fin 128), vl x5 k u ⟨e.val, by omega⟩
      = ((EReal.toReal (xv (ix4 b (⟨2048 * k.val + u.val, by omega⟩ : Fin 8192) h e)) : ℝ) : EReal) := fun k u e => by
    refine (v0 _ _ e).trans (congrArg (fun T : Fin 8192 => ((EReal.toReal (xv (ix4 b T h e)) : ℝ) : EReal)) (Fin.ext ?_))
    show (4 * k.val + u.val / 512) * 512 + u.val % 512 = 2048 * k.val + u.val
    omega
  have hu : ∀ (k : Fin 4) (u : Fin 2048), vl x5 k u ⟨128, by omega⟩ = 1 := fun k u => v1 _ _
  have hr : (512 * j.val + r.val) / 512 = j.val ∧ (512 * j.val + r.val) % 512 = r.val := by omega
  have e₁ : (⟨1024 * ((512 * j.val + r.val) / 512) + (512 * j.val + r.val) % 512, by omega⟩ : Fin 2048) = ⟨1024 * j.val + r.val, by omega⟩ :=
    Fin.ext (by simp only [hr])
  have e₂ : (⟨1024 * ((512 * j.val + r.val) / 512) + 512 + (512 * j.val + r.val) % 512, by omega⟩ : Fin 2048) = ⟨1024 * j.val + (512 + r.val), by omega⟩ :=
    Fin.ext (by simp only [hr]; omega)
  by_cases hw : w = 1#32
  · rw [show outOf w x1 x2 x3 x4 x5 = outFast x1 x2 x3 x4 x5 from if_pos hw]
    refine (congrArg₂ (fun C₁ C₂ => outF _ x2 _ _ C₁ C₂ e) e₁ e₂).trans (outF_of _ _ _ _ _ _ (fun e => ?_) (fun e => ?_) e)
    · exact (fast_mean _ e (fun p => score xq xk b s h 0 ⟨2048 * p.1.val + p.2.val, by omega⟩) _ s0 (fun k u => hv k u e)).trans
        (congrArg _ (mean_tiles _ (fun T => EReal.toReal (xv (ix4 b T h e)))))
    · exact (fast_mean _ e (fun p => score xq xk b s h 1 ⟨2048 * p.1.val + p.2.val, by omega⟩) _ s1 (fun k u => hv k u e)).trans
        (congrArg _ (mean_tiles _ (fun T => EReal.toReal (xv (ix4 b T h e)))))
  · rw [show outOf w x1 x2 x3 x4 x5 = outSlow x1 x2 x3 x4 x5 from if_neg hw]
    refine (congrArg₂ (fun C₁ C₂ => outF _ x2 _ _ C₁ C₂ e) e₁ e₂).trans (outF_of _ _ _ _ _ _ (fun e => ?_) (fun e => ?_) e)
    · exact (slow_mean _ _ _ (fun p => score xq xk b s h 0 ⟨2048 * p.1.val + p.2.val, by omega⟩) _ s0 (fun k u => hv k u e) hu).trans
        (congrArg _ (mean_tiles _ (fun T => EReal.toReal (xv (ix4 b T h e)))))
    · exact (slow_mean _ _ _ (fun p => score xq xk b s h 1 ⟨2048 * p.1.val + p.2.val, by omega⟩) _ s1 (fun k u => hv k u e) hu).trans
        (congrArg _ (mean_tiles _ (fun T => EReal.toReal (xv (ix4 b T h e)))))

end Cert.KernelIdeal.Gen

end
-- ==== Proof.KernelValue.lean ====
module

public import proofs.«01_k».proof.Proof.Block

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The output array of the launch, element by element. -/

theorem idx : ∀ t : Fin cfg0.N, win0_0.index t = ![0] ∧ win0_1.index t = ![0, 0] ∧ win0_2.index t = ![0, 0]
    ∧ win0_3.index t = ![8 * (t.val / 32) + t.val % 8, t.val / 8 % 4, 0, 0] ∧ win0_4.index t = ![t.val / 32, t.val / 8 % 4]
    ∧ win0_5.index t = ![t.val / 32, t.val / 8 % 4, 0, 0] ∧ win0_6.index t = ![8 * (t.val / 32) + t.val % 8, t.val / 8 % 4] ∧ t.val < 128 :=
  (by decide +kernel : ∀ t : Fin grid0.N, _)

variable (m : (ℓ : Loc nD τ sig) → Buf (Elt Ideal) ℓ) (c : Dev nD)

/-- The arguments the value is stated over. -/
abbrev aq : FVec Ideal S4x8192x4x2x64 .f32 := m ((c : Thread nD τ).loc main_arg0)
abbrev ak : FVec Ideal S4x8192x4x2x64 .f32 := m ((c : Thread nD τ).loc main_arg1)
abbrev av : FVec Ideal S4x8192x4x128 .f32 := m ((c : Thread nD τ).loc main_arg2)
abbrev al (i : Fin 4) : FVec Ideal S64 .f32 :=
  match i with
  | 0 => m ((c : Thread nD τ).loc main_arg5)
  | 1 => m ((c : Thread nD τ).loc main_arg6)
  | 2 => m ((c : Thread nD τ).loc main_arg7)
  | 3 => m ((c : Thread nD τ).loc main_arg8)
abbrev ag : FVec Ideal S128 .f32 := m ((c : Thread nD τ).loc main_arg9)

/-- The mixing coefficient of the second map. -/
def lamOf (a b c e : FVec Ideal S64 .f32) : EReal :=
  Ideal.exp (∑ i : Fin 64, a (ix1 i) * b (ix1 i)) - Ideal.exp (∑ i : Fin 64, c (ix1 i) * e (ix1 i)) + Ideal.ofBits .f32 0x3E4CCCCD#32

/-- The result at a row and a lane. -/
def resAt (xq xk : FVec Ideal S4x8192x4x2x64 .f32) (xv : FVec Ideal S4x8192x4x128 .f32) (lam : EReal) (g : FVec Ideal S128 .f32)
    (T : Fin 32768) (l : Fin 512) : EReal :=
  normAt xq xk xv ⟨T.val / 8192, by omega⟩ ⟨T.val % 8192, by omega⟩ ⟨l.val / 128, by omega⟩ lam (fun e => g (ix1 e)) ⟨l.val % 128, by omega⟩

section Blocks

variable (t : Fin cfg0.N)

theorem blk0 : (iblk m c 0 t : Vec Ideal S1 .i32) (ix1 0) = (V m c main_v36 : Vec Ideal S1 .i32) (ix1 0) := by
  blk_ext [iblk, idx t]

theorem blk1 : (iblk m c 1 t : Vec Ideal S4x64 .f32) = packLam (al m c 0) (al m c 1) (al m c 2) (al m c 3) := by
  refine Eq.trans ?_ (packLam_eq m c)
  blk_ext! [iblk, idx t]

theorem blk2 (e : Fin 128) : (iblk m c 2 t : Vec Ideal S1x128 .f32) (ix2 0 e) = ag m c (ix1 e) := by
  refine Eq.trans (b := (V m c main_v37 : Vec Ideal S1x128 .f32) (ix2 0 e)) ?_ ?_
  · blk_ext [iblk, idx t]
  · rw [sub_eq]
    pointwise

theorem lt_t : t.val < 128 := (idx t).2.2.2.2.2.2.2

theorem blk3 (j : Fin 2) (d : Fin 128) (C : Fin 1024) : (iblk m c 3 t : Vec Ideal S2x1x128x1024 .bf16) (ix4 j (0 : Fin 1) d C)
    = packQ (aq m c) (ix4 (⟨2 * (8 * (t.val / 32) + t.val % 8) + j.val, by have := lt_t t; omega⟩ : Fin 64) (⟨t.val / 8 % 4, by omega⟩ : Fin 4) d C) := by
  rw [← packQ_eq m c]
  blk_ext [iblk, idx t]

theorem blk4 (T : Fin 8192) (d : Fin 128) : (iblk m c 4 t : Vec Ideal S8192x128 .bf16) (ix2 T d)
    = packK (ak m c) (ix2 (⟨8192 * (t.val / 32) + T.val, by have := lt_t t; omega⟩ : Fin 32768) (⟨128 * (t.val / 8 % 4) + d.val, by omega⟩ : Fin 512)) := by
  rw [← packK_eq m c]
  blk_ext [iblk, idx t]

theorem blk5 (n : Fin 16) (e : Fin 144) (y : Fin 512) : (iblk m c 5 t : Vec Ideal S16x1x144x512 .bf16) (ix4 n (0 : Fin 1) e y)
    = packV (av m c) (ix4 (⟨16 * (t.val / 32) + n.val, by have := lt_t t; omega⟩ : Fin 64) (⟨t.val / 8 % 4, by omega⟩ : Fin 4) e y) := by
  rw [← packV_eq m c]
  blk_ext [iblk, idx t]

end Blocks

/-- The flag's block is one or zero. -/
theorem flag_block (t : Fin cfg0.N) : (iblk m c 0 t : Vec Ideal S1 .i32) (ix1 0) = 1#32 ∨ (iblk m c 0 t : Vec Ideal S1 .i32) (ix1 0) = 0#32 := by
  rw [blk0 m c t]
  exact flag_cases m c

variable (hq : ∀ i, aq m c i = ((EReal.toReal (aq m c i) : ℝ) : EReal)) (hk : ∀ i, ak m c i = ((EReal.toReal (ak m c i) : ℝ) : EReal))
  (hv : ∀ i, av m c i = ((EReal.toReal (av m c i) : ℝ) : EReal))

include hq hk hv in
/-- A point's block at a row and a lane. -/
theorem point (t : Fin cfg0.N) (y0 : Fin 1024) (e : Fin 128) : outAt m c t (ix2 y0 e)
    = normAt (aq m c) (ak m c) (av m c) ⟨t.val / 32, by have := lt_t t; omega⟩ ⟨1024 * (t.val % 8) + y0.val, by omega⟩ ⟨t.val / 8 % 4, by omega⟩
        (lamOf (al m c 0) (al m c 1) (al m c 2) (al m c 3)) (fun e => ag m c (ix1 e)) e := by
  have ht := lt_t t
  have e0 : y0 = ⟨512 * (⟨y0.val / 512, by omega⟩ : Fin 2).val + (⟨y0.val % 512, by omega⟩ : Fin 512).val, by omega⟩ := Fin.ext (by simp only; omega)
  have hb : (2 * (8 * (t.val / 32) + t.val % 8) + y0.val / 512) / 16 = t.val / 32 := by omega
  have hs : (2 * (8 * (t.val / 32) + t.val % 8) + y0.val / 512) % 16 * 512 + y0.val % 512 = 1024 * (t.val % 8) + y0.val := by omega
  refine (congrArg (fun z => outAt m c t (ix2 z e)) e0).trans ?_
  refine (outOf_at (xq := aq m c) (xk := ak m c) (xv := av m c) (b := ⟨t.val / 32, by omega⟩) (s := ⟨1024 * (t.val % 8) + y0.val, by omega⟩)
    (h := ⟨t.val / 8 % 4, by omega⟩) _ _ _ _ _ _ _ _ ?_ ?_ ?_ ?_ ?_ ?_ ?_ ?_ e).trans ?_
  · intro d
    refine (blk3 m c t _ _ _).trans ((packQ_00 _ _ _ _ d).trans (Eq.trans ?_ (hq _)))
    exact congrArg (aq m c) (by congr 1 <;> exact Fin.ext (by simp only [hb, hs]))
  · intro d
    exact (blk3 m c t _ _ _).trans (packQ_01 _ _ _ _ d)
  · intro d
    exact (blk3 m c t _ _ _).trans (packQ_10 _ _ _ _ d)
  · intro d
    refine (blk3 m c t _ _ _).trans ((packQ_11 _ _ _ _ d).trans (Eq.trans ?_ (hq _)))
    exact congrArg (aq m c) (by congr 1 <;> exact Fin.ext (by simp only [hb, hs]))
  · intro T d
    refine (blk4 m c t _ _).trans (Eq.trans ?_ ((packK_at (ak m c) ⟨t.val / 8 % 4, by omega⟩ d ⟨8192 * (t.val / 32) + T.val, by omega⟩ 0).trans (Eq.trans ?_ (hk _))))
    · rfl
    · exact congrArg (ak m c) (by congr 1 <;> exact Fin.ext (by simp only; omega))
  · intro T d
    refine (blk4 m c t _ _).trans (Eq.trans ?_ ((packK_at (ak m c) ⟨t.val / 8 % 4, by omega⟩ d ⟨8192 * (t.val / 32) + T.val, by omega⟩ 1).trans (Eq.trans ?_ (hk _))))
    · exact congrArg (packK (ak m c)) (by congr 1; exact Fin.ext (by simp; omega))
    · exact congrArg (ak m c) (by congr 1 <;> exact Fin.ext (by simp only; omega))
  · intro n y e
    refine (blk5 m c t _ _ _).trans ((packV_at _ _ _ _ e).trans (Eq.trans ?_ (hv _)))
    exact congrArg (av m c) (by congr 1 <;> exact Fin.ext (by simp only; omega))
  · intro n y
    exact (blk5 m c t _ _ _).trans (packV_one _ _ _ _)
  · rw [blk1 m c t, packLam_at]
    simp only [blk2 m c t]
    rfl

/-- A result by its token and lane. -/
theorem resAt_of (xq xk : FVec Ideal S4x8192x4x2x64 .f32) (xv : FVec Ideal S4x8192x4x128 .f32) (lam : EReal) (g : FVec Ideal S128 .f32)
    {b : Fin 4} {s : Fin 8192} {h : Fin 4} {e : Fin 128} {T : Fin 32768} {l : Fin 512} (hb : T.val / 8192 = b.val) (hs : T.val % 8192 = s.val)
    (hh : l.val / 128 = h.val) (he : l.val % 128 = e.val) : normAt xq xk xv b s h lam (fun e => g (ix1 e)) e = resAt xq xk xv lam g T l := by
  unfold resAt
  rw [show (⟨T.val / 8192, by omega⟩ : Fin 4) = b from Fin.ext hb, show (⟨T.val % 8192, by omega⟩ : Fin 8192) = s from Fin.ext hs,
    show (⟨l.val / 128, by omega⟩ : Fin 4) = h from Fin.ext hh, show (⟨l.val % 128, by omega⟩ : Fin 128) = e from Fin.ext he]

include hq hk hv in
/-- The output array after the run. -/
theorem final : (dats m 0 c).arrAt 6 (cfgs 0).N
    = fun i : S32768x512.Idx => resAt (aq m c) (ak m c) (av m c) (lamOf (al m c 0) (al m c 1) (al m c 2) (al m c 3)) (ag m c) (i 0) (i 1) := by
  refine (dats m 0 c).arrAt_eq_of_covers 6 _ (by decide +kernel) fun t _ y => ?_
  blk_simp
  rw [after0_6]
  have ht := lt_t t
  obtain ⟨y0, y1, rfl⟩ : ∃ (y0 : Fin 1024) (y1 : Fin 128), y = ix2 y0 y1 := ⟨y 0, y 1, eq_ix2 y⟩
  refine (point m c hq hk hv t y0 y1).trans (resAt_of _ _ _ _ _ ?_ ?_ ?_ ?_)
  all_goals blk_simp [idx t]
  all_goals (try simp only)
  all_goals omega

end Cert.KernelIdeal.Gen

end
-- ==== Proof.RefValue.lean ====
module

public import proofs.«01_k».proof.Proof.Gen.ReferenceIdeal.Run
public import proofs.«01_k».proof.Proof.KernelValue

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Cert.KernelIdeal.Gen (score att diffAt normAt resAt lamOf mean coe_sum ref_weight ref_mean)

/-! The reference's result, stage by stage. -/

variable (xq xk : FVec Ideal S4x8192x4x2x64 .f32) (xv : FVec Ideal S4x8192x4x128 .f32) (a b c d : FVec Ideal S64 .f32) (g : FVec Ideal S128 .f32)

/-- The scaled scores. -/
def refS : FVec Ideal S4x4x2x8192x8192 .f32 :=
  mulf (Host.dotGeneral dot_S4x8192x4x2x64_S4x8192x4x2x64_S4x4x2x8192x8192_4_4_1_1_023_023 none xq xk)
    (broadcastInDim S4x4x2x8192x8192 ![] bcast_S_S4x4x2x8192x8192 (constant S_ .f32 0x3E000000#32))

/-- A row's largest score. -/
def refM (s : FVec Ideal S4x4x2x8192x8192 .f32) : FVec Ideal S4x4x2x8192 .f32 :=
  maximumf (broadcastInDim S4x4x2x8192 ![] bcast_S_S4x4x2x8192 (constant S_ .f32 0xFF800000#32))
    (Host.reduce FloatOps.maximumf s (constant S_ .f32 0xFF800000#32) reducesTo_S4x4x2x8192x8192_S4x4x2x8192_d4 h_S_)

/-- Their exponentials, the row's largest score taken off. -/
def refE (s : FVec Ideal S4x4x2x8192x8192 .f32) : FVec Ideal S4x4x2x8192x8192 .f32 :=
  Host.exp (subf s (broadcastInDim S4x4x2x8192x8192 ![0, 1, 2, 3, 4] bcast_S4x4x2x8192x1_S4x4x2x8192x8192_0_1_2_3_4
    (broadcastInDim S4x4x2x8192x1 ![0, 1, 2, 3] bcast_S4x4x2x8192_S4x4x2x8192x1_0_1_2_3 (refM s))))

/-- The softmax. -/
def refP (e : FVec Ideal S4x4x2x8192x8192 .f32) : FVec Ideal S4x4x2x8192x8192 .f32 :=
  Host.divf e (broadcastInDim S4x4x2x8192x8192 ![0, 1, 2, 3, 4] bcast_S4x4x2x8192x1_S4x4x2x8192x8192_0_1_2_3_4
    (broadcastInDim S4x4x2x8192x1 ![0, 1, 2, 3] bcast_S4x4x2x8192_S4x4x2x8192x1_0_1_2_3
      (Host.reduceAdd e (constant S_ .f32 0x00000000#32) reducesTo_S4x4x2x8192x8192_S4x4x2x8192_d4 h_S_)))

/-- The mixing coefficient. -/
def refLam : FVec Ideal S_ .f32 :=
  addf (subf (Host.exp (Host.reduceAdd (mulf a b) (constant S_ .f32 0x00000000#32) reducesTo_S64_S_d0 h_S_))
    (Host.exp (Host.reduceAdd (mulf c d) (constant S_ .f32 0x00000000#32) reducesTo_S64_S_d0 h_S_))) (constant S_ .f32 0x3E4CCCCD#32)

/-- The attention with the difference of the two maps' softmaxes. -/
def refA (p : FVec Ideal S4x4x2x8192x8192 .f32) (l : FVec Ideal S_ .f32) : FVec Ideal S4x8192x4x128 .f32 :=
  transpose S4x8192x4x128 [0, 3, 1, 2] (Host.dotGeneral dot_S4x8192x4x128_S4x4x8192x8192_S4x4x128x8192_1_3_3_2_02_01 none xv
    (subf (shapeCast S4x4x8192x8192 (extractStridedSlice S4x4x1x8192x8192 ![0, 0, 0, 0, 0] p slices_S4x4x2x8192x8192_S4x4x1x8192x8192_0_0_0_0_0) shapeCasts_S4x4x1x8192x8192_S4x4x8192x8192)
      (mulf (broadcastInDim S4x4x8192x8192 ![] bcast_S_S4x4x8192x8192 l)
        (shapeCast S4x4x8192x8192 (extractStridedSlice S4x4x1x8192x8192 ![0, 0, 1, 0, 0] p slices_S4x4x2x8192x8192_S4x4x1x8192x8192_0_0_1_0_0) shapeCasts_S4x4x1x8192x8192_S4x4x8192x8192))))
    transposes_S4x4x128x8192_S4x8192x4x128_0_3_1_2

/-- The sub-norm and the result's shape. -/
def refN (o : FVec Ideal S4x8192x4x128 .f32) : FVec Ideal S32768x512 .bf16 :=
  truncf .bf16 (shapeCast S32768x512 (mulf (mulf (mulf o (broadcastInDim S4x8192x4x128 ![0, 1, 2, 3] bcast_S4x8192x4x1_S4x8192x4x128_0_1_2_3
    (Host.rsqrt (addf (Host.divf (broadcastInDim S4x8192x4x1 ![0, 1, 2] bcast_S4x8192x4_S4x8192x4x1_0_1_2
        (Host.reduceAdd (mulf o o) (constant S_ .f32 0x00000000#32) reducesTo_S4x8192x4x128_S4x8192x4_d3 h_S_))
        (broadcastInDim S4x8192x4x1 ![] bcast_S_S4x8192x4x1 (constant S_ .f32 0x43000000#32)))
      (broadcastInDim S4x8192x4x1 ![] bcast_S_S4x8192x4x1 (constant S_ .f32 0x3727C5AC#32))))))
    (broadcastInDim S4x8192x4x128 ![0, 1, 2, 3] bcast_S1x1x1x128_S4x8192x4x128_0_1_2_3 (broadcastInDim S1x1x1x128 ![3] bcast_S128_S1x1x1x128_3 g)))
    (broadcastInDim S4x8192x4x128 ![] bcast_S_S4x8192x4x128 (constant S_ .f32 0x3F4CCCCD#32))) shapeCasts_S4x8192x4x128_S32768x512) bitsLt_bf16_f32

/-- The run's term is these stages. -/
theorem res_eq (m : (ℓ : Loc nD τ sig) → Buf (Elt Ideal) ℓ) (t : Dev nD) : res_main_v47 m t
    = refN (m ((t.tc : Thread nD τ).loc main_arg9)) (refA (m ((t.tc : Thread nD τ).loc main_arg2))
        (refP (refE (refS (m ((t.tc : Thread nD τ).loc main_arg0)) (m ((t.tc : Thread nD τ).loc main_arg1)))))
        (refLam (m ((t.tc : Thread nD τ).loc main_arg5)) (m ((t.tc : Thread nD τ).loc main_arg6)) (m ((t.tc : Thread nD τ).loc main_arg7))
          (m ((t.tc : Thread nD τ).loc main_arg8)))) := rfl

/-! The stages at coordinates. -/

variable (B : Fin 4) (h : Fin 4) (j : Fin 2) (s T : Fin 8192) (e : Fin 128)

theorem eighth : Ideal.ofBits .f32 0x3E000000#32 = ((8⁻¹ : ℝ) : EReal) := by
  simp [Ideal.ofBits, Ideal.ieee, -EReal.coe_mul]
  norm_num

theorem neg_inf : Ideal.ofBits .f32 0xFF800000#32 = ⊥ := by
  simp [Ideal.ofBits, Ideal.ieee]

theorem refS_at (hq : ∀ i, xq i = ((EReal.toReal (xq i) : ℝ) : EReal)) (hk : ∀ i, xk i = ((EReal.toReal (xk i) : ℝ) : EReal)) :
    refS xq xk (ix5 B h j s T) = ((score xq xk B s h j T : ℝ) : EReal) := by
  pointwise [refS]
  rw [eighth, score, div_eq_mul_inv, EReal.coe_mul, coe_sum]
  refine congrArg (· * _) (Finset.sum_congr rfl fun d _ => ?_)
  rw [EReal.coe_mul, ← hq, ← hk]

theorem rowmax (x : FVec Ideal S4x4x2x8192x8192 .f32) :
    Host.reduce FloatOps.maximumf x (constant S_ .f32 0xFF800000#32) reducesTo_S4x4x2x8192x8192_S4x4x2x8192_d4 h_S_ (ix4 B h j s)
      = Finset.univ.fold max (Ideal.ofBits .f32 0xFF800000#32) fun U : Fin 8192 => (x (ix5 B h j s U) : EReal) := by
  pointwise

theorem max_at {s : Shape} (a b : FVec Ideal s .f32) (i : s.Idx) : maximumf a b i = max (a i : EReal) (b i) := rfl

theorem refM_at (x : FVec Ideal S4x4x2x8192x8192 .f32) : refM x (ix4 B h j s)
    = Finset.univ.fold max (⊥ : EReal) fun U : Fin 8192 => (x (ix5 B h j s U) : EReal) := by
  unfold refM
  rw [max_at, rowmax, neg_inf]
  exact max_eq_right (le_of_eq_of_le neg_inf bot_le)

theorem refE_at (x : FVec Ideal S4x4x2x8192x8192 .f32) : refE x (ix5 B h j s T)
    = Ideal.exp (x (ix5 B h j s T) - refM x (ix4 B h j s)) := by
  pointwise [refE]

theorem refP_at (x : FVec Ideal S4x4x2x8192x8192 .f32) : refP x (ix5 B h j s T)
    = Ideal.div (x (ix5 B h j s T)) (∑ U : Fin 8192, (x (ix5 B h j s U) : EReal)) := by
  pointwise [refP]

/-- The softmax of real scores. -/
theorem weight_at (x : FVec Ideal S4x4x2x8192x8192 .f32) (f : Fin 8192 → ℝ) (hx : ∀ T, x (ix5 B h j s T) = ((f T : ℝ) : EReal)) :
    refP (refE x) (ix5 B h j s T) = ((Real.exp (f T) / ∑ U, Real.exp (f U) : ℝ) : EReal) := by
  rw [refP_at]
  simp only [refE_at, refM_at, hx]
  exact ref_weight f T

theorem refLam_at (z : S_.Idx) : refLam a b c d z = lamOf a b c d := by
  pointwise [refLam, lamOf]

theorem refA_at (p : FVec Ideal S4x4x2x8192x8192 .f32) (l : FVec Ideal S_ .f32) : refA xv p l (ix4 B s h e)
    = ∑ T : Fin 8192, (xv (ix4 B T h e) : EReal) * (p (ix5 B h 0 s T) - l ix0 * p (ix5 B h 1 s T)) := by
  pointwise [refA]

theorem refN_at (o : FVec Ideal S4x8192x4x128 .f32) (R : Fin 32768) (l : Fin 512) : refN g o (ix2 R l)
    = (o (ix4 (⟨R.val / 8192, by omega⟩ : Fin 4) (⟨R.val % 8192, by omega⟩ : Fin 8192) (⟨l.val / 128, by omega⟩ : Fin 4) (⟨l.val % 128, by omega⟩ : Fin 128)) : EReal)
      * Ideal.rsqrt (Ideal.div (∑ e' : Fin 128, (o (ix4 (⟨R.val / 8192, by omega⟩ : Fin 4) (⟨R.val % 8192, by omega⟩ : Fin 8192) (⟨l.val / 128, by omega⟩ : Fin 4) e') : EReal)
            * o (ix4 (⟨R.val / 8192, by omega⟩ : Fin 4) (⟨R.val % 8192, by omega⟩ : Fin 8192) (⟨l.val / 128, by omega⟩ : Fin 4) e')) (Ideal.ofBits .f32 0x43000000#32)
          + Ideal.ofBits .f32 0x3727C5AC#32)
      * (g (ix1 (⟨l.val % 128, by omega⟩ : Fin 128)) * Ideal.ofBits .f32 0x3F4CCCCD#32) := by
  pointwise [refN]
  rw [mul_assoc]

/-- The coefficient is a real when the vectors are. -/
theorem lam_real (ha : ∀ i, a i = ((EReal.toReal (a i) : ℝ) : EReal)) (hb : ∀ i, b i = ((EReal.toReal (b i) : ℝ) : EReal))
    (hc : ∀ i, c i = ((EReal.toReal (c i) : ℝ) : EReal)) (hd : ∀ i, d i = ((EReal.toReal (d i) : ℝ) : EReal)) : ∃ l : ℝ, lamOf a b c d = l := by
  have dot : ∀ x y : FVec Ideal S64 .f32, (∀ i, x i = ((EReal.toReal (x i) : ℝ) : EReal)) → (∀ i, y i = ((EReal.toReal (y i) : ℝ) : EReal)) →
      ∑ i : Fin 64, x (ix1 i) * y (ix1 i) = ((∑ i : Fin 64, EReal.toReal (x (ix1 i)) * EReal.toReal (y (ix1 i)) : ℝ) : EReal) := fun x y hx hy => by
    rw [coe_sum]
    exact Finset.sum_congr rfl fun i _ => by rw [EReal.coe_mul, ← hx, ← hy]
  obtain ⟨z, hz⟩ : ∃ z : ℝ, Ideal.ofBits .f32 0x3E4CCCCD#32 = (z : EReal) := by
    simp [Ideal.ofBits, Ideal.ieee, -EReal.coe_mul]
  rw [lamOf, dot a b ha hb, dot c d hc hd, hz, Ideal.exp_coe, Ideal.exp_coe, ← EReal.coe_sub, ← EReal.coe_add]
  exact ⟨_, rfl⟩

/-- The reference's result at a row and a lane. -/
theorem ref_at (hq : ∀ i, xq i = ((EReal.toReal (xq i) : ℝ) : EReal)) (hk : ∀ i, xk i = ((EReal.toReal (xk i) : ℝ) : EReal))
    (hv : ∀ i, xv i = ((EReal.toReal (xv i) : ℝ) : EReal)) (ha : ∀ i, a i = ((EReal.toReal (a i) : ℝ) : EReal))
    (hb : ∀ i, b i = ((EReal.toReal (b i) : ℝ) : EReal)) (hc : ∀ i, c i = ((EReal.toReal (c i) : ℝ) : EReal))
    (hd : ∀ i, d i = ((EReal.toReal (d i) : ℝ) : EReal)) (R : Fin 32768) (l : Fin 512) :
    refN g (refA xv (refP (refE (refS xq xk))) (refLam a b c d)) (ix2 R l) = resAt xq xk xv (lamOf a b c d) g R l := by
  obtain ⟨z, hz⟩ := lam_real a b c d ha hb hc hd
  have hP : ∀ (B h : Fin 4) (j : Fin 2) (s T : Fin 8192), refP (refE (refS xq xk)) (ix5 B h j s T)
      = ((Real.exp (score xq xk B s h j T) / ∑ U, Real.exp (score xq xk B s h j U) : ℝ) : EReal) := fun B h j s T =>
    weight_at B h j s T _ (score xq xk B s h j) fun T => refS_at xq xk B h j s T hq hk
  have hA : ∀ (B h : Fin 4) (s : Fin 8192) (e : Fin 128), refA xv (refP (refE (refS xq xk))) (refLam a b c d) (ix4 B s h e)
      = diffAt xq xk xv B s h (lamOf a b c d) e := fun B h s e => by
    rw [refA_at, refLam_at, hz, diffAt]
    simp only [hP]
    refine Eq.trans (Finset.sum_congr rfl fun T _ => ?_)
      (ref_mean (score xq xk B s h 0) (score xq xk B s h 1) (fun T => EReal.toReal (xv (ix4 B T h e))) z)
    rw [← hv]
  rw [refN_at, resAt, normAt]
  simp only [hA]

end Cert.ReferenceIdeal.Value

end
-- ==== Proof.Finite.lean ====
module

public import proofs.«01_k».proof.Proof.Gen.Pre_finite
public import Idealize.ShloMosaic.Lib.ReduceAll
public import Idealize.ShloMosaic.Lib.Pointwise

@[expose] public section

set_option maxRecDepth 16384

noncomputable section

namespace Cert.Pre_finite.Gen

open Idealize.ShloMosaic Idealize.SL.Sem Cert.Pre_finite

/-! What the precondition says: every element of the arrays it names is a real. -/

theorem inf_top : Ideal.ofBits .f32 0x7F800000#32 = ⊤ := by
  simp [Ideal.ofBits, Ideal.ieee]

/-- An extended real below infinity in size is a real. -/
theorem real_of_abs {x : EReal} (h : Ideal.cmp .olt (max x (-x)) ⊤ = 1) : x = ((EReal.toReal x : ℝ) : EReal) := by
  have h := (Ideal.cmp_olt_eq_one _ _).1 h
  induction x with
  | bot => simp at h
  | top => simp at h
  | coe r => simp

/-- An array whose elements are all below infinity in size is one of reals. -/
theorem reals {s : Shape} {axes : List (Fin s.rank)} (x : FVec Ideal s .f32) (hb : S_.BroadcastsInDim s (![] : Fin 0 → Fin s.rank))
    (h : s.ReducesTo axes S_) (hu : 0 < S_.numel) (z : S_.Idx)
    (e : Host.reduce IntOp.andi (cmpf .olt (Host.absf x) (broadcastInDim s ![] hb (constant S_ .f32 0x7F800000#32))) (constantI S_ 1 1#1) h hu z = 1#1)
    (i : s.Idx) : x i = ((EReal.toReal (x i) : ℝ) : EReal) := by
  have : Subsingleton S_.Idx := ⟨fun a b => funext fun k => k.elim0⟩
  have e := Host.reduce_andi_all _ _ h hu z e i
  refine real_of_abs (Eq.trans ?_ e)
  rw [← inf_top]
  rfl

theorem and_one {a b : BitVec 1} (h : IntOp.andi a b = 1#1) : a = 1#1 ∧ b = 1#1 := by
  revert a b
  decide

/-- The precondition, array by array. -/
theorem finite_reals {x0 x1 : FVec Ideal S4x8192x4x2x64 .f32} {x2 : FVec Ideal S4x8192x4x128 .f32} {x3 x4 x5 x6 x7 x8 : FVec Ideal S64 .f32}
    {x9 : FVec Ideal S128 .f32} (h : fn (F := Ideal) x0 x1 x2 x3 x4 x5 x6 x7 x8 x9 = fun _ => 1#1) :
    (∀ i, x0 i = ((EReal.toReal (x0 i) : ℝ) : EReal)) ∧ (∀ i, x1 i = ((EReal.toReal (x1 i) : ℝ) : EReal))
    ∧ (∀ i, x2 i = ((EReal.toReal (x2 i) : ℝ) : EReal)) ∧ (∀ i, x5 i = ((EReal.toReal (x5 i) : ℝ) : EReal))
    ∧ (∀ i, x6 i = ((EReal.toReal (x6 i) : ℝ) : EReal)) ∧ (∀ i, x7 i = ((EReal.toReal (x7 i) : ℝ) : EReal))
    ∧ (∀ i, x8 i = ((EReal.toReal (x8 i) : ℝ) : EReal)) := by
  have h := congrFun h ix0
  obtain ⟨h, e8⟩ := and_one h
  obtain ⟨h, e7⟩ := and_one h
  obtain ⟨h, e6⟩ := and_one h
  obtain ⟨h, e5⟩ := and_one h
  obtain ⟨h, e2⟩ := and_one h
  obtain ⟨e0, e1⟩ := and_one h
  exact ⟨reals x0 _ _ _ _ e0, reals x1 _ _ _ _ e1, reals x2 _ _ _ _ e2, reals x5 _ _ _ _ e5, reals x6 _ _ _ _ e6, reals x7 _ _ _ _ e7,
    reals x8 _ _ _ _ e8⟩

end Cert.Pre_finite.Gen

end
-- ==== Proof.GqaFrame.lean ====
module

public import proofs.«01_k».proof.Proof.Gen.Gqa.Frame
public import proofs.«01_k».proof.Proof.Gen.Gqa.Skeleton
public import proofs.«01_k».proof.Proof.Gen.Gqa.Loops
public import Idealize.ShloMosaic.Lib.Claim

@[expose] public section

set_option maxRecDepth 16384

noncomputable section

namespace Cert.Gqa.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The kernel over words runs and leaves its arguments: nothing is said of what it writes. -/

/-- The conditions of the body's two branches, over the flag word it reads. -/
abbrev cond0_0 (i : grid0.Coords) (v26 : BitVec 32) : Prop := (Scalar.cmpi .ne (Scalar.extui (Scalar.cmpi .eq v26 1#32)) 0#32) = 1#1
abbrev cond0_1 (i : grid0.Coords) (v30 : BitVec 32) : Prop := (Scalar.cmpi .ne (Scalar.extui (Scalar.cmpi .eq v30 0#32)) 0#32) = 1#1

/-- Each window's staging memref at a point, and the scratch. -/
abbrev ms0_0 (t : Fin cfg0.N) : Memref sig .tc .smem S1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x128x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x144x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x512 .bf16 := win0_4.stage (cfg0.slots t 4)
abbrev hs0_4 (t : Fin cfg0.N) : (ms0_4 t).IsWhole := hstage0_4 ((cfg0.slots t 4).cast nbuf0_4)
abbrev scM0_0 : Memref sig .tc .vmem S1x2048 .f32 := Memref.whole cc0_scratch0
abbrev scM0_1 : Memref sig .tc .vmem S144x2048 .f32 := Memref.whole cc0_scratch1

/-- The invariant between points: the two scratch buffers at some contents, and the generator's register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

set_option maxHeartbeats 4000000 in
/-- The body runs whatever the flag is: the inputs stay, the output and the scratch end at something. -/
theorem run_any (c : Dev nD) (i : grid0.Coords) (arg2 : Memref sig .tc .smem S1 .i32) (harg2 : arg2.IsWhole) (arg3 : Memref sig .tc .vmem S2x128x1024 .bf16) (harg3 : arg3.IsWhole) (arg4 : Memref sig .tc .vmem S8192x128 .bf16) (harg4 : arg4.IsWhole) (arg5 : Memref sig .tc .vmem S16x144x512 .bf16) (harg5 : arg5.IsWhole) (arg6 : Memref sig .tc .vmem S256x512 .bf16) (harg6 : arg6.IsWhole) (arg7 : Memref sig .tc .vmem S1x2048 .f32) (harg7 : arg7.IsWhole) (arg8 : Memref sig .tc .vmem S144x2048 .f32) (harg8 : arg8.IsWhole)
    (x0 : Vec F S1 .i32) (x3 : Vec F S2x128x1024 .bf16) (x4 : Vec F S8192x128 .bf16) (x5 : Vec F S16x144x512 .bf16) :
      ∀ (E : Set ℕ) (K : PUnit → sProp 𝕄),
        iprop(owns (c : Thread nD τ) arg2 fullShare x0 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_gqa_attn i arg2 harg2 arg3 harg3 arg4 harg4 arg5 harg5 arg6 harg6 arg7 harg7 arg8 harg8) K := by
    intro E K
    simp only [cc0_gqa_attn_eq_skeleton]; unfold cc0_gqa_attn_skel
    simp only [k0_part10_eq_skeleton, k0_part1_eq_skeleton, k0_part2_eq_skeleton, k0_part3_eq_skeleton, k0_part4_eq_skeleton, k0_part11_eq_skeleton, k0_part12_eq_skeleton]
    unfold owns
    iintro ⟨⟨%f0, %hf0, H0⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
    obtain rfl := harg2.eq_unread hf0; obtain rfl := harg3.eq_unread hf3; obtain rfl := harg4.eq_unread hf4; obtain rfl := harg5.eq_unread hf5
    by_cases hc0 : cond0_0 i (arg2.view.readAt (Elt F) (Rect.unit (s := S1) ![0] S1.size inb_S1_S1_0).toLoadRect (harg2.unread x0) (Shape.Idx.first (numel1_S1.symm ▸ Nat.one_pos))) <;>
    by_cases hc1 : cond0_1 i (arg2.view.readAt (Elt F) (Rect.unit (s := S1) ![0] S1.size inb_S1_S1_0).toLoadRect (harg2.unread x0) (Shape.Idx.first (numel1_S1.symm ▸ Nat.one_pos)))
    all_goals
      sl_exec (disch := first | sl_exact hc0 | sl_exact hc1)
      sl_step
      iapply Hk
      isplitl [H0]
      · iexists _; isplitr; · ipureintro; exact harg2.read_unread _
        iexact H0
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _, _; isplitr; swap; · iexact H6
        ipureintro; rfl
      isplitl [HS0]
      · iexists _, _; isplitr; swap; · iexact HS0
        ipureintro; rfl
      iexists _, _; isplitr; swap; · iexact HS1
      ipureintro; rfl

variable (m : (ℓ : Loc nD τ sig) → Buf (Elt F) ℓ) (ρ : Dev nD → PrngReg)
/-- Of window 4, the output, nothing is said. -/
def forgets0 : Fin 5 → Bool := fun w => w.val == 4

/-- The proof data: the arrays as the region finds them, each input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

/-- Its arrays. -/
theorem A_eq (c : Dev nD) (w : Fin cfg0.W) : (dats m 0 c).A w = V m c (Pipeline.arrRef spec0 w) := by
  dsimp only [dats]

/-- What the body leaves in the inputs' buffers, -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- and what it finds there. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨⟨HS0, HS1⟩, Hg⟩, Ho, ⟨%d0, H0⟩, ⟨%d3, H3⟩, ⟨%d4, H4⟩, ⟨%d5, H5⟩, ⟨%d6, H6⟩⟩
  iapply ((run_any c (grid0.coords t) _ _ _ _ _ _ _ _ _ _ _ _ _ _ (iblk m c 0 t) (iblk m c 1 t) (iblk m c 2 t) (iblk m c 3 t)) Set.univ _)
  isplitl [H0]; · iexact H0
  isplitl [H3]; · iexact H3
  isplitl [H4]; · iexact H4
  isplitl [H5]; · iexact H5
  isplitl [H6]; · iexists _; iexact H6
  isplitl [HS0]; · iexact HS0
  isplitl [HS1]; · iexact HS1
  iintro ⟨H0, H3, H4, H5, H6, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H3]; · iexact H3
  isplitl [H4]; · iexact H4
  isplitl [H5]; · iexact H5
  iexact H6

/-- The table's row at a point is the body. -/
theorem defs₀_row (t : Fin cfg0.N) :
    defs₀ (F := F) .tc cfg0.body (cfg0.bodyArgs t (cfg0.slots t)) = bodyAt0 t := by
  unfold defs₀; rw [Defs.onTc_tc]

/-- The body obligation. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The run, with every counter at zero at its end. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

/-- The arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Gqa.Gen

end
-- ==== Proof.GqaHost.lean ====
module

public import proofs.«01_k».proof.Proof.Gen.GqaIdeal.Frame
public import Idealize.ShloMosaic.Lib.Claim
public import Idealize.ShloMosaic.Lib.Pipeline.ValueKit
public import Idealize.ShloMosaic.Lib.Pointwise

@[expose] public section

set_option maxRecDepth 16384

noncomputable section

namespace Cert.GqaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The arrays the host code packs for the launch. -/

theorem concat2_congr {T : EltTy} {t sa sb : Shape} {d : Fin t.rank} {A A' : sa.Idx → Elt Ideal T} {B B' : sb.Idx → Elt Ideal T} {h}
    (hA : A = A') (hB : B = B') : concatenate t d [⟨sa, A⟩, ⟨sb, B⟩] h = concatenate t d [⟨sa, A'⟩, ⟨sb, B'⟩] h := by
  subst hA hB
  rfl

/-- The zeros beside each group's queries. -/
abbrev zeroQ : FVec Ideal S256x128x4x64 .f32 := broadcastInDim S256x128x4x64 ![] bcast_S_S256x128x4x64 (constant S_ .f32 0x00000000#32)

/-- The queries in tiles of 128 tokens. -/
abbrev tileQ (x : FVec Ideal S4x8192x2x4x64 .f32) : FVec Ideal S256x128x2x4x64 .f32 := shapeCast S256x128x2x4x64 x shapeCasts_S4x8192x2x4x64_S256x128x2x4x64

/-- Group 0's queries in lanes 0 to 63 of their columns. -/
abbrev padQ0 (x : FVec Ideal S4x8192x2x4x64 .f32) : FVec Ideal S256x128x4x128 .f32 :=
  transpose S256x128x4x128 [0, 3, 2, 1] (concatenate S256x128x4x128 3
    [⟨S256x128x4x64, shapeCast S256x128x4x64 (extractStridedSlice S256x128x1x4x64 ![0, 0, 0, 0, 0] (tileQ x) slices_S256x128x2x4x64_S256x128x1x4x64_0_0_0_0_0) shapeCasts_S256x128x1x4x64_S256x128x4x64⟩,
      ⟨S256x128x4x64, zeroQ⟩] concatenates_S256x128x4x64_S256x128x4x64_S256x128x4x128_d3) transposes_S256x128x4x128_S256x128x4x128_0_3_2_1

/-- Group 1's queries in lanes 64 to 127 of their columns. -/
abbrev padQ1 (x : FVec Ideal S4x8192x2x4x64 .f32) : FVec Ideal S256x128x4x128 .f32 :=
  transpose S256x128x4x128 [0, 3, 2, 1] (concatenate S256x128x4x128 3
    [⟨S256x128x4x64, zeroQ⟩,
      ⟨S256x128x4x64, shapeCast S256x128x4x64 (extractStridedSlice S256x128x1x4x64 ![0, 0, 1, 0, 0] (tileQ x) slices_S256x128x2x4x64_S256x128x1x4x64_0_0_1_0_0) shapeCasts_S256x128x1x4x64_S256x128x4x64⟩]
    concatenates_S256x128x4x64_S256x128x4x64_S256x128x4x128_d3) transposes_S256x128x4x128_S256x128x4x128_0_3_2_1

/-- The eight heads' columns beside each other. -/
abbrev colsQ (x : FVec Ideal S4x8192x2x4x64 .f32) : FVec Ideal S256x128x8x128 .f32 :=
  concatenate S256x128x8x128 2 [⟨S256x128x4x128, padQ0 x⟩, ⟨S256x128x4x128, padQ1 x⟩] concatenates_S256x128x4x128_S256x128x4x128_S256x128x8x128_d2

/-- The queries as packed. -/
def packQ (x : FVec Ideal S4x8192x2x4x64 .f32) : FVec Ideal S256x256x1024 .bf16 :=
  truncf .bf16 (concatenate S256x256x1024 1 [⟨S256x128x1024, shapeCast S256x128x1024 (colsQ x) shapeCasts_S256x128x8x128_S256x128x1024⟩,
    ⟨S256x128x1024, broadcastInDim S256x128x1024 ![] bcast_S_S256x128x1024 (constant S_ .f32 0x00000000#32)⟩]
    concatenates_S256x128x1024_S256x128x1024_S256x256x1024_d1) bitsLt_bf16_f32

/-- The keys as packed. -/
def packK (x : FVec Ideal S4x8192x2x64 .f32) : FVec Ideal S32768x256 .bf16 :=
  truncf .bf16 (concatenate S32768x256 1 [⟨S32768x128, shapeCast S32768x128 x shapeCasts_S4x8192x2x64_S32768x128⟩,
    ⟨S32768x128, broadcastInDim S32768x128 ![] bcast_S_S32768x128 (constant S_ .f32 0x00000000#32)⟩]
    concatenates_S32768x128_S32768x128_S32768x256_d1) bitsLt_bf16_f32

/-- The rows below the values: ones, then zeros. -/
abbrev onesV : FVec Ideal S64x16x512 .f32 :=
  select (cmpi .eq (iotaInDim S64x16x512 32 1) (broadcastInDim S64x16x512 ![] bcast_S_S64x16x512 (constantI S_ 32 0#32)))
    (broadcastInDim S64x16x512 ![] bcast_S_S64x16x512 (constant S_ .f32 0x3F800000#32))
    (broadcastInDim S64x16x512 ![] bcast_S_S64x16x512 (constant S_ .f32 0x00000000#32))

/-- The values as packed. -/
def packV (x : FVec Ideal S4x8192x2x64 .f32) : FVec Ideal S64x144x512 .bf16 :=
  truncf .bf16 (concatenate S64x144x512 1
    [⟨S64x128x512, transpose S64x128x512 [0, 2, 1] (shapeCast S64x512x128 x shapeCasts_S4x8192x2x64_S64x512x128) transposes_S64x512x128_S64x128x512_0_2_1⟩,
      ⟨S64x16x512, onesV⟩] concatenates_S64x128x512_S64x16x512_S64x144x512_d1) bitsLt_bf16_f32

variable (m : (ℓ : Loc nD τ sig) → Buf (Elt Ideal) ℓ)

theorem flag_at (z : IVec S_ 1) : shapeCast S1 (extui 32 z natLt_1_32) shapeCasts_S_S1 (ix1 0) = 1#32
    ∨ shapeCast S1 (extui 32 z natLt_1_32) shapeCasts_S_S1 (ix1 0) = 0#32 := by
  have h : ∀ w : BitVec 1, w.zeroExtend 32 = 1#32 ∨ w.zeroExtend 32 = 0#32 := by decide
  exact h _

theorem flag_cases (c : Dev nD) : (V m c main_v36 : Vec Ideal S1 .i32) (ix1 0) = 1#32 ∨ (V m c main_v36 : Vec Ideal S1 .i32) (ix1 0) = 0#32 := by
  simp only [V, hostOps0, hostOps0_1, hostOps0_2, List.flatten_cons, List.flatten_nil, List.append_nil, List.cons_append, List.nil_append]
  after_results_simp
  exact flag_at _

theorem packQ_eq (c : Dev nD) : V m c main_v14 = packQ (m ((c : Thread nD τ).loc main_arg0)) := by
  simp only [V, hostOps0, hostOps0_1, hostOps0_2, List.flatten_cons, List.flatten_nil, List.append_nil, List.cons_append, List.nil_append]
  after_results_simp
  refine congrArg (fun z => truncf (F := Ideal) .bf16 z bitsLt_bf16_f32) (concat2_congr ?_ ?_)
  · after_results_simp
    refine congrArg (fun z => shapeCast S256x128x1024 z shapeCasts_S256x128x8x128_S256x128x1024) (concat2_congr ?_ ?_)
    · after_results_simp
      refine congrArg (fun z => transpose S256x128x4x128 [0, 3, 2, 1] z transposes_S256x128x4x128_S256x128x4x128_0_3_2_1) (concat2_congr ?_ ?_)
      · after_results_simp
        rfl
      · after_results_simp
    · after_results_simp
      refine congrArg (fun z => transpose S256x128x4x128 [0, 3, 2, 1] z transposes_S256x128x4x128_S256x128x4x128_0_3_2_1) (concat2_congr ?_ ?_)
      · after_results_simp
      · after_results_simp
        rfl
  · after_results_simp

theorem packK_eq (c : Dev nD) : V m c main_v18 = packK (m ((c : Thread nD τ).loc main_arg1)) := by
  simp only [V, hostOps0, hostOps0_1, hostOps0_2, List.flatten_cons, List.flatten_nil, List.append_nil, List.cons_append, List.nil_append]
  after_results_simp
  refine congrArg (fun z => truncf (F := Ideal) .bf16 z bitsLt_bf16_f32) (concat2_congr ?_ ?_)
  · after_results_simp
    rfl
  · after_results_simp

theorem packV_eq (c : Dev nD) : V m c main_v27 = packV (m ((c : Thread nD τ).loc main_arg2)) := by
  simp only [V, hostOps0, hostOps0_1, hostOps0_2, List.flatten_cons, List.flatten_nil, List.append_nil, List.cons_append, List.nil_append]
  after_results_simp
  refine congrArg (fun z => truncf (F := Ideal) .bf16 z bitsLt_bf16_f32) (concat2_congr ?_ ?_)
  · after_results_simp
    rfl
  · after_results_simp
    rfl

end Cert.GqaIdeal.Gen

end
-- ==== Proof.GqaWords.lean ====
module

public import proofs.«01_k».proof.Proof.Gen.GqaIdeal.Skeleton
public import Idealize.ShloMosaic.Lib.Exec
public import Idealize.ShloMosaic.Lib.Tactic
public import Idealize.ShloMosaic.Lib.Pipeline.Kit
public import Idealize.ShloMosaic.Lib.Pipeline.ValueKit
public import Idealize.ShloMosaic.Lib.Pointwise

@[expose] public section

set_option maxRecDepth 16384

noncomputable section

namespace Cert.GqaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! The two tests the body makes of the flag it is handed. -/

/-- What the body's first conditional asks of the flag word: that it is one. -/
abbrev flagOne (w : BitVec 32) : Prop := (Scalar.cmpi .ne (Scalar.extui (Scalar.cmpi .eq w 1#32)) 0#32) = 1#1
/-- What the second asks: that it is zero. -/
abbrev flagZero (w : BitVec 32) : Prop := (Scalar.cmpi .ne (Scalar.extui (Scalar.cmpi .eq w 0#32)) 0#32) = 1#1

/-- The flag word, read off the contents of its buffer as the body's load spells it. -/
abbrev flagAt (M : Memref sig .tc .smem S1 .i32) (hM : M.IsWhole) (x : Vec F S1 .i32) : BitVec 32 :=
  M.view.readAt (Elt F) (Rect.unit (s := S1) ![0] S1.size inb_S1_S1_0).toLoadRect (hM.unread x) (Shape.Idx.first (numel1_S1.symm ▸ Nat.one_pos))

end Cert.GqaIdeal.Gen

end
-- ==== Proof.GqaCols.lean ====
module

public import proofs.«01_k».proof.Proof.GqaWords

@[expose] public section

set_option maxRecDepth 16384

noncomputable section

namespace Cert.GqaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The online softmax of the slow branch, column by column: a column is one query row of one of the
two maps of a head. -/

/-- The score of key row `r` of block `k` against column `c`. -/
def sc (q : FVec Ideal S128x2048 .bf16) (K : Vec Ideal S8192x128 .bf16) (k : Fin 4) (r c : Fin 2048) : EReal :=
  ∑ d : Fin 128, (K (ix2 (⟨2048 * k.val + r.val, by omega⟩ : Fin 8192) d) : EReal) * q (ix2 d c)

/-- Row `e` of the values at key row `r` of block `k`. -/
def vl (V : Vec Ideal S16x144x512 .bf16) (k : Fin 4) (r : Fin 2048) (e : Fin 144) : EReal :=
  V (ix3 (⟨4 * k.val + r.val / 512, by omega⟩ : Fin 16) e (⟨r.val % 512, by omega⟩ : Fin 512))

/-- The running maximum after `k` blocks. -/
def mSt (q : FVec Ideal S128x2048 .bf16) (K : Vec Ideal S8192x128 .bf16) : ℕ → Fin 2048 → EReal
  | 0 => fun _ => ⊥
  | k + 1 => fun c => if h : k < 4 then max (mSt q K k c) (Finset.univ.fold max ⊥ fun r => sc q K ⟨k, h⟩ r c) else mSt q K k c

/-- The accumulator after `k` blocks. -/
def aSt (q : FVec Ideal S128x2048 .bf16) (K : Vec Ideal S8192x128 .bf16) (V : Vec Ideal S16x144x512 .bf16) :
    ℕ → Fin 144 → Fin 2048 → EReal
  | 0 => fun _ _ => 0
  | k + 1 => fun e c => if h : k < 4 then
      aSt q K V k e c * Ideal.exp2 (mSt q K k c - mSt q K (k + 1) c)
        + ∑ r : Fin 2048, vl V ⟨k, h⟩ r e * Ideal.exp2 (sc q K ⟨k, h⟩ r c - mSt q K (k + 1) c)
      else aSt q K V k e c

theorem mSt_succ (q : FVec Ideal S128x2048 .bf16) (K : Vec Ideal S8192x128 .bf16) (k : Fin 4) (c : Fin 2048) :
    mSt q K (k.val + 1) c = max (mSt q K k.val c) (Finset.univ.fold max ⊥ fun r => sc q K k r c) :=
  dif_pos k.isLt

theorem aSt_succ (q : FVec Ideal S128x2048 .bf16) (K : Vec Ideal S8192x128 .bf16) (V : Vec Ideal S16x144x512 .bf16) (k : Fin 4)
    (e : Fin 144) (c : Fin 2048) :
    aSt q K V (k.val + 1) e c = aSt q K V k.val e c * Ideal.exp2 (mSt q K k.val c - mSt q K (k.val + 1) c)
      + ∑ r : Fin 2048, vl V k r e * Ideal.exp2 (sc q K k r c - mSt q K (k.val + 1) c) :=
  dif_pos k.isLt

end Cert.GqaIdeal.Gen

end
-- ==== Proof.GqaTile.lean ====
module

public import proofs.«01_k».proof.Proof.GqaCols

@[expose] public section

set_option maxRecDepth 16384

noncomputable section

namespace Cert.GqaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! One tile of 256 columns of one trip of the slow branch, read at a column. -/

/-- The scores of a tile: the columns `o, …, o + 255`. -/
abbrev tileS (q : FVec Ideal S128x2048 .bf16) (kb : FVec Ideal S2048x128 .bf16) (o : ℕ) (hs : S128x2048.Slices ![0, o] S128x256) :
    FVec Ideal S2048x256 .f32 :=
  matmul dot_S2048x128_S128x256_S2048x256_1_0_0_1_n_n none kb (extractStridedSlice S128x256 ![0, o] q hs)
    (constant S2048x256 .f32 0x00000000#32)

/-- The new running maximum of a tile whose old one is `w`. -/
abbrev tileM (q : FVec Ideal S128x2048 .bf16) (kb : FVec Ideal S2048x128 .bf16) (o : ℕ) (hs : S128x2048.Slices ![0, o] S128x256)
    (w : FVec Ideal S1x256 .f32) : FVec Ideal S1x256 .f32 :=
  maximumf w (shapeCast S1x256
    (multiReduction .maximumf [0] S256 (tileS q kb o hs) 0xFF800000#32 reduces_S2048x256_S256 (.inl rfl) rfl) shapeCasts_S256_S1x256)

/-- The new accumulator of a tile whose old one is `a`. -/
abbrev tileA (q : FVec Ideal S128x2048 .bf16) (kb : FVec Ideal S2048x128 .bf16) (vv : FVec Ideal S144x2048 .bf16) (o : ℕ)
    (hs : S128x2048.Slices ![0, o] S128x256) (w : FVec Ideal S1x256 .f32) (a : FVec Ideal S144x256 .f32) : FVec Ideal S144x256 .f32 :=
  addf (mulf a (broadcastTo S144x256 (exp2 (subf w (tileM q kb o hs w))) broadcasts_S1x256_S144x256))
    (matmul dot_S144x2048_S2048x256_S144x256_1_0_0_1_n_n none vv
      (truncf .bf16 (exp2 (subf (tileS q kb o hs) (broadcastTo S2048x256 (tileM q kb o hs w) broadcasts_S1x256_S2048x256))) bitsLt_bf16_f32)
      (constant S144x256 .f32 0x00000000#32))

variable {q : FVec Ideal S128x2048 .bf16} {K : Vec Ideal S8192x128 .bf16} {V : Vec Ideal S16x144x512 .bf16} {k : Fin 4}
  {kb : FVec Ideal S2048x128 .bf16} {vv : FVec Ideal S144x2048 .bf16}
  {o : ℕ} {hs : S128x2048.Slices ![0, o] S128x256}

theorem ofBits_negInf : Ideal.ofBits .f32 0xFF800000#32 = (⊥ : EReal) := by
  simp [Ideal.ofBits, Ideal.ieee]

theorem tileS_at (hkb : ∀ r d, (kb (ix2 r d) : EReal) = K (ix2 (⟨2048 * k.val + r.val, by omega⟩ : Fin 8192) d))
    (r : Fin 2048) (x : Fin 256) (C : Fin 2048) (hC : C.val = o + x.val) : tileS q kb o hs (ix2 r x) = sc q K k r C := by
  have hlt : o + x.val < 2048 := hC ▸ C.isLt
  obtain rfl : C = ⟨o + x.val, hlt⟩ := Fin.ext hC
  pointwise [tileS, sc]
  exact Finset.sum_congr rfl fun d _ => by rw [hkb]

theorem tileM_at (hkb : ∀ r d, (kb (ix2 r d) : EReal) = K (ix2 (⟨2048 * k.val + r.val, by omega⟩ : Fin 8192) d))
    (w : FVec Ideal S1x256 .f32) (x : Fin 256) (C : Fin 2048) (hC : C.val = o + x.val) (hw : (w (ix2 0 x) : EReal) = mSt q K k.val C) :
    tileM q kb o hs w (ix2 0 x) = mSt q K (k.val + 1) C := by
  have h : tileM q kb o hs w (ix2 0 x)
      = max (w (ix2 0 x)) (Finset.univ.fold max (Ideal.ofBits .f32 0xFF800000#32) fun r => tileS q kb o hs (ix2 r x)) := by
    generalize hs : tileS q kb o hs = s
    pointwise [tileM, hs]
  rw [h, hw, ofBits_negInf, mSt_succ]
  exact congrArg _ (congrArg (fun f => Finset.univ.fold max ⊥ f) (funext fun r => tileS_at hkb r x C hC))

theorem tileA_at (hkb : ∀ r d, (kb (ix2 r d) : EReal) = K (ix2 (⟨2048 * k.val + r.val, by omega⟩ : Fin 8192) d))
    (hvv : ∀ e r, (vv (ix2 e r) : EReal) = vl V k r e)
    (w : FVec Ideal S1x256 .f32) (a : FVec Ideal S144x256 .f32) (e : Fin 144) (x : Fin 256) (C : Fin 2048) (hC : C.val = o + x.val)
    (hw : (w (ix2 0 x) : EReal) = mSt q K k.val C) (ha : (a (ix2 e x) : EReal) = aSt q K V k.val e C) :
    tileA q kb vv o hs w a (ix2 e x) = aSt q K V (k.val + 1) e C := by
  have hm := tileM_at (hs := hs) hkb w x C hC hw
  have hS := fun r => tileS_at (q := q) (hs := hs) hkb r x C hC
  have h : tileA q kb vv o hs w a (ix2 e x)
      = a (ix2 e x) * Ideal.exp2 (w (ix2 0 x) - tileM q kb o hs w (ix2 0 x))
        + ∑ r : Fin 2048, vv (ix2 e r) * Ideal.exp2 (tileS q kb o hs (ix2 r x) - tileM q kb o hs w (ix2 0 x)) := by
    unfold tileA
    generalize tileM q kb o hs w = m
    generalize tileS q kb o hs = s
    pointwise
    rfl
  rw [h, ha, hw, hm, aSt_succ]
  exact congrArg _ (Finset.sum_congr rfl fun r _ => by rw [hvv, hS])

end Cert.GqaIdeal.Gen

end
-- ==== Proof.GqaPieces.lean ====
module

public import proofs.«01_k».proof.Proof.GqaTile

@[expose] public section

set_option maxRecDepth 16384

noncomputable section

namespace Cert.GqaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The blocks a trip of the slow branch loads and the pieces it writes, at coordinates. -/

/-- The key block a trip loads, at coordinates. -/
theorem keyBlock_at (M : Memref sig .tc .vmem S8192x128 .bf16) (X : BufTy.Contents (Elt Ideal) M.view.ty) (k : Fin 4) (off : Fin 2 → ℕ) (hoff : off = ![2048 * k.val, 0])
    (inb : ∀ a, off a + S2048x128.size a ≤ S8192x128.size a) (r : Fin 2048) (d : Fin 128) :
    (shapeCast S2048x128 (M.view.readAt (Elt Ideal) (Rect.unit (s := S8192x128) off S2048x128.size inb).toLoadRect X) shapeCasts_S2048x128_S2048x128 (ix2 r d) : EReal)
      = M.view.read (Elt Ideal) X (ix2 (⟨2048 * k.val + r.val, by omega⟩ : Fin 8192) d) := by
  subst hoff
  refine (congrFun (shapeCast_self _ shapeCasts_S2048x128_S2048x128) _).trans ?_
  exact View.ld_unit_apply_of (M.view.read (Elt Ideal) X) _ _ inb (ix2 r d) (ix2 (⟨2048 * k.val + r.val, by omega⟩ : Fin 8192) d)
    (by intro a; match a with | 0 => rfl | 1 => simp)

/-- Four value blocks side by side, at coordinates. -/
theorem vcat_at {V : Vec Ideal S16x144x512 .bf16} {k : Fin 4} (g : Fin 4 → Vec Ideal S1x144x512 .bf16) (e : Fin 144) (r : Fin 2048)
    (hg : ∀ j x, (g j (ix3 0 e x) : EReal) = V (ix3 (⟨4 * k.val + j.val, by omega⟩ : Fin 16) e x)) :
    (k0_pay16 (g 0) (g 1) (g 2) (g 3) (ix2 e r) : EReal) = vl V k r e := by
  have hp : ∀ (j : Fin 4) (x : Fin 512), r.val = 512 * j.val + x.val → (g j (ix3 0 e x) : EReal) = vl V k r e := fun j x h => by
    have h1 : (⟨4 * k.val + j.val, by omega⟩ : Fin 16) = ⟨4 * k.val + r.val / 512, by omega⟩ := Fin.ext (by simp only; omega)
    have h2 : x = (⟨r.val % 512, by omega⟩ : Fin 512) := Fin.ext (by simp only; omega)
    rw [hg, vl, ← h1, ← h2]
  pointwise [k0_pay16]
  split_ifs
  all_goals first
    | exact hp 0 ⟨r.val, by omega⟩ (by simp)
    | exact hp 1 ⟨r.val - 512, by omega⟩ (by simp; omega)
    | exact hp 2 ⟨r.val - 512 - 512, by omega⟩ (by simp; omega)
    | exact hp 3 ⟨r.val - 512 - 512 - 512, by omega⟩ (by simp; omega)

/-- A value block loaded from the staged values, at coordinates. -/
theorem valBlock_at (M : Memref sig .tc .vmem S16x144x512 .bf16) (X : BufTy.Contents (Elt Ideal) M.view.ty) (n : Fin 16) (off : Fin 3 → ℕ)
    (hoff : off = ![n.val, 0, 0])
    (inb : ∀ a, off a + S1x144x512.size a ≤ S16x144x512.size a) (e : Fin 144) (x : Fin 512) :
    M.view.readAt (Elt Ideal) (Rect.unit (s := S16x144x512) off S1x144x512.size inb).toLoadRect X (ix3 0 e x)
      = M.view.read (Elt Ideal) X (ix3 n e x) := by
  subst hoff
  exact View.ld_unit_apply_of (M.view.read (Elt Ideal) X) _ _ inb (ix3 0 e x) (ix3 n e x)
      (by intro a; match a with | 0 => rfl | 1 => simp | 2 => simp)

/-- The four value blocks a trip loads, side by side, at coordinates. -/
theorem valBlocks_at (M : Memref sig .tc .vmem S16x144x512 .bf16) (X : BufTy.Contents (Elt Ideal) M.view.ty) (k : Fin 4) (off : Fin 4 → Fin 3 → ℕ)
    (hoff : ∀ j, off j = ![4 * k.val + j.val, 0, 0])
    (inb : ∀ j a, off j a + S1x144x512.size a ≤ S16x144x512.size a) (e : Fin 144) (r : Fin 2048) :
    (k0_pay16 (M.view.readAt (Elt Ideal) (Rect.unit (s := S16x144x512) (off 0) S1x144x512.size (inb 0)).toLoadRect X)
      (M.view.readAt (Elt Ideal) (Rect.unit (s := S16x144x512) (off 1) S1x144x512.size (inb 1)).toLoadRect X)
      (M.view.readAt (Elt Ideal) (Rect.unit (s := S16x144x512) (off 2) S1x144x512.size (inb 2)).toLoadRect X)
      (M.view.readAt (Elt Ideal) (Rect.unit (s := S16x144x512) (off 3) S1x144x512.size (inb 3)).toLoadRect X) (ix2 e r) : EReal)
      = vl (M.view.read (Elt Ideal) X) k r e :=
  vcat_at (fun j => M.view.readAt (Elt Ideal) (Rect.unit (s := S16x144x512) (off j) S1x144x512.size (inb j)).toLoadRect X) e r
    fun j x => valBlock_at M X ⟨4 * k.val + j.val, by omega⟩ (off j) (hoff j) (inb j) e x

/-- One piece the trip writes in the running maximum. -/
theorem pieceM {q : FVec Ideal S128x2048 .bf16} {K : Vec Ideal S8192x128 .bf16} {k : Fin 4} {kb : FVec Ideal S2048x128 .bf16}
    (hkb : ∀ r d, (kb (ix2 r d) : EReal) = K (ix2 (⟨2048 * k.val + r.val, by omega⟩ : Fin 8192) d))
    {M : Memref sig .tc .vmem S1x2048 .f32} {f : BufTy.Contents (Elt Ideal) M.view.ty}
    (hf : ∀ x : Fin 2048, M.view.read (Elt Ideal) f (ix2 (0 : Fin 1) x) = mSt q K k.val x) (X : Fin 2048) (o : ℕ)
    (hs : S128x2048.Slices ![0, o] S128x256) (inb : ∀ a, (![0, o] : Fin 2 → ℕ) a + S1x256.size a ≤ S1x2048.size a) :
    View.TileAt (Val := Elt Ideal) (S := S1x2048) (e := .f32) (ix2 (0 : Fin 1) X) ![0, o] S1x256.size
      (shapeCast S1x256 (tileM q kb o hs (M.view.readAt (Elt Ideal) (Rect.unit (s := S1x2048) ![0, o] S1x256.size inb).toLoadRect f)) shapeCasts_S1x256_S1x256)
      (mSt q K (k.val + 1) X) := by
  intro x hx
  rw [shapeCast_self]
  obtain ⟨x0, x1, rfl⟩ : ∃ (x0 : Fin 1) (x1 : Fin 256), x = ix2 x0 x1 := ⟨x 0, x 1, eq_ix2 x⟩
  obtain rfl : x0 = 0 := Subsingleton.elim _ _
  have hC : X.val = o + x1.val := hx 1
  refine tileM_at hkb _ x1 X hC ((View.ld_unit_apply_of (M.view.read (Elt Ideal) f) _ _ inb (ix2 0 x1) (ix2 (0 : Fin 1) X) hx).trans (hf X))

/-- One piece the trip writes in the accumulator. -/
theorem pieceA {q : FVec Ideal S128x2048 .bf16} {K : Vec Ideal S8192x128 .bf16} {V : Vec Ideal S16x144x512 .bf16} {k : Fin 4}
    {kb : FVec Ideal S2048x128 .bf16} {vv : FVec Ideal S144x2048 .bf16}
    (hkb : ∀ r d, (kb (ix2 r d) : EReal) = K (ix2 (⟨2048 * k.val + r.val, by omega⟩ : Fin 8192) d))
    (hvv : ∀ e r, (vv (ix2 e r) : EReal) = vl V k r e)
    {M : Memref sig .tc .vmem S1x2048 .f32} {f : BufTy.Contents (Elt Ideal) M.view.ty}
    (hf : ∀ x : Fin 2048, M.view.read (Elt Ideal) f (ix2 (0 : Fin 1) x) = mSt q K k.val x)
    {A : Memref sig .tc .vmem S144x2048 .f32} {g : BufTy.Contents (Elt Ideal) A.view.ty}
    (hg : ∀ (e : Fin 144) (x : Fin 2048), A.view.read (Elt Ideal) g (ix2 e x) = aSt q K V k.val e x) (e : Fin 144) (X : Fin 2048) (o : ℕ)
    (hs : S128x2048.Slices ![0, o] S128x256) (inb : ∀ a, (![0, o] : Fin 2 → ℕ) a + S1x256.size a ≤ S1x2048.size a)
    (inb' : ∀ a, (![0, o] : Fin 2 → ℕ) a + S144x256.size a ≤ S144x2048.size a) :
    View.TileAt (Val := Elt Ideal) (S := S144x2048) (e := .f32) (ix2 e X) ![0, o] S144x256.size
      (shapeCast S144x256 (tileA q kb vv o hs (M.view.readAt (Elt Ideal) (Rect.unit (s := S1x2048) ![0, o] S1x256.size inb).toLoadRect f)
        (A.view.readAt (Elt Ideal) (Rect.unit (s := S144x2048) ![0, o] S144x256.size inb').toLoadRect g)) shapeCasts_S144x256_S144x256)
      (aSt q K V (k.val + 1) e X) := by
  intro x hx
  rw [shapeCast_self]
  obtain ⟨x0, x1, rfl⟩ : ∃ (x0 : Fin 144) (x1 : Fin 256), x = ix2 x0 x1 := ⟨x 0, x 1, eq_ix2 x⟩
  obtain rfl : x0 = e := Fin.ext ((hx 0).trans (Nat.zero_add _)).symm
  have hC : X.val = o + x1.val := hx 1
  have h0 : ∀ a, ((ix2 (0 : Fin 1) X : S1x2048.Idx) a : ℕ) = (![0, o] : Fin 2 → ℕ) a + ((ix2 (0 : Fin 1) x1 : S1x256.Idx) a : ℕ) := by
    intro a; match a with | 0 => rfl | 1 => exact hC
  exact tileA_at hkb hvv _ _ x0 x1 X hC
    ((View.ld_unit_apply_of (M.view.read (Elt Ideal) f) _ _ inb (ix2 0 x1) (ix2 (0 : Fin 1) X) h0).trans (hf X))
    ((View.ld_unit_apply_of (A.view.read (Elt Ideal) g) _ _ inb' (ix2 x0 x1) (ix2 x0 X) hx).trans (hg x0 X))

end Cert.GqaIdeal.Gen

end
-- ==== Proof.GqaFast.lean ====
module

public import proofs.«01_k».proof.Proof.GqaPieces

@[expose] public section

set_option maxRecDepth 16384

noncomputable section

namespace Cert.GqaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The fast branch's sums, column by column: weights `2^s` with no running maximum. -/

/-- The weighted sum of lane `e` of the values in column `c`. -/
def fP (q : FVec Ideal S128x2048 .bf16) (K : Vec Ideal S8192x128 .bf16) (V : Vec Ideal S16x144x512 .bf16) (e : Fin 128) (c : Fin 2048) : EReal :=
  ∑ k : Fin 4, ∑ r : Fin 2048, vl V k r ⟨e.val, by omega⟩ * Ideal.exp2 (sc q K k r c)

/-- The sum of the weights of column `c`. -/
def fL (q : FVec Ideal S128x2048 .bf16) (K : Vec Ideal S8192x128 .bf16) (c : Fin 2048) : EReal :=
  ∑ k : Fin 4, ∑ r : Fin 2048, Ideal.exp2 (sc q K k r c)

/-- The weights of a block. -/
abbrev wS (q : FVec Ideal S128x2048 .bf16) (kb : FVec Ideal S2048x128 .bf16) : FVec Ideal S2048x2048 .f32 :=
  exp2 (matmul dot_S2048x128_S128x2048_S2048x2048_1_0_0_1_n_n none kb q (constant S2048x2048 .f32 0x00000000#32))

/-- A block's contribution to the weighted sums. -/
abbrev wP (q : FVec Ideal S128x2048 .bf16) (kb : FVec Ideal S2048x128 .bf16) (vv : FVec Ideal S144x2048 .bf16) : FVec Ideal S128x2048 .f32 :=
  matmul dot_S128x2048_S2048x2048_S128x2048_1_0_0_1_n_n none (extractStridedSlice S128x2048 ![0, 0] vv slices_S144x2048_o0_0_S128x2048)
    (truncf .bf16 (wS q kb) bitsLt_bf16_f32) (constant S128x2048 .f32 0x00000000#32)

/-- A block's contribution to the sums of the weights. -/
abbrev wL (q : FVec Ideal S128x2048 .bf16) (kb : FVec Ideal S2048x128 .bf16) : FVec Ideal S1x2048 .f32 :=
  shapeCast S1x2048 (multiReduction .add [0] S2048 (wS q kb) 0x00000000#32 reduces_S2048x2048_S2048 (.inl rfl) rfl) shapeCasts_S2048_S1x2048

variable {q : FVec Ideal S128x2048 .bf16} {K : Vec Ideal S8192x128 .bf16} {V : Vec Ideal S16x144x512 .bf16} {k : Fin 4}
  {kb : FVec Ideal S2048x128 .bf16} {vv : FVec Ideal S144x2048 .bf16}

theorem wS_at (hkb : ∀ r d, (kb (ix2 r d) : EReal) = K (ix2 (⟨2048 * k.val + r.val, by omega⟩ : Fin 8192) d)) (r c : Fin 2048) :
    wS q kb (ix2 r c) = Ideal.exp2 (sc q K k r c) := by
  pointwise [wS, sc, hkb]
  rfl

theorem wP_at (hkb : ∀ r d, (kb (ix2 r d) : EReal) = K (ix2 (⟨2048 * k.val + r.val, by omega⟩ : Fin 8192) d))
    (hvv : ∀ e r, (vv (ix2 e r) : EReal) = vl V k r e) (e : Fin 128) (c : Fin 2048) :
    wP q kb vv (ix2 e c) = ∑ r : Fin 2048, vl V k r ⟨e.val, by omega⟩ * Ideal.exp2 (sc q K k r c) := by
  have h := fun r => wS_at (q := q) hkb r c
  unfold wP
  generalize wS q kb = s at h
  pointwise
  exact Finset.sum_congr rfl fun r _ => by rw [← h, ← hvv]

theorem wL_at (hkb : ∀ r d, (kb (ix2 r d) : EReal) = K (ix2 (⟨2048 * k.val + r.val, by omega⟩ : Fin 8192) d)) (c : Fin 2048) :
    wL q kb (ix2 0 c) = ∑ r : Fin 2048, Ideal.exp2 (sc q K k r c) := by
  have h := fun r => wS_at (q := q) hkb r c
  unfold wL
  generalize wS q kb = s at h
  pointwise
  exact Finset.sum_congr rfl fun r _ => by rw [← h]

/-- An accumulator with two pieces written, at the rows of either. -/
theorem two_read (A : Memref sig .tc .vmem S144x2048 .f32) (f : BufTy.Contents (Elt Ideal) A.view.ty) (i1 i2)
    (w1 : FVec Ideal S1x2048 .f32) (w2 : FVec Ideal S128x2048 .f32) :
    (∀ (e : Fin 128) (c : Fin 2048), A.view.read (Elt Ideal) (A.view.writes (Elt Ideal) f
        [⟨Rect.unit (s := S144x2048) ![128, 0] S1x2048.size i1, w1⟩, ⟨Rect.unit (s := S144x2048) ![0, 0] S128x2048.size i2, w2⟩])
          (ix2 (⟨e.val, by omega⟩ : Fin 144) c) = w2 (ix2 e c))
    ∧ ∀ c : Fin 2048, A.view.read (Elt Ideal) (A.view.writes (Elt Ideal) f
        [⟨Rect.unit (s := S144x2048) ![128, 0] S1x2048.size i1, w1⟩, ⟨Rect.unit (s := S144x2048) ![0, 0] S128x2048.size i2, w2⟩])
          (ix2 (⟨128, by omega⟩ : Fin 144) c) = w1 (ix2 0 c) := by
  constructor
  · intro e c
    have hm : (ix2 (⟨e.val, by omega⟩ : Fin 144) c : S144x2048.Idx) ∈ (Rect.unit (s := S144x2048) ![0, 0] S128x2048.size i2).set :=
      Rect.mem_set_unit.mpr fun a => match a with
        | 0 => ⟨Nat.zero_le _, Nat.lt_of_lt_of_eq e.isLt (Nat.zero_add 128).symm⟩
        | 1 => ⟨Nat.zero_le _, Nat.lt_of_lt_of_eq c.isLt (Nat.zero_add 2048).symm⟩
    have hc : ∃ p ∈ [(⟨Rect.unit (s := S144x2048) ![128, 0] S1x2048.size i1, w1⟩ : View.Piece (Elt Ideal) S144x2048 .f32), ⟨Rect.unit (s := S144x2048) ![0, 0] S128x2048.size i2, w2⟩],
        (ix2 (⟨e.val, by omega⟩ : Fin 144) c : S144x2048.Idx) ∈ p.1.set :=
      ⟨⟨Rect.unit (s := S144x2048) ![0, 0] S128x2048.size i2, w2⟩, List.mem_cons_of_mem _ List.mem_cons_self, hm⟩
    refine (View.read_writes_apply_eq_canon _ _ _ _ hc).trans (View.canon_eq_of_allAt _ _ _ hc ?_)
    refine View.allAt_cons_unit _ _ _ _ _ (fun x hx => ?_) (View.allAt_cons_unit _ _ _ _ _ (fun x hx => ?_) (View.allAt_nil _ _))
    · have h0 : e.val = 128 + (x 0).val := hx 0
      omega
    · obtain ⟨x0, x1, rfl⟩ : ∃ (x0 : Fin 128) (x1 : Fin 2048), x = ix2 x0 x1 := ⟨x 0, x 1, eq_ix2 x⟩
      obtain rfl : e = x0 := Fin.ext ((hx 0).trans (Nat.zero_add _))
      obtain rfl : c = x1 := Fin.ext ((hx 1).trans (Nat.zero_add _))
      rfl
  · intro c
    have hm : (ix2 (⟨128, by omega⟩ : Fin 144) c : S144x2048.Idx) ∈ (Rect.unit (s := S144x2048) ![128, 0] S1x2048.size i1).set :=
      Rect.mem_set_unit.mpr fun a => match a with
        | 0 => ⟨Nat.le_refl _, Nat.lt_succ_self 128⟩
        | 1 => ⟨Nat.zero_le _, Nat.lt_of_lt_of_eq c.isLt (Nat.zero_add 2048).symm⟩
    have hc : ∃ p ∈ [(⟨Rect.unit (s := S144x2048) ![128, 0] S1x2048.size i1, w1⟩ : View.Piece (Elt Ideal) S144x2048 .f32), ⟨Rect.unit (s := S144x2048) ![0, 0] S128x2048.size i2, w2⟩],
        (ix2 (⟨128, by omega⟩ : Fin 144) c : S144x2048.Idx) ∈ p.1.set :=
      ⟨⟨Rect.unit (s := S144x2048) ![128, 0] S1x2048.size i1, w1⟩, List.mem_cons_self, hm⟩
    refine (View.read_writes_apply_eq_canon _ _ _ _ hc).trans (View.canon_eq_of_allAt _ _ _ hc ?_)
    refine View.allAt_cons_unit _ _ _ _ _ (fun x hx => ?_) (View.allAt_cons_unit _ _ _ _ _ (fun x hx => ?_) (View.allAt_nil _ _))
    · obtain ⟨x0, x1, rfl⟩ : ∃ (x0 : Fin 1) (x1 : Fin 2048), x = ix2 x0 x1 := ⟨x 0, x 1, eq_ix2 x⟩
      obtain rfl : x0 = 0 := Subsingleton.elim _ _
      obtain rfl : c = x1 := Fin.ext ((hx 1).trans (Nat.zero_add _))
      rfl
    · have h0 : 128 = 0 + (x 0).val := hx 0
      have h1 : (x 0).val < 128 := (x 0).isLt
      omega

theorem pay57_at {kb : Fin 4 → FVec Ideal S2048x128 .bf16} {vv : Fin 4 → FVec Ideal S144x2048 .bf16}
    (hkb : ∀ k r d, (kb k (ix2 r d) : EReal) = K (ix2 (⟨2048 * k.val + r.val, by omega⟩ : Fin 8192) d))
    (hvv : ∀ k e r, (vv k (ix2 e r) : EReal) = vl V k r e) (e : Fin 128) (c : Fin 2048) :
    (addf (addf (addf (wP q (kb 0) (vv 0)) (wP q (kb 1) (vv 1))) (wP q (kb 2) (vv 2))) (wP q (kb 3) (vv 3)) (ix2 e c) : EReal) = fP q K V e c := by
  have hp := fun k => wP_at (q := q) (hkb k) (hvv k) e c
  show wP q (kb 0) (vv 0) (ix2 e c) + wP q (kb 1) (vv 1) (ix2 e c) + wP q (kb 2) (vv 2) (ix2 e c) + wP q (kb 3) (vv 3) (ix2 e c) = _
  rw [hp, hp, hp, hp, fP, Fin.sum_univ_four]

theorem pay58_at {kb : Fin 4 → FVec Ideal S2048x128 .bf16}
    (hkb : ∀ k r d, (kb k (ix2 r d) : EReal) = K (ix2 (⟨2048 * k.val + r.val, by omega⟩ : Fin 8192) d)) (c : Fin 2048) :
    (addf (addf (addf (wL q (kb 0)) (wL q (kb 1))) (wL q (kb 2))) (wL q (kb 3)) (ix2 0 c) : EReal) = fL q K c := by
  have hl := fun k => wL_at (q := q) (hkb k) c
  show wL q (kb 0) (ix2 0 c) + wL q (kb 1) (ix2 0 c) + wL q (kb 2) (ix2 0 c) + wL q (kb 3) (ix2 0 c) = _
  rw [hl, hl, hl, hl, fL, Fin.sum_univ_four]

/-- The weighted sums the fast branch stores. -/
theorem fast57 (v17 v19 : Vec Ideal S1x128x1024 .bf16) {kb : Fin 4 → FVec Ideal S2048x128 .bf16} {g : Fin 16 → Vec Ideal S1x144x512 .bf16}
    (hkb : ∀ k r d, (kb k (ix2 r d) : EReal) = K (ix2 (⟨2048 * k.val + r.val, by omega⟩ : Fin 8192) d))
    (hg : ∀ n e x, (g n (ix3 0 e x) : EReal) = V (ix3 n e x)) (e : Fin 128) (c : Fin 2048) :
    (k0_pay52 (addf (addf (addf (wP (k0_pay51 v17 v19) (kb 0) (k0_pay16 (g 0) (g 1) (g 2) (g 3)))
        (wP (k0_pay51 v17 v19) (kb 1) (k0_pay16 (g 4) (g 5) (g 6) (g 7)))) (wP (k0_pay51 v17 v19) (kb 2) (k0_pay16 (g 8) (g 9) (g 10) (g 11))))
        (wP (k0_pay51 v17 v19) (kb 3) (k0_pay16 (g 12) (g 13) (g 14) (g 15)))) (ix2 e c) : EReal) = fP (k0_pay51 v17 v19) K V e c := by
  have hvv : ∀ (k : Fin 4) e r, (k0_pay16 (g ⟨4 * k.val + 0, by omega⟩) (g ⟨4 * k.val + 1, by omega⟩) (g ⟨4 * k.val + 2, by omega⟩)
      (g ⟨4 * k.val + 3, by omega⟩) (ix2 e r) : EReal) = vl V k r e := fun k e r =>
    vcat_at (fun j => g ⟨4 * k.val + j.val, by omega⟩) e r fun j x => hg _ e x
  exact (congrFun (shapeCast_self _ shapeCasts_S128x2048_S128x2048) _).trans (pay57_at hkb hvv e c)

/-- The sums of the weights it stores. -/
theorem fast58 (v17 v19 : Vec Ideal S1x128x1024 .bf16) {kb : Fin 4 → FVec Ideal S2048x128 .bf16}
    (hkb : ∀ k r d, (kb k (ix2 r d) : EReal) = K (ix2 (⟨2048 * k.val + r.val, by omega⟩ : Fin 8192) d)) (c : Fin 2048) :
    (k0_pay53 (addf (addf (addf (wL (k0_pay51 v17 v19) (kb 0)) (wL (k0_pay51 v17 v19) (kb 1))) (wL (k0_pay51 v17 v19) (kb 2))) (wL (k0_pay51 v17 v19) (kb 3))) (ix2 0 c) : EReal)
      = fL (k0_pay51 v17 v19) K c :=
  (congrFun (shapeCast_self _ shapeCasts_S1x2048_S1x2048) _).trans (pay58_at hkb c)

end Cert.GqaIdeal.Gen

end
-- ==== Proof.GqaMath.lean ====
module

public import proofs.«01_k».proof.Proof.GqaFast

@[expose] public section

set_option maxRecDepth 16384

noncomputable section

namespace Cert.GqaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! Softmax over the reals: the running one, the one without a maximum, and the reference's. -/

theorem div_real {x y : ℝ} (h : 0 < y) : Ideal.div (x : EReal) (y : EReal) = ((x / y : ℝ) : EReal) := by
  rw [Ideal.div_coe h.ne', ← EReal.coe_mul, mul_one_div]

theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The largest of finitely many reals is a real. -/
theorem fold_real {ι : Type*} [Fintype ι] [Nonempty ι] (s : ι → ℝ) :
    ∃ M : ℝ, Finset.univ.fold max (⊥ : EReal) (fun r => (s r : EReal)) = M := by
  obtain ⟨i⟩ := ‹Nonempty ι›
  have h1 : (⊥ : EReal) < Finset.univ.fold max (⊥ : EReal) (fun r => (s r : EReal)) :=
    (Finset.lt_fold_max _).2 (Or.inr ⟨i, Finset.mem_univ _, EReal.bot_lt_coe _⟩)
  have h2 : Finset.univ.fold max (⊥ : EReal) (fun r => (s r : EReal)) < ⊤ :=
    (Finset.fold_max_lt _).2 ⟨bot_lt_top, fun r _ => EReal.coe_lt_top _⟩
  exact ⟨_, (EReal.coe_toReal h2.ne h1.ne').symm⟩

theorem max_real (a b : ℝ) : max (a : EReal) (b : EReal) = ((max a b : ℝ) : EReal) :=
  (EReal.coe_strictMono.monotone.map_max).symm

theorem online_max (s : ℕ → Fin 2048 → ℝ) (m : ℕ → EReal) (h0 : m 0 = ⊥)
    (h : ∀ k < 4, m (k + 1) = max (m k) (Finset.univ.fold max ⊥ fun r => (s k r : EReal))) : ∀ k < 4, ∃ M : ℝ, m (k + 1) = M := by
  intro k
  induction k with
  | zero =>
    intro hk
    obtain ⟨M, hM⟩ := fold_real (s 0)
    exact ⟨M, by rw [h 0 hk, h0, hM]; exact max_eq_right bot_le⟩
  | succ k ih =>
    intro hk
    obtain ⟨A, hA⟩ := ih (by omega)
    obtain ⟨M, hM⟩ := fold_real (s (k + 1))
    exact ⟨max A M, by rw [h _ hk, hA, hM, max_real]⟩

/-- A weight at a real shift. -/
theorem exp2_sub (x M : ℝ) : Ideal.exp2 ((x : EReal) - (M : EReal)) = (((2 : ℝ) ^ (x - M) : ℝ) : EReal) := by
  rw [← EReal.coe_sub, Ideal.exp2_coe]
  rfl

theorem block_real (s w : Fin 2048 → ℝ) (M : ℝ) :
    ∑ r, (w r : EReal) * Ideal.exp2 ((s r : EReal) - (M : EReal)) = ((∑ r, w r * (2 : ℝ) ^ (s r - M) : ℝ) : EReal) := by
  rw [coe_sum]
  exact Finset.sum_congr rfl fun r _ => by rw [exp2_sub, EReal.coe_mul]

theorem online_acc (s w : ℕ → Fin 2048 → ℝ) (m a : ℕ → EReal) (h0 : m 0 = ⊥) (a0 : a 0 = 0)
    (h : ∀ k < 4, m (k + 1) = max (m k) (Finset.univ.fold max ⊥ fun r => (s k r : EReal)))
    (ha : ∀ k < 4, a (k + 1) = a k * Ideal.exp2 (m k - m (k + 1)) + ∑ r, (w k r : EReal) * Ideal.exp2 ((s k r : EReal) - m (k + 1))) :
    ∀ k < 4, a (k + 1) = ((∑ i ∈ Finset.range (k + 1), ∑ r, w i r * (2 : ℝ) ^ (s i r - (m (k + 1)).toReal) : ℝ) : EReal) := by
  intro k
  induction k with
  | zero =>
    intro hk
    obtain ⟨M, hM⟩ := online_max s m h0 h 0 hk
    rw [ha 0 hk, hM, a0, zero_mul, zero_add, block_real, Finset.sum_range_one, EReal.toReal_coe]
  | succ k ih =>
    intro hk
    obtain ⟨A, hA⟩ := online_max s m h0 h k (by omega)
    obtain ⟨M, hM⟩ := online_max s m h0 h (k + 1) hk
    have e := ih (by omega)
    rw [hA, EReal.toReal_coe] at e
    rw [ha _ hk, e, hA, hM, exp2_sub, block_real, ← EReal.coe_mul, ← EReal.coe_add, EReal.toReal_coe, Finset.sum_range_succ _ (k + 1), Finset.sum_mul]
    refine congrArg (fun z : ℝ => ((z + ∑ r, w (k + 1) r * (2 : ℝ) ^ (s (k + 1) r - M) : ℝ) : EReal)) (Finset.sum_congr rfl fun i _ => ?_)
    rw [Finset.sum_mul]
    refine Finset.sum_congr rfl fun r _ => ?_
    rw [mul_assoc, ← Real.rpow_add two_pos]
    congr 2
    ring

/-- A weighted mean does not see a common shift of the exponents. -/
theorem mean_shift {ι : Type*} [Fintype ι] (s w : ι → ℝ) (M : ℝ) :
    (∑ i, w i * (2 : ℝ) ^ (s i - M)) / (∑ i, (2 : ℝ) ^ (s i - M)) = (∑ i, w i * (2 : ℝ) ^ s i) / ∑ i, (2 : ℝ) ^ s i := by
  have h : (2 : ℝ) ^ (-M) ≠ 0 := (Real.rpow_pos_of_pos two_pos _).ne'
  have e : ∀ i, (2 : ℝ) ^ (s i - M) = (2 : ℝ) ^ s i * (2 : ℝ) ^ (-M) := fun i => by rw [← Real.rpow_add two_pos, sub_eq_add_neg]
  simp only [e, ← mul_assoc, ← Finset.sum_mul]
  exact mul_div_mul_right _ _ h

/-- The weighted mean with weights `exp t`. -/
def mean {ι : Type*} [Fintype ι] (t w : ι → ℝ) : ℝ := (∑ i, w i * Real.exp (t i)) / ∑ i, Real.exp (t i)

theorem two_pow (t : ℝ) : (2 : ℝ) ^ (t / Real.log 2) = Real.exp t := by
  rw [Real.rpow_def_of_pos two_pos, mul_div_cancel₀ _ (Real.log_pos one_lt_two).ne']

theorem exp_sum_pos {ι : Type*} [Fintype ι] [Nonempty ι] (t : ι → ℝ) : 0 < ∑ i, Real.exp (t i) :=
  Finset.sum_pos (fun i _ => Real.exp_pos _) Finset.univ_nonempty

variable {q : FVec Ideal S128x2048 .bf16} {K : Vec Ideal S8192x128 .bf16} {V : Vec Ideal S16x144x512 .bf16}

/-- The running softmax's quotient is the weighted mean. -/
theorem slow_mean (c : Fin 2048) (e u : Fin 144) (t w : Fin 4 × Fin 2048 → ℝ)
    (hs : ∀ k r, sc q K k r c = ((t (k, r) / Real.log 2 : ℝ) : EReal)) (hv : ∀ k r, vl V k r e = (w (k, r) : EReal))
    (hu : ∀ k r, vl V k r u = 1) : Ideal.div (aSt q K V 4 e c) (aSt q K V 4 u c) = ((mean t w : ℝ) : EReal) := by
  have hm : ∀ k < 4, mSt q K (k + 1) c = max (mSt q K k c) (Finset.univ.fold max ⊥ fun r =>
      (((fun (k : ℕ) (r : Fin 2048) => if h : k < 4 then t (⟨k, h⟩, r) / Real.log 2 else 0) k r : ℝ) : EReal)) := fun k h => by
    refine (mSt_succ q K ⟨k, h⟩ c).trans ?_
    simp only [hs, dif_pos h]
  have acc : ∀ (e : Fin 144) (w : Fin 4 × Fin 2048 → ℝ), (∀ k r, vl V k r e = (w (k, r) : EReal)) →
      aSt q K V 4 e c = ((∑ i, w i * (2 : ℝ) ^ (t i / Real.log 2 - (mSt q K 4 c).toReal) : ℝ) : EReal) := by
    intro e w hv
    have h := online_acc _ (fun (k : ℕ) (r : Fin 2048) => if h : k < 4 then w (⟨k, h⟩, r) else 0) (fun k => mSt q K k c)
      (fun k => aSt q K V k e c) rfl rfl hm (fun k h => by
        refine (aSt_succ q K V ⟨k, h⟩ e c).trans ?_
        simp only [hs, hv, dif_pos h]) 3 (by omega)
    refine h.trans ?_
    rw [Fintype.sum_prod_type, Finset.sum_range]
    refine congrArg _ (Finset.sum_congr rfl fun k _ => Finset.sum_congr rfl fun r _ => ?_)
    simp only [dif_pos k.isLt]
  rw [acc e w hv, acc u (fun _ => 1) (fun k r => by rw [hu]; rfl)]
  simp only [one_mul]
  rw [div_real (Finset.sum_pos (fun i _ => Real.rpow_pos_of_pos two_pos _) Finset.univ_nonempty), mean_shift, mean]
  simp only [two_pow]

/-- So is the fast branch's. -/
theorem fast_mean (c : Fin 2048) (e : Fin 128) (t w : Fin 4 × Fin 2048 → ℝ)
    (hs : ∀ k r, sc q K k r c = ((t (k, r) / Real.log 2 : ℝ) : EReal)) (hv : ∀ k r, vl V k r ⟨e.val, by omega⟩ = (w (k, r) : EReal)) :
    Ideal.div (fP q K V e c) (fL q K c) = ((mean t w : ℝ) : EReal) := by
  have hx : ∀ k r, Ideal.exp2 (sc q K k r c) = ((Real.exp (t (k, r)) : ℝ) : EReal) := fun k r => by
    rw [hs, Ideal.exp2_coe]
    exact congrArg _ (two_pow _)
  have hP : fP q K V e c = ((∑ i, w i * Real.exp (t i) : ℝ) : EReal) := by
    rw [Fintype.sum_prod_type, coe_sum, fP]
    refine Finset.sum_congr rfl fun k _ => ?_
    rw [coe_sum]
    exact Finset.sum_congr rfl fun r _ => by rw [hx, hv, EReal.coe_mul]
  have hL : fL q K c = ((∑ i, Real.exp (t i) : ℝ) : EReal) := by
    rw [Fintype.sum_prod_type, coe_sum, fL]
    refine Finset.sum_congr rfl fun k _ => ?_
    rw [coe_sum]
    exact Finset.sum_congr rfl fun r _ => hx k r
  rw [hP, hL, div_real (exp_sum_pos t), mean]

/-- The tokens of a batch, as the blocks and rows the kernel walks. -/
theorem mean_tiles (t w : Fin 8192 → ℝ) :
    mean (fun p : Fin 4 × Fin 2048 => t ⟨2048 * p.1.val + p.2.val, by omega⟩) (fun p => w ⟨2048 * p.1.val + p.2.val, by omega⟩) = mean t w := by
  have h : ∀ f : Fin 8192 → ℝ, ∑ p : Fin 4 × Fin 2048, f ⟨2048 * p.1.val + p.2.val, by omega⟩ = ∑ i, f i := fun f => by
    rw [Fintype.sum_prod_type]
    refine Eq.trans ?_ (Fin.sum_univ_tiles 4 2048 rfl f).symm
    exact Finset.sum_congr rfl fun k _ => Finset.sum_congr rfl fun r _ => congrArg f (Fin.ext (by show 2048 * k.val + r.val = k.val * 2048 + r.val; omega))
  unfold mean
  rw [← h (fun i => w i * Real.exp (t i)), ← h (fun i => Real.exp (t i))]

/-- The reference's weight of a token: the exponential at a shift over the sum of all of them. -/
theorem ref_weight {ι : Type*} [Fintype ι] [Nonempty ι] (t : ι → ℝ) (i : ι) :
    Ideal.div (Ideal.exp ((t i : EReal) - Finset.univ.fold max ⊥ fun j => (t j : EReal)))
      (∑ j, Ideal.exp ((t j : EReal) - Finset.univ.fold max ⊥ fun j => (t j : EReal)))
    = ((Real.exp (t i) / ∑ j, Real.exp (t j) : ℝ) : EReal) := by
  obtain ⟨M, hM⟩ := fold_real t
  rw [hM]
  have e : ∀ j, Ideal.exp ((t j : EReal) - (M : EReal)) = ((Real.exp (t j - M) : ℝ) : EReal) := fun j => by
    rw [← EReal.coe_sub, Ideal.exp_coe]
  simp only [e]
  rw [← coe_sum, div_real (exp_sum_pos _)]
  simp only [Real.exp_sub, ← Finset.sum_div]
  rw [div_div_div_cancel_right₀ (Real.exp_pos M).ne']

/-- The reference's weighted sum. -/
theorem ref_mean {ι : Type*} [Fintype ι] (t w : ι → ℝ) :
    ∑ i, (w i : EReal) * ((Real.exp (t i) / ∑ j, Real.exp (t j) : ℝ) : EReal) = ((mean t w : ℝ) : EReal) := by
  rw [mean, Finset.sum_div, coe_sum]
  refine Finset.sum_congr rfl fun i _ => ?_
  rw [← EReal.coe_mul]
  congr 1
  ring

end Cert.GqaIdeal.Gen

end
-- ==== Proof.GqaQueries.lean ====
module

public import proofs.«01_k».proof.Proof.GqaCols

@[expose] public section

set_option maxRecDepth 16384

noncomputable section

namespace Cert.GqaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The queries a point's body works on. -/

/-- Map `j`'s queries of a head, as the body loads them. -/
def qv (x : Vec Ideal S2x128x1024 .bf16) (j : Fin 2) : Vec Ideal S1x128x1024 .bf16 := fun y => x (ix3 j (y 1) (y 2))

/-- They are what its load reads. -/
theorem qv_eq (M : Memref sig .tc .vmem S2x128x1024 .bf16) (f : BufTy.Contents (Elt Ideal) M.view.ty) (j : Fin 2) (off : Fin 3 → ℕ)
    (hoff : off = ![j.val, 0, 0]) (inb : ∀ a, off a + S1x128x1024.size a ≤ S2x128x1024.size a) :
    M.view.readAt (Elt Ideal) (Rect.unit (s := S2x128x1024) off S1x128x1024.size inb).toLoadRect f = qv (M.view.read (Elt Ideal) f) j := by
  subst hoff
  funext y
  obtain ⟨y0, y2, y3, rfl⟩ : ∃ (y0 : Fin 1) (y2 : Fin 128) (y3 : Fin 1024), y = ix3 y0 y2 y3 := ⟨y 0, y 1, y 2, eq_ix3 y⟩
  obtain rfl : y0 = 0 := Subsingleton.elim _ _
  exact View.ld_unit_apply_of (M.view.read (Elt Ideal) f) _ _ inb (ix3 0 y2 y3) (ix3 j y2 y3)
      (by intro a; match a with | 0 => rfl | 1 => simp | 2 => simp)

/-- The scaled queries of both maps, column by column. -/
def qc (x : Vec Ideal S2x128x1024 .bf16) : FVec Ideal S128x2048 .bf16 := k0_pay51 (qv x 0) (qv x 1)

end Cert.GqaIdeal.Gen

end
-- ==== Proof.GqaCoords.lean ====
module

public import proofs.«01_k».proof.Proof.GqaHost
public import proofs.«01_k».proof.Proof.GqaMath
public import proofs.«01_k».proof.Proof.GqaQueries

@[expose] public section

set_option maxRecDepth 16384

noncomputable section

namespace Cert.GqaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The packed arrays at coordinates. -/

variable (x : FVec Ideal S4x8192x2x4x64 .f32) (n : Fin 256) (h : Fin 4) (r : Fin 128) (d : Fin 64)

/-- A column of the packed queries: head `h` of eight, token `r` of 128. -/
theorem colsQ_at (u : Fin 8) (e : Fin 128) : packQ x (ix3 n (⟨e.val, by omega⟩ : Fin 256) (⟨128 * u.val + r.val, by omega⟩ : Fin 1024))
    = colsQ x (ix4 n e u r) := by
  pointwise [packQ]

theorem packQ_00 : packQ x (ix3 n (⟨d.val, by omega⟩ : Fin 256) (⟨128 * h.val + r.val, by omega⟩ : Fin 1024))
    = x (ix5 (⟨n.val / 64, by omega⟩ : Fin 4) (⟨n.val % 64 * 128 + r.val, by omega⟩ : Fin 8192) (0 : Fin 2) h d) := by
  refine (colsQ_at x n r (⟨h.val, by omega⟩ : Fin 8) (⟨d.val, by omega⟩ : Fin 128)).trans ?_
  pointwise [colsQ, padQ0, padQ1, tileQ, zeroQ]

theorem packQ_01 : packQ x (ix3 n (⟨64 + d.val, by omega⟩ : Fin 256) (⟨128 * h.val + r.val, by omega⟩ : Fin 1024)) = (0 : EReal) := by
  refine (colsQ_at x n r (⟨h.val, by omega⟩ : Fin 8) (⟨64 + d.val, by omega⟩ : Fin 128)).trans ?_
  pointwise [colsQ, padQ0, padQ1, tileQ, zeroQ]

theorem packQ_10 : packQ x (ix3 n (⟨d.val, by omega⟩ : Fin 256) (⟨512 + (128 * h.val + r.val), by omega⟩ : Fin 1024)) = (0 : EReal) := by
  refine (Eq.trans ?_ (colsQ_at x n r (⟨4 + h.val, by omega⟩ : Fin 8) (⟨d.val, by omega⟩ : Fin 128))).trans ?_
  · exact congrArg (packQ x) (by congr 1; exact Fin.ext (by simp only; omega))
  · pointwise [colsQ, padQ0, padQ1, tileQ, zeroQ]

theorem packQ_11 : packQ x (ix3 n (⟨64 + d.val, by omega⟩ : Fin 256) (⟨512 + (128 * h.val + r.val), by omega⟩ : Fin 1024))
    = x (ix5 (⟨n.val / 64, by omega⟩ : Fin 4) (⟨n.val % 64 * 128 + r.val, by omega⟩ : Fin 8192) (1 : Fin 2) h d) := by
  refine (Eq.trans ?_ (colsQ_at x n r (⟨4 + h.val, by omega⟩ : Fin 8) (⟨64 + d.val, by omega⟩ : Fin 128))).trans ?_
  · exact congrArg (packQ x) (by congr 1; exact Fin.ext (by simp only; omega))
  · pointwise [colsQ, padQ0, padQ1, tileQ, zeroQ]

variable (y : FVec Ideal S4x8192x2x64 .f32)

theorem packK_at (T : Fin 32768) (j : Fin 2) : packK y (ix2 T (⟨64 * j.val + d.val, by omega⟩ : Fin 256))
    = y (ix4 (⟨T.val / 8192, by omega⟩ : Fin 4) (⟨T.val % 8192, by omega⟩ : Fin 8192) j d) := by
  pointwise [packK]
  exact dif_pos (by omega)

theorem packV_at (n : Fin 64) (r : Fin 512) (j : Fin 2) : packV y (ix3 n (⟨64 * j.val + d.val, by omega⟩ : Fin 144) r)
    = y (ix4 (⟨n.val / 16, by omega⟩ : Fin 4) (⟨n.val % 16 * 512 + r.val, by omega⟩ : Fin 8192) j d) := by
  pointwise [packV]
  exact dif_pos (by omega)

theorem packV_one (n : Fin 64) (r : Fin 512) : packV y (ix3 n (⟨128, by omega⟩ : Fin 144) r) = (1 : EReal) := by
  pointwise [packV, onesV]

/-- A scaled query: tile `j`'s columns sit beside each other. -/
theorem qc_at (y : Vec Ideal S2x128x1024 .bf16) (j : Fin 2) (d : Fin 128) (C : Fin 1024) :
    qc y (ix2 d (⟨1024 * j.val + C.val, by omega⟩ : Fin 2048)) = (y (ix3 j d C) : EReal) * (((8 * Real.log 2)⁻¹ : ℝ) : EReal) := by
  have hκ : (Named.named κ "qscale" 0x3E38AA3B#32 : Ideal .f32) = (((8 * Real.log 2)⁻¹ : ℝ) : EReal) :=
    IdealRules.named_const.ideal_named_scalar _ _ _ _ rfl
  pointwise [qc, k0_pay51, qv]
  refine congrArg₂ (· * ·) ?_ hκ
  obtain rfl | rfl : j = 0 ∨ j = 1 := by omega
  · rw [dif_pos (by simp)]
    exact congrArg y (by congr 1; exact Fin.ext (by simp))
  · rw [dif_neg (by simp)]
    exact congrArg y (by congr 1; exact Fin.ext (by simp))

end Cert.GqaIdeal.Gen

end
-- ==== Proof.GqaSlow.lean ====
module

public import proofs.«01_k».proof.Proof.GqaPieces

@[expose] public section

set_option maxRecDepth 16384

noncomputable section

namespace Cert.GqaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (arg2 : Memref sig .tc .smem S1 .i32) (harg2 : arg2.IsWhole) (arg3 : Memref sig .tc .vmem S2x128x1024 .bf16) (harg3 : arg3.IsWhole) (arg4 : Memref sig .tc .vmem S8192x128 .bf16) (harg4 : arg4.IsWhole) (arg5 : Memref sig .tc .vmem S16x144x512 .bf16) (harg5 : arg5.IsWhole) (arg6 : Memref sig .tc .vmem S256x512 .bf16) (harg6 : arg6.IsWhole) (arg7 : Memref sig .tc .vmem S1x2048 .f32) (harg7 : arg7.IsWhole) (arg8 : Memref sig .tc .vmem S144x2048 .f32) (harg8 : arg8.IsWhole)

/-- What the slow branch holds before block `k`. -/
abbrev slowInv (c : Dev nD) (q : FVec Ideal S128x2048 .bf16) (X7 : BufTy.Contents (Elt Ideal) arg4.view.ty)
    (X8 : BufTy.Contents (Elt Ideal) arg5.view.ty) (k : ℕ) (_u : Unit) : sProp 𝕄 :=
  iprop((arg4.view.loc (c : Thread nD τ) ↦[arg4.view.set]{fullShare} X7) ∗ (arg5.view.loc (c : Thread nD τ) ↦[arg5.view.set]{fullShare} X8)
    ∗ (∃ f, (arg7.view.loc (c : Thread nD τ) ↦[arg7.view.set]{fullShare} f)
        ∗ ⌜∀ x : Fin 2048, arg7.view.read (Elt Ideal) f (ix2 (0 : Fin 1) x) = mSt q (arg4.view.read (Elt Ideal) X7) k x⌝)
    ∗ (∃ f, (arg8.view.loc (c : Thread nD τ) ↦[arg8.view.set]{fullShare} f)
        ∗ ⌜∀ (e : Fin 144) (x : Fin 2048), arg8.view.read (Elt Ideal) f (ix2 e x)
            = aSt q (arg4.view.read (Elt Ideal) X7) (arg5.view.read (Elt Ideal) X8) k e x⌝))

set_option maxHeartbeats 1000000 in
/-- One trip keeps it. -/
theorem slowStep (𝒱 : Variants) (c : Dev nD) (bd : Option 𝒱.V) (E : Set ℕ) (i : grid0.Coords)
    (v17 v19 : Vec Ideal S1x128x1024 .bf16) (X7 : BufTy.Contents (Elt Ideal) arg4.view.ty)
    (X8 : BufTy.Contents (Elt Ideal) arg5.view.ty) (k : Fin k0_t1_loop.trips) :
    slowInv arg4 arg5 arg7 arg8 c (k0_pay51 v17 v19) X7 X8 k.val ⟨⟩
      ⊢ wp frame (wpE (defs₀ (F := Ideal)) 𝒱 (c : Thread nD τ) bd) E
          (k0_t1_body (F := Ideal) i arg2 harg2 arg3 harg3 arg4 harg4 arg5 harg5 arg6 harg6 arg7 harg7 arg8 harg8 v17 v19 k ())
          (fun _ => slowInv arg4 arg5 arg7 arg8 c (k0_pay51 v17 v19) X7 X8 (k.val + 1) ⟨⟩) := by
  have hk : k.val < 4 := Nat.lt_of_lt_of_le k.isLt k0_t1_abs.2.1
  have hK := keyBlock_at arg4 X7 ⟨k.val, hk⟩ (k0_off3 k) (k0_off3_eq k) (k0_off3_inb k)
  have hV := valBlocks_at arg5 X8 ⟨k.val, hk⟩ (fun j => k0_off4 k (BitVec.ofNat 32 j.val)) (k0_off4_eq k) (k0_off4_inb k)
  unfold k0_t1_body
  iintro ⟨H7, H8, ⟨%f10, H10, %h10⟩, ⟨%f11, H11, %h11⟩⟩
  sl_exec
  sl_step
  isplitl [H7]; · iexact H7
  isplitl [H8]; · iexact H8
  isplitl [H10]
  · iexists _; isplitl [H10]; · iexact H10
    ipureintro
    sl_unfold_words
    intro x
    refine (View.read_writes_apply_eq_canon _ _ _ _ (View.cover_of_tiled_head _ _ _ rfl _)).trans ?_
    refine View.canon_eq_of_allAt _ _ _ (View.cover_of_tiled_head _ _ _ rfl _) ?_
    repeat (refine View.allAt_cons_unit _ _ _ _ _ ?_ ?_; · exact pieceM hK h10 x _ _ _)
    exact View.allAt_nil _ _
  · iexists _; isplitl [H11]; · iexact H11
    ipureintro
    sl_unfold_words
    intro e x
    refine (View.read_writes_apply_eq_canon _ _ _ _ (View.cover_of_tiled_head _ _ _ rfl _)).trans ?_
    refine View.canon_eq_of_allAt _ _ _ (View.cover_of_tiled_head _ _ _ rfl _) ?_
    repeat (refine View.allAt_cons_unit _ _ _ _ _ ?_ ?_; · exact pieceA hK hV h10 h11 e x _ _ _ _)
    exact View.allAt_nil _ _

set_option warn.classDefReducibility false in
/-- The slow branch's loop by that invariant. -/
@[sl_loop] def slowLoop (𝒱 : Variants) (c : Dev nD) (bd : Option 𝒱.V) (E : Set ℕ) (i : grid0.Coords)
    (v17 v19 : Vec Ideal S1x128x1024 .bf16) (X7 : BufTy.Contents (Elt Ideal) arg4.view.ty)
    (X8 : BufTy.Contents (Elt Ideal) arg5.view.ty) :
    LoopInv (M := 𝕄) frame (wpE (defs₀ (F := Ideal)) 𝒱 (c : Thread nD τ) bd) E
      k0_t1_loop.lb k0_t1_loop.ub k0_t1_loop.st k0_t1_ok ()
      (k0_t1_body (F := Ideal) i arg2 harg2 arg3 harg3 arg4 harg4 arg5 harg5 arg6 harg6 arg7 harg7 arg8 harg8 v17 v19) where
  inv := slowInv arg4 arg5 arg7 arg8 c (k0_pay51 v17 v19) X7 X8
  step k _ := slowStep arg2 harg2 arg3 harg3 arg4 harg4 arg5 harg5 arg6 harg6 arg7 harg7 arg8 harg8 𝒱 c bd E i v17 v19 X7 X8 k

end Cert.GqaIdeal.Gen

end
-- ==== Proof.GqaOut.lean ====
module

public import proofs.«01_k».proof.Proof.GqaCols

@[expose] public section

set_option maxRecDepth 16384

noncomputable section

namespace Cert.GqaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! What the body stores in the output block, from the weighted sums and the normalizers of its columns. -/

/-- The output block at lane `l` of query row `r`: head `l / 64`, so group `l / 256`. -/
def outB (P : Fin 128 → Fin 2048 → EReal) (L : Fin 2048 → EReal) (r : Fin 256) (l : Fin 512) : EReal :=
  Ideal.div (P ⟨64 * (l.val / 256) + l.val % 64, by omega⟩ ⟨1024 * (r.val / 128) + 128 * (l.val / 64) + r.val % 128, by omega⟩)
    (L ⟨1024 * (r.val / 128) + 128 * (l.val / 64) + r.val % 128, by omega⟩)

variable {P : Fin 128 → Fin 2048 → EReal} {L : Fin 2048 → EReal}

/-- A piece of the output block: two heads of 128 query rows. -/
theorem pay59_at (p₁ : Vec Ideal S64x128 .f32) (l₁ : Vec Ideal S1x128 .f32) (p₂ : Vec Ideal S64x128 .f32) (l₂ : Vec Ideal S1x128 .f32)
    (r l : Fin 128) :
    (k0_pay59 p₁ l₁ p₂ l₂ (ix2 r l) : EReal)
      = if h : l.val < 64 then Ideal.div (p₁ (ix2 ⟨l.val, h⟩ r)) (l₁ (ix2 0 r))
        else Ideal.div (p₂ (ix2 ⟨l.val - 64, by omega⟩ r)) (l₂ (ix2 0 r)) := by
  pointwise [k0_pay59]

/-- The pieces the body stores, at coordinates. -/
theorem pieceO (A : Memref sig .tc .vmem S144x2048 .f32) (f : BufTy.Contents (Elt Ideal) A.view.ty)
    (hP : ∀ (e : Fin 128) (C : Fin 2048), A.view.read (Elt Ideal) f (ix2 (⟨e.val, by omega⟩ : Fin 144) C) = P e C)
    (hL : ∀ C : Fin 2048, A.view.read (Elt Ideal) f (ix2 (⟨128, by omega⟩ : Fin 144) C) = L C)
    (b c : ℕ) (R Q G o₁ o₂ : ℕ) (hR : R = 128 * b) (hQ : Q = 128 * c) (hb : b < 2) (hc : c < 4) (hG : G = 64 * (c / 2))
    (ho₁ : o₁ = 1024 * b + 256 * c) (ho₂ : o₂ = 1024 * b + 256 * c + 128)
    (i₁ : ∀ a, (![G, o₁] : Fin 2 → ℕ) a + S64x128.size a ≤ S144x2048.size a) (j₁ : ∀ a, (![128, o₁] : Fin 2 → ℕ) a + S1x128.size a ≤ S144x2048.size a)
    (i₂ : ∀ a, (![G, o₂] : Fin 2 → ℕ) a + S64x128.size a ≤ S144x2048.size a) (j₂ : ∀ a, (![128, o₂] : Fin 2 → ℕ) a + S1x128.size a ≤ S144x2048.size a)
    (r : Fin 256) (l : Fin 512) :
    View.TileAt (Val := Elt Ideal) (S := S256x512) (e := .bf16) (ix2 r l) ![R, Q] S128x128.size
      (k0_pay59 (A.view.readAt (Elt Ideal) (Rect.unit (s := S144x2048) ![G, o₁] S64x128.size i₁).toLoadRect f)
        (A.view.readAt (Elt Ideal) (Rect.unit (s := S144x2048) ![128, o₁] S1x128.size j₁).toLoadRect f)
        (A.view.readAt (Elt Ideal) (Rect.unit (s := S144x2048) ![G, o₂] S64x128.size i₂).toLoadRect f)
        (A.view.readAt (Elt Ideal) (Rect.unit (s := S144x2048) ![128, o₂] S1x128.size j₂).toLoadRect f))
      (outB P L r l) := by
  have hp : ∀ (o : ℕ) (inb : ∀ a, (![G, o] : Fin 2 → ℕ) a + S64x128.size a ≤ S144x2048.size a) (y : Fin 64) (x : Fin 128) (e : Fin 128) (C : Fin 2048),
      e.val = G + y.val → C.val = o + x.val →
      (A.view.readAt (Elt Ideal) (Rect.unit (s := S144x2048) ![G, o] S64x128.size inb).toLoadRect f (ix2 y x) : EReal) = P e C := fun o inb y x e C h h' =>
    (View.ld_unit_apply_of (A.view.read (Elt Ideal) f) _ _ inb (ix2 y x) (ix2 (⟨e.val, by omega⟩ : Fin 144) C)
      (by intro a; match a with | 0 => exact h | 1 => exact h')).trans (hP e C)
  have hl : ∀ (o : ℕ) (inb : ∀ a, (![128, o] : Fin 2 → ℕ) a + S1x128.size a ≤ S144x2048.size a) (x : Fin 128) (C : Fin 2048), C.val = o + x.val →
      (A.view.readAt (Elt Ideal) (Rect.unit (s := S144x2048) ![128, o] S1x128.size inb).toLoadRect f (ix2 0 x) : EReal) = L C := fun o inb x C h =>
    (View.ld_unit_apply_of (A.view.read (Elt Ideal) f) _ _ inb (ix2 0 x) (ix2 (⟨128, by omega⟩ : Fin 144) C)
      (by intro a; match a with | 0 => rfl | 1 => exact h)).trans (hL C)
  intro x hx
  obtain ⟨x0, x1, rfl⟩ : ∃ (x0 x1 : Fin 128), x = ix2 x0 x1 := ⟨x 0, x 1, eq_ix2 x⟩
  have hr : r.val = R + x0.val := hx 0
  have hq : l.val = Q + x1.val := hx 1
  have g0 := x0.isLt
  have g1 := x1.isLt
  refine (pay59_at _ _ _ _ x0 x1).trans ?_
  unfold outB
  by_cases h : x1.val < 64
  · rw [dif_pos h]
    have hC : 1024 * (r.val / 128) + 128 * (l.val / 64) + r.val % 128 = o₁ + x0.val := by omega
    exact congrArg₂ Ideal.div (hp o₁ i₁ _ x0 _ _ (by show 64 * (l.val / 256) + l.val % 64 = G + x1.val; omega) hC) (hl o₁ j₁ x0 _ hC)
  · rw [dif_neg h]
    have hC : 1024 * (r.val / 128) + 128 * (l.val / 64) + r.val % 128 = o₂ + x0.val := by omega
    exact congrArg₂ Ideal.div (hp o₂ i₂ _ x0 _ _ (by show 64 * (l.val / 256) + l.val % 64 = G + (x1.val - 64); omega) hC) (hl o₂ j₂ x0 _ hC)

/-- The output block read back off the eight pieces the body stores. -/
theorem out_read (A : Memref sig .tc .vmem S144x2048 .f32) (f : BufTy.Contents (Elt Ideal) A.view.ty)
    (hP : ∀ (e : Fin 128) (C : Fin 2048), A.view.read (Elt Ideal) f (ix2 (⟨e.val, by omega⟩ : Fin 144) C) = P e C)
    (hL : ∀ C : Fin 2048, A.view.read (Elt Ideal) f (ix2 (⟨128, by omega⟩ : Fin 144) C) = L C)
    (M : Memref sig .tc .vmem S256x512 .bf16) (f6 : BufTy.Contents (Elt Ideal) M.view.ty)
    (r : Fin 256) (l : Fin 512) :
    M.view.read (Elt Ideal) (M.view.writes (Elt Ideal) f6
      [⟨Rect.unit (s := S256x512) ![128, 384] S128x128.size inb_S256x512_S128x128_128_384,
          k0_pay2 (A.view.readAt (Elt Ideal) (Rect.unit (s := S144x2048) ![64, 1792] S64x128.size inb_S144x2048_S64x128_64_1792).toLoadRect f)
            (A.view.readAt (Elt Ideal) (Rect.unit (s := S144x2048) ![128, 1792] S1x128.size inb_S144x2048_S1x128_128_1792).toLoadRect f)
            (A.view.readAt (Elt Ideal) (Rect.unit (s := S144x2048) ![64, 1920] S64x128.size inb_S144x2048_S64x128_64_1920).toLoadRect f)
            (A.view.readAt (Elt Ideal) (Rect.unit (s := S144x2048) ![128, 1920] S1x128.size inb_S144x2048_S1x128_128_1920).toLoadRect f)⟩,
        ⟨Rect.unit (s := S256x512) ![128, 256] S128x128.size inb_S256x512_S128x128_128_256,
          k0_pay1 (k0_pay66 (A.view.readAt (Elt Ideal) (Rect.unit (s := S144x2048) ![64, 1536] S64x128.size inb_S144x2048_S64x128_64_1536).toLoadRect f)
            (A.view.readAt (Elt Ideal) (Rect.unit (s := S144x2048) ![128, 1536] S1x128.size inb_S144x2048_S1x128_128_1536).toLoadRect f))
            (A.view.readAt (Elt Ideal) (Rect.unit (s := S144x2048) ![64, 1664] S64x128.size inb_S144x2048_S64x128_64_1664).toLoadRect f)
            (A.view.readAt (Elt Ideal) (Rect.unit (s := S144x2048) ![128, 1664] S1x128.size inb_S144x2048_S1x128_128_1664).toLoadRect f)⟩,
        ⟨Rect.unit (s := S256x512) ![128, 128] S128x128.size inb_S256x512_S128x128_128_128,
          k0_pay65 (A.view.readAt (Elt Ideal) (Rect.unit (s := S144x2048) ![0, 1280] S64x128.size inb_S144x2048_S64x128_0_1280).toLoadRect f)
            (A.view.readAt (Elt Ideal) (Rect.unit (s := S144x2048) ![128, 1280] S1x128.size inb_S144x2048_S1x128_128_1280).toLoadRect f)
            (A.view.readAt (Elt Ideal) (Rect.unit (s := S144x2048) ![0, 1408] S64x128.size inb_S144x2048_S64x128_0_1408).toLoadRect f)
            (A.view.readAt (Elt Ideal) (Rect.unit (s := S144x2048) ![128, 1408] S1x128.size inb_S144x2048_S1x128_128_1408).toLoadRect f)⟩,
        ⟨Rect.unit (s := S256x512) ![128, 0] S128x128.size inb_S256x512_S128x128_128_0,
          k0_pay64 (A.view.readAt (Elt Ideal) (Rect.unit (s := S144x2048) ![0, 1024] S64x128.size inb_S144x2048_S64x128_0_1024).toLoadRect f)
            (A.view.readAt (Elt Ideal) (Rect.unit (s := S144x2048) ![128, 1024] S1x128.size inb_S144x2048_S1x128_128_1024).toLoadRect f)
            (A.view.readAt (Elt Ideal) (Rect.unit (s := S144x2048) ![0, 1152] S64x128.size inb_S144x2048_S64x128_0_1152).toLoadRect f)
            (A.view.readAt (Elt Ideal) (Rect.unit (s := S144x2048) ![128, 1152] S1x128.size inb_S144x2048_S1x128_128_1152).toLoadRect f)⟩,
        ⟨Rect.unit (s := S256x512) ![0, 384] S128x128.size inb_S256x512_S128x128_0_384,
          k0_pay63 (k0_pay62 (A.view.readAt (Elt Ideal) (Rect.unit (s := S144x2048) ![64, 768] S64x128.size inb_S144x2048_S64x128_64_768).toLoadRect f)
            (A.view.readAt (Elt Ideal) (Rect.unit (s := S144x2048) ![128, 768] S1x128.size inb_S144x2048_S1x128_128_768).toLoadRect f)
            (A.view.readAt (Elt Ideal) (Rect.unit (s := S144x2048) ![64, 896] S64x128.size inb_S144x2048_S64x128_64_896).toLoadRect f)
            (A.view.readAt (Elt Ideal) (Rect.unit (s := S144x2048) ![128, 896] S1x128.size inb_S144x2048_S1x128_128_896).toLoadRect f))⟩,
        ⟨Rect.unit (s := S256x512) ![0, 256] S128x128.size inb_S256x512_S128x128_0_256,
          k0_pay61 (A.view.readAt (Elt Ideal) (Rect.unit (s := S144x2048) ![64, 512] S64x128.size inb_S144x2048_S64x128_64_512).toLoadRect f)
            (A.view.readAt (Elt Ideal) (Rect.unit (s := S144x2048) ![128, 512] S1x128.size inb_S144x2048_S1x128_128_512).toLoadRect f)
            (A.view.readAt (Elt Ideal) (Rect.unit (s := S144x2048) ![64, 640] S64x128.size inb_S144x2048_S64x128_64_640).toLoadRect f)
            (A.view.readAt (Elt Ideal) (Rect.unit (s := S144x2048) ![128, 640] S1x128.size inb_S144x2048_S1x128_128_640).toLoadRect f)⟩,
        ⟨Rect.unit (s := S256x512) ![0, 128] S128x128.size inb_S256x512_S128x128_0_128,
          k0_pay60 (A.view.readAt (Elt Ideal) (Rect.unit (s := S144x2048) ![0, 256] S64x128.size inb_S144x2048_S64x128_0_256).toLoadRect f)
            (A.view.readAt (Elt Ideal) (Rect.unit (s := S144x2048) ![128, 256] S1x128.size inb_S144x2048_S1x128_128_256).toLoadRect f)
            (A.view.readAt (Elt Ideal) (Rect.unit (s := S144x2048) ![0, 384] S64x128.size inb_S144x2048_S64x128_0_384).toLoadRect f)
            (A.view.readAt (Elt Ideal) (Rect.unit (s := S144x2048) ![128, 384] S1x128.size inb_S144x2048_S1x128_128_384).toLoadRect f)⟩,
        ⟨Rect.unit (s := S256x512) ![0, 0] S128x128.size inb_S256x512_S128x128_0_0,
          k0_pay59 (A.view.readAt (Elt Ideal) (Rect.unit (s := S144x2048) ![0, 0] S64x128.size inb_S144x2048_S64x128_0_0).toLoadRect f)
            (A.view.readAt (Elt Ideal) (Rect.unit (s := S144x2048) ![128, 0] S1x128.size inb_S144x2048_S1x128_128_0).toLoadRect f)
            (A.view.readAt (Elt Ideal) (Rect.unit (s := S144x2048) ![0, 128] S64x128.size inb_S144x2048_S64x128_0_128).toLoadRect f)
            (A.view.readAt (Elt Ideal) (Rect.unit (s := S144x2048) ![128, 128] S1x128.size inb_S144x2048_S1x128_128_128).toLoadRect f)⟩]) (ix2 r l)
      = outB P L r l := by
  refine (View.read_writes_apply_eq_canon _ _ _ _ (View.cover_of_tiled_head _ _ _ rfl _)).trans ?_
  refine View.canon_eq_of_allAt _ _ _ (View.cover_of_tiled_head _ _ _ rfl _) ?_
  refine View.allAt_cons_unit _ _ _ _ _ (pieceO A f hP hL 1 3 _ _ _ _ _ rfl rfl (by decide) (by decide) rfl rfl rfl _ _ _ _ r l) ?_
  refine View.allAt_cons_unit _ _ _ _ _ (pieceO A f hP hL 1 2 _ _ _ _ _ rfl rfl (by decide) (by decide) rfl rfl rfl _ _ _ _ r l) ?_
  refine View.allAt_cons_unit _ _ _ _ _ (pieceO A f hP hL 1 1 _ _ _ _ _ rfl rfl (by decide) (by decide) rfl rfl rfl _ _ _ _ r l) ?_
  refine View.allAt_cons_unit _ _ _ _ _ (pieceO A f hP hL 1 0 _ _ _ _ _ rfl rfl (by decide) (by decide) rfl rfl rfl _ _ _ _ r l) ?_
  refine View.allAt_cons_unit _ _ _ _ _ (pieceO A f hP hL 0 3 _ _ _ _ _ rfl rfl (by decide) (by decide) rfl rfl rfl _ _ _ _ r l) ?_
  refine View.allAt_cons_unit _ _ _ _ _ (pieceO A f hP hL 0 2 _ _ _ _ _ rfl rfl (by decide) (by decide) rfl rfl rfl _ _ _ _ r l) ?_
  refine View.allAt_cons_unit _ _ _ _ _ (pieceO A f hP hL 0 1 _ _ _ _ _ rfl rfl (by decide) (by decide) rfl rfl rfl _ _ _ _ r l) ?_
  refine View.allAt_cons_unit _ _ _ _ _ (pieceO A f hP hL 0 0 _ _ _ _ _ rfl rfl (by decide) (by decide) rfl rfl rfl _ _ _ _ r l) ?_
  exact View.allAt_nil _ _

end Cert.GqaIdeal.Gen

end
-- ==== Proof.GqaRunSlow.lean ====
module

public import proofs.«01_k».proof.Proof.GqaSlow
public import proofs.«01_k».proof.Proof.GqaOut
public import proofs.«01_k».proof.Proof.GqaQueries

@[expose] public section

set_option maxRecDepth 16384

noncomputable section

namespace Cert.GqaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-! The body at a point whose flag is zero: the online softmax. -/

/-- The running maximum's buffer before the first block: every column at minus infinity. -/
theorem start_m (M : Memref sig .tc .vmem S1x2048 .f32) (q : FVec Ideal S128x2048 .bf16) (K : Vec Ideal S8192x128 .bf16) (x : Fin 2048) :
    M.view.read (Elt Ideal) (M.view.writes (Elt Ideal) M.view.junk
      [⟨Rect.unit (s := S1x2048) ![0, 0] S1x2048.size inb_S1x2048_S1x2048_0_0, k0_pay55 (F := Ideal)⟩]) (ix2 (0 : Fin 1) x) = mSt q K 0 x := by
  refine (View.read_writes_apply_eq_canon _ _ _ _ (View.cover_of_tiled_head _ _ _ rfl _)).trans ?_
  refine View.canon_eq_of_allAt _ _ _ (View.cover_of_tiled_head _ _ _ rfl _) ?_
  refine View.allAt_cons_unit _ _ _ _ _ (fun y hy => ?_) (View.allAt_nil _ _)
  unfold k0_pay55
  refine (congrFun (shapeCast_self _ _) _).trans ?_
  exact IdealRules.named_const.ideal_named_scalar _ _ _ _ rfl

/-- The accumulator before the first block: zero. -/
theorem start_a (A : Memref sig .tc .vmem S144x2048 .f32) (q : FVec Ideal S128x2048 .bf16) (K : Vec Ideal S8192x128 .bf16)
    (V : Vec Ideal S16x144x512 .bf16) (e : Fin 144) (x : Fin 2048) :
    A.view.read (Elt Ideal) (A.view.writes (Elt Ideal) A.view.junk
      [⟨Rect.unit (s := S144x2048) ![0, 0] S144x2048.size inb_S144x2048_S144x2048_0_0, k0_pay54 (F := Ideal)⟩]) (ix2 e x) = aSt q K V 0 e x := by
  refine (View.read_writes_apply_eq_canon _ _ _ _ (View.cover_of_tiled_head _ _ _ rfl _)).trans ?_
  refine View.canon_eq_of_allAt _ _ _ (View.cover_of_tiled_head _ _ _ rfl _) ?_
  refine View.allAt_cons_unit _ _ _ _ _ (fun y hy => ?_) (View.allAt_nil _ _)
  unfold k0_pay54
  refine (congrFun (shapeCast_self _ _) _).trans ?_
  show Ideal.ofBits .f32 0x00000000#32 = 0
  simp [Ideal.ofBits, Ideal.ieee]

/-- What the slow branch leaves in the output block. -/
def outSlow (x3 : Vec Ideal S2x128x1024 .bf16) (x4 : Vec Ideal S8192x128 .bf16)
    (x5 : Vec Ideal S16x144x512 .bf16) : Vec Ideal S256x512 .bf16 := fun y =>
  outB (fun e C => aSt (qc x3) x4 x5 4 ⟨e.val, by omega⟩ C) (fun C => aSt (qc x3) x4 x5 4 ⟨128, by omega⟩ C) (y 0) (y 1)

variable (arg2 : Memref sig .tc .smem S1 .i32) (harg2 : arg2.IsWhole) (arg3 : Memref sig .tc .vmem S2x128x1024 .bf16) (harg3 : arg3.IsWhole) (arg4 : Memref sig .tc .vmem S8192x128 .bf16) (harg4 : arg4.IsWhole) (arg5 : Memref sig .tc .vmem S16x144x512 .bf16) (harg5 : arg5.IsWhole) (arg6 : Memref sig .tc .vmem S256x512 .bf16) (harg6 : arg6.IsWhole) (arg7 : Memref sig .tc .vmem S1x2048 .f32) (harg7 : arg7.IsWhole) (arg8 : Memref sig .tc .vmem S144x2048 .f32) (harg8 : arg8.IsWhole)

set_option maxHeartbeats 1000000 in
/-- The body at such a point: it gives back what it read and leaves `outSlow` in the output block. -/
theorem runSlow (c : Dev nD) (i : grid0.Coords)
    (x0 : Vec Ideal S1 .i32) (x3 : Vec Ideal S2x128x1024 .bf16) (x4 : Vec Ideal S8192x128 .bf16) (x5 : Vec Ideal S16x144x512 .bf16) (h1 : ¬flagOne (flagAt arg2 harg2 x0)) (h0 : flagZero (flagAt arg2 harg2 x0)) (E : Set ℕ) (Φ : PUnit → sProp 𝕄) :
    iprop(owns (c : Thread nD τ) arg2 fullShare x0 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x3 ∗ owns (c : Thread nD τ) arg4 fullShare x4 ∗ owns (c : Thread nD τ) arg5 fullShare x5 ∗ owns (c : Thread nD τ) arg6 fullShare (outSlow x3 x4 x5) ∗ (∃ d, owns (c : Thread nD τ) arg7 fullShare d) ∗ (∃ d, owns (c : Thread nD τ) arg8 fullShare d)) -∗ Φ ⟨⟩))
      ⊢ wp frame (wpE (defs₀ (F := Ideal)) Variants.none c none) E (cc0_gqa_attn i arg2 harg2 arg3 harg3 arg4 harg4 arg5 harg5 arg6 harg6 arg7 harg7 arg8 harg8) Φ := by
  simp only [cc0_gqa_attn_eq_skeleton]; unfold cc0_gqa_attn_skel
  simp only [k0_part10_eq_skeleton, k0_part11_eq_skeleton, k0_part12_eq_skeleton]
  unfold owns
  iintro ⟨⟨%f0, %hf0, H0⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
  obtain rfl := harg2.eq_unread hf0
  subst hf3 hf4 hf5
  have hm := start_m arg7 (k0_pay51 (arg3.view.readAt (Elt Ideal) (Rect.unit (s := S2x128x1024) ![0, 0, 0] S1x128x1024.size inb_S2x128x1024_S1x128x1024_0_0_0).toLoadRect f3)
    (arg3.view.readAt (Elt Ideal) (Rect.unit (s := S2x128x1024) ![1, 0, 0] S1x128x1024.size inb_S2x128x1024_S1x128x1024_1_0_0).toLoadRect f3)) (arg4.view.read (Elt Ideal) f4)
  have ha := start_a arg8 (k0_pay51 (arg3.view.readAt (Elt Ideal) (Rect.unit (s := S2x128x1024) ![0, 0, 0] S1x128x1024.size inb_S2x128x1024_S1x128x1024_0_0_0).toLoadRect f3)
    (arg3.view.readAt (Elt Ideal) (Rect.unit (s := S2x128x1024) ![1, 0, 0] S1x128x1024.size inb_S2x128x1024_S1x128x1024_1_0_0).toLoadRect f3)) (arg4.view.read (Elt Ideal) f4) (arg5.view.read (Elt Ideal) f5)
  sl_exec (disch := first | sl_exact h1 | sl_exact h0)
  sl_step
  iapply Hk
  isplitl [H0]; · iexists _; isplitr; · ipureintro; exact hf0
                  iexact H0
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]
  · iexists _; isplitr; swap
    · iexact H6
    · ipureintro
      sl_unfold_words
      have e3 : k0_pay51 (arg3.view.readAt (Elt Ideal) (Rect.unit (s := S2x128x1024) ![0, 0, 0] S1x128x1024.size inb_S2x128x1024_S1x128x1024_0_0_0).toLoadRect f3)
          (arg3.view.readAt (Elt Ideal) (Rect.unit (s := S2x128x1024) ![1, 0, 0] S1x128x1024.size inb_S2x128x1024_S1x128x1024_1_0_0).toLoadRect f3)
          = qc (arg3.view.read (Elt Ideal) f3) :=
        congrArg₂ k0_pay51 (qv_eq arg3 f3 0 _ rfl _) (qv_eq arg3 f3 1 _ rfl _)
      have ht : Scf.trips k0_t1_loop.lb k0_t1_loop.ub k0_t1_loop.st = 4 := by decide +kernel
      have hA : ∀ (e : Fin 144) (C : Fin 2048), arg8.view.read (Elt Ideal) fL1 (ix2 e C)
          = aSt (qc (arg3.view.read (Elt Ideal) f3)) (arg4.view.read (Elt Ideal) f4) (arg5.view.read (Elt Ideal) f5) 4 e C := fun e C =>
        (hL5 e C).trans (congrArg₂ (fun q n => aSt q (arg4.view.read (Elt Ideal) f4) (arg5.view.read (Elt Ideal) f5) n e C) e3 ht)
      clear hL5
      funext y
      obtain ⟨r, e, rfl⟩ : ∃ (r : Fin 256) (e : Fin 512), y = ix2 r e := ⟨y 0, y 1, eq_ix2 y⟩
      refine (out_read arg8 fL1 (fun e C => hA ⟨e.val, by omega⟩ C) (fun C => hA ⟨128, by omega⟩ C) arg6 f6 r e).trans ?_
      rfl
  isplitl [HS0]
  · iexists _, _; isplitr; swap
    · iexact HS0
    · ipureintro; rfl
  iexists _, _; isplitr; swap
  · iexact HS1
  · ipureintro; rfl

end Cert.GqaIdeal.Gen

end
-- ==== Proof.GqaRunFast.lean ====
module

public import proofs.«01_k».proof.Proof.GqaFast
public import proofs.«01_k».proof.Proof.GqaOut
public import proofs.«01_k».proof.Proof.GqaQueries

@[expose] public section

set_option maxRecDepth 16384

noncomputable section

namespace Cert.GqaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-! The body at a point whose flag is one: one pass with no running maximum. -/

/-- What the fast branch leaves in the output block. -/
def outFast (x3 : Vec Ideal S2x128x1024 .bf16) (x4 : Vec Ideal S8192x128 .bf16)
    (x5 : Vec Ideal S16x144x512 .bf16) : Vec Ideal S256x512 .bf16 := fun y =>
  outB (fun e C => fP (qc x3) x4 x5 e C) (fun C => fL (qc x3) x4 C) (y 0) (y 1)

theorem kinb (k : Fin 4) : ∀ a, (![2048 * k.val, 0] : Fin 2 → ℕ) a + S2048x128.size a ≤ S8192x128.size a := by
  intro a; match a with | 0 => show 2048 * k.val + 2048 ≤ 8192; omega | 1 => exact Nat.le_refl _

theorem vinb (n : Fin 16) : ∀ a, (![n.val, 0, 0] : Fin 3 → ℕ) a + S1x144x512.size a ≤ S16x144x512.size a := by
  intro a; match a with | 0 => show n.val + 1 ≤ 16; omega | 1 => exact Nat.le_refl _ | 2 => exact Nat.le_refl _

variable (arg2 : Memref sig .tc .smem S1 .i32) (harg2 : arg2.IsWhole) (arg3 : Memref sig .tc .vmem S2x128x1024 .bf16) (harg3 : arg3.IsWhole) (arg4 : Memref sig .tc .vmem S8192x128 .bf16) (harg4 : arg4.IsWhole) (arg5 : Memref sig .tc .vmem S16x144x512 .bf16) (harg5 : arg5.IsWhole) (arg6 : Memref sig .tc .vmem S256x512 .bf16) (harg6 : arg6.IsWhole) (arg7 : Memref sig .tc .vmem S1x2048 .f32) (harg7 : arg7.IsWhole) (arg8 : Memref sig .tc .vmem S144x2048 .f32) (harg8 : arg8.IsWhole)

set_option maxHeartbeats 1000000 in
/-- The body at such a point: it gives back what it read and leaves `outFast` in the output block. -/
theorem runFast (c : Dev nD) (i : grid0.Coords)
    (x0 : Vec Ideal S1 .i32) (x3 : Vec Ideal S2x128x1024 .bf16) (x4 : Vec Ideal S8192x128 .bf16) (x5 : Vec Ideal S16x144x512 .bf16) (h1 : flagOne (flagAt arg2 harg2 x0)) (h0 : ¬flagZero (flagAt arg2 harg2 x0)) (E : Set ℕ) (Φ : PUnit → sProp 𝕄) :
    iprop(owns (c : Thread nD τ) arg2 fullShare x0 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x3 ∗ owns (c : Thread nD τ) arg4 fullShare x4 ∗ owns (c : Thread nD τ) arg5 fullShare x5 ∗ owns (c : Thread nD τ) arg6 fullShare (outFast x3 x4 x5) ∗ (∃ d, owns (c : Thread nD τ) arg7 fullShare d) ∗ (∃ d, owns (c : Thread nD τ) arg8 fullShare d)) -∗ Φ ⟨⟩))
      ⊢ wp frame (wpE (defs₀ (F := Ideal)) Variants.none c none) E (cc0_gqa_attn i arg2 harg2 arg3 harg3 arg4 harg4 arg5 harg5 arg6 harg6 arg7 harg7 arg8 harg8) Φ := by
  simp only [cc0_gqa_attn_eq_skeleton]; unfold cc0_gqa_attn_skel
  simp only [k0_part10_eq_skeleton, k0_part11_eq_skeleton, k0_part12_eq_skeleton]
  unfold owns
  iintro ⟨⟨%f0, %hf0, H0⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
  obtain rfl := harg2.eq_unread hf0
  subst hf3 hf4 hf5
  sl_exec (disch := first | sl_exact h1 | sl_exact h0)
  sl_step
  iapply Hk
  isplitl [H0]; · iexists _; isplitr; · ipureintro; exact hf0
                  iexact H0
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]
  · iexists _; isplitr; swap
    · iexact H6
    · ipureintro
      sl_unfold_words
      have e3 : k0_pay51 (arg3.view.readAt (Elt Ideal) (Rect.unit (s := S2x128x1024) ![0, 0, 0] S1x128x1024.size inb_S2x128x1024_S1x128x1024_0_0_0).toLoadRect f3)
          (arg3.view.readAt (Elt Ideal) (Rect.unit (s := S2x128x1024) ![1, 0, 0] S1x128x1024.size inb_S2x128x1024_S1x128x1024_1_0_0).toLoadRect f3)
          = qc (arg3.view.read (Elt Ideal) f3) :=
        congrArg₂ k0_pay51 (qv_eq arg3 f3 0 _ rfl _) (qv_eq arg3 f3 1 _ rfl _)
      have hK := fun (k : Fin 4) r d => keyBlock_at arg4 f4 k ![2048 * k.val, 0] rfl (kinb k) r d
      have hV := fun (n : Fin 16) e x => valBlock_at arg5 f5 n ![n.val, 0, 0] rfl (vinb n) e x
      have hT := two_read arg8 arg8.view.junk inb_S144x2048_S1x2048_128_0 inb_S144x2048_S128x2048_0_0
      have h57 := fun e c => (fast57 (arg3.view.readAt (Elt Ideal) (Rect.unit (s := S2x128x1024) ![0, 0, 0] S1x128x1024.size inb_S2x128x1024_S1x128x1024_0_0_0).toLoadRect f3)
          (arg3.view.readAt (Elt Ideal) (Rect.unit (s := S2x128x1024) ![1, 0, 0] S1x128x1024.size inb_S2x128x1024_S1x128x1024_1_0_0).toLoadRect f3) hK hV e c).trans
          (congrArg (fun q => fP q (arg4.view.read (Elt Ideal) f4) (arg5.view.read (Elt Ideal) f5) e c) e3)
      have h58 := fun c => (fast58 (arg3.view.readAt (Elt Ideal) (Rect.unit (s := S2x128x1024) ![0, 0, 0] S1x128x1024.size inb_S2x128x1024_S1x128x1024_0_0_0).toLoadRect f3)
          (arg3.view.readAt (Elt Ideal) (Rect.unit (s := S2x128x1024) ![1, 0, 0] S1x128x1024.size inb_S2x128x1024_S1x128x1024_1_0_0).toLoadRect f3) hK c).trans
          (congrArg (fun q => fL q (arg4.view.read (Elt Ideal) f4) c) e3)
      funext y
      obtain ⟨r, e, rfl⟩ : ∃ (r : Fin 256) (e : Fin 512), y = ix2 r e := ⟨y 0, y 1, eq_ix2 y⟩
      refine (out_read arg8 (arg8.view.writes (Elt Ideal) arg8.view.junk _) (fun e C => ((hT _ _).1 e C).trans (h57 e C))
        (fun C => ((hT _ _).2 C).trans (h58 C)) arg6 f6 r e).trans ?_
      rfl
  isplitl [HS0]
  · iexists _, _; isplitr; swap
    · iexact HS0
    · ipureintro; rfl
  iexists _, _; isplitr; swap
  · iexact HS1
  · ipureintro; rfl

end Cert.GqaIdeal.Gen

end
-- ==== Proof.GqaStaging.lean ====
module

public import proofs.«01_k».proof.Proof.GqaWords
public import proofs.«01_k».proof.Proof.Gen.GqaIdeal.Frame

@[expose] public section

set_option maxRecDepth 16384

noncomputable section

namespace Cert.GqaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! The staging buffers a point's body works on. -/

/-- Window 0's staging buffer at point `t`, and that it is a whole buffer. -/
abbrev stg0 (t : Fin cfg0.N) : Memref sig .tc .smem S1 .i32 := win0_0.stage (cfg0.slots t 0)
abbrev stgW0 (t : Fin cfg0.N) : (stg0 t).IsWhole := hstage0_0 ((cfg0.slots t 0).cast nbuf0_0)
/-- Window 1's staging buffer at point `t`, and that it is a whole buffer. -/
abbrev stg1 (t : Fin cfg0.N) : Memref sig .tc .vmem S2x128x1024 .bf16 := win0_1.stage (cfg0.slots t 1)
abbrev stgW1 (t : Fin cfg0.N) : (stg1 t).IsWhole := hstage0_1 ((cfg0.slots t 1).cast nbuf0_1)
/-- Window 2's staging buffer at point `t`, and that it is a whole buffer. -/
abbrev stg2 (t : Fin cfg0.N) : Memref sig .tc .vmem S8192x128 .bf16 := win0_2.stage (cfg0.slots t 2)
abbrev stgW2 (t : Fin cfg0.N) : (stg2 t).IsWhole := hstage0_2 ((cfg0.slots t 2).cast nbuf0_2)
/-- Window 3's staging buffer at point `t`, and that it is a whole buffer. -/
abbrev stg3 (t : Fin cfg0.N) : Memref sig .tc .vmem S16x144x512 .bf16 := win0_3.stage (cfg0.slots t 3)
abbrev stgW3 (t : Fin cfg0.N) : (stg3 t).IsWhole := hstage0_3 ((cfg0.slots t 3).cast nbuf0_3)
/-- Window 4's staging buffer at point `t`, and that it is a whole buffer. -/
abbrev stg4 (t : Fin cfg0.N) : Memref sig .tc .vmem S256x512 .bf16 := win0_4.stage (cfg0.slots t 4)
abbrev stgW4 (t : Fin cfg0.N) : (stg4 t).IsWhole := hstage0_4 ((cfg0.slots t 4).cast nbuf0_4)
/-- The running maximum's scratch buffer and the accumulator's. -/
abbrev scrM : Memref sig .tc .vmem S1x2048 .f32 := Memref.whole cc0_scratch0
abbrev scrA : Memref sig .tc .vmem S144x2048 .f32 := Memref.whole cc0_scratch1

/-- The launch's invariant with the two scratch buffers as memrefs at some contents. -/
theorem scratch_eq (c : Dev nD) :
    (Pipeline.ΦA spec0 c : sProp 𝕄)
      = iprop(iprop((∃ d, owns (c : Thread nD τ) scrM fullShare d) ∗ (∃ d, owns (c : Thread nD τ) scrA fullShare d)) ∗ (∃ r, prngReg c r)) := by
  unfold Pipeline.ΦA; rw [scopedRest0_eq]; simp only [scrM, scrA, owns_whole]; try rfl

end Cert.GqaIdeal.Gen

end
-- ==== Proof.GqaLaunch.lean ====
module

public import proofs.«01_k».proof.Proof.GqaRunSlow
public import proofs.«01_k».proof.Proof.GqaRunFast
public import proofs.«01_k».proof.Proof.GqaStaging
public import Idealize.ShloMosaic.Lib.Claim

@[expose] public section

set_option maxRecDepth 16384

noncomputable section

namespace Cert.GqaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-! The launch: at every point the body leaves the fast branch's block where the flag is one and the slow branch's where it is zero. -/

/-- The flag word is the flag array's only element. -/
theorem flagAt_eq (M : Memref sig .tc .smem S1 .i32) (hM : M.IsWhole) (x : Vec Ideal S1 .i32) : flagAt M hM x = x (ix1 0) := by
  have e1 : M.view.readAt (Elt Ideal) (Rect.unit (s := S1) ![0] S1.size inb_S1_S1_0).toLoadRect (hM.unread x) = M.view.read (Elt Ideal) (hM.unread x) :=
    View.ld_unit_zero (by decide) _ _
  have e2 : (Shape.Idx.first (numel1_S1.symm ▸ Nat.one_pos) : S1.Idx) = ix1 0 := by
    funext a; match a with | 0 => exact Subsingleton.elim (α := Fin 1) _ _
  unfold flagAt
  rw [e2]
  exact (congrFun e1 _).trans (congrFun (hM.read_unread x) _)

/-- What the two branches leave, by the flag. -/
def outOf (w : BitVec 32) (x3 : Vec Ideal S2x128x1024 .bf16) (x4 : Vec Ideal S8192x128 .bf16)
    (x5 : Vec Ideal S16x144x512 .bf16) : Vec Ideal S256x512 .bf16 :=
  if w = 1#32 then outFast x3 x4 x5 else outSlow x3 x4 x5

/-- The body at a point, the flag being one or zero. -/
theorem run_body (c : Dev nD) (i : grid0.Coords) (arg2 : Memref sig .tc .smem S1 .i32) (harg2 : arg2.IsWhole) (arg3 : Memref sig .tc .vmem S2x128x1024 .bf16) (harg3 : arg3.IsWhole) (arg4 : Memref sig .tc .vmem S8192x128 .bf16) (harg4 : arg4.IsWhole) (arg5 : Memref sig .tc .vmem S16x144x512 .bf16) (harg5 : arg5.IsWhole) (arg6 : Memref sig .tc .vmem S256x512 .bf16) (harg6 : arg6.IsWhole) (arg7 : Memref sig .tc .vmem S1x2048 .f32) (harg7 : arg7.IsWhole) (arg8 : Memref sig .tc .vmem S144x2048 .f32) (harg8 : arg8.IsWhole)
    (x0 : Vec Ideal S1 .i32) (x3 : Vec Ideal S2x128x1024 .bf16) (x4 : Vec Ideal S8192x128 .bf16) (x5 : Vec Ideal S16x144x512 .bf16)
    (h : x0 (ix1 0) = 1#32 ∨ x0 (ix1 0) = 0#32) (E : Set ℕ) (Φ : PUnit → sProp 𝕄) :
    iprop(owns (c : Thread nD τ) arg2 fullShare x0 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x3 ∗ owns (c : Thread nD τ) arg4 fullShare x4 ∗ owns (c : Thread nD τ) arg5 fullShare x5 ∗ owns (c : Thread nD τ) arg6 fullShare (outOf (x0 (ix1 0)) x3 x4 x5) ∗ (∃ d, owns (c : Thread nD τ) arg7 fullShare d) ∗ (∃ d, owns (c : Thread nD τ) arg8 fullShare d)) -∗ Φ ⟨⟩))
      ⊢ wp frame (wpE (defs₀ (F := Ideal)) Variants.none c none) E (cc0_gqa_attn i arg2 harg2 arg3 harg3 arg4 harg4 arg5 harg5 arg6 harg6 arg7 harg7 arg8 harg8) Φ := by
  have hw := flagAt_eq arg2 harg2 x0
  rcases h with h | h
  · rw [show outOf (x0 (ix1 0)) x3 x4 x5 = outFast x3 x4 x5 from if_pos h]
    exact runFast arg2 harg2 arg3 harg3 arg4 harg4 arg5 harg5 arg6 harg6 arg7 harg7 arg8 harg8 c i x0 x3 x4 x5
      (by rw [hw, h]; decide) (by rw [hw, h]; decide) E Φ
  · rw [show outOf (x0 (ix1 0)) x3 x4 x5 = outSlow x3 x4 x5 from if_neg (by rw [h]; decide)]
    exact runSlow arg2 harg2 arg3 harg3 arg4 harg4 arg5 harg5 arg6 harg6 arg7 harg7 arg8 harg8 c i x0 x3 x4 x5
      (by rw [hw, h]; decide) (by rw [hw, h]; decide) E Φ

variable (m : (ℓ : Loc nD τ sig) → Buf (Elt Ideal) ℓ) (ρ : Dev nD → PrngReg)

/-- The block the body leaves at point `t`. -/
def outAt (c : Dev nD) (t : Fin cfg0.N) : Vec Ideal S256x512 .bf16 :=
  outOf ((iblk m c 0 t : Vec Ideal S1 .i32) (ix1 0)) (iblk m c 1 t) (iblk m c 2 t) (iblk m c 3 t)

/-- The proof data: the arrays as the region finds them, each input's buffer at its block, the output's at `outAt`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t))

/-- The body at any point. -/
theorem sound_body (c : Dev nD) (t : Fin cfg0.N)
    (h : (iblk m c 0 t : Vec Ideal S1 .i32) (ix1 0) = 1#32 ∨ (iblk m c 0 t : Vec Ideal S1 .i32) (ix1 0) = 0#32) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, scratch_eq]
  iintro ⟨⟨⟨HS0, HS1⟩, Hg⟩, Ho, ⟨%d0, H0⟩, ⟨%d1, H1⟩, ⟨%d2, H2⟩, ⟨%d3, H3⟩, ⟨%d4, H4⟩⟩
  iapply (run_body c (grid0.coords t) _ _ _ _ _ _ _ _ _ _ _ _ _ _ (iblk m c 0 t) (iblk m c 1 t) (iblk m c 2 t) (iblk m c 3 t) h Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, H4, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := Ideal) .tc cfg0.body (cfg0.bodyArgs t (cfg0.slots t)) = bodyAt0 t := by
  unfold defs₀; rw [Defs.onTc_tc]

/-- The body obligation, at every point, the flag being one or zero. -/
theorem body_obligation (c : Dev nD)
    (h : ∀ t, (iblk m c 0 t : Vec Ideal S1 .i32) (ix1 0) = 1#32 ∨ (iblk m c 0 t : Vec Ideal S1 .i32) (ix1 0) = 0#32) :
    BodyObligation (dats m 0 c) (defs₀ (F := Ideal)) Variants.none () Set.univ := fun t => by
  rw [bigSep_W0, bigSep_W0, defs₀_row]
  exact triple_restated (sound_body m c t (h t)) rfl .rfl fun _ => .rfl

set_option backward.isDefEq.respectTransparency.types false in
set_option maxHeartbeats 800000 in
/-- The run: every array of the pipeline ends at what the proof data says, every counter at zero. -/
theorem run_quiescent (h : ∀ c t, (iblk m c 0 t : Vec Ideal S1 .i32) (ix1 0) = 1#32 ∨ (iblk m c 0 t : Vec Ideal S1 .i32) (ix1 0) = 0#32) :
    θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c (h c)).loose) (hshare := fun c => (dats m 0 c).share_full fun _ => rfl)
    (howed := fun _ _ => rfl) (V := V m) (hmain := hmain m Variants.none) (hA := A_eq m) (hΦ := fun _ _ => rfl)

end Cert.GqaIdeal.Gen

end
-- ==== Proof.GqaBlock.lean ====
module

public import proofs.«01_k».proof.Proof.GqaCoords
public import proofs.«01_k».proof.Proof.GqaLaunch

@[expose] public section

set_option maxRecDepth 16384

noncomputable section

namespace Cert.GqaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The value of an output element: a head's weighted mean. -/

section Spec

variable (xq : FVec Ideal S4x8192x2x4x64 .f32) (xk xv : FVec Ideal S4x8192x2x64 .f32) (b : Fin 4) (s : Fin 8192) (g : Fin 2) (h : Fin 4)

/-- The scaled score of token `T` for the query of token `s` in head `h` of group `g`. -/
def score (T : Fin 8192) : ℝ :=
  (∑ d : Fin 64, EReal.toReal (xq (ix5 b s g h d)) * EReal.toReal (xk (ix4 b T g d))) / 8

/-- The softmax of the group's values. -/
def att (e : Fin 64) : ℝ := mean (score xq xk b s g h) fun T => EReal.toReal (xv (ix4 b T g e))

end Spec

/-- A score is the sum over the two halves of the lanes. -/
theorem sc_halves (q : FVec Ideal S128x2048 .bf16) (K : Vec Ideal S8192x128 .bf16) (k : Fin 4) (r c : Fin 2048) :
    sc q K k r c = (∑ d : Fin 64, (K (ix2 (⟨2048 * k.val + r.val, by omega⟩ : Fin 8192) (⟨d.val, by omega⟩ : Fin 128)) : EReal) * q (ix2 (⟨d.val, by omega⟩ : Fin 128) c))
      + ∑ d : Fin 64, (K (ix2 (⟨2048 * k.val + r.val, by omega⟩ : Fin 8192) (⟨64 + d.val, by omega⟩ : Fin 128)) : EReal) * q (ix2 (⟨64 + d.val, by omega⟩ : Fin 128) c) :=
  Fin.sum_univ_add (a := 64) (b := 64) (fun d : Fin (64 + 64) => (K (ix2 (⟨2048 * k.val + r.val, by omega⟩ : Fin 8192) d) : EReal) * q (ix2 d c))

/-- A scaled product of reals. -/
theorem dot_real (a k : Fin 64 → ℝ) : ∑ d, (k d : EReal) * ((a d : EReal) * (((8 * Real.log 2)⁻¹ : ℝ) : EReal))
    = (((∑ d, a d * k d) / 8 / Real.log 2 : ℝ) : EReal) := by
  rw [div_div, div_eq_mul_inv, Finset.sum_mul, coe_sum]
  refine Finset.sum_congr rfl fun d _ => ?_
  rw [← EReal.coe_mul, ← EReal.coe_mul]
  congr 1
  ring

section Block

variable (x3 : Vec Ideal S2x128x1024 .bf16) (x4 : Vec Ideal S8192x128 .bf16) (j : Fin 2) (r : Fin 512) (a : Fin 64 → ℝ) (κv : Fin 8192 → Fin 64 → ℝ)

/-- A score against a column of group 0. -/
theorem sc_map0 (h0 : ∀ d : Fin 64, (x3 (ix3 j (⟨d.val, by omega⟩ : Fin 128) (⟨r.val, by omega⟩ : Fin 1024)) : EReal) = a d)
    (h1 : ∀ d : Fin 64, (x3 (ix3 j (⟨64 + d.val, by omega⟩ : Fin 128) (⟨r.val, by omega⟩ : Fin 1024)) : EReal) = 0)
    (hk : ∀ (T : Fin 8192) (d : Fin 64), (x4 (ix2 T (⟨d.val, by omega⟩ : Fin 128)) : EReal) = κv T d) (k : Fin 4) (u : Fin 2048) :
    sc (qc x3) x4 k u ⟨1024 * j.val + r.val, by omega⟩ = (((∑ d, a d * κv ⟨2048 * k.val + u.val, by omega⟩ d) / 8 / Real.log 2 : ℝ) : EReal) := by
  have e := fun d => qc_at x3 j d ⟨r.val, by omega⟩
  rw [sc_halves]
  simp only [e, h0, h1, hk, zero_mul, mul_zero, Finset.sum_const_zero, add_zero]
  exact dot_real a _

/-- A score against a column of group 1. -/
theorem sc_map1 (h0 : ∀ d : Fin 64, (x3 (ix3 j (⟨d.val, by omega⟩ : Fin 128) (⟨512 + r.val, by omega⟩ : Fin 1024)) : EReal) = 0)
    (h1 : ∀ d : Fin 64, (x3 (ix3 j (⟨64 + d.val, by omega⟩ : Fin 128) (⟨512 + r.val, by omega⟩ : Fin 1024)) : EReal) = a d)
    (hk : ∀ (T : Fin 8192) (d : Fin 64), (x4 (ix2 T (⟨64 + d.val, by omega⟩ : Fin 128)) : EReal) = κv T d) (k : Fin 4) (u : Fin 2048) :
    sc (qc x3) x4 k u ⟨1024 * j.val + (512 + r.val), by omega⟩ = (((∑ d, a d * κv ⟨2048 * k.val + u.val, by omega⟩ d) / 8 / Real.log 2 : ℝ) : EReal) := by
  have e := fun d => qc_at x3 j d ⟨512 + r.val, by omega⟩
  rw [sc_halves]
  simp only [e, h0, h1, hk, zero_mul, mul_zero, Finset.sum_const_zero, zero_add]
  exact dot_real a _

end Block

theorem col_lt (r : Fin 256) (l : Fin 512) : 1024 * (r.val / 128) + 128 * (l.val / 64) + r.val % 128 < 2048 := by omega

theorem lane_lt (l : Fin 512) : 64 * (l.val / 256) + l.val % 64 < 128 := by omega

/-- What a point leaves at a row and a lane of its output block, when the scores of their column and the values of their lane are reals. -/
theorem outOf_real (w : BitVec 32) (x3 : Vec Ideal S2x128x1024 .bf16) (x4 : Vec Ideal S8192x128 .bf16) (x5 : Vec Ideal S16x144x512 .bf16)
    (r : Fin 256) (l : Fin 512) (t v : Fin 8192 → ℝ) (C : Fin 2048) (e : Fin 128)
    (hC : C.val = 1024 * (r.val / 128) + 128 * (l.val / 64) + r.val % 128) (he : e.val = 64 * (l.val / 256) + l.val % 64)
    (hs : ∀ (k : Fin 4) (u : Fin 2048), sc (qc x3) x4 k u C = ((t ⟨2048 * k.val + u.val, by omega⟩ / Real.log 2 : ℝ) : EReal))
    (hv : ∀ (n : Fin 16) (y : Fin 512), (x5 (ix3 n (⟨e.val, by omega⟩ : Fin 144) y) : EReal) = ((v ⟨n.val * 512 + y.val, by omega⟩ : ℝ) : EReal))
    (h1 : ∀ (n : Fin 16) (y : Fin 512), (x5 (ix3 n (⟨128, by omega⟩ : Fin 144) y) : EReal) = 1) :
    outOf w x3 x4 x5 (ix2 r l) = ((mean t v : ℝ) : EReal) := by
  have hv' : ∀ (k : Fin 4) (u : Fin 2048), vl x5 k u ⟨e.val, by omega⟩ = ((v ⟨2048 * k.val + u.val, by omega⟩ : ℝ) : EReal) := fun k u => by
    refine (hv _ _).trans (congrArg (fun T : Fin 8192 => ((v T : ℝ) : EReal)) (Fin.ext ?_))
    show (4 * k.val + u.val / 512) * 512 + u.val % 512 = 2048 * k.val + u.val
    omega
  have hu : ∀ (k : Fin 4) (u : Fin 2048), vl x5 k u ⟨128, by omega⟩ = 1 := fun k u => h1 _ _
  obtain rfl : C = ⟨1024 * (r.val / 128) + 128 * (l.val / 64) + r.val % 128, col_lt r l⟩ := Fin.ext hC
  obtain rfl : e = ⟨64 * (l.val / 256) + l.val % 64, lane_lt l⟩ := Fin.ext he
  by_cases hw : w = 1#32
  · rw [show outOf w x3 x4 x5 = outFast x3 x4 x5 from if_pos hw]
    exact (fast_mean _ _ (fun p => t ⟨2048 * p.1.val + p.2.val, by omega⟩) (fun p => v ⟨2048 * p.1.val + p.2.val, by omega⟩) hs hv').trans
      (congrArg _ (mean_tiles t v))
  · rw [show outOf w x3 x4 x5 = outSlow x3 x4 x5 from if_neg hw]
    exact (slow_mean _ _ _ (fun p => t ⟨2048 * p.1.val + p.2.val, by omega⟩) (fun p => v ⟨2048 * p.1.val + p.2.val, by omega⟩) hs hv' hu).trans
      (congrArg _ (mean_tiles t v))

end Cert.GqaIdeal.Gen

end
-- ==== Proof.GqaKernelValue.lean ====
module

public import proofs.«01_k».proof.Proof.GqaBlock

@[expose] public section

set_option maxRecDepth 16384

noncomputable section

namespace Cert.GqaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The output array of the launch, element by element. -/

theorem idx : ∀ t : Fin cfg0.N, win0_0.index t = ![0] ∧ win0_1.index t = ![t.val, 0, 0] ∧ win0_2.index t = ![t.val / 32, 0]
    ∧ win0_3.index t = ![t.val / 32, 0, 0] ∧ win0_4.index t = ![t.val, 0] ∧ t.val < 128 :=
  (by decide +kernel : ∀ t : Fin grid0.N, _)

variable (m : (ℓ : Loc nD τ sig) → Buf (Elt Ideal) ℓ) (c : Dev nD)

/-- The arguments the value is stated over. -/
abbrev aq : FVec Ideal S4x8192x2x4x64 .f32 := m ((c : Thread nD τ).loc main_arg0)
abbrev ak : FVec Ideal S4x8192x2x64 .f32 := m ((c : Thread nD τ).loc main_arg1)
abbrev av : FVec Ideal S4x8192x2x64 .f32 := m ((c : Thread nD τ).loc main_arg2)

/-- The result at a row and a lane. -/
def resAt (xq : FVec Ideal S4x8192x2x4x64 .f32) (xk xv : FVec Ideal S4x8192x2x64 .f32) (T : Fin 32768) (l : Fin 512) : EReal :=
  ((att xq xk xv ⟨T.val / 8192, by omega⟩ ⟨T.val % 8192, by omega⟩ ⟨l.val / 256, by omega⟩ ⟨l.val / 64 % 4, by omega⟩ ⟨l.val % 64, by omega⟩ : ℝ) : EReal)

section Blocks

variable (t : Fin cfg0.N)

theorem blk0 : (iblk m c 0 t : Vec Ideal S1 .i32) (ix1 0) = (V m c main_v36 : Vec Ideal S1 .i32) (ix1 0) := by
  blk_ext [iblk, idx t]

theorem lt_t : t.val < 128 := (idx t).2.2.2.2.2

theorem blk1 (j : Fin 2) (d : Fin 128) (C : Fin 1024) : (iblk m c 1 t : Vec Ideal S2x128x1024 .bf16) (ix3 j d C)
    = packQ (aq m c) (ix3 (⟨2 * t.val + j.val, by have := lt_t t; omega⟩ : Fin 256) (⟨d.val, by omega⟩ : Fin 256) C) := by
  rw [← packQ_eq m c]
  blk_ext [iblk, idx t]

theorem blk2 (T : Fin 8192) (d : Fin 128) : (iblk m c 2 t : Vec Ideal S8192x128 .bf16) (ix2 T d)
    = packK (ak m c) (ix2 (⟨8192 * (t.val / 32) + T.val, by have := lt_t t; omega⟩ : Fin 32768) (⟨d.val, by omega⟩ : Fin 256)) := by
  rw [← packK_eq m c]
  blk_ext [iblk, idx t]

theorem blk3 (n : Fin 16) (e : Fin 144) (y : Fin 512) : (iblk m c 3 t : Vec Ideal S16x144x512 .bf16) (ix3 n e y)
    = packV (av m c) (ix3 (⟨16 * (t.val / 32) + n.val, by have := lt_t t; omega⟩ : Fin 64) e y) := by
  rw [← packV_eq m c]
  blk_ext [iblk, idx t]

end Blocks

/-- The flag's block is one or zero. -/
theorem flag_block (t : Fin cfg0.N) : (iblk m c 0 t : Vec Ideal S1 .i32) (ix1 0) = 1#32 ∨ (iblk m c 0 t : Vec Ideal S1 .i32) (ix1 0) = 0#32 := by
  rw [blk0 m c t]
  exact flag_cases m c

variable (hq : ∀ i, aq m c i = ((EReal.toReal (aq m c i) : ℝ) : EReal)) (hk : ∀ i, ak m c i = ((EReal.toReal (ak m c i) : ℝ) : EReal))
  (hv : ∀ i, av m c i = ((EReal.toReal (av m c i) : ℝ) : EReal))

include hk in
/-- A key of a batch, in the lanes of its group. -/
theorem key (t : Fin cfg0.N) (g : Fin 2) (T : Fin 8192) (d : Fin 64) (z : Fin 128) (hz : z.val = 64 * g.val + d.val) :
    ((iblk m c 2 t : Vec Ideal S8192x128 .bf16) (ix2 T z) : EReal)
      = ((EReal.toReal (ak m c (ix4 (⟨t.val / 32, by have := lt_t t; omega⟩ : Fin 4) T g d)) : ℝ) : EReal) := by
  have ht := lt_t t
  refine (blk2 m c t T z).trans (Eq.trans ?_ ((packK_at d (ak m c) ⟨8192 * (t.val / 32) + T.val, by omega⟩ g).trans (Eq.trans ?_ (hk _))))
  · exact congrArg (packK (ak m c)) (by congr 1; exact Fin.ext hz)
  · exact congrArg (ak m c) (by congr 1 <;> exact Fin.ext (by simp only; omega))

include hv in
/-- A value of a batch, in the rows of its group. -/
theorem val (t : Fin cfg0.N) (g : Fin 2) (n : Fin 16) (y : Fin 512) (d : Fin 64) (z : Fin 144) (hz : z.val = 64 * g.val + d.val) :
    ((iblk m c 3 t : Vec Ideal S16x144x512 .bf16) (ix3 n z y) : EReal)
      = ((EReal.toReal (av m c (ix4 (⟨t.val / 32, by have := lt_t t; omega⟩ : Fin 4) (⟨n.val * 512 + y.val, by omega⟩ : Fin 8192) g d)) : ℝ) : EReal) := by
  have ht := lt_t t
  refine (blk3 m c t n z y).trans (Eq.trans ?_ ((packV_at d (av m c) ⟨16 * (t.val / 32) + n.val, by omega⟩ y g).trans (Eq.trans ?_ (hv _))))
  · exact congrArg (packV (av m c)) (by congr 1; exact Fin.ext hz)
  · exact congrArg (av m c) (by congr 1 <;> exact Fin.ext (by simp only; omega))

include hq hk in
/-- The scores of a query's column. -/
theorem scores (t : Fin cfg0.N) (r : Fin 256) (g : Fin 2) (h : Fin 4) (C : Fin 2048) (hC : C.val = 1024 * (r.val / 128) + 512 * g.val + 128 * h.val + r.val % 128)
    (k : Fin 4) (u : Fin 2048) : sc (qc (iblk m c 1 t : Vec Ideal S2x128x1024 .bf16)) (iblk m c 2 t : Vec Ideal S8192x128 .bf16) k u C
      = ((score (aq m c) (ak m c) ⟨t.val / 32, by have := lt_t t; omega⟩ ⟨256 * (t.val % 32) + r.val, by omega⟩ g h ⟨2048 * k.val + u.val, by omega⟩ / Real.log 2 : ℝ) : EReal) := by
  have ht := lt_t t
  have hb : (2 * t.val + r.val / 128) / 64 = t.val / 32 := by omega
  have hs : (2 * t.val + r.val / 128) % 64 * 128 + r.val % 128 = 256 * (t.val % 32) + r.val := by omega
  obtain rfl | rfl : g = 0 ∨ g = 1 := by omega
  · refine (congrArg (sc _ _ k u) (Fin.ext ?_)).trans (sc_map0 _ _ (⟨r.val / 128, by omega⟩ : Fin 2) (⟨128 * h.val + r.val % 128, by omega⟩ : Fin 512)
      (fun d => EReal.toReal (aq m c (ix5 (⟨t.val / 32, by omega⟩ : Fin 4) (⟨256 * (t.val % 32) + r.val, by omega⟩ : Fin 8192) (0 : Fin 2) h d)))
      (fun T d => EReal.toReal (ak m c (ix4 (⟨t.val / 32, by omega⟩ : Fin 4) T (0 : Fin 2) d))) ?_ ?_ ?_ k u)
    · simp only [hC, Fin.val_zero]; omega
    · intro d
      refine (blk1 m c t _ _ _).trans ((packQ_00 (aq m c) _ h (⟨r.val % 128, by omega⟩ : Fin 128) d).trans (Eq.trans ?_ (hq _)))
      exact congrArg (aq m c) (by congr 1 <;> exact Fin.ext (by simp only [hb, hs]))
    · intro d
      exact (blk1 m c t _ _ _).trans (packQ_01 (aq m c) _ h (⟨r.val % 128, by omega⟩ : Fin 128) d)
    · intro T d
      exact key m c hk t 0 T d _ (by simp)
  · refine (congrArg (sc _ _ k u) (Fin.ext ?_)).trans (sc_map1 _ _ (⟨r.val / 128, by omega⟩ : Fin 2) (⟨128 * h.val + r.val % 128, by omega⟩ : Fin 512)
      (fun d => EReal.toReal (aq m c (ix5 (⟨t.val / 32, by omega⟩ : Fin 4) (⟨256 * (t.val % 32) + r.val, by omega⟩ : Fin 8192) (1 : Fin 2) h d)))
      (fun T d => EReal.toReal (ak m c (ix4 (⟨t.val / 32, by omega⟩ : Fin 4) T (1 : Fin 2) d))) ?_ ?_ ?_ k u)
    · simp only [hC, Fin.val_one]; omega
    · intro d
      exact (blk1 m c t _ _ _).trans (packQ_10 (aq m c) _ h (⟨r.val % 128, by omega⟩ : Fin 128) d)
    · intro d
      refine (blk1 m c t _ _ _).trans ((packQ_11 (aq m c) _ h (⟨r.val % 128, by omega⟩ : Fin 128) d).trans (Eq.trans ?_ (hq _)))
      exact congrArg (aq m c) (by congr 1 <;> exact Fin.ext (by simp only [hb, hs]))
    · intro T d
      exact key m c hk t 1 T d _ (by simp)

include hq hk hv in
/-- A point's block at a row and a lane. -/
theorem point (t : Fin cfg0.N) (r : Fin 256) (l : Fin 512) : outAt m c t (ix2 r l)
    = ((att (aq m c) (ak m c) (av m c) ⟨t.val / 32, by have := lt_t t; omega⟩ ⟨256 * (t.val % 32) + r.val, by omega⟩ ⟨l.val / 256, by omega⟩
        ⟨l.val / 64 % 4, by omega⟩ ⟨l.val % 64, by omega⟩ : ℝ) : EReal) := by
  refine outOf_real _ _ _ _ r l _ _ (⟨1024 * (r.val / 128) + 128 * (l.val / 64) + r.val % 128, by omega⟩ : Fin 2048) (⟨64 * (l.val / 256) + l.val % 64, by omega⟩ : Fin 128)
    rfl rfl (scores m c hq hk t r ⟨l.val / 256, by omega⟩ ⟨l.val / 64 % 4, by omega⟩ _ ?_) (fun n y => ?_) (fun n y => ?_)
  · simp only; omega
  · exact val m c hv t ⟨l.val / 256, by omega⟩ n y ⟨l.val % 64, by omega⟩ _ rfl
  · exact (blk3 m c t _ _ _).trans (packV_one _ _ _)

/-- A result by its token and lane. -/
theorem resAt_of (xq : FVec Ideal S4x8192x2x4x64 .f32) (xk xv : FVec Ideal S4x8192x2x64 .f32)
    {b : Fin 4} {s : Fin 8192} {g : Fin 2} {h : Fin 4} {e : Fin 64} {T : Fin 32768} {l : Fin 512} (hb : T.val / 8192 = b.val) (hs : T.val % 8192 = s.val)
    (hg : l.val / 256 = g.val) (hh : l.val / 64 % 4 = h.val) (he : l.val % 64 = e.val) :
    ((att xq xk xv b s g h e : ℝ) : EReal) = resAt xq xk xv T l := by
  unfold resAt
  rw [show (⟨T.val / 8192, by omega⟩ : Fin 4) = b from Fin.ext hb, show (⟨T.val % 8192, by omega⟩ : Fin 8192) = s from Fin.ext hs,
    show (⟨l.val / 256, by omega⟩ : Fin 2) = g from Fin.ext hg, show (⟨l.val / 64 % 4, by omega⟩ : Fin 4) = h from Fin.ext hh,
    show (⟨l.val % 64, by omega⟩ : Fin 64) = e from Fin.ext he]

include hq hk hv in
/-- The output array after the run. -/
theorem final : (dats m 0 c).arrAt 4 (cfgs 0).N
    = fun i : S32768x512.Idx => resAt (aq m c) (ak m c) (av m c) (i 0) (i 1) := by
  refine (dats m 0 c).arrAt_eq_of_covers 4 _ (by decide +kernel) fun t _ y => ?_
  blk_simp
  rw [after0_4]
  have ht := lt_t t
  obtain ⟨y0, y1, rfl⟩ : ∃ (y0 : Fin 256) (y1 : Fin 512), y = ix2 y0 y1 := ⟨y 0, y 1, eq_ix2 y⟩
  refine (point m c hq hk hv t y0 y1).trans (resAt_of _ _ _ ?_ ?_ ?_ ?_ ?_)
  all_goals blk_simp [idx t]
  all_goals (try simp only)
  all_goals omega

end Cert.GqaIdeal.Gen

end
-- ==== Proof.GqaRefValue.lean ====
module

public import proofs.«01_k».proof.Proof.Gen.GqaReferenceIdeal.Run
public import proofs.«01_k».proof.Proof.GqaKernelValue

@[expose] public section

set_option maxRecDepth 16384

noncomputable section

namespace Cert.GqaReferenceIdeal.Value

open Cert.GqaReferenceIdeal Cert.GqaReferenceIdeal.Gen Idealize.ShloMosaic Idealize.ShloMosaic.TcCoe Idealize.SL.Sem Idealize.ShloMosaic.StableHlo
open Cert.GqaIdeal.Gen (score att resAt mean coe_sum ref_weight ref_mean)

/-! The reference's result, stage by stage. -/

variable (xq : FVec Ideal S4x8192x2x4x64 .f32) (xk xv : FVec Ideal S4x8192x2x64 .f32)

/-- The scaled scores. -/
def refS : FVec Ideal S4x2x4x8192x8192 .f32 :=
  mulf (transpose S4x2x4x8192x8192 [0, 1, 4, 3, 2] (Host.dotGeneral dot_S4x8192x2x64_S4x8192x2x4x64_S4x2x8192x8192x4_3_4_1_13_02_02 none xk xq)
      transposes_S4x2x8192x8192x4_S4x2x4x8192x8192_0_1_4_3_2)
    (broadcastInDim S4x2x4x8192x8192 ![] bcast_S_S4x2x4x8192x8192 (constant S_ .f32 0x3E000000#32))

/-- A row's largest score. -/
def refM (s : FVec Ideal S4x2x4x8192x8192 .f32) : FVec Ideal S4x2x4x8192 .f32 :=
  maximumf (broadcastInDim S4x2x4x8192 ![] bcast_S_S4x2x4x8192 (constant S_ .f32 0xFF800000#32))
    (Host.reduce FloatOps.maximumf s (constant S_ .f32 0xFF800000#32) reducesTo_S4x2x4x8192x8192_S4x2x4x8192_d4 h_S_)

/-- Their exponentials, the row's largest score taken off. -/
def refE (s : FVec Ideal S4x2x4x8192x8192 .f32) : FVec Ideal S4x2x4x8192x8192 .f32 :=
  Host.exp (subf s (broadcastInDim S4x2x4x8192x8192 ![0, 1, 2, 3, 4] bcast_S4x2x4x8192x1_S4x2x4x8192x8192_0_1_2_3_4
    (broadcastInDim S4x2x4x8192x1 ![0, 1, 2, 3] bcast_S4x2x4x8192_S4x2x4x8192x1_0_1_2_3 (refM s))))

/-- The softmax. -/
def refP (e : FVec Ideal S4x2x4x8192x8192 .f32) : FVec Ideal S4x2x4x8192x8192 .f32 :=
  Host.divf e (broadcastInDim S4x2x4x8192x8192 ![0, 1, 2, 3, 4] bcast_S4x2x4x8192x1_S4x2x4x8192x8192_0_1_2_3_4
    (broadcastInDim S4x2x4x8192x1 ![0, 1, 2, 3] bcast_S4x2x4x8192_S4x2x4x8192x1_0_1_2_3
      (Host.reduceAdd e (constant S_ .f32 0x00000000#32) reducesTo_S4x2x4x8192x8192_S4x2x4x8192_d4 h_S_)))

/-- The attention, in the result's shape. -/
def refA (p : FVec Ideal S4x2x4x8192x8192 .f32) : FVec Ideal S32768x512 .bf16 :=
  truncf .bf16 (shapeCast S32768x512 (transpose S4x8192x2x4x64 [0, 4, 1, 3, 2]
    (Host.dotGeneral dot_S4x8192x2x64_S4x2x4x8192x8192_S4x2x64x4x8192_1_4_3_23_02_01 none xv p)
    transposes_S4x2x64x4x8192_S4x8192x2x4x64_0_4_1_3_2) shapeCasts_S4x8192x2x4x64_S32768x512) bitsLt_bf16_f32

/-- The run leaves what the stages say. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18) = refA (m ((c.tc : Thread nD τ).loc main_arg2))
          (refP (refE (refS (m ((c.tc : Thread nD τ).loc main_arg0)) (m ((c.tc : Thread nD τ).loc main_arg1)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  run m ρ

/-! The stages at coordinates. -/

variable (B : Fin 4) (g : Fin 2) (h : Fin 4) (s T : Fin 8192) (e : Fin 64)

theorem eighth : Ideal.ofBits .f32 0x3E000000#32 = ((8⁻¹ : ℝ) : EReal) := by
  simp [Ideal.ofBits, Ideal.ieee, -EReal.coe_mul]
  norm_num

theorem neg_inf : Ideal.ofBits .f32 0xFF800000#32 = ⊥ := by
  simp [Ideal.ofBits, Ideal.ieee]

theorem refS_at (hq : ∀ i, xq i = ((EReal.toReal (xq i) : ℝ) : EReal)) (hk : ∀ i, xk i = ((EReal.toReal (xk i) : ℝ) : EReal)) :
    refS xq xk (ix5 B g h s T) = ((score xq xk B s g h T : ℝ) : EReal) := by
  pointwise [refS]
  rw [eighth, score, div_eq_mul_inv, EReal.coe_mul, coe_sum]
  refine congrArg (· * _) (Finset.sum_congr rfl fun d _ => ?_)
  rw [EReal.coe_mul, ← hq, ← hk]
  exact mul_comm _ _

theorem rowmax (x : FVec Ideal S4x2x4x8192x8192 .f32) :
    Host.reduce FloatOps.maximumf x (constant S_ .f32 0xFF800000#32) reducesTo_S4x2x4x8192x8192_S4x2x4x8192_d4 h_S_ (ix4 B g h s)
      = Finset.univ.fold max (Ideal.ofBits .f32 0xFF800000#32) fun U : Fin 8192 => (x (ix5 B g h s U) : EReal) := by
  pointwise

theorem max_at {s : Shape} (a b : FVec Ideal s .f32) (i : s.Idx) : maximumf a b i = max (a i : EReal) (b i) := rfl

theorem refM_at (x : FVec Ideal S4x2x4x8192x8192 .f32) : refM x (ix4 B g h s)
    = Finset.univ.fold max (⊥ : EReal) fun U : Fin 8192 => (x (ix5 B g h s U) : EReal) := by
  unfold refM
  rw [max_at, rowmax, neg_inf]
  exact max_eq_right (le_of_eq_of_le neg_inf bot_le)

theorem refE_at (x : FVec Ideal S4x2x4x8192x8192 .f32) : refE x (ix5 B g h s T)
    = Ideal.exp (x (ix5 B g h s T) - refM x (ix4 B g h s)) := by
  pointwise [refE]

theorem refP_at (x : FVec Ideal S4x2x4x8192x8192 .f32) : refP x (ix5 B g h s T)
    = Ideal.div (x (ix5 B g h s T)) (∑ U : Fin 8192, (x (ix5 B g h s U) : EReal)) := by
  pointwise [refP]

/-- The softmax of real scores. -/
theorem weight_at (x : FVec Ideal S4x2x4x8192x8192 .f32) (f : Fin 8192 → ℝ) (hx : ∀ T, x (ix5 B g h s T) = ((f T : ℝ) : EReal)) :
    refP (refE x) (ix5 B g h s T) = ((Real.exp (f T) / ∑ U, Real.exp (f U) : ℝ) : EReal) := by
  rw [refP_at]
  simp only [refE_at, refM_at, hx]
  exact ref_weight f T

theorem refA_at (p : FVec Ideal S4x2x4x8192x8192 .f32) (R : Fin 32768) (l : Fin 512) : refA xv p (ix2 R l)
    = ∑ T : Fin 8192, (xv (ix4 (⟨R.val / 8192, by omega⟩ : Fin 4) T (⟨l.val / 256, by omega⟩ : Fin 2) (⟨l.val % 64, by omega⟩ : Fin 64)) : EReal)
      * p (ix5 (⟨R.val / 8192, by omega⟩ : Fin 4) (⟨l.val / 256, by omega⟩ : Fin 2) (⟨l.val / 64 % 4, by omega⟩ : Fin 4) (⟨R.val % 8192, by omega⟩ : Fin 8192) T) := by
  pointwise [refA]

/-- The reference's result at a row and a lane. -/
theorem ref_at (hq : ∀ i, xq i = ((EReal.toReal (xq i) : ℝ) : EReal)) (hk : ∀ i, xk i = ((EReal.toReal (xk i) : ℝ) : EReal))
    (hv : ∀ i, xv i = ((EReal.toReal (xv i) : ℝ) : EReal)) (R : Fin 32768) (l : Fin 512) :
    refA xv (refP (refE (refS xq xk))) (ix2 R l) = resAt xq xk xv R l := by
  have hP : ∀ (B : Fin 4) (g : Fin 2) (h : Fin 4) (s T : Fin 8192), refP (refE (refS xq xk)) (ix5 B g h s T)
      = ((Real.exp (score xq xk B s g h T) / ∑ U, Real.exp (score xq xk B s g h U) : ℝ) : EReal) := fun B g h s T =>
    weight_at B g h s T _ (score xq xk B s g h) fun T => refS_at xq xk B g h s T hq hk
  rw [refA_at, resAt, att]
  simp only [hP]
  refine Eq.trans (Finset.sum_congr rfl fun T _ => ?_) (ref_mean _ _)
  rw [← hv]

end Cert.GqaReferenceIdeal.Value

end
-- ==== Proof.GqaFinite.lean ====
module

public import proofs.«01_k».proof.Proof.Gen.Pre_gqa_finite
public import Idealize.ShloMosaic.Lib.ReduceAll
public import Idealize.ShloMosaic.Lib.Pointwise

@[expose] public section

set_option maxRecDepth 16384

noncomputable section

namespace Cert.Pre_gqa_finite.Gen

open Idealize.ShloMosaic Idealize.SL.Sem Cert.Pre_gqa_finite

/-! What the precondition says: every element of the arrays it names is a real. -/

theorem inf_top : Ideal.ofBits .f32 0x7F800000#32 = ⊤ := by
  simp [Ideal.ofBits, Ideal.ieee]

/-- An extended real below infinity in size is a real. -/
theorem real_of_abs {x : EReal} (h : Ideal.cmp .olt (max x (-x)) ⊤ = 1) : x = ((EReal.toReal x : ℝ) : EReal) := by
  have h := (Ideal.cmp_olt_eq_one _ _).1 h
  induction x with
  | bot => simp at h
  | top => simp at h
  | coe r => simp

/-- An array whose elements are all below infinity in size is one of reals. -/
theorem reals {s : Shape} {axes : List (Fin s.rank)} (x : FVec Ideal s .f32) (hb : S_.BroadcastsInDim s (![] : Fin 0 → Fin s.rank))
    (h : s.ReducesTo axes S_) (hu : 0 < S_.numel) (z : S_.Idx)
    (e : Host.reduce IntOp.andi (cmpf .olt (Host.absf x) (broadcastInDim s ![] hb (constant S_ .f32 0x7F800000#32))) (constantI S_ 1 1#1) h hu z = 1#1)
    (i : s.Idx) : x i = ((EReal.toReal (x i) : ℝ) : EReal) := by
  have : Subsingleton S_.Idx := ⟨fun a b => funext fun k => k.elim0⟩
  have e := Host.reduce_andi_all _ _ h hu z e i
  refine real_of_abs (Eq.trans ?_ e)
  rw [← inf_top]
  rfl

theorem and_one {a b : BitVec 1} (h : IntOp.andi a b = 1#1) : a = 1#1 ∧ b = 1#1 := by
  revert a b
  decide

/-- The precondition, array by array. -/
theorem finite_reals {x0 : FVec Ideal S4x8192x2x4x64 .f32} {x1 x2 : FVec Ideal S4x8192x2x64 .f32} {x3 x4 : FVec Ideal S64 .f32}
    (h : fn (F := Ideal) x0 x1 x2 x3 x4 = fun _ => 1#1) :
    (∀ i, x0 i = ((EReal.toReal (x0 i) : ℝ) : EReal)) ∧ (∀ i, x1 i = ((EReal.toReal (x1 i) : ℝ) : EReal))
    ∧ (∀ i, x2 i = ((EReal.toReal (x2 i) : ℝ) : EReal)) := by
  have h := congrFun h ix0
  obtain ⟨h, e2⟩ := and_one h
  obtain ⟨e0, e1⟩ := and_one h
  exact ⟨reals x0 _ _ _ _ e0, reals x1 _ _ _ _ e1, reals x2 _ _ _ _ e2⟩

end Cert.Pre_gqa_finite.Gen

end
-- ==== Proof.MergeMath.lean ====
module

public import Idealize.ShloMosaic.Lib.Claim
public import Idealize.ShloMosaic.Lib.Pipeline.ValueKit
public import Idealize.ShloMosaic.Lib.Pointwise

@[expose] public section

noncomputable section

namespace Cert.MergeMath

open Idealize.ShloMosaic

/-! One token's row through the merge and the feed-forward network, as functions of a lane. -/

abbrev Row := Fin 1024 → EReal

/-- A gate: the logistic function of a product with its columns of the weights. -/
def gate (u : Row) (wg : Fin 1024 → Row) : Row := fun d =>
  Ideal.div 1 (1 + Ideal.exp (-∑ k : Fin 1024, u k * wg k d))

/-- A branch's part: its gate times its projection. -/
def part (u : Row) (wg : Fin 1024 → Row) (b : Fin 512 → EReal) (wb : Fin 512 → Row) : Row := fun d =>
  gate u wg d * ∑ k : Fin 512, b k * wb k d

/-- The residual with a row's projection added. -/
def added (h m : Row) (wo : Fin 1024 → Row) : Row := fun e => h e + ∑ d : Fin 1024, m d * wo d e

/-- The normalised row with gains `g`. -/
def normed (x g : Row) : Row := fun d =>
  x d * Ideal.rsqrt (Ideal.div (∑ e : Fin 1024, x e * x e) (Ideal.ofBits .f32 0x44800000#32) + Ideal.ofBits .f32 0x358637BD#32) * g d

/-- A hidden unit before its square. -/
def hidden {n : ℕ} (y : Row) (w : Fin 1024 → Fin n → EReal) (f : Fin n) : EReal := max (∑ d : Fin 1024, y d * w d f) 0

/-- What `n` hidden units add. -/
def units {n : ℕ} (y : Row) (w : Fin 1024 → Fin n → EReal) (w' : Fin n → Row) : Row := fun e =>
  ∑ f : Fin n, hidden y w f * hidden y w f * w' f e

/-- The result's row from the three branches' parts. -/
def result (h g : Row) (p : Fin 3 → Row) (wo : Fin 1024 → Row) (w₁ : Fin 1024 → Fin 4096 → EReal) (w₂ : Fin 4096 → Row) : Row := fun e =>
  added h (fun d => ∑ n, p n d) wo e + units (normed (added h (fun d => ∑ n, p n d) wo) g) w₁ w₂ e

/-- Unit `c * 1024 + f`. -/
abbrev un (c : Fin 4) (f : Fin 1024) : Fin 4096 := ⟨1024 * c.val + f.val, by omega⟩

/-- The units in four runs of 1024, in order. -/
theorem units_runs (y : Row) (w : Fin 1024 → Fin 4096 → EReal) (w' : Fin 4096 → Row) (e : Fin 1024) (x : EReal) :
    x + units y w w' e = x + units y (fun d f => w d (un 0 f)) (fun f => w' (un 0 f)) e + units y (fun d f => w d (un 1 f)) (fun f => w' (un 1 f)) e
      + units y (fun d f => w d (un 2 f)) (fun f => w' (un 2 f)) e + units y (fun d f => w d (un 3 f)) (fun f => w' (un 3 f)) e := by
  have h : ∀ φ : Fin 4096 → EReal, ∑ f, φ f = ∑ c : Fin 4, ∑ f : Fin 1024, φ (un c f) := fun φ => by
    rw [← Fintype.sum_prod_type']
    exact (Fintype.sum_equiv (finProdFinEquiv (m := 4) (n := 1024)) _ _ fun p => congrArg φ (Fin.ext (by simp [finProdFinEquiv]; omega))).symm
  rw [show units y w w' e = _ from h _, Fin.sum_univ_four, ← add_assoc, ← add_assoc, ← add_assoc]
  rfl

end Cert.MergeMath

end
-- ==== Proof.MergeBlock.lean ====
module

public import proofs.«01_k».proof.Proof.Gen.MergeIdeal.Value
public import proofs.«01_k».proof.Proof.MergeMath

@[expose] public section

set_option maxRecDepth 16384

noncomputable section

namespace Cert.MergeIdeal.Gen

open Idealize.ShloMosaic Idealize.ShloMosaic.TcCoe Idealize.ShloMosaic.Tactic
open Cert.MergeMath

/-! The body's values at a row and a lane. -/

/-- A product of 512 rows with a square matrix. -/
abbrev prod (x : FVec Ideal S512x1024 .bf16) (w : FVec Ideal S1024x1024 .bf16) : FVec Ideal S512x1024 .f32 :=
  matmul dot_S512x1024_S1024x1024_S512x1024_1_0_0_1_n_n none x w (constant S512x1024 .f32 0x00000000#32)

/-- A gate's 512 rows from their products. -/
def gateV (z : FVec Ideal S512x1024 .f32) : FVec Ideal S512x1024 .f32 :=
  divf (broadcast S512x1024 (Scalar.ofBits .f32 0x3F800000#32)) (addf (broadcast S512x1024 (Scalar.ofBits .f32 0x3F800000#32))
    (exp (subf (broadcast S512x1024 (Scalar.ofBits .f32 0x00000000#32)) z)))

/-- A branch's projection. -/
abbrev proj (b : FVec Ideal S512x512 .bf16) (w : FVec Ideal S1x512x1024 .bf16) : FVec Ideal S512x1024 .f32 := k0_pay5 b w

/-- What 1024 hidden units add, from their products. -/
def unitsV (z : FVec Ideal S512x1024 .f32) (w : FVec Ideal S1024x1024 .bf16) : FVec Ideal S512x1024 .f32 :=
  prod (truncf .bf16 (mulf (maximumf z (broadcast S512x1024 (Scalar.ofBits .f32 0x00000000#32))) (maximumf z (broadcast S512x1024 (Scalar.ofBits .f32 0x00000000#32)))) bitsLt_bf16_f32) w

theorem prod_at (x : FVec Ideal S512x1024 .bf16) (w : FVec Ideal S1024x1024 .bf16) (r : Fin 512) (d : Fin 1024) :
    (prod x w (ix2 r d) : EReal) = ∑ k : Fin 1024, (x (ix2 r k) : EReal) * w (ix2 k d) := by
  pointwise [prod]

theorem gateV_at (z : FVec Ideal S512x1024 .f32) (r : Fin 512) (d : Fin 1024) :
    (gateV z (ix2 r d) : EReal) = Ideal.div 1 (1 + Ideal.exp (-(z (ix2 r d) : EReal))) := by
  pointwise [gateV]
  rw [zero_sub]

theorem proj_at (b : FVec Ideal S512x512 .bf16) (w : FVec Ideal S1x512x1024 .bf16) (r : Fin 512) (d : Fin 1024) :
    (proj b w (ix2 r d) : EReal) = ∑ k : Fin 512, (b (ix2 r k) : EReal) * w (ix3 0 k d) := by
  pointwise [proj, k0_pay5]

theorem unitsV_at (z : FVec Ideal S512x1024 .f32) (w : FVec Ideal S1024x1024 .bf16) (r : Fin 512) (d : Fin 1024) :
    (unitsV z w (ix2 r d) : EReal) = ∑ k : Fin 1024, max (z (ix2 r k) : EReal) 0 * max (z (ix2 r k) : EReal) 0 * w (ix2 k d) := by
  pointwise [unitsV, prod]

theorem cast_sq (w : FVec Ideal S1024x1024 .bf16) : shapeCast S1024x1024 w shapeCasts_S1024x1024_S1024x1024 = w := by
  funext i
  obtain ⟨a, b, rfl⟩ : ∃ (a : Fin 1024) (b : Fin 1024), i = ix2 a b := ⟨i 0, i 1, eq_ix2 i⟩
  pointwise

theorem cast_x (w : FVec Ideal S512x1024 .bf16) : shapeCast S512x1024 w shapeCasts_S512x1024_S512x1024 = w := by
  funext i
  obtain ⟨a, b, rfl⟩ : ∃ (a : Fin 512) (b : Fin 1024), i = ix2 a b := ⟨i 0, i 1, eq_ix2 i⟩
  pointwise

/-- The first branch's part. -/
theorem pay3_eq (v0 : Vec Ideal S512x1024 .bf16) (v2 : Vec Ideal S1024x1024 .bf16) (v12 : Vec Ideal S512x512 .bf16) (v14 : Vec Ideal S1x512x1024 .bf16) :
    k0_pay3 v0 v2 v12 v14 = mulf (gateV (prod v0 v2)) (proj v12 v14) := by
  refine Eq.trans (b := mulf (gateV (prod (shapeCast S512x1024 v0 shapeCasts_S512x1024_S512x1024) (shapeCast S1024x1024 v2 shapeCasts_S1024x1024_S1024x1024))) (proj v12 v14)) rfl ?_
  rw [cast_sq, cast_x]

theorem pay4_eq (v0 : Vec Ideal S512x1024 .bf16) (v2 : Vec Ideal S1024x1024 .bf16) : k0_pay4 v0 v2 = gateV (prod v0 v2) := by
  refine Eq.trans (b := gateV (prod (shapeCast S512x1024 v0 shapeCasts_S512x1024_S512x1024) (shapeCast S1024x1024 v2 shapeCasts_S1024x1024_S1024x1024))) rfl ?_
  rw [cast_sq, cast_x]

theorem pay6_eq (v1 : FVec Ideal S512x1024 .bf16) (v17 v27 v32 : FVec Ideal S512x1024 .f32) (v35 : Vec Ideal S1024x1024 .bf16)
    (v45 : Vec Ideal S512x512 .bf16) (v47 : Vec Ideal S1x512x1024 .bf16) :
    k0_pay6 v1 v17 v27 v32 v35 v45 v47 = truncf .bf16 (addf (addf v17 (mulf v27 v32)) (mulf (gateV (prod v1 v35)) (proj v45 v47))) bitsLt_bf16_f32 := by
  refine Eq.trans (b := truncf .bf16 (addf (addf v17 (mulf v27 v32)) (mulf (gateV (prod v1 (shapeCast S1024x1024 v35 shapeCasts_S1024x1024_S1024x1024))) (proj v45 v47))) bitsLt_bf16_f32) rfl ?_
  rw [cast_sq]

/-- The three parts together. -/
theorem pay6_at (v0 : Vec Ideal S512x1024 .bf16) (g0 g1 g2 : Vec Ideal S1024x1024 .bf16) (b0 b1 b2 : Vec Ideal S512x512 .bf16)
    (w0 w1 w2 : Vec Ideal S1x512x1024 .bf16) (r : Fin 512) (d : Fin 1024) :
    (k0_pay6 (k0_pay2 v0) (k0_pay3 v0 g0 b0 w0) (k0_pay4 v0 g1) (k0_pay5 b1 w1) g2 b2 w2 (ix2 r d) : EReal)
      = part (fun k => v0 (ix2 r k)) (fun k d => g0 (ix2 k d)) (fun k => b0 (ix2 r k)) (fun k d => w0 (ix3 0 k d)) d
        + part (fun k => v0 (ix2 r k)) (fun k d => g1 (ix2 k d)) (fun k => b1 (ix2 r k)) (fun k d => w1 (ix3 0 k d)) d
        + part (fun k => v0 (ix2 r k)) (fun k d => g2 (ix2 k d)) (fun k => b2 (ix2 r k)) (fun k d => w2 (ix3 0 k d)) d := by
  have e : k0_pay2 v0 = v0 := cast_x v0
  have hp : ∀ (g : Vec Ideal S1024x1024 .bf16) (b : Vec Ideal S512x512 .bf16) (w : Vec Ideal S1x512x1024 .bf16),
      (gateV (prod v0 g) (ix2 r d) : EReal) * proj b w (ix2 r d)
        = part (fun k => v0 (ix2 r k)) (fun k d => g (ix2 k d)) (fun k => b (ix2 r k)) (fun k d => w (ix3 0 k d)) d := fun g b w => by
    rw [gateV_at, prod_at, proj_at, part, gate]
  rw [pay6_eq, pay3_eq, pay4_eq, e, ← hp g0 b0 w0, ← hp g1 b1 w1, ← hp g2 b2 w2]
  rfl

section Halves

variable (v1 : FVec Ideal S512x1024 .bf16) (v17 v27 v32 : FVec Ideal S512x1024 .f32) (v35 : Vec Ideal S1024x1024 .bf16)
    (v45 : Vec Ideal S512x512 .bf16) (v47 : Vec Ideal S1x512x1024 .bf16) (v53 : Vec Ideal S256x1024 .f32) (v56 : Vec Ideal S1024x1024 .bf16)
    (r : Fin 256) (d : Fin 1024)

/-- The residual's first 256 rows. -/
theorem pay7_at : (k0_pay7 v1 v17 v27 v32 v35 v45 v47 v53 v56 (ix2 r d) : EReal)
    = added (fun e => v53 (ix2 r e)) (fun e => k0_pay6 v1 v17 v27 v32 v35 v45 v47 (ix2 (⟨r.val, by omega⟩ : Fin 512) e)) (fun k e => v56 (ix2 k e)) d := by
  unfold k0_pay7 added
  generalize k0_pay6 v1 v17 v27 v32 v35 v45 v47 = M
  pointwise

/-- The residual's last 256 rows. -/
theorem pay8_at : (k0_pay8 v1 v17 v27 v32 v35 v45 v47 v53 v56 (ix2 r d) : EReal)
    = added (fun e => v53 (ix2 r e)) (fun e => k0_pay6 v1 v17 v27 v32 v35 v45 v47 (ix2 (⟨256 + r.val, by omega⟩ : Fin 512) e)) (fun k e => v56 (ix2 k e)) d := by
  unfold k0_pay8 added
  generalize k0_pay6 v1 v17 v27 v32 v35 v45 v47 = M
  pointwise

theorem pay9_at : (k0_pay9 v1 v17 v27 v32 v35 v45 v47 v53 v56 (ix2 r 0) : EReal)
    = ∑ e : Fin 1024, (k0_pay7 v1 v17 v27 v32 v35 v45 v47 v53 v56 (ix2 r e) : EReal) * k0_pay7 v1 v17 v27 v32 v35 v45 v47 v53 v56 (ix2 r e) := by
  unfold k0_pay9
  generalize k0_pay7 v1 v17 v27 v32 v35 v45 v47 v53 v56 = X
  pointwise

end Halves

section Norm

variable (X Y : FVec Ideal S256x1024 .f32) (s : FVec Ideal S256x1 .f32) (g g' : Vec Ideal S1x1024 .f32) (r : Fin 256) (d : Fin 1024)

theorem pay10_lo (hs : (s (ix2 r 0) : EReal) = ∑ e : Fin 1024, (X (ix2 r e) : EReal) * X (ix2 r e)) :
    (k0_pay10 X Y s g g' (ix2 (⟨r.val, by omega⟩ : Fin 512) d) : EReal) = normed (fun e => X (ix2 r e)) (fun e => g (ix2 0 e)) d := by
  rw [normed, ← hs]
  pointwise [k0_pay10]

theorem pay10_hi : (k0_pay10 X Y s g g' (ix2 (⟨256 + r.val, by omega⟩ : Fin 512) d) : EReal)
    = normed (fun e => Y (ix2 r e)) (fun e => g' (ix2 0 e)) d := by
  rw [normed]
  pointwise [k0_pay10]

/-- The two halves' rows. -/
abbrev both : FVec Ideal S512x1024 .f32 :=
  concatenate S512x1024 0 [⟨S256x1024, X⟩, ⟨S256x1024, Y⟩] concatenates_S256x1024_S256x1024_S512x1024_d0

theorem both_lo : (both X Y (ix2 (⟨r.val, by omega⟩ : Fin 512) d) : EReal) = X (ix2 r d) := by
  pointwise [both]

theorem both_hi : (both X Y (ix2 (⟨256 + r.val, by omega⟩ : Fin 512) d) : EReal) = Y (ix2 r d) := by
  pointwise [both]

theorem pay11_eq (w w' : Vec Ideal S1024x1024 .bf16) : k0_pay11 X Y s g g' w w'
    = addf (both X Y) (unitsV (prod (k0_pay10 X Y s g g') w) w') := by
  refine Eq.trans (b := addf (both X Y) (unitsV (prod (k0_pay10 X Y s g g') (shapeCast S1024x1024 w shapeCasts_S1024x1024_S1024x1024)) (shapeCast S1024x1024 w' shapeCasts_S1024x1024_S1024x1024))) rfl ?_
  rw [cast_sq, cast_sq]

end Norm

theorem units_at (y : FVec Ideal S512x1024 .bf16) (w w' : Vec Ideal S1024x1024 .bf16) (r : Fin 512) (e : Fin 1024) :
    (unitsV (prod y w) w' (ix2 r e) : EReal) = units (fun k => y (ix2 r k)) (fun d f => w (ix2 d f)) (fun f e => w' (ix2 f e)) e := by
  rw [unitsV_at]
  simp only [prod_at]
  rfl

theorem pay1_eq (y : FVec Ideal S512x1024 .bf16) (a : FVec Ideal S512x1024 .f32) (w1 w1' w2 w2' w3 w3' : Vec Ideal S1024x1024 .bf16) :
    k0_pay1 y a (k0_pay12 w1) w1' w2 w2' w3 w3' = addf (addf (addf a (unitsV (prod y w1) w1')) (unitsV (prod y w2) w2')) (unitsV (prod y w3) w3') := by
  refine Eq.trans (b := addf (addf (addf a (unitsV (prod y (shapeCast S1024x1024 w1 shapeCasts_S1024x1024_S1024x1024)) (shapeCast S1024x1024 w1' shapeCasts_S1024x1024_S1024x1024))) (unitsV (prod y (shapeCast S1024x1024 w2 shapeCasts_S1024x1024_S1024x1024)) (shapeCast S1024x1024 w2' shapeCasts_S1024x1024_S1024x1024)))
    (unitsV (prod y (shapeCast S1024x1024 w3 shapeCasts_S1024x1024_S1024x1024)) (shapeCast S1024x1024 w3' shapeCasts_S1024x1024_S1024x1024))) rfl ?_
  rw [cast_sq, cast_sq, cast_sq, cast_sq, cast_sq, cast_sq]

end Cert.MergeIdeal.Gen

end
-- ==== Proof.MergeOut.lean ====
module

public import proofs.«01_k».proof.Proof.MergeBlock

@[expose] public section

set_option maxRecDepth 16384

noncomputable section

namespace Cert.MergeIdeal.Gen

open Idealize.ShloMosaic Idealize.ShloMosaic.TcCoe Idealize.ShloMosaic.Tactic
open Cert.MergeMath

/-! What the body leaves in its output block. -/

variable (x0 : Vec Ideal S512x1024 .f32) (x1 : Vec Ideal S512x1024 .bf16) (x2 x3 x4 : Vec Ideal S512x512 .bf16) (x5 : Vec Ideal S1024x3072 .bf16)
  (x6 : Vec Ideal S3x512x1024 .bf16) (x7 : Vec Ideal S1024x1024 .bf16) (x8 : Vec Ideal S1x1024 .f32) (x9 : Vec Ideal S1024x4096 .bf16)
  (x10 : Vec Ideal S4096x1024 .bf16)

theorem zero2 : (![0, 0] : Fin 2 → ℕ) = fun _ => 0 := by
  funext a
  match a with
  | 0 => rfl
  | 1 => rfl

theorem ld_gate (n : Fin 3) (inb) (k d : Fin 1024) :
    View.ld x5 (Rect.unit (s := S1024x3072) ![0, 1024 * n.val] S1024x1024.size inb) (ix2 k d) = x5 (ix2 k (⟨1024 * n.val + d.val, by omega⟩ : Fin 3072)) :=
  View.ld_unit_apply_of x5 _ _ inb (ix2 k d) _ (by intro a; match a with | 0 => simp | 1 => rfl)

theorem ld_branch (n : Fin 3) (inb) (k : Fin 512) (d : Fin 1024) :
    View.ld x6 (Rect.unit (s := S3x512x1024) ![n.val, 0, 0] S1x512x1024.size inb) (ix3 0 k d) = x6 (ix3 n k d) :=
  View.ld_unit_apply_of x6 _ _ inb (ix3 0 k d) _ (by intro a; match a with | 0 => rfl | 1 => simp | 2 => simp)

theorem ld_half (j : Fin 2) (inb) (r : Fin 256) (d : Fin 1024) :
    View.ld x0 (Rect.unit (s := S512x1024) ![256 * j.val, 0] S256x1024.size inb) (ix2 r d) = x0 (ix2 (⟨256 * j.val + r.val, by omega⟩ : Fin 512) d) :=
  View.ld_unit_apply_of x0 _ _ inb (ix2 r d) _ (by intro a; match a with | 0 => rfl | 1 => simp)

theorem ld_in (c : Fin 4) (inb) (d f : Fin 1024) :
    View.ld x9 (Rect.unit (s := S1024x4096) ![0, 1024 * c.val] S1024x1024.size inb) (ix2 d f) = x9 (ix2 d (un c f)) :=
  View.ld_unit_apply_of x9 _ _ inb (ix2 d f) _ (by intro a; match a with | 0 => simp | 1 => rfl)

theorem ld_out (c : Fin 4) (inb) (f e : Fin 1024) :
    View.ld x10 (Rect.unit (s := S4096x1024) ![1024 * c.val, 0] S1024x1024.size inb) (ix2 f e) = x10 (ix2 (un c f) e) :=
  View.ld_unit_apply_of x10 _ _ inb (ix2 f e) _ (by intro a; match a with | 0 => rfl | 1 => simp)

/-- The branches' parts in row `R`. -/
def parts (R : Fin 512) (n : Fin 3) : Row :=
  part (fun k => x1 (ix2 R k)) (fun k d => x5 (ix2 k (⟨1024 * n.val + d.val, by omega⟩ : Fin 3072)))
    ((![fun k => x2 (ix2 R k), fun k => x3 (ix2 R k), fun k => x4 (ix2 R k)] : Fin 3 → Fin 512 → EReal) n) (fun k d => x6 (ix3 n k d))

/-- The merged parts, as the body binds them. -/
abbrev mergedV : FVec Ideal S512x1024 .bf16 :=
  k0_pay6 (k0_pay2 x1) (k0_pay3 x1 (View.ld x5 r0_1) x2 (View.ld x6 r0_3)) (k0_pay4 x1 (View.ld x5 r0_4)) (k0_pay5 x3 (View.ld x6 r0_5))
    (View.ld x5 r0_6) x4 (View.ld x6 r0_7)

theorem mergedV_at (R : Fin 512) (d : Fin 1024) : (mergedV x1 x2 x3 x4 x5 x6 (ix2 R d) : EReal) = ∑ n, parts x1 x2 x3 x4 x5 x6 R n d := by
  refine (pay6_at _ _ _ _ _ _ _ _ _ _ R d).trans ?_
  rw [Fin.sum_univ_three]
  refine congrArg₂ (· + ·) (congrArg₂ (· + ·) ?_ ?_) ?_
  · exact congrArg₂ (fun g w => part _ g _ w d) (funext fun k => funext fun d => ld_gate x5 0 _ k d) (funext fun k => funext fun d => ld_branch x6 0 _ k d)
  · exact congrArg₂ (fun g w => part _ g _ w d) (funext fun k => funext fun d => ld_gate x5 1 _ k d) (funext fun k => funext fun d => ld_branch x6 1 _ k d)
  · exact congrArg₂ (fun g w => part _ g _ w d) (funext fun k => funext fun d => ld_gate x5 2 _ k d) (funext fun k => funext fun d => ld_branch x6 2 _ k d)

/-- The residual's halves and the first one's sums of squares, as the body binds them. -/
abbrev loV : FVec Ideal S256x1024 .f32 := k0_pay7 (k0_pay2 x1) (k0_pay3 x1 (View.ld x5 r0_1) x2 (View.ld x6 r0_3)) (k0_pay4 x1 (View.ld x5 r0_4)) (k0_pay5 x3 (View.ld x6 r0_5))
    (View.ld x5 r0_6) x4 (View.ld x6 r0_7) (View.ld x0 r0_8) x7
abbrev hiV : FVec Ideal S256x1024 .f32 := k0_pay8 (k0_pay2 x1) (k0_pay3 x1 (View.ld x5 r0_1) x2 (View.ld x6 r0_3)) (k0_pay4 x1 (View.ld x5 r0_4)) (k0_pay5 x3 (View.ld x6 r0_5))
    (View.ld x5 r0_6) x4 (View.ld x6 r0_7) (View.ld x0 r0_10) x7
abbrev sqV : FVec Ideal S256x1 .f32 := k0_pay9 (k0_pay2 x1) (k0_pay3 x1 (View.ld x5 r0_1) x2 (View.ld x6 r0_3)) (k0_pay4 x1 (View.ld x5 r0_4)) (k0_pay5 x3 (View.ld x6 r0_5))
    (View.ld x5 r0_6) x4 (View.ld x6 r0_7) (View.ld x0 r0_8) x7

/-- The residual's row after the merge. -/
def addedRow (R : Fin 512) : Row :=
  added (fun e => x0 (ix2 R e)) (fun d => ∑ n, parts x1 x2 x3 x4 x5 x6 R n d) (fun k e => x7 (ix2 k e))

theorem loV_at (r : Fin 256) (d : Fin 1024) : (loV x0 x1 x2 x3 x4 x5 x6 x7 (ix2 r d) : EReal) = addedRow x0 x1 x2 x3 x4 x5 x6 x7 ⟨r.val, by omega⟩ d := by
  refine (pay7_at _ _ _ _ _ _ _ _ _ r d).trans ?_
  refine congrArg₂ (fun a b => added a b _ d) (funext fun e => ?_) (funext fun e => mergedV_at x1 x2 x3 x4 x5 x6 _ e)
  exact (ld_half x0 0 _ r e).trans (congrArg (fun R => x0 (ix2 R e)) (Fin.ext (by simp)))

theorem hiV_at (r : Fin 256) (d : Fin 1024) : (hiV x0 x1 x2 x3 x4 x5 x6 x7 (ix2 r d) : EReal) = addedRow x0 x1 x2 x3 x4 x5 x6 x7 ⟨256 + r.val, by omega⟩ d := by
  refine (pay8_at _ _ _ _ _ _ _ _ _ r d).trans ?_
  refine congrArg₂ (fun a b => added a b _ d) (funext fun e => ?_) (funext fun e => mergedV_at x1 x2 x3 x4 x5 x6 _ e)
  exact (ld_half x0 1 _ r e).trans (congrArg (fun R => x0 (ix2 R e)) (Fin.ext (by simp)))

/-- The normalised rows, as the body binds them. -/
abbrev normV : FVec Ideal S512x1024 .bf16 :=
  k0_pay10 (loV x0 x1 x2 x3 x4 x5 x6 x7) (hiV x0 x1 x2 x3 x4 x5 x6 x7) (sqV x0 x1 x2 x3 x4 x5 x6 x7) x8 x8

theorem rows_at (R : Fin 512) (d : Fin 1024) :
    (both (loV x0 x1 x2 x3 x4 x5 x6 x7) (hiV x0 x1 x2 x3 x4 x5 x6 x7) (ix2 R d) : EReal) = addedRow x0 x1 x2 x3 x4 x5 x6 x7 R d
    ∧ (normV x0 x1 x2 x3 x4 x5 x6 x7 x8 (ix2 R d) : EReal) = normed (addedRow x0 x1 x2 x3 x4 x5 x6 x7 R) (fun e => x8 (ix2 0 e)) d := by
  by_cases h : R.val < 256
  · obtain ⟨r, rfl⟩ : ∃ r : Fin 256, R = ⟨r.val, r.isLt.trans (by decide)⟩ := ⟨⟨R.val, h⟩, rfl⟩
    refine ⟨(both_lo _ _ r d).trans (loV_at x0 x1 x2 x3 x4 x5 x6 x7 r d), (pay10_lo _ _ _ _ _ r d (pay9_at _ _ _ _ _ _ _ _ _ r)).trans ?_⟩
    exact congrArg (fun x => normed x _ d) (funext fun e => loV_at x0 x1 x2 x3 x4 x5 x6 x7 r e)
  · obtain ⟨r, rfl⟩ : ∃ r : Fin 256, R = ⟨256 + r.val, Nat.add_lt_add_left r.isLt 256⟩ := ⟨⟨R.val - 256, by omega⟩, Fin.ext (by simp only; omega)⟩
    refine ⟨(both_hi _ _ r d).trans (hiV_at x0 x1 x2 x3 x4 x5 x6 x7 r d), (pay10_hi _ _ _ _ _ r d).trans ?_⟩
    exact congrArg (fun x => normed x _ d) (funext fun e => hiV_at x0 x1 x2 x3 x4 x5 x6 x7 r e)

/-- The body's block from its input blocks. -/
theorem out_eq : out0_11 x0 x1 x2 x3 x4 x5 x6 x7 x8 x9 x10
    = k0_pay1 (normV x0 x1 x2 x3 x4 x5 x6 x7 x8)
        (k0_pay11 (loV x0 x1 x2 x3 x4 x5 x6 x7) (hiV x0 x1 x2 x3 x4 x5 x6 x7) (sqV x0 x1 x2 x3 x4 x5 x6 x7) x8 x8 (View.ld x9 r0_12) (View.ld x10 r0_13))
        (k0_pay12 (View.ld x9 r0_14)) (View.ld x10 r0_15) (View.ld x9 r0_16) (View.ld x10 r0_17) (View.ld x9 r0_18) (View.ld x10 r0_19) := by
  unfold out0_11 k0_pay17 k0_pay18 k0_pay19 k0_pay16 k0_pay15 k0_pay14 k0_pay13
  rw [View.canon_unit_zero zero2]
  have e1 : View.ld x1 r0_0 = x1 := View.ld_unit_zero zero2 _ x1
  have e2 : View.ld x2 r0_2 = x2 := View.ld_unit_zero zero2 _ x2
  have e3 : View.ld x3 r0_2 = x3 := View.ld_unit_zero zero2 _ x3
  have e4 : View.ld x4 r0_2 = x4 := View.ld_unit_zero zero2 _ x4
  have e7 : View.ld x7 r0_9 = x7 := View.ld_unit_zero zero2 _ x7
  have e8 : View.ld x8 r0_11 = x8 := View.ld_unit_zero zero2 _ x8
  rw [e1, e2, e3, e4, e7, e8]

/-- The block at a row and a lane. -/
theorem out_at (R : Fin 512) (e : Fin 1024) : (out0_11 x0 x1 x2 x3 x4 x5 x6 x7 x8 x9 x10 (ix2 R e) : EReal)
    = result (fun e => x0 (ix2 R e)) (fun e => x8 (ix2 0 e)) (parts x1 x2 x3 x4 x5 x6 R) (fun k e => x7 (ix2 k e)) (fun d f => x9 (ix2 d f))
        (fun f e => x10 (ix2 f e)) e := by
  have hu : ∀ w w' : Vec Ideal S1024x1024 .bf16, (unitsV (prod (normV x0 x1 x2 x3 x4 x5 x6 x7 x8) w) w' (ix2 R e) : EReal)
      = units (normed (addedRow x0 x1 x2 x3 x4 x5 x6 x7 R) (fun e => x8 (ix2 0 e))) (fun d f => w (ix2 d f)) (fun f e => w' (ix2 f e)) e := fun w w' =>
    (units_at _ w w' R e).trans (congrArg (fun y => units y _ _ e) (funext fun d => (rows_at x0 x1 x2 x3 x4 x5 x6 x7 x8 R d).2))
  have hw : ∀ (c : Fin 4) (inb) (inb'), (unitsV (prod (normV x0 x1 x2 x3 x4 x5 x6 x7 x8)
        (View.ld x9 (Rect.unit (s := S1024x4096) ![0, 1024 * c.val] S1024x1024.size inb)))
        (View.ld x10 (Rect.unit (s := S4096x1024) ![1024 * c.val, 0] S1024x1024.size inb')) (ix2 R e) : EReal)
      = units (normed (addedRow x0 x1 x2 x3 x4 x5 x6 x7 R) (fun e => x8 (ix2 0 e))) (fun d f => x9 (ix2 d (un c f))) (fun f e => x10 (ix2 (un c f) e)) e :=
    fun c inb inb' => (hu _ _).trans (congrArg₂ (fun w w' => units _ w w' e) (funext fun d => funext fun f => ld_in x9 c inb d f)
      (funext fun f => funext fun e => ld_out x10 c inb' f e))
  rw [out_eq, pay1_eq, pay11_eq]
  refine Eq.trans ?_ (units_runs _ _ _ e _).symm
  exact congrArg₂ (· + ·) (congrArg₂ (· + ·) (congrArg₂ (· + ·) (congrArg₂ (· + ·) (rows_at x0 x1 x2 x3 x4 x5 x6 x7 x8 R e).1 (hw 0 _ _)) (hw 1 _ _)) (hw 2 _ _)) (hw 3 _ _)

end Cert.MergeIdeal.Gen

end
-- ==== Proof.MergeValue.lean ====
module

public import proofs.«01_k».proof.Proof.MergeOut

@[expose] public section

set_option maxRecDepth 16384

noncomputable section

namespace Cert.MergeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MergeMath

/-! The output array of the launch, element by element. -/

section Spec

variable (h : FVec Ideal S4x8192x1024 .f32) (u : FVec Ideal S4x8192x1024 .bf16) (a r c : FVec Ideal S4x8192x512 .bf16) (wi : FVec Ideal S1024x7424 .f32)
  (wb : FVec Ideal S3x512x1024 .f32) (wo : FVec Ideal S1024x1024 .f32) (g : FVec Ideal S1024 .f32) (w₁ : FVec Ideal S1024x4096 .f32) (w₂ : FVec Ideal S4096x1024 .f32)

/-- A token's branches' parts. -/
def tokenParts (B : Fin 4) (s : Fin 8192) (n : Fin 3) : Row :=
  part (fun k => u (ix3 B s k)) (fun k d => wi (ix2 k (⟨4352 + (1024 * n.val + d.val), by omega⟩ : Fin 7424)))
    ((![fun k => a (ix3 B s k), fun k => r (ix3 B s k), fun k => c (ix3 B s k)] : Fin 3 → Fin 512 → EReal) n) (fun k d => wb (ix3 n k d))

/-- A token's result. -/
def tokenAt (B : Fin 4) (s : Fin 8192) : Row :=
  result (fun e => h (ix3 B s e)) (fun e => g (ix1 e)) (tokenParts u a r c wi wb B s) (fun k e => wo (ix2 k e)) (fun d f => w₁ (ix2 d f)) (fun f e => w₂ (ix2 f e))

end Spec

variable (m : (ℓ : Loc nD τ sig) → Buf (Elt Ideal) ℓ) (c : Dev nD)

abbrev a0 : FVec Ideal S4x8192x1024 .f32 := m ((c : Thread nD τ).loc main_arg0)
abbrev a1 : FVec Ideal S4x8192x1024 .bf16 := m ((c : Thread nD τ).loc main_arg1)
abbrev a2 : FVec Ideal S4x8192x512 .bf16 := m ((c : Thread nD τ).loc main_arg2)
abbrev a3 : FVec Ideal S4x8192x512 .bf16 := m ((c : Thread nD τ).loc main_arg3)
abbrev a4 : FVec Ideal S4x8192x512 .bf16 := m ((c : Thread nD τ).loc main_arg4)
abbrev a5 : FVec Ideal S1024x7424 .f32 := m ((c : Thread nD τ).loc main_arg5)
abbrev a6 : FVec Ideal S3x512x1024 .f32 := m ((c : Thread nD τ).loc main_arg6)
abbrev a7 : FVec Ideal S1024x1024 .f32 := m ((c : Thread nD τ).loc main_arg7)
abbrev a8 : FVec Ideal S1024 .f32 := m ((c : Thread nD τ).loc main_arg8)
abbrev a9 : FVec Ideal S1024x4096 .f32 := m ((c : Thread nD τ).loc main_arg9)
abbrev a10 : FVec Ideal S4096x1024 .f32 := m ((c : Thread nD τ).loc main_arg10)

/-! The arrays the launch finds. -/

theorem V_v1 : V m c main_v1 = truncf (F := Ideal) .bf16 (extractStridedSlice S1024x3072 ![0, 4352] (a5 m c) slices_S1024x7424_S1024x3072_0_4352) bitsLt_bf16_f32 := by
  simp only [V, hostOps0]
  after_results_simp
theorem V_v2 : V m c main_v2 = shapeCast S32768x1024 (a0 m c) shapeCasts_S4x8192x1024_S32768x1024 := by
  simp only [V, hostOps0]
  after_results_simp
  rfl
theorem V_v3 : V m c main_v3 = shapeCast S32768x1024 (a1 m c) shapeCasts_S4x8192x1024_S32768x1024 := by
  simp only [V, hostOps0]
  after_results_simp
  rfl
theorem V_v4 : V m c main_v4 = shapeCast S32768x512 (a2 m c) shapeCasts_S4x8192x512_S32768x512 := by
  simp only [V, hostOps0]
  after_results_simp
  rfl
theorem V_v5 : V m c main_v5 = shapeCast S32768x512 (a3 m c) shapeCasts_S4x8192x512_S32768x512 := by
  simp only [V, hostOps0]
  after_results_simp
  rfl
theorem V_v6 : V m c main_v6 = shapeCast S32768x512 (a4 m c) shapeCasts_S4x8192x512_S32768x512 := by
  simp only [V, hostOps0]
  after_results_simp
  rfl
theorem V_v7 : V m c main_v7 = truncf (F := Ideal) .bf16 (a6 m c) bitsLt_bf16_f32 := by
  simp only [V, hostOps0]
  after_results_simp
theorem V_v8 : V m c main_v8 = truncf (F := Ideal) .bf16 (a7 m c) bitsLt_bf16_f32 := by
  simp only [V, hostOps0]
  after_results_simp
theorem V_v9 : V m c main_v9 = shapeCast S1x1024 (a8 m c) shapeCasts_S1024_S1x1024 := by
  simp only [V, hostOps0]
  after_results_simp
  rfl
theorem V_v10 : V m c main_v10 = truncf (F := Ideal) .bf16 (a9 m c) bitsLt_bf16_f32 := by
  simp only [V, hostOps0]
  after_results_simp
theorem V_v11 : V m c main_v11 = truncf (F := Ideal) .bf16 (a10 m c) bitsLt_bf16_f32 := by
  simp only [V, hostOps0]
  after_results_simp

/-! The blocks at coordinates. -/

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0, 0] ∧ win0_7.index t = ![0, 0]
    ∧ win0_8.index t = ![0, 0] ∧ win0_9.index t = ![0, 0] ∧ win0_10.index t = ![0, 0] ∧ win0_11.index t = ![t.val, 0] ∧ t.val < 64 :=
  (by decide +kernel : ∀ t : Fin grid0.N, _)

variable (t : Fin cfg0.N)

theorem lt_t : t.val < 64 := (idx t).2.2.2.2.2.2.2.2.2.2.2.2

/-- Row `R` of point `t` among the tokens. -/
abbrev tb (R : Fin 512) : Fin 4 := ⟨(512 * t.val + R.val) / 8192, by have := lt_t t; omega⟩
abbrev ts (R : Fin 512) : Fin 8192 := ⟨(512 * t.val + R.val) % 8192, by omega⟩
abbrev tr (R : Fin 512) : Fin 32768 := ⟨512 * t.val + R.val, by have := lt_t t; omega⟩

variable (R : Fin 512) (e : Fin 1024) (k : Fin 512)

theorem blk0 : (iblk m c 0 t : Vec Ideal S512x1024 .f32) (ix2 R e) = a0 m c (ix3 (tb t R) (ts t R) e) := by
  refine Eq.trans (b := (V m c main_v2 : Vec Ideal S32768x1024 .f32) (ix2 (tr t R) e)) ?_ ?_
  · blk_ext [iblk, idx t]
  · rw [V_v2]
    pointwise
theorem blk1 : (iblk m c 1 t : Vec Ideal S512x1024 .bf16) (ix2 R e) = a1 m c (ix3 (tb t R) (ts t R) e) := by
  refine Eq.trans (b := (V m c main_v3 : Vec Ideal S32768x1024 .bf16) (ix2 (tr t R) e)) ?_ ?_
  · blk_ext [iblk, idx t]
  · rw [V_v3]
    pointwise
theorem blk2 : (iblk m c 2 t : Vec Ideal S512x512 .bf16) (ix2 R k) = a2 m c (ix3 (tb t R) (ts t R) k) := by
  refine Eq.trans (b := (V m c main_v4 : Vec Ideal S32768x512 .bf16) (ix2 (tr t R) k)) ?_ ?_
  · blk_ext [iblk, idx t]
  · rw [V_v4]
    pointwise
theorem blk3 : (iblk m c 3 t : Vec Ideal S512x512 .bf16) (ix2 R k) = a3 m c (ix3 (tb t R) (ts t R) k) := by
  refine Eq.trans (b := (V m c main_v5 : Vec Ideal S32768x512 .bf16) (ix2 (tr t R) k)) ?_ ?_
  · blk_ext [iblk, idx t]
  · rw [V_v5]
    pointwise
theorem blk4 : (iblk m c 4 t : Vec Ideal S512x512 .bf16) (ix2 R k) = a4 m c (ix3 (tb t R) (ts t R) k) := by
  refine Eq.trans (b := (V m c main_v6 : Vec Ideal S32768x512 .bf16) (ix2 (tr t R) k)) ?_ ?_
  · blk_ext [iblk, idx t]
  · rw [V_v6]
    pointwise
theorem blk5 (d : Fin 3072) : (iblk m c 5 t : Vec Ideal S1024x3072 .bf16) (ix2 e d) = a5 m c (ix2 e (⟨4352 + d.val, by omega⟩ : Fin 7424)) := by
  refine Eq.trans (b := (V m c main_v1 : Vec Ideal S1024x3072 .bf16) (ix2 e d)) ?_ ?_
  · blk_ext [iblk, idx t]
  · rw [V_v1]
    pointwise
theorem blk6 (n : Fin 3) : (iblk m c 6 t : Vec Ideal S3x512x1024 .bf16) (ix3 n k e) = a6 m c (ix3 n k e) := by
  refine Eq.trans (b := (V m c main_v7 : Vec Ideal S3x512x1024 .bf16) (ix3 n k e)) ?_ ?_
  · blk_ext [iblk, idx t]
  · rw [V_v7]
    pointwise
theorem blk7 (d : Fin 1024) : (iblk m c 7 t : Vec Ideal S1024x1024 .bf16) (ix2 d e) = a7 m c (ix2 d e) := by
  refine Eq.trans (b := (V m c main_v8 : Vec Ideal S1024x1024 .bf16) (ix2 d e)) ?_ ?_
  · blk_ext [iblk, idx t]
  · rw [V_v8]
    pointwise
theorem blk8 : (iblk m c 8 t : Vec Ideal S1x1024 .f32) (ix2 0 e) = a8 m c (ix1 e) := by
  refine Eq.trans (b := (V m c main_v9 : Vec Ideal S1x1024 .f32) (ix2 0 e)) ?_ ?_
  · blk_ext [iblk, idx t]
  · rw [V_v9]
    pointwise
theorem blk9 (f : Fin 4096) : (iblk m c 9 t : Vec Ideal S1024x4096 .bf16) (ix2 e f) = a9 m c (ix2 e f) := by
  refine Eq.trans (b := (V m c main_v10 : Vec Ideal S1024x4096 .bf16) (ix2 e f)) ?_ ?_
  · blk_ext [iblk, idx t]
  · rw [V_v10]
    pointwise
theorem blk10 (f : Fin 4096) : (iblk m c 10 t : Vec Ideal S4096x1024 .bf16) (ix2 f e) = a10 m c (ix2 f e) := by
  refine Eq.trans (b := (V m c main_v11 : Vec Ideal S4096x1024 .bf16) (ix2 f e)) ?_ ?_
  · blk_ext [iblk, idx t]
  · rw [V_v11]
    pointwise

/-- A point's block at a row and a lane. -/
theorem point : (out0_11 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (ix2 R e) : EReal)
    = tokenAt (a0 m c) (a1 m c) (a2 m c) (a3 m c) (a4 m c) (a5 m c) (a6 m c) (a7 m c) (a8 m c) (a9 m c) (a10 m c) (tb t R) (ts t R) e := by
  refine (out_at _ _ _ _ _ _ _ _ _ _ _ R e).trans ?_
  have hp : parts (iblk m c 1 t) (iblk m c 2 t) (iblk m c 3 t) (iblk m c 4 t) (iblk m c 5 t) (iblk m c 6 t) R
      = tokenParts (a1 m c) (a2 m c) (a3 m c) (a4 m c) (a5 m c) (a6 m c) (tb t R) (ts t R) := by
    funext n
    unfold parts tokenParts
    simp only [blk1, blk2, blk3, blk4, blk5, blk6]
  rw [hp, tokenAt]
  simp only [blk0, blk7, blk8, blk9, blk10]

/-- The output array after the run. -/
theorem final : (dats m 0 c).arrAt 11 (cfgs 0).N
    = fun i : S32768x1024.Idx => tokenAt (a0 m c) (a1 m c) (a2 m c) (a3 m c) (a4 m c) (a5 m c) (a6 m c) (a7 m c) (a8 m c) (a9 m c) (a10 m c)
        (⟨(i 0).val / 8192, by have : (i 0).val < 32768 := (i 0).isLt; omega⟩ : Fin 4) (⟨(i 0).val % 8192, by omega⟩ : Fin 8192) (i 1) := by
  refine (dats m 0 c).arrAt_eq_of_covers 11 _ (by decide +kernel) fun t _ y => ?_
  blk_simp
  rw [after0_11]
  have ht := lt_t t
  obtain ⟨y0, y1, rfl⟩ : ∃ (y0 : Fin 512) (y1 : Fin 1024), y = ix2 y0 y1 := ⟨y 0, y 1, eq_ix2 y⟩
  refine (point m c t y0 y1).trans ?_
  congr 1
  all_goals apply Fin.ext
  all_goals blk_simp [idx t]
  all_goals (try simp only)
  all_goals omega

end Cert.MergeIdeal.Gen

end
-- ==== Proof.MergeRefValue.lean ====
module

public import proofs.«01_k».proof.Proof.Gen.MergeReferenceIdeal.Run
public import proofs.«01_k».proof.Proof.MergeMath

@[expose] public section

set_option maxRecDepth 16384

noncomputable section

namespace Cert.MergeReferenceIdeal.Value

open Cert.MergeReferenceIdeal Cert.MergeReferenceIdeal.Gen Idealize.ShloMosaic Idealize.ShloMosaic.TcCoe Idealize.SL.Sem Idealize.ShloMosaic.StableHlo
open Cert.MergeMath

/-! The reference's result, stage by stage. -/

variable (h : FVec Ideal S4x8192x1024 .f32) (u : FVec Ideal S4x8192x1024 .bf16) (a r c : FVec Ideal S4x8192x512 .bf16) (wi : FVec Ideal S1024x7424 .f32)
  (wb : FVec Ideal S3x512x1024 .f32) (wo : FVec Ideal S1024x1024 .f32) (g : FVec Ideal S1024 .f32) (w₁ : FVec Ideal S1024x4096 .f32) (w₂ : FVec Ideal S4096x1024 .f32)

/-- The gates' products. -/
def refZ : FVec Ideal S4x8192x3x1024 .f32 :=
  shapeCast S4x8192x3x1024 (extractStridedSlice S4x8192x3072 ![0, 0, 4352]
    (Host.dotGeneral dot_S4x8192x1024_S1024x7424_S4x8192x7424_2_0_01_1_n_n none (extf .f32 u bitsLt_bf16_f32) wi)
    slices_S4x8192x7424_S4x8192x3072_0_0_4352) shapeCasts_S4x8192x3072_S4x8192x3x1024

/-- The gates. -/
def refGate (z : FVec Ideal S4x8192x3x1024 .f32) : FVec Ideal S4x8192x3x1024 .f32 :=
  Host.divf (broadcastInDim S4x8192x3x1024 ![] bcast_S_S4x8192x3x1024 (constant S_ .f32 0x3F800000#32))
    (addf (broadcastInDim S4x8192x3x1024 ![] bcast_S_S4x8192x3x1024 (constant S_ .f32 0x3F800000#32)) (Host.exp (Host.negf z)))

/-- The branches beside each other. -/
def refB : FVec Ideal S4x8192x3x512 .f32 :=
  concatenate S4x8192x3x512 2 [⟨S4x8192x1x512, broadcastInDim S4x8192x1x512 ![0, 1, 3] bcast_S4x8192x512_S4x8192x1x512_0_1_3 (extf .f32 a bitsLt_bf16_f32)⟩,
    ⟨S4x8192x1x512, broadcastInDim S4x8192x1x512 ![0, 1, 3] bcast_S4x8192x512_S4x8192x1x512_0_1_3 (extf .f32 r bitsLt_bf16_f32)⟩,
    ⟨S4x8192x1x512, broadcastInDim S4x8192x1x512 ![0, 1, 3] bcast_S4x8192x512_S4x8192x1x512_0_1_3 (extf .f32 c bitsLt_bf16_f32)⟩]
    concatenates_S4x8192x1x512_S4x8192x1x512_S4x8192x1x512_S4x8192x3x512_d2

/-- Their projections. -/
def refP (b : FVec Ideal S4x8192x3x512 .f32) : FVec Ideal S4x8192x3x1024 .f32 :=
  transpose S4x8192x3x1024 [2, 3, 0, 1] (Host.dotGeneral dot_S3x512x1024_S4x8192x3x512_S3x1024x4x8192_1_3_2_01_0_2 none wb b)
    transposes_S3x1024x4x8192_S4x8192x3x1024_2_3_0_1

/-- The merge. -/
def refM (z p : FVec Ideal S4x8192x3x1024 .f32) : FVec Ideal S4x8192x1024 .f32 :=
  Host.reduceAdd (mulf z p) (constant S_ .f32 0x00000000#32) reducesTo_S4x8192x3x1024_S4x8192x1024_d2 h_S_

/-- The residual after the merge. -/
def refH (x : FVec Ideal S4x8192x1024 .f32) : FVec Ideal S4x8192x1024 .f32 :=
  addf h (Host.dotGeneral dot_S4x8192x1024_S1024x1024_S4x8192x1024_2_0_01_1_n_n none x wo)

/-- Its norm. -/
def refN (x : FVec Ideal S4x8192x1024 .f32) : FVec Ideal S4x8192x1024 .f32 :=
  mulf (mulf x (broadcastInDim S4x8192x1024 ![0, 1, 2] bcast_S4x8192x1_S4x8192x1024_0_1_2 (Host.rsqrt (addf (Host.divf
    (broadcastInDim S4x8192x1 ![0, 1] bcast_S4x8192_S4x8192x1_0_1 (Host.reduceAdd (mulf x x) (constant S_ .f32 0x00000000#32) reducesTo_S4x8192x1024_S4x8192_d2 h_S_))
    (broadcastInDim S4x8192x1 ![] bcast_S_S4x8192x1 (constant S_ .f32 0x44800000#32)))
    (broadcastInDim S4x8192x1 ![] bcast_S_S4x8192x1 (constant S_ .f32 0x358637BD#32))))))
    (broadcastInDim S4x8192x1024 ![0, 1, 2] bcast_S1x1x1024_S4x8192x1024_0_1_2 (broadcastInDim S1x1x1024 ![2] bcast_S1024_S1x1x1024_2 g))

/-- The hidden units before their squares. -/
def refU (y : FVec Ideal S4x8192x1024 .f32) : FVec Ideal S4x8192x4096 .f32 :=
  maximumf (Host.dotGeneral dot_S4x8192x1024_S1024x4096_S4x8192x4096_2_0_01_1_n_n none y w₁)
    (broadcastInDim S4x8192x4096 ![] bcast_S_S4x8192x4096 (constant S_ .f32 0x00000000#32))

/-- The result. -/
def refO (x : FVec Ideal S4x8192x1024 .f32) (f : FVec Ideal S4x8192x4096 .f32) : FVec Ideal S32768x1024 .f32 :=
  shapeCast S32768x1024 (addf x (Host.dotGeneral dot_S4x8192x4096_S4096x1024_S4x8192x1024_2_0_01_1_n_n none (mulf f f) w₂)) shapeCasts_S4x8192x1024_S32768x1024

/-- The residual after the merge, from the arguments. -/
def refX : FVec Ideal S4x8192x1024 .f32 := refH h wo (refM (refGate (refZ u wi)) (refP wb (refB a r c)))

/-- The run's term is these stages. -/
theorem res_eq (m : (ℓ : Loc nD τ sig) → Buf (Elt Ideal) ℓ) (t : Dev nD) : res_main_v41 m t
    = refO (m ((t.tc : Thread nD τ).loc main_arg10))
        (refX (m ((t.tc : Thread nD τ).loc main_arg0)) (m ((t.tc : Thread nD τ).loc main_arg1)) (m ((t.tc : Thread nD τ).loc main_arg2))
          (m ((t.tc : Thread nD τ).loc main_arg3)) (m ((t.tc : Thread nD τ).loc main_arg4)) (m ((t.tc : Thread nD τ).loc main_arg5))
          (m ((t.tc : Thread nD τ).loc main_arg6)) (m ((t.tc : Thread nD τ).loc main_arg7)))
        (refU (m ((t.tc : Thread nD τ).loc main_arg9)) (refN (m ((t.tc : Thread nD τ).loc main_arg8))
          (refX (m ((t.tc : Thread nD τ).loc main_arg0)) (m ((t.tc : Thread nD τ).loc main_arg1)) (m ((t.tc : Thread nD τ).loc main_arg2))
            (m ((t.tc : Thread nD τ).loc main_arg3)) (m ((t.tc : Thread nD τ).loc main_arg4)) (m ((t.tc : Thread nD τ).loc main_arg5))
            (m ((t.tc : Thread nD τ).loc main_arg6)) (m ((t.tc : Thread nD τ).loc main_arg7))))) := rfl

/-! The stages at coordinates. -/

variable (B : Fin 4) (s : Fin 8192) (n : Fin 3) (d : Fin 1024)

theorem refZ_at : (refZ u wi (ix4 B s n d) : EReal)
    = ∑ k : Fin 1024, (u (ix3 B s k) : EReal) * wi (ix2 k (⟨4352 + (1024 * n.val + d.val), by omega⟩ : Fin 7424)) := by
  pointwise [refZ]
  simp only [mul_comm 1024]

theorem refGate_at (z : FVec Ideal S4x8192x3x1024 .f32) : (refGate z (ix4 B s n d) : EReal)
    = Ideal.div 1 (1 + Ideal.exp (-(z (ix4 B s n d) : EReal))) := by
  pointwise [refGate]

theorem refB_at (k : Fin 512) : (refB a r c (ix4 B s n k) : EReal)
    = (![fun k => a (ix3 B s k), fun k => r (ix3 B s k), fun k => c (ix3 B s k)] : Fin 3 → Fin 512 → EReal) n k := by
  match n with
  | 0 => pointwise [refB]
  | 1 => pointwise [refB]
  | 2 => pointwise [refB]

theorem refP_at (b : FVec Ideal S4x8192x3x512 .f32) : (refP wb b (ix4 B s n d) : EReal)
    = ∑ k : Fin 512, (wb (ix3 n k d) : EReal) * b (ix4 B s n k) := by
  pointwise [refP]

theorem refM_at (z p : FVec Ideal S4x8192x3x1024 .f32) : (refM z p (ix3 B s d) : EReal)
    = ∑ n : Fin 3, (z (ix4 B s n d) : EReal) * p (ix4 B s n d) := by
  pointwise [refM]

theorem refH_at (x : FVec Ideal S4x8192x1024 .f32) : (refH h wo x (ix3 B s d) : EReal)
    = added (fun e => h (ix3 B s e)) (fun e => x (ix3 B s e)) (fun k e => wo (ix2 k e)) d := by
  rw [added]
  pointwise [refH]

theorem refN_at (x : FVec Ideal S4x8192x1024 .f32) : (refN g x (ix3 B s d) : EReal) = normed (fun e => x (ix3 B s e)) (fun e => g (ix1 e)) d := by
  rw [normed]
  pointwise [refN]

theorem refU_at (y : FVec Ideal S4x8192x1024 .f32) (f : Fin 4096) : (refU w₁ y (ix3 B s f) : EReal)
    = hidden (fun e => y (ix3 B s e)) (fun d f => w₁ (ix2 d f)) f := by
  rw [MergeMath.hidden]
  pointwise [refU]

theorem refO_at (x : FVec Ideal S4x8192x1024 .f32) (f : FVec Ideal S4x8192x4096 .f32) (R : Fin 32768) : (refO w₂ x f (ix2 R d) : EReal)
    = x (ix3 (⟨R.val / 8192, by omega⟩ : Fin 4) (⟨R.val % 8192, by omega⟩ : Fin 8192) d)
      + ∑ k : Fin 4096, (f (ix3 (⟨R.val / 8192, by omega⟩ : Fin 4) (⟨R.val % 8192, by omega⟩ : Fin 8192) k) : EReal)
          * f (ix3 (⟨R.val / 8192, by omega⟩ : Fin 4) (⟨R.val % 8192, by omega⟩ : Fin 8192) k) * w₂ (ix2 k d) := by
  pointwise [refO]

/-- The merge of a token's branches. -/
theorem merge_at : (refM (refGate (refZ u wi)) (refP wb (refB a r c)) (ix3 B s d) : EReal)
    = ∑ n, part (fun k => u (ix3 B s k)) (fun k d => wi (ix2 k (⟨4352 + (1024 * n.val + d.val), by omega⟩ : Fin 7424)))
        ((![fun k => a (ix3 B s k), fun k => r (ix3 B s k), fun k => c (ix3 B s k)] : Fin 3 → Fin 512 → EReal) n) (fun k d => wb (ix3 n k d)) d := by
  rw [refM_at]
  refine Finset.sum_congr rfl fun n _ => ?_
  rw [part, gate, refGate_at, refZ_at, refP_at]
  refine congrArg _ (Finset.sum_congr rfl fun k _ => ?_)
  rw [refB_at, mul_comm]

/-- The reference's result at a row and a lane. -/
theorem ref_at (R : Fin 32768) : (refO w₂ (refX h u a r c wi wb wo) (refU w₁ (refN g (refX h u a r c wi wb wo))) (ix2 R d) : EReal)
    = result (fun e => h (ix3 (⟨R.val / 8192, by omega⟩ : Fin 4) (⟨R.val % 8192, by omega⟩ : Fin 8192) e)) (fun e => g (ix1 e))
        (fun n => part (fun k => u (ix3 (⟨R.val / 8192, by omega⟩ : Fin 4) (⟨R.val % 8192, by omega⟩ : Fin 8192) k))
          (fun k d => wi (ix2 k (⟨4352 + (1024 * n.val + d.val), by omega⟩ : Fin 7424)))
          ((![fun k => a (ix3 (⟨R.val / 8192, by omega⟩ : Fin 4) (⟨R.val % 8192, by omega⟩ : Fin 8192) k),
              fun k => r (ix3 (⟨R.val / 8192, by omega⟩ : Fin 4) (⟨R.val % 8192, by omega⟩ : Fin 8192) k),
              fun k => c (ix3 (⟨R.val / 8192, by omega⟩ : Fin 4) (⟨R.val % 8192, by omega⟩ : Fin 8192) k)] : Fin 3 → Fin 512 → EReal) n)
          (fun k d => wb (ix3 n k d)))
        (fun k e => wo (ix2 k e)) (fun d f => w₁ (ix2 d f)) (fun f e => w₂ (ix2 f e)) d := by
  have hX : ∀ (B : Fin 4) (s : Fin 8192) (d : Fin 1024), (refX h u a r c wi wb wo (ix3 B s d) : EReal)
      = added (fun e => h (ix3 B s e)) (fun e => ∑ n, part (fun k => u (ix3 B s k)) (fun k d => wi (ix2 k (⟨4352 + (1024 * n.val + d.val), by omega⟩ : Fin 7424)))
        ((![fun k => a (ix3 B s k), fun k => r (ix3 B s k), fun k => c (ix3 B s k)] : Fin 3 → Fin 512 → EReal) n) (fun k d => wb (ix3 n k d)) e)
          (fun k e => wo (ix2 k e)) d := fun B s d => by
    rw [refX, refH_at]
    simp only [merge_at]
  rw [refO_at, result, units]
  simp only [refU_at, refN_at, hX]

end Cert.MergeReferenceIdeal.Value

end
-- ==== Proof.ProjFrame.lean ====
module

public import proofs.«01_k».proof.Proof.Gen.ProjIdeal.Frame.RunA
public import Idealize.ShloMosaic.Lib.Claim

@[expose] public section

-- membership in a rectangle of production extents (`View.cover_of_tiled`): the elaborator's structural look
-- recurses once per coordinate of the long axes
set_option maxRecDepth 16384

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Pieces

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4352 .bf16) (harg3 : arg3.IsWhole) (arg4 : Memref sig .tc .vmem S256x256 .bf16) (harg4 : arg4.IsWhole) (arg5 : Memref sig .tc .vmem S4x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x1024 .bf16) (harg12 : arg12.IsWhole) (arg13 : Memref sig .tc .vmem S1x4x128x1024 .bf16) (harg13 : arg13.IsWhole) (arg14 : Memref sig .tc .vmem S512x512 .bf16) (harg14 : arg14.IsWhole) (arg15 : Memref sig .tc .vmem S1x4x144x512 .bf16) (harg15 : arg15.IsWhole) (arg16 : Memref sig .tc .vmem S512x512 .bf16) (harg16 : arg16.IsWhole) (arg17 : Memref sig .tc .vmem S1x4x128x512 .bf16) (harg17 : arg17.IsWhole) (arg18 : Memref sig .tc .vmem S512x512 .bf16) (harg18 : arg18.IsWhole) (arg19 : Memref sig .tc .vmem S512x512 .bf16) (harg19 : arg19.IsWhole) (arg20 : Memref sig .tc .vmem S4x256x1024 .bf16) (harg20 : arg20.IsWhole) (arg21 : Memref sig .tc .vmem S512x256 .bf16) (harg21 : arg21.IsWhole) (arg22 : Memref sig .tc .vmem S1x144x512 .bf16) (harg22 : arg22.IsWhole) (arg23 : Memref sig .tc .vmem S2x2x64x256 .bf16) (harg23 : arg23.IsWhole)
    (x0 : Vec F S512x1024 .f32) (x1 : Vec F S1x1024 .f32) (x2 : Vec F S1024x4352 .bf16) (x3 : Vec F S256x256 .bf16) (x4 : Vec F S4x128 .f32) (x5 : Vec F S512x128 .f32) (x6 : Vec F S512x128 .f32) (x7 : Vec F S512x128 .f32) (x8 : Vec F S512x128 .f32) (x9 : Vec F S512x128 .f32) (x10 : Vec F S512x128 .f32)

/-- The run's pieces for output 11 tile its block (1 store of `S512x1024`, checked by the kernel's evaluation: Lib/Ring.lean `Piece.tiledL`, linear in the pieces, through a loop's `@[irreducible]` trip theorem too), so they cover it. -/
theorem cover0_A_11 (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).1 S512x1024.size (by sl_kernel_rfl) y

/-- What the run leaves in output 11's staging buffer: its pieces read back over junk. -/
def out0_A_11 : Vec F S512x1024 .bf16 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).1)

/-- The run's pieces for output 12 tile its block (8 stores of `S1x1x128x512`, checked by the kernel's evaluation: Lib/Ring.lean `Piece.tiledL`, linear in the pieces, through a loop's `@[irreducible]` trip theorem too), so they cover it. -/
theorem cover0_A_12 (y : S1x4x128x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.1 S1x1x128x512.size (by sl_kernel_rfl) y

/-- What the run leaves in output 12's staging buffer: its pieces read back over junk. -/
def out0_A_12 : Vec F S1x4x128x1024 .bf16 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.1)

/-- The run's pieces for output 13 tile its block (4 stores of `S512x128`, checked by the kernel's evaluation: Lib/Ring.lean `Piece.tiledL`, linear in the pieces, through a loop's `@[irreducible]` trip theorem too), so they cover it. -/
theorem cover0_A_13 (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.1 S512x128.size (by sl_kernel_rfl) y

/-- What the run leaves in output 13's staging buffer: its pieces read back over junk. -/
def out0_A_13 : Vec F S512x512 .bf16 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.1)

/-- The run's pieces for output 14 are of SEVERAL sizes (8 stores of `S1x1x128x512`, `S1x1x16x512`): cut into blocks of `![1, 1, 16, 512]` they tile its block (checked by the kernel's evaluation: Lib/Ring.lean `Piece.tiledBy`), so they cover it. -/
theorem cover0_A_14 (y : S1x4x144x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.2.1 ![1, 1, 16, 512] (by sl_kernel_rfl) y

/-- What the run leaves in output 14's staging buffer: its pieces read back over junk. -/
def out0_A_14 : Vec F S1x4x144x512 .bf16 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.2.1)

/-- The run's pieces for output 15 tile its block (4 stores of `S512x128`, checked by the kernel's evaluation: Lib/Ring.lean `Piece.tiledL`, linear in the pieces, through a loop's `@[irreducible]` trip theorem too), so they cover it. -/
theorem cover0_A_15 (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.2.2.1 S512x128.size (by sl_kernel_rfl) y

/-- What the run leaves in output 15's staging buffer: its pieces read back over junk. -/
def out0_A_15 : Vec F S512x512 .bf16 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.2.2.1)

/-- The run's pieces for output 16 tile its block (4 stores of `S1x1x128x512`, checked by the kernel's evaluation: Lib/Ring.lean `Piece.tiledL`, linear in the pieces, through a loop's `@[irreducible]` trip theorem too), so they cover it. -/
theorem cover0_A_16 (y : S1x4x128x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.2.2.2.1 S1x1x128x512.size (by sl_kernel_rfl) y

/-- What the run leaves in output 16's staging buffer: its pieces read back over junk. -/
def out0_A_16 : Vec F S1x4x128x512 .bf16 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.2.2.2.1)

/-- The run's pieces for output 17 tile its block (1 store of `S512x512`, checked by the kernel's evaluation: Lib/Ring.lean `Piece.tiledL`, linear in the pieces, through a loop's `@[irreducible]` trip theorem too), so they cover it. -/
theorem cover0_A_17 (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.2.2.2.2.1 S512x512.size (by sl_kernel_rfl) y

/-- What the run leaves in output 17's staging buffer: its pieces read back over junk. -/
def out0_A_17 : Vec F S512x512 .bf16 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.2.2.2.2.1)

/-- The run's pieces for output 18 tile its block (1 store of `S512x512`, checked by the kernel's evaluation: Lib/Ring.lean `Piece.tiledL`, linear in the pieces, through a loop's `@[irreducible]` trip theorem too), so they cover it. -/
theorem cover0_A_18 (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.2.2.2.2.2.1 S512x512.size (by sl_kernel_rfl) y

/-- What the run leaves in output 18's staging buffer: its pieces read back over junk. -/
def out0_A_18 : Vec F S512x512 .bf16 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.2.2.2.2.2.1)

/-- The run's pieces for output 19 are of SEVERAL sizes (33 stores of `S1x128x128`, `S4x128x1024`): cut into blocks of `![1, 128, 128]` they tile its block (checked by the kernel's evaluation: Lib/Ring.lean `Piece.tiledBy`), so they cover it. -/
theorem cover0_A_19 (y : S4x256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.2.2.2.2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.2.2.2.2.2.2.1 ![1, 128, 128] (by sl_kernel_rfl) y

/-- What the run leaves in output 19's staging buffer: its pieces read back over junk. -/
def out0_A_19 : Vec F S4x256x1024 .bf16 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.2.2.2.2.2.2.1)

/-- The run's pieces for output 20 tile its block (2 stores of `S512x128`, checked by the kernel's evaluation: Lib/Ring.lean `Piece.tiledL`, linear in the pieces, through a loop's `@[irreducible]` trip theorem too), so they cover it. -/
theorem cover0_A_20 (y : S512x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.2.2.2.2.2.2.2.1 S512x128.size (by sl_kernel_rfl) y

/-- What the run leaves in output 20's staging buffer: its pieces read back over junk. -/
def out0_A_20 : Vec F S512x256 .bf16 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.2.2.2.2.2.2.2.1)

/-- The run's pieces for output 21 are of SEVERAL sizes (2 stores of `S1x128x512`, `S1x16x512`): cut into blocks of `![1, 16, 512]` they tile its block (checked by the kernel's evaluation: Lib/Ring.lean `Piece.tiledBy`), so they cover it. -/
theorem cover0_A_21 (y : S1x144x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.2.2.2.2.2.2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.2.2.2.2.2.2.2.2.1 ![1, 16, 512] (by sl_kernel_rfl) y

/-- What the run leaves in output 21's staging buffer: its pieces read back over junk. -/
def out0_A_21 : Vec F S1x144x512 .bf16 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.2.2.2.2.2.2.2.2.1)

/-- The run's pieces for output 22 tile its block (4 stores of `S1x1x64x256`, checked by the kernel's evaluation: Lib/Ring.lean `Piece.tiledL`, linear in the pieces, through a loop's `@[irreducible]` trip theorem too), so they cover it. -/
theorem cover0_A_22 (y : S2x2x64x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.2.2.2.2.2.2.2.2.2.1 S1x1x64x256.size (by sl_kernel_rfl) y

/-- What the run leaves in output 22's staging buffer: its pieces read back over junk. -/
def out0_A_22 : Vec F S2x2x64x256 .bf16 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.2.2.2.2.2.2.2.2.2.1)

end Pieces

/-! What the outputs hold after each point -/

/-- What the outputs' staging buffers hold after the body at point `t` (as a tuple, in window order): the run's contents at
    the point's memrefs and input blocks. -/
def outsAt0 (c : Dev nD) (t : Fin cfg0.N) : Vec F S512x1024 .bf16 × Vec F S1x4x128x1024 .bf16 × Vec F S512x512 .bf16 × Vec F S1x4x144x512 .bf16 × Vec F S512x512 .bf16 × Vec F S1x4x128x512 .bf16 × Vec F S512x512 .bf16 × Vec F S512x512 .bf16 × Vec F S4x256x1024 .bf16 × Vec F S512x256 .bf16 × Vec F S1x144x512 .bf16 × Vec F S2x2x64x256 .bf16 :=
  (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t))

/-! The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t).1
    | ⟨12, _⟩ => (outsAt0 m c t).2.1
    | ⟨13, _⟩ => (outsAt0 m c t).2.2.1
    | ⟨14, _⟩ => (outsAt0 m c t).2.2.2.1
    | ⟨15, _⟩ => (outsAt0 m c t).2.2.2.2.1
    | ⟨16, _⟩ => (outsAt0 m c t).2.2.2.2.2.1
    | ⟨17, _⟩ => (outsAt0 m c t).2.2.2.2.2.2.1
    | ⟨18, _⟩ => (outsAt0 m c t).2.2.2.2.2.2.2.1
    | ⟨19, _⟩ => (outsAt0 m c t).2.2.2.2.2.2.2.2.1
    | ⟨20, _⟩ => (outsAt0 m c t).2.2.2.2.2.2.2.2.2.1
    | ⟨21, _⟩ => (outsAt0 m c t).2.2.2.2.2.2.2.2.2.2.1
    | ⟨22, _⟩ => (outsAt0 m c t).2.2.2.2.2.2.2.2.2.2.2
    | ⟨_ + 23, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t).1 := by dsimp only [dats]
theorem after0_12 (c : Dev nD) (t : Fin cfg0.N) : (dats m 0 c).after 12 t = (outsAt0 m c t).2.1 := by dsimp only [dats]
theorem after0_13 (c : Dev nD) (t : Fin cfg0.N) : (dats m 0 c).after 13 t = (outsAt0 m c t).2.2.1 := by dsimp only [dats]
theorem after0_14 (c : Dev nD) (t : Fin cfg0.N) : (dats m 0 c).after 14 t = (outsAt0 m c t).2.2.2.1 := by dsimp only [dats]
theorem after0_15 (c : Dev nD) (t : Fin cfg0.N) : (dats m 0 c).after 15 t = (outsAt0 m c t).2.2.2.2.1 := by dsimp only [dats]
theorem after0_16 (c : Dev nD) (t : Fin cfg0.N) : (dats m 0 c).after 16 t = (outsAt0 m c t).2.2.2.2.2.1 := by dsimp only [dats]
theorem after0_17 (c : Dev nD) (t : Fin cfg0.N) : (dats m 0 c).after 17 t = (outsAt0 m c t).2.2.2.2.2.2.1 := by dsimp only [dats]
theorem after0_18 (c : Dev nD) (t : Fin cfg0.N) : (dats m 0 c).after 18 t = (outsAt0 m c t).2.2.2.2.2.2.2.1 := by dsimp only [dats]
theorem after0_19 (c : Dev nD) (t : Fin cfg0.N) : (dats m 0 c).after 19 t = (outsAt0 m c t).2.2.2.2.2.2.2.2.1 := by dsimp only [dats]
theorem after0_20 (c : Dev nD) (t : Fin cfg0.N) : (dats m 0 c).after 20 t = (outsAt0 m c t).2.2.2.2.2.2.2.2.2.1 := by dsimp only [dats]
theorem after0_21 (c : Dev nD) (t : Fin cfg0.N) : (dats m 0 c).after 21 t = (outsAt0 m c t).2.2.2.2.2.2.2.2.2.2.1 := by dsimp only [dats]
theorem after0_22 (c : Dev nD) (t : Fin cfg0.N) : (dats m 0 c).after 22 t = (outsAt0 m c t).2.2.2.2.2.2.2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t))

set_option maxHeartbeats 2000000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  unfold outsAt0
  unfold out0_A_11 out0_A_12 out0_A_13 out0_A_14 out0_A_15 out0_A_16 out0_A_17 out0_A_18 out0_A_19 out0_A_20 out0_A_21 out0_A_22; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply ((kernelRun0_A c (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iintro ⟨H0, H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H12]
  · unfold owns; iexists _; isplitr
    swap; · iexact H12
    ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H13]
  · unfold owns; iexists _; isplitr
    swap; · iexact H13
    ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H14]
  · unfold owns; iexists _; isplitr
    swap; · iexact H14
    ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H16]
  · unfold owns; iexists _; isplitr
    swap; · iexact H16
    ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H17]
  · unfold owns; iexists _; isplitr
    swap; · iexact H17
    ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H22
  ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

/-- THE FRAME: `Cert.quiescent_ProjIdeal`'s statement (Defs.lean) at any `F` — Proof.lean cites it at `Bits`:
    `theorem Cert.Proof.claim : Cert.Claim := ⟨Cert.ProjIdeal.Gen.facts, fun m ρ _ => Cert.ProjIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.ProjIdeal.Gen

end
-- ==== Proof.ProjMath.lean ====
module

public import proofs.«01_k».proof.Proof.MergeMath

@[expose] public section

noncomputable section

namespace Cert.ProjMath

open Idealize.ShloMosaic
open Cert.MergeMath

/-! One token's projection, as functions of a lane. -/

/-- A row times a column. -/
def dot (y : Row) (w : Fin 1024 → EReal) : EReal := ∑ k : Fin 1024, y k * w k

/-- Lane `l` moved back by `n`, around the end. -/
abbrev back (n : ℕ) (l : Fin 128) : Fin 128 := ⟨(l.val + 128 - n % 128) % 128, Nat.mod_lt _ (by decide)⟩

/-- A head of 128 lanes, its halves rotated by the angles `c` and `s` are the cosines and sines of. -/
def turn64 (y : Fin 128 → EReal) (c s : Fin 64 → EReal) (l : Fin 128) : EReal :=
  if h : l.val < 64 then y l * c ⟨l.val, h⟩ - y ⟨l.val + 64, by omega⟩ * s ⟨l.val, h⟩
  else y l * c ⟨l.val - 64, by omega⟩ + y ⟨l.val - 64, by omega⟩ * s ⟨l.val - 64, by omega⟩

/-- The cosines in both halves. -/
def cos64 (c : Fin 64 → EReal) (l : Fin 128) : EReal := if h : l.val < 64 then c ⟨l.val, h⟩ else c ⟨l.val - 64, by omega⟩

/-- The sines, negated in the lower half. -/
def sin64 (s : Fin 64 → EReal) (l : Fin 128) : EReal := if h : l.val < 64 then -s ⟨l.val, h⟩ else s ⟨l.val - 64, by omega⟩

theorem turn64_eq (y : Fin 128 → EReal) (c s : Fin 64 → EReal) (l : Fin 128) :
    y l * cos64 c l + y (back 64 l) * sin64 s l = turn64 y c s l := by
  unfold turn64 cos64 sin64
  by_cases h : l.val < 64
  · rw [dif_pos h, dif_pos h, dif_pos h, mul_neg, ← sub_eq_add_neg]
    congr 3
    apply Fin.ext
    show (l.val + 128 - 64 % 128) % 128 = l.val + 64
    omega
  · rw [dif_neg h, dif_neg h, dif_neg h]
    congr 3
    apply Fin.ext
    show (l.val + 128 - 64 % 128) % 128 = l.val - 64
    omega

/-- A head of 64 lanes, its first 16 rotated. -/
def turn8 (z : Fin 64 → EReal) (c s : Fin 8 → EReal) (l : Fin 64) : EReal :=
  if h : l.val < 8 then z l * c ⟨l.val, h⟩ - z ⟨l.val + 8, by omega⟩ * s ⟨l.val, h⟩
  else if h' : l.val < 16 then z l * c ⟨l.val - 8, by omega⟩ + z ⟨l.val - 8, by omega⟩ * s ⟨l.val - 8, by omega⟩
  else z l

/-- The cosines for a head's lanes: in both halves of the first 16, then ones. -/
def cos8 (c : Fin 8 → EReal) (l : Fin 64) : EReal :=
  if h : l.val < 8 then c ⟨l.val, h⟩ else if h' : l.val < 16 then c ⟨l.val - 8, by omega⟩ else 1

/-- The sines for a head's lanes: negated, then as they are, then zeros. -/
def sin8 (s : Fin 8 → EReal) (l : Fin 64) : EReal :=
  if h : l.val < 8 then -s ⟨l.val, h⟩ else if h' : l.val < 16 then s ⟨l.val - 8, by omega⟩ else 0

/-- Head `i` of two in 128 lanes. -/
abbrev two (i : Fin 2) (l : Fin 64) : Fin 128 := ⟨64 * i.val + l.val, by omega⟩

theorem turn8_eq (z : Fin 128 → EReal) (c s : Fin 8 → EReal) (i : Fin 2) (l : Fin 64) :
    z (two i l) * cos8 c l + (if (two i l).val % 16 < 8 then z (back 120 (two i l)) else z (back 8 (two i l))) * sin8 s l
      = turn8 (fun k => z (two i k)) c s l := by
  unfold turn8 cos8 sin8
  have hi := i.isLt
  have hl := l.isLt
  by_cases h : l.val < 8
  · rw [dif_pos h, dif_pos h, dif_pos h, if_pos (by show (64 * i.val + l.val) % 16 < 8; omega), mul_neg, ← sub_eq_add_neg]
    congr 3
    apply Fin.ext
    show (64 * i.val + l.val + 128 - 120 % 128) % 128 = 64 * i.val + (l.val + 8)
    omega
  · rw [dif_neg h, dif_neg h, dif_neg h]
    by_cases h' : l.val < 16
    · rw [dif_pos h', dif_pos h', dif_pos h', if_neg (by show ¬ (64 * i.val + l.val) % 16 < 8; omega)]
      congr 3
      apply Fin.ext
      show (64 * i.val + l.val + 128 - 8 % 128) % 128 = 64 * i.val + (l.val - 8)
      omega
    · rw [dif_neg h', dif_neg h', dif_neg h', mul_one, mul_zero, add_zero]

/-- A head of 64 lanes normalised, with gains `g`. -/
def headNorm (y g : Fin 64 → EReal) (l : Fin 64) : EReal :=
  y l * Ideal.rsqrt (Ideal.div (∑ k : Fin 64, y k * y k) (Ideal.ofBits .f32 0x42800000#32) + Ideal.ofBits .f32 0x358637BD#32) * g l

theorem ofBits_64 : Ideal.ofBits .f32 0x42800000#32 = ((64 : ℝ) : EReal) := by
  simp [Ideal.ofBits, Ideal.ieee, -EReal.coe_mul]
  norm_num

theorem ofBits_inv64 : Ideal.ofBits .f32 0x3C800000#32 = ((1 / 64 : ℝ) : EReal) := by
  simp [Ideal.ofBits, Ideal.ieee, -EReal.coe_mul]
  norm_num

theorem sum_mul_of_nonneg {n : ℕ} (f : Fin n → EReal) (hf : ∀ k, 0 ≤ f k) (c : EReal) (s : Finset (Fin n)) :
    (∑ k ∈ s, f k) * c = ∑ k ∈ s, f k * c := by
  induction s using Finset.induction with
  | empty => simp
  | insert a s ha ih =>
    rw [Finset.sum_insert ha, Finset.sum_insert ha, EReal.right_distrib_of_nonneg (hf a) (Finset.sum_nonneg fun k _ => hf k), ih]

theorem sq_nonneg' (x : EReal) : 0 ≤ x * x := by
  rcases le_total 0 x with h | h
  · exact mul_nonneg h h
  · rw [← neg_neg x, neg_mul, mul_neg, neg_neg]
    exact mul_nonneg (EReal.neg_nonneg.mpr h) (EReal.neg_nonneg.mpr h)

/-- Lane `k` of head `q` among four. -/
abbrev four (q : Fin 4) (k : Fin 64) : Fin 256 := ⟨64 * q.val + k.val, by omega⟩

/-- The averaging matrix's entries. -/
def avg (k l : Fin 256) : EReal := if k.val / 64 = l.val / 64 then Ideal.ofBits .f32 0x3C800000#32 else 0

/-- A product of squares with the averaging matrix is the mean over the lane's own head. -/
theorem avg_eq (y : Fin 256 → EReal) (q : Fin 4) (l : Fin 64) :
    ∑ k : Fin 256, y k * y k * avg k (four q l)
      = Ideal.div (∑ k : Fin 64, y (four q k) * y (four q k)) (Ideal.ofBits .f32 0x42800000#32) := by
  have h : ∀ φ : Fin 256 → EReal, ∑ k, φ k = ∑ p : Fin 4, ∑ k : Fin 64, φ (four p k) := fun φ => by
    rw [← Fintype.sum_prod_type']
    exact (Fintype.sum_equiv (finProdFinEquiv (m := 4) (n := 64)) _ _ fun p => congrArg φ (Fin.ext (by simp [finProdFinEquiv]; omega))).symm
  rw [h, Finset.sum_eq_single q, ofBits_64, Ideal.div_coe (by norm_num), sum_mul_of_nonneg _ fun k => sq_nonneg' _]
  · refine Finset.sum_congr rfl fun k _ => ?_
    rw [avg, if_pos (by show (64 * q.val + k.val) / 64 = (64 * q.val + l.val) / 64; omega), ofBits_inv64]
  · intro p _ hp
    refine Finset.sum_eq_zero fun k _ => ?_
    have : p.val ≠ q.val := fun e => hp (Fin.ext e)
    rw [avg, if_neg (by show ¬ (64 * p.val + k.val) / 64 = (64 * q.val + l.val) / 64; omega), mul_zero]
  · exact fun hq => absurd (Finset.mem_univ q) hq

end Cert.ProjMath

end
-- ==== Proof.ProjBlock.lean ====
module

public import proofs.«01_k».proof.Proof.Gen.ProjIdeal.Skeleton
public import proofs.«01_k».proof.Proof.ProjMath
public import Idealize.ShloMosaic.Lib.Claim
public import Idealize.ShloMosaic.Lib.Pipeline.ValueKit
public import Idealize.ShloMosaic.Lib.Pointwise

@[expose] public section

set_option maxRecDepth 16384

noncomputable section

namespace Cert.ProjIdeal.Gen

open Idealize.ShloMosaic Idealize.ShloMosaic.TcCoe Idealize.ShloMosaic.Tactic
open Cert.MergeMath Cert.ProjMath

/-! What the kernel's payloads hold at coordinates. -/

theorem pay1_at (x0 : FVec Ideal S512x1024 .f32) (x1 : FVec Ideal S1x1024 .f32) (r : Fin 512) (e : Fin 1024) :
    k0_pay1 (F := Ideal) x0 x1 (ix2 r e) = normed (fun k => x0 (ix2 r k)) (fun k => x1 (ix2 0 k)) e := by
  pointwise [k0_pay1, normed]

variable (v16 : FVec Ideal S512x1024 .bf16) (w : FVec Ideal S1024x512 .bf16) (r l : Fin 512)

theorem pay162_at : k0_pay162 (F := Ideal)  v16 w (ix2 r l) = dot (fun k => v16 (ix2 r k)) fun k => w (ix2 k l) := by
  pointwise [k0_pay162, dot]

theorem pay163_at : k0_pay163 (F := Ideal)  v16 w (ix2 r l) = dot (fun k => v16 (ix2 r k)) fun k => w (ix2 k l) := by
  pointwise [k0_pay163, dot]

theorem pay148_at : k0_pay148  v16 (k0_pay147 (F := Ideal) w) (constant S512x512 .f32 0x00000000#32) (ix2 r l) = dot (fun k => v16 (ix2 r k)) fun k => w (ix2 k l) := by
  pointwise [k0_pay148, k0_pay147, dot]

theorem pay122_at : k0_pay122 (F := Ideal)  v16 w (ix2 r l) = dot (fun k => v16 (ix2 r k)) fun k => w (ix2 k l) := by
  pointwise [k0_pay122, dot]

section Rotary

variable (x9 x10 : FVec Ideal S512x128 .f32) (y : FVec Ideal S512x512 .f32) (e : Fin 128)

/-- Head `n` of the four with its lanes rotated by 64. -/
def rotated (n : Fin 4) : EReal :=
  y (ix2 r (⟨128 * n.val + e.val, by omega⟩ : Fin 512)) * x9 (ix2 r e)
    + y (ix2 r (⟨128 * n.val + (back 64 e).val, by have := (back 64 e).isLt; omega⟩ : Fin 512)) * x10 (ix2 r e)

theorem pay158_at : k0_pay158  (k0_pay9 x9) (k0_pay10 (F := Ideal) x10) y (ix2 r e) = rotated r x9 x10 y e 0 := by
  pointwise [k0_pay158, k0_pay9, k0_pay10, rotated]
theorem pay159_at : k0_pay159  (k0_pay9 x9) (k0_pay10 (F := Ideal) x10) y (ix2 r e) = rotated r x9 x10 y e 1 := by
  pointwise [k0_pay159, k0_pay9, k0_pay10, rotated]
theorem pay160_at : k0_pay160  (k0_pay9 x9) (k0_pay10 (F := Ideal) x10) y (ix2 r e) = rotated r x9 x10 y e 2 := by
  pointwise [k0_pay160, k0_pay9, k0_pay10, rotated]
theorem pay161_at : k0_pay161  (k0_pay9 x9) (k0_pay10 (F := Ideal) x10) y (ix2 r e) = rotated r x9 x10 y e 3 := by
  pointwise [k0_pay161, k0_pay9, k0_pay10, rotated]

end Rotary

section Keys

variable (x3 : FVec Ideal S256x256 .bf16) (n : FVec Ideal S1x128 .f32) (y : FVec Ideal S512x512 .f32) (e : Fin 128)

/-- Lane `e` of pair `p`, half `i`: times the root of its product with the averaging matrix, times the gain. -/
def headed (p i : Fin 2) : EReal :=
  y (ix2 r (⟨256 * p.val + (128 * i.val + e.val), by omega⟩ : Fin 512))
    * Ideal.rsqrt (∑ k : Fin 256, y (ix2 r (⟨256 * p.val + k.val, by omega⟩ : Fin 512)) * y (ix2 r (⟨256 * p.val + k.val, by omega⟩ : Fin 512))
        * x3 (ix2 k (⟨128 * i.val + e.val, by omega⟩ : Fin 256)) + Ideal.ofBits .f32 0x358637BD#32)
    * n (ix2 0 e)

theorem pay136_at : k0_pay136  (k0_pay2 (F := Ideal) x3) y n (ix2 r e) = headed r x3 n y e 0 0 := by
  pointwise [k0_pay136, k0_pay135, k0_pay134, k0_pay2, headed]
theorem pay137_at : k0_pay137  (k0_pay2 (F := Ideal) x3) y n (ix2 r e) = headed r x3 n y e 0 1 := by
  pointwise [k0_pay137, k0_pay135, k0_pay134, k0_pay2, headed]
theorem pay140_at : k0_pay140  (k0_pay2 x3) (k0_pay134 n) (k0_pay138 (F := Ideal) y) (ix2 r e) = headed r x3 n y e 1 0 := by
  pointwise [k0_pay140, k0_pay139, k0_pay138, k0_pay134, k0_pay2, headed]
theorem pay141_at : k0_pay141  (k0_pay2 x3) (k0_pay134 n) (k0_pay138 (F := Ideal) y) (ix2 r e) = headed r x3 n y e 1 1 := by
  pointwise [k0_pay141, k0_pay139, k0_pay138, k0_pay134, k0_pay2, headed]

end Keys

section KeysRotary

variable (x5 x6 y : FVec Ideal S512x128 .f32) (e : Fin 128)

/-- Lane `e` of two heads, each head's first 16 lanes rotated by 8. -/
def rotated8 : EReal :=
  y (ix2 r e) * x5 (ix2 r e) + (if e.val % 16 < 8 then y (ix2 r (back 120 e)) else y (ix2 r (back 8 e))) * x6 (ix2 r e)

/-- The kernel's mask: whether a lane is in the lower half of its 16. -/
def mask (e : Fin 128) : BitVec 1 :=
  IntOp.cmpi CmpIPredicate.slt
    (Scalar.select
      (IntOp.andi
        (IntOp.xori (IntOp.cmpi CmpIPredicate.slt (IntOp.remsi ArithUnit.vector (BitVec.ofNat 32 e.val) (Scalar.select (Scalar.cmpi CmpIPredicate.eq 16#32 0#32) 1#32 16#32)) 0#32)
          (Scalar.cmpi CmpIPredicate.slt (Scalar.select (Scalar.cmpi CmpIPredicate.eq 16#32 0#32) 1#32 16#32) 0#32))
        (IntOp.cmpi CmpIPredicate.ne (IntOp.remsi ArithUnit.vector (BitVec.ofNat 32 e.val) (Scalar.select (Scalar.cmpi CmpIPredicate.eq 16#32 0#32) 1#32 16#32)) 0#32))
      (IntOp.addi (IntOp.remsi ArithUnit.vector (BitVec.ofNat 32 e.val) (Scalar.select (Scalar.cmpi CmpIPredicate.eq 16#32 0#32) 1#32 16#32)) (Scalar.select (Scalar.cmpi CmpIPredicate.eq 16#32 0#32) 1#32 16#32))
      (IntOp.remsi ArithUnit.vector (BitVec.ofNat 32 e.val) (Scalar.select (Scalar.cmpi CmpIPredicate.eq 16#32 0#32) 1#32 16#32)))
    8#32

theorem mask_eq : ∀ e : Fin 128, mask e = BitVec.ofBool (decide (e.val % 16 < 8)) := by
  decide +kernel

theorem masked (e : Fin 128) (a b : EReal) : Scalar.select (mask e) a b = if e.val % 16 < 8 then a else b := by
  rw [mask_eq]
  by_cases h : e.val % 16 < 8
  · rw [if_pos h, decide_eq_true h]
    rfl
  · rw [if_neg h, decide_eq_false h]
    rfl

theorem pay142_at : k0_pay142 (F := Ideal) (iota .tc S1x128 32 [1] iota_S1x128_d1_w32) (k0_pay5 x5) (k0_pay6 x6) y (ix2 r e) = rotated8 r x5 x6 y e := by
  pointwise [k0_pay142, k0_pay5, k0_pay6, rotated8]
  exact congrArg (fun z => y (ix2 r e) * x5 (ix2 r e) + z * x6 (ix2 r e)) (masked e _ _)
theorem pay143_at : k0_pay143 (F := Ideal) (iota .tc S1x128 32 [1] iota_S1x128_d1_w32) (k0_pay5 x5) (k0_pay6 x6) y (Scalar.select (Scalar.cmpi .eq 16#32 0#32) 1#32 16#32) (ix2 r e) = rotated8 r x5 x6 y e := by
  pointwise [k0_pay143, k0_pay5, k0_pay6, rotated8]
  exact congrArg (fun z => y (ix2 r e) * x5 (ix2 r e) + z * x6 (ix2 r e)) (masked e _ _)
theorem pay145_at : k0_pay145 (F := Ideal) (k0_pay5 x5) (k0_pay6 x6) y (k0_pay144 (iota .tc S1x128 32 [1] iota_S1x128_d1_w32)) (ix2 r e) = rotated8 r x5 x6 y e := by
  pointwise [k0_pay145, k0_pay144, k0_pay5, k0_pay6, rotated8]
  exact congrArg (fun z => y (ix2 r e) * x5 (ix2 r e) + z * x6 (ix2 r e)) (masked e _ _)
theorem pay146_at : k0_pay146 (F := Ideal) (iota .tc S1x128 32 [1] iota_S1x128_d1_w32) (k0_pay5 x5) (k0_pay6 x6) y (ix2 r e) = rotated8 r x5 x6 y e := by
  pointwise [k0_pay146, k0_pay5, k0_pay6, rotated8]
  exact congrArg (fun z => y (ix2 r e) * x5 (ix2 r e) + z * x6 (ix2 r e)) (masked e _ _)

end KeysRotary

end Cert.ProjIdeal.Gen

end
-- ==== Proof.ProjOut.lean ====
module

public import proofs.«01_k».proof.Proof.ProjFrame
public import proofs.«01_k».proof.Proof.ProjBlock

@[expose] public section

set_option maxRecDepth 16384

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MergeMath Cert.ProjMath

/-- A load of a whole argument. -/
theorem readWhole {S : Shape} {e : EltTy} (A : Memref sig .tc .vmem S e) (h : A.IsWhole) (X : Vec Ideal S e) {off : Fin S.rank → ℕ}
    (ho : off = fun _ => 0) (inb) :
    View.readAt (Elt Ideal) A.view (Rect.unit off S.size inb).toLoadRect (h.unread X) = X :=
  (View.ld_unit_zero ho inb (A.view.read (Elt Ideal) (h.unread X))).trans (h.read_unread X)

/-- A load of a slice of an argument, at an index. -/
theorem readSlice {S : Shape} {e : EltTy} (A : Memref sig .tc .vmem S e) (h : A.IsWhole) (X : Vec Ideal S e) (off size : Fin S.rank → ℕ)
    (inb) (x : (Rect.unit off size inb).shape.Idx) (i : S.Idx) (hi : ∀ a, (i a : ℕ) = off a + x a) :
    View.readAt (Elt Ideal) A.view (Rect.unit off size inb).toLoadRect (h.unread X) x = X i :=
  (View.ld_unit_apply_of (A.view.read (Elt Ideal) (h.unread X)) off size inb x i hi).trans (congrFun (h.read_unread X) i)

theorem zero2 : (![0, 0] : Fin 2 → ℕ) = fun _ => 0 := by
  funext a
  match a with
  | 0 => rfl
  | 1 => rfl

/-- One store of 128 lanes of a 512-lane block, at an index of the block. -/
theorem piece (W : Fin 4 → Fin 512 → Fin 128 → EReal) (r : Fin 512) (n : Fin 4) (e : Fin 128) (m : Fin 4) (o : ℕ) (ho : o = 128 * m.val)
    (w : FVec Ideal S512x128 .bf16) (hw : ∀ a b, w (ix2 a b) = W m a b) :
    View.TileAt (Val := Elt Ideal) (S := S512x512) (e := .bf16) (ix2 r (⟨128 * n.val + e.val, by omega⟩ : Fin 512)) ![0, o] S512x128.size w
      (W n r e) := by
  intro x hx
  obtain ⟨a, b, rfl⟩ : ∃ (a : Fin 512) (b : Fin 128), x = ix2 a b := ⟨x 0, x 1, eq_ix2 x⟩
  have h0 : r.val = 0 + a.val := hx 0
  have h1 : 128 * n.val + e.val = o + b.val := hx 1
  have g1 := b.isLt
  have g2 := e.isLt
  have e0 : r = a := Fin.ext (by omega)
  have e1 : n = m := Fin.ext (by omega)
  subst e0 e1
  have e2 : e = b := Fin.ext (by omega)
  subst e2
  exact hw r e

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4352 .bf16) (harg3 : arg3.IsWhole) (arg4 : Memref sig .tc .vmem S256x256 .bf16) (harg4 : arg4.IsWhole) (arg5 : Memref sig .tc .vmem S4x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x1024 .bf16) (harg12 : arg12.IsWhole) (arg13 : Memref sig .tc .vmem S1x4x128x1024 .bf16) (harg13 : arg13.IsWhole) (arg14 : Memref sig .tc .vmem S512x512 .bf16) (harg14 : arg14.IsWhole) (arg15 : Memref sig .tc .vmem S1x4x144x512 .bf16) (harg15 : arg15.IsWhole) (arg16 : Memref sig .tc .vmem S512x512 .bf16) (harg16 : arg16.IsWhole) (arg17 : Memref sig .tc .vmem S1x4x128x512 .bf16) (harg17 : arg17.IsWhole) (arg18 : Memref sig .tc .vmem S512x512 .bf16) (harg18 : arg18.IsWhole) (arg19 : Memref sig .tc .vmem S512x512 .bf16) (harg19 : arg19.IsWhole) (arg20 : Memref sig .tc .vmem S4x256x1024 .bf16) (harg20 : arg20.IsWhole) (arg21 : Memref sig .tc .vmem S512x256 .bf16) (harg21 : arg21.IsWhole) (arg22 : Memref sig .tc .vmem S1x144x512 .bf16) (harg22 : arg22.IsWhole) (arg23 : Memref sig .tc .vmem S2x2x64x256 .bf16) (harg23 : arg23.IsWhole)
    (x0 : Vec Ideal S512x1024 .f32) (x1 : Vec Ideal S1x1024 .f32) (x2 : Vec Ideal S1024x4352 .bf16) (x3 : Vec Ideal S256x256 .bf16) (x4 : Vec Ideal S4x128 .f32) (x5 : Vec Ideal S512x128 .f32) (x6 : Vec Ideal S512x128 .f32) (x7 : Vec Ideal S512x128 .f32) (x8 : Vec Ideal S512x128 .f32) (x9 : Vec Ideal S512x128 .f32) (x10 : Vec Ideal S512x128 .f32)

/-- 512 columns of the tile's product, from column `o`. -/
def colsV (o : ℕ) (ho : o + 512 ≤ 4352) : FVec Ideal S512x512 .f32 := fun j =>
  dot (normed (fun k => x0 (ix2 (j 0) k)) fun k => x1 (ix2 0 k)) fun k => x2 (ix2 k (⟨o + (j 1).val, by have : (j 1).val < 512 := (j 1).isLt; omega⟩ : Fin 4352))

/-- The gains' second row. -/
def gainV : FVec Ideal S1x128 .f32 := fun j => x4 (ix2 1 (j 1))

/-- The keys' heads normalized, 128 lanes at a time. -/
def headV (n : Fin 4) : FVec Ideal S512x128 .f32 := fun j =>
  headed (j 0) x3 (gainV x4) (colsV x0 x1 x2 512 (by omega)) (j 1) ⟨n.val / 2, by omega⟩ ⟨n.val % 2, by omega⟩

theorem r_at (r : Fin 512) (k : Fin 1024) :
    kernelRun0_A.sl.r (F := Ideal) c arg1 harg1 arg2 harg2 x0 x1 (ix2 r k) = normed (fun k => x0 (ix2 r k)) (fun k => x1 (ix2 0 k)) k := by
  refine (pay1_at _ _ r k).trans ?_
  rw [readWhole arg1 harg1 x0 zero2, readWhole arg2 harg2 x1 zero2]

theorem dot_at (o : ℕ) (ho : o + 512 ≤ 4352) (inb) (r l : Fin 512) :
    dot (fun k => kernelRun0_A.sl.r (F := Ideal) c arg1 harg1 arg2 harg2 x0 x1 (ix2 r k))
      (fun k => View.readAt (Elt Ideal) arg3.view (Rect.unit (s := S1024x4352) ![0, o] S1024x512.size inb).toLoadRect (harg3.unread x2) (ix2 k l))
      = colsV x0 x1 x2 o ho (ix2 r l) :=
  congrArg₂ dot (funext fun k => r_at c arg1 harg1 arg2 harg2 x0 x1 r k)
    (funext fun k => readSlice arg3 harg3 x2 _ _ inb (ix2 k l) (ix2 k (⟨o + l.val, by omega⟩ : Fin 4352))
      (by intro a; match a with | 0 => simp | 1 => rfl))

theorem r40_eq : kernelRun0_A.sl.r_40 (F := Ideal) c arg1 harg1 arg2 harg2 arg3 harg3 x0 x1 x2 = colsV x0 x1 x2 512 (by omega) := by
  funext j
  obtain ⟨r, l, rfl⟩ : ∃ (r l : Fin 512), j = ix2 r l := ⟨j 0, j 1, eq_ix2 j⟩
  exact (pay122_at _ _ r l).trans (dot_at c arg1 harg1 arg2 harg2 arg3 harg3 x0 x1 x2 512 _ _ r l)

theorem r51_eq : kernelRun0_A.sl.r_51 (F := Ideal) c arg1 harg1 arg2 harg2 arg3 harg3 x0 x1 x2 = colsV x0 x1 x2 1536 (by omega) := by
  funext j
  obtain ⟨r, l, rfl⟩ : ∃ (r l : Fin 512), j = ix2 r l := ⟨j 0, j 1, eq_ix2 j⟩
  exact (pay148_at _ _ r l).trans (dot_at c arg1 harg1 arg2 harg2 arg3 harg3 x0 x1 x2 1536 _ _ r l)

theorem gain_eq (inb) :
    View.readAt (Elt Ideal) arg5.view (Rect.unit (s := S4x128) ![1, 0] S1x128.size inb).toLoadRect (harg5.unread x4) = gainV x4 := by
  funext j
  obtain ⟨r, l, rfl⟩ : ∃ (r : Fin 1) (l : Fin 128), j = ix2 r l := ⟨j 0, j 1, eq_ix2 j⟩
  exact readSlice arg5 harg5 x4 _ _ inb (ix2 r l) (ix2 1 l) (by intro a; match a with | 0 => exact (by have := r.isLt; show 1 = 1 + r.val; omega) | 1 => exact (Nat.zero_add _).symm)

theorem r45_eq : kernelRun0_A.sl.r_45 (F := Ideal) c arg1 harg1 arg2 harg2 arg3 harg3 arg4 harg4 arg5 harg5 x0 x1 x2 x3 x4 = headV x0 x1 x2 x3 x4 0 := by
  funext j
  obtain ⟨r, e, rfl⟩ : ∃ (r : Fin 512) (e : Fin 128), j = ix2 r e := ⟨j 0, j 1, eq_ix2 j⟩
  refine (pay136_at r _ _ _ e).trans ?_
  rw [readWhole arg4 harg4 x3 zero2, gain_eq, r40_eq]
  rfl

theorem r46_eq : kernelRun0_A.sl.r_46 (F := Ideal) c arg1 harg1 arg2 harg2 arg3 harg3 arg4 harg4 arg5 harg5 x0 x1 x2 x3 x4 = headV x0 x1 x2 x3 x4 1 := by
  funext j
  obtain ⟨r, e, rfl⟩ : ∃ (r : Fin 512) (e : Fin 128), j = ix2 r e := ⟨j 0, j 1, eq_ix2 j⟩
  refine (pay137_at r _ _ _ e).trans ?_
  rw [readWhole arg4 harg4 x3 zero2, gain_eq, r40_eq]
  rfl

theorem r48_eq : kernelRun0_A.sl.r_48 (F := Ideal) c arg1 harg1 arg2 harg2 arg3 harg3 arg4 harg4 arg5 harg5 x0 x1 x2 x3 x4 = headV x0 x1 x2 x3 x4 2 := by
  funext j
  obtain ⟨r, e, rfl⟩ : ∃ (r : Fin 512) (e : Fin 128), j = ix2 r e := ⟨j 0, j 1, eq_ix2 j⟩
  refine (pay140_at r _ _ _ e).trans ?_
  rw [readWhole arg4 harg4 x3 zero2, gain_eq, r40_eq]
  rfl

theorem r49_eq : kernelRun0_A.sl.r_49 (F := Ideal) c arg1 harg1 arg2 harg2 arg3 harg3 arg4 harg4 arg5 harg5 x0 x1 x2 x3 x4 = headV x0 x1 x2 x3 x4 3 := by
  funext j
  obtain ⟨r, e, rfl⟩ : ∃ (r : Fin 512) (e : Fin 128), j = ix2 r e := ⟨j 0, j 1, eq_ix2 j⟩
  refine (pay141_at r _ _ _ e).trans ?_
  rw [readWhole arg4 harg4 x3 zero2, gain_eq, r40_eq]
  rfl

theorem out11_at (r : Fin 512) (k : Fin 1024) : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 (ix2 r k) = normed (fun k => x0 (ix2 r k)) (fun k => x1 (ix2 0 k)) k := by
  unfold out0_A_11 kernelRun0_A
  dsimp only
  refine (View.read_writes_apply_eq_canon _ _ _ _ (View.cover_of_tiled_head _ _ _ rfl _)).trans ?_
  refine (congrFun (View.canon_unit_zero zero2 _ _) _).trans ?_
  exact r_at c arg1 harg1 arg2 harg2 x0 x1 r k

theorem out17_at (r l : Fin 512) : out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 (ix2 r l) = colsV x0 x1 x2 2560 (by omega) (ix2 r l) := by
  unfold out0_A_17 kernelRun0_A
  dsimp only
  refine (View.read_writes_apply_eq_canon _ _ _ _ (View.cover_of_tiled_head _ _ _ rfl _)).trans ?_
  refine (congrFun (View.canon_unit_zero zero2 _ _) _).trans ?_
  exact (pay162_at _ _ r l).trans (dot_at c arg1 harg1 arg2 harg2 arg3 harg3 x0 x1 x2 2560 _ _ r l)

theorem out18_at (r l : Fin 512) : out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 (ix2 r l) = colsV x0 x1 x2 3072 (by omega) (ix2 r l) := by
  unfold out0_A_18 kernelRun0_A
  dsimp only
  refine (View.read_writes_apply_eq_canon _ _ _ _ (View.cover_of_tiled_head _ _ _ rfl _)).trans ?_
  refine (congrFun (View.canon_unit_zero zero2 _ _) _).trans ?_
  exact (pay163_at _ _ r l).trans (dot_at c arg1 harg1 arg2 harg2 arg3 harg3 x0 x1 x2 3072 _ _ r l)

theorem out13_at (r : Fin 512) (n : Fin 4) (e : Fin 128) : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 (ix2 r (⟨128 * n.val + e.val, by omega⟩ : Fin 512))
    = rotated8 r x5 x6 (headV x0 x1 x2 x3 x4 n) e := by
  unfold out0_A_13 kernelRun0_A
  dsimp only
  refine (View.read_writes_apply_eq_canon _ _ _ _ (View.cover_of_tiled_head _ _ _ rfl _)).trans ?_
  refine View.canon_eq_of_allAt _ _ _ (View.cover_of_tiled_head _ _ _ rfl _) ?_
  refine View.allAt_cons_unit _ _ _ _ _ (piece (fun n r e => rotated8 r x5 x6 (headV x0 x1 x2 x3 x4 n) e) r n e 3 _ rfl _ fun a b => ?_) ?_
  · refine (pay146_at a _ _ _ b).trans ?_
    rw [readWhole arg6 harg6 x5 zero2, readWhole arg7 harg7 x6 zero2, r49_eq]
  refine View.allAt_cons_unit _ _ _ _ _ (piece (fun n r e => rotated8 r x5 x6 (headV x0 x1 x2 x3 x4 n) e) r n e 2 _ rfl _ fun a b => ?_) ?_
  · refine (pay145_at a _ _ _ b).trans ?_
    rw [readWhole arg6 harg6 x5 zero2, readWhole arg7 harg7 x6 zero2, r48_eq]
  refine View.allAt_cons_unit _ _ _ _ _ (piece (fun n r e => rotated8 r x5 x6 (headV x0 x1 x2 x3 x4 n) e) r n e 1 _ rfl _ fun a b => ?_) ?_
  · refine (pay143_at a _ _ _ b).trans ?_
    rw [readWhole arg6 harg6 x5 zero2, readWhole arg7 harg7 x6 zero2, r46_eq]
  refine View.allAt_cons_unit _ _ _ _ _ (piece (fun n r e => rotated8 r x5 x6 (headV x0 x1 x2 x3 x4 n) e) r n e 0 _ rfl _ fun a b => ?_) (View.allAt_nil _ _)
  · refine (pay142_at a _ _ _ b).trans ?_
    rw [readWhole arg6 harg6 x5 zero2, readWhole arg7 harg7 x6 zero2, r45_eq]

theorem out15_at (r : Fin 512) (n : Fin 4) (e : Fin 128) : out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 (ix2 r (⟨128 * n.val + e.val, by omega⟩ : Fin 512))
    = rotated r x9 x10 (colsV x0 x1 x2 1536 (by omega)) e n := by
  unfold out0_A_15 kernelRun0_A
  dsimp only
  refine (View.read_writes_apply_eq_canon _ _ _ _ (View.cover_of_tiled_head _ _ _ rfl _)).trans ?_
  refine View.canon_eq_of_allAt _ _ _ (View.cover_of_tiled_head _ _ _ rfl _) ?_
  refine View.allAt_cons_unit _ _ _ _ _ (piece (fun n r e => rotated r x9 x10 (colsV x0 x1 x2 1536 (by omega)) e n) r n e 3 _ rfl _ fun a b => ?_) ?_
  · refine (pay161_at a _ _ _ b).trans ?_
    rw [readWhole arg10 harg10 x9 zero2, readWhole arg11 harg11 x10 zero2, r51_eq]
  refine View.allAt_cons_unit _ _ _ _ _ (piece (fun n r e => rotated r x9 x10 (colsV x0 x1 x2 1536 (by omega)) e n) r n e 2 _ rfl _ fun a b => ?_) ?_
  · refine (pay160_at a _ _ _ b).trans ?_
    rw [readWhole arg10 harg10 x9 zero2, readWhole arg11 harg11 x10 zero2, r51_eq]
  refine View.allAt_cons_unit _ _ _ _ _ (piece (fun n r e => rotated r x9 x10 (colsV x0 x1 x2 1536 (by omega)) e n) r n e 1 _ rfl _ fun a b => ?_) ?_
  · refine (pay159_at a _ _ _ b).trans ?_
    rw [readWhole arg10 harg10 x9 zero2, readWhole arg11 harg11 x10 zero2, r51_eq]
  refine View.allAt_cons_unit _ _ _ _ _ (piece (fun n r e => rotated r x9 x10 (colsV x0 x1 x2 1536 (by omega)) e n) r n e 0 _ rfl _ fun a b => ?_) (View.allAt_nil _ _)
  · refine (pay158_at a _ _ _ b).trans ?_
    rw [readWhole arg10 harg10 x9 zero2, readWhole arg11 harg11 x10 zero2, r51_eq]

end Cert.ProjIdeal.Gen
-- ==== Proof.ProjHost.lean ====
module

public import proofs.«01_k».proof.Proof.ProjFrame
public import proofs.«01_k».proof.Proof.ProjMath
public import Idealize.ShloMosaic.Lib.Claim
public import Idealize.ShloMosaic.Lib.Pipeline.ValueKit
public import Idealize.ShloMosaic.Lib.Pointwise

@[expose] public section

set_option maxRecDepth 16384

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjMath

/-! The arrays the host code packs for the launch. -/

theorem concat2_congr {T : EltTy} {t sa sb : Shape} {d : Fin t.rank} {A A' : sa.Idx → Elt Ideal T} {B B' : sb.Idx → Elt Ideal T} {h}
    (hA : A = A') (hB : B = B') : concatenate t d [⟨sa, A⟩, ⟨sb, B⟩] h = concatenate t d [⟨sa, A'⟩, ⟨sb, B'⟩] h := by
  subst hA hB
  rfl

theorem concat3_congr {T : EltTy} {t sa sb sc : Shape} {d : Fin t.rank} {A A' : sa.Idx → Elt Ideal T} {B B' : sb.Idx → Elt Ideal T}
    {C C' : sc.Idx → Elt Ideal T} {h} (hA : A = A') (hB : B = B') (hC : C = C') :
    concatenate t d [⟨sa, A⟩, ⟨sb, B⟩, ⟨sc, C⟩] h = concatenate t d [⟨sa, A'⟩, ⟨sb, B'⟩, ⟨sc, C'⟩] h := by
  subst hA hB hC
  rfl

theorem concat4_congr {T : EltTy} {t sa sb sc sd : Shape} {d : Fin t.rank} {A A' : sa.Idx → Elt Ideal T} {B B' : sb.Idx → Elt Ideal T}
    {C C' : sc.Idx → Elt Ideal T} {D D' : sd.Idx → Elt Ideal T} {h} (hA : A = A') (hB : B = B') (hC : C = C') (hD : D = D') :
    concatenate t d [⟨sa, A⟩, ⟨sb, B⟩, ⟨sc, C⟩, ⟨sd, D⟩] h = concatenate t d [⟨sa, A'⟩, ⟨sb, B'⟩, ⟨sc, C'⟩, ⟨sd, D'⟩] h := by
  subst hA hB hC hD
  rfl

/-- A head's cosines. -/
abbrev cosHead (x : FVec Ideal S8192x8 .f32) : FVec Ideal S8192x64 .f32 :=
  concatenate S8192x64 1 [⟨S8192x8, x⟩, ⟨S8192x8, x⟩, ⟨S8192x48, broadcastInDim S8192x48 ![] bcast_S_S8192x48 (constant S_ .f32 0x3F800000#32)⟩]
    concatenates_S8192x8_S8192x8_S8192x48_S8192x64_d1
/-- A head's sines. -/
abbrev sinHead (x : FVec Ideal S8192x8 .f32) : FVec Ideal S8192x64 .f32 :=
  concatenate S8192x64 1 [⟨S8192x8, Host.negf x⟩, ⟨S8192x8, x⟩, ⟨S8192x48, broadcastInDim S8192x48 ![] bcast_S_S8192x48 (constant S_ .f32 0x00000000#32)⟩]
    concatenates_S8192x8_S8192x8_S8192x48_S8192x64_d1
/-- The same in both heads of 128 lanes. -/
abbrev twice (x : FVec Ideal S8192x64 .f32) : FVec Ideal S8192x128 .f32 :=
  concatenate S8192x128 1 [⟨S8192x64, x⟩, ⟨S8192x64, x⟩] concatenates_S8192x64_S8192x64_S8192x128_d1
/-- The sines of a head of 128 lanes. -/
abbrev sinHead128 (x : FVec Ideal S8192x64 .f32) : FVec Ideal S8192x128 .f32 :=
  concatenate S8192x128 1 [⟨S8192x64, Host.negf x⟩, ⟨S8192x64, x⟩] concatenates_S8192x64_S8192x64_S8192x128_d1
/-- One head's gain, in both heads of 128 lanes, as a row. -/
abbrev gainRow (x : FVec Ideal S64 .f32) : FVec Ideal S1x128 .f32 :=
  broadcastInDim S1x128 ![1] bcast_S128_S1x128_1 (concatenate S128 0 [⟨S64, x⟩, ⟨S64, x⟩] concatenates_S64_S64_S128_d0)
theorem gainRow_congr {A B C : FVec Ideal S64 .f32} (hA : A = C) (hB : B = C) :
    (broadcastInDim S1x128 ![1] bcast_S128_S1x128_1 (concatenate S128 0 [⟨S64, A⟩, ⟨S64, B⟩] concatenates_S64_S64_S128_d0 : FVec Ideal S128 .f32) : FVec Ideal S1x128 .f32)
      = gainRow C := by
  subst hA hB
  rfl

/-- The four gains. -/
abbrev gains (x y z w : FVec Ideal S64 .f32) : FVec Ideal S4x128 .f32 :=
  concatenate S4x128 0 [⟨S1x128, gainRow x⟩, ⟨S1x128, gainRow y⟩, ⟨S1x128, gainRow z⟩, ⟨S1x128, gainRow w⟩] concatenates_S1x128_S1x128_S1x128_S1x128_S4x128_d0
/-- The lanes, and one number in each. -/
abbrev lanes : IVec S256 32 := iotaInDim S256 32 0
abbrev inEach (a : BitVec 32) : IVec S256 32 := broadcastInDim S256 ![] bcast_S_S256 (constantI S_ 32 a)
/-- Which head of four a lane is in: the quotient, rounded down. -/
def headOf : IVec S256 32 :=
  select (andi (cmpi .ne (signi lanes) (broadcastInDim S256 ![] bcast_S_S256 (signi (constantI S_ 32 64#32)))) (cmpi .ne (Host.remsi lanes (inEach 64#32)) (inEach 0#32)))
    (subi (Host.divsi lanes (inEach 64#32)) (inEach 1#32)) (Host.divsi lanes (inEach 64#32))
/-- The averaging matrix. -/
abbrev avgV : FVec Ideal S256x256 .bf16 :=
  truncf .bf16 (select (cmpi .eq (broadcastInDim S256x256 ![0, 1] bcast_S256x1_S256x256_0_1 (broadcastInDim S256x1 ![0] bcast_S256_S256x1_0 headOf))
      (broadcastInDim S256x256 ![0, 1] bcast_S1x256_S256x256_0_1 (broadcastInDim S1x256 ![1] bcast_S256_S1x256_1 headOf)))
    (broadcastInDim S256x256 ![] bcast_S_S256x256 (constant S_ .f32 0x3C800000#32))
    (broadcastInDim S256x256 ![] bcast_S_S256x256 (constant (F := Ideal) S_ .f32 0x00000000#32))) bitsLt_bf16_f32

variable (m : (ℓ : Loc nD τ sig) → Buf (Elt Ideal) ℓ) (c : Dev nD)

abbrev a0 : FVec Ideal S4x8192x1024 .f32 := m ((c : Thread nD τ).loc main_arg0)
abbrev a1 : FVec Ideal S1024 .f32 := m ((c : Thread nD τ).loc main_arg1)
abbrev a2 : FVec Ideal S1024x7424 .f32 := m ((c : Thread nD τ).loc main_arg2)
abbrev a3 : FVec Ideal S64 .f32 := m ((c : Thread nD τ).loc main_arg3)
abbrev a4 : FVec Ideal S64 .f32 := m ((c : Thread nD τ).loc main_arg4)
abbrev a5 : FVec Ideal S64 .f32 := m ((c : Thread nD τ).loc main_arg5)
abbrev a6 : FVec Ideal S64 .f32 := m ((c : Thread nD τ).loc main_arg6)
abbrev a7 : FVec Ideal S8192x8 .f32 := m ((c : Thread nD τ).loc main_arg7)
abbrev a8 : FVec Ideal S8192x8 .f32 := m ((c : Thread nD τ).loc main_arg8)
abbrev a13 : FVec Ideal S8192x64 .f32 := m ((c : Thread nD τ).loc main_arg13)
abbrev a14 : FVec Ideal S8192x64 .f32 := m ((c : Thread nD τ).loc main_arg14)

theorem V_v3 : V m c main_v3 = twice (cosHead (a7 m c)) := by
  simp only [V, hostOps0, hostOps0_1, hostOps0_2, hostOps0_3, hostOps0_4, List.flatten_cons, List.flatten_nil, List.append_nil, List.cons_append, List.nil_append]
  after_results_simp
  refine concat2_congr ?_ ?_
  all_goals after_results_simp
  all_goals refine concat3_congr ?_ ?_ ?_
  all_goals (try after_results_simp)
  all_goals (try rfl)

theorem V_v6 : V m c main_v6 = twice (sinHead (a8 m c)) := by
  simp only [V, hostOps0, hostOps0_1, hostOps0_2, hostOps0_3, hostOps0_4, List.flatten_cons, List.flatten_nil, List.append_nil, List.cons_append, List.nil_append]
  after_results_simp
  refine concat2_congr ?_ ?_
  all_goals after_results_simp
  all_goals refine concat3_congr ?_ ?_ ?_
  all_goals (try after_results_simp)
  all_goals (try rfl)

theorem V_v13 : V m c main_v13 = twice (a13 m c) := by
  simp only [V, hostOps0, hostOps0_1, hostOps0_2, hostOps0_3, hostOps0_4, List.flatten_cons, List.flatten_nil, List.append_nil, List.cons_append, List.nil_append]
  after_results_simp
  refine concat2_congr ?_ ?_
  all_goals (try after_results_simp)
  all_goals (try rfl)

theorem V_v15 : V m c main_v15 = sinHead128 (a14 m c) := by
  simp only [V, hostOps0, hostOps0_1, hostOps0_2, hostOps0_3, hostOps0_4, List.flatten_cons, List.flatten_nil, List.append_nil, List.cons_append, List.nil_append]
  after_results_simp
  refine concat2_congr ?_ ?_
  all_goals (try after_results_simp)
  all_goals (try rfl)

theorem V_v24 : V m c main_v24 = avgV := by
  simp only [V, hostOps0, hostOps0_1, hostOps0_2, hostOps0_3, hostOps0_4, List.flatten_cons, List.flatten_nil, List.append_nil, List.cons_append, List.nil_append]
  after_results_simp
  all_goals (try rfl)

theorem V_v33 : V m c main_v33 = gains (a3 m c) (a4 m c) (a5 m c) (a6 m c) := by
  simp only [V, hostOps0, hostOps0_1, hostOps0_2, hostOps0_3, hostOps0_4, List.flatten_cons, List.flatten_nil, List.append_nil, List.cons_append, List.nil_append]
  after_results_simp
  refine concat4_congr ?_ ?_ ?_ ?_
  all_goals (try after_results_simp)
  all_goals refine gainRow_congr ?_ ?_
  all_goals (try after_results_simp)
  all_goals (try rfl)

theorem V_v34 : V m c main_v34 = shapeCast S32768x1024 (a0 m c) shapeCasts_S4x8192x1024_S32768x1024 := by
  simp only [V, hostOps0, hostOps0_1, hostOps0_2, hostOps0_3, hostOps0_4, List.flatten_cons, List.flatten_nil, List.append_nil, List.cons_append, List.nil_append]
  after_results_simp
  rfl
theorem V_v35 : V m c main_v35 = shapeCast S1x1024 (a1 m c) shapeCasts_S1024_S1x1024 := by
  simp only [V, hostOps0, hostOps0_1, hostOps0_2, hostOps0_3, hostOps0_4, List.flatten_cons, List.flatten_nil, List.append_nil, List.cons_append, List.nil_append]
  after_results_simp
  rfl
theorem V_v37 : V m c main_v37 = truncf (F := Ideal) .bf16 (extractStridedSlice S1024x4352 ![0, 0] (a2 m c) slices_S1024x7424_S1024x4352_0_0) bitsLt_bf16_f32 := by
  simp only [V, hostOps0, hostOps0_1, hostOps0_2, hostOps0_3, hostOps0_4, List.flatten_cons, List.flatten_nil, List.append_nil, List.cons_append, List.nil_append]
  after_results_simp

/-! The packed arrays at coordinates. -/

theorem twice_at (x : FVec Ideal S8192x64 .f32) (s : Fin 8192) (i : Fin 2) (l : Fin 64) : twice x (ix2 s (two i l)) = x (ix2 s l) := by
  pointwise
  by_cases h : 64 * i.val + l.val < 64
  · rw [dif_pos h]
    exact congrArg (fun z => x (ix2 s z)) (Fin.ext (by show 64 * i.val + l.val = l.val; omega))
  · rw [dif_neg h]
    exact congrArg (fun z => x (ix2 s z)) (Fin.ext (by show 64 * i.val + l.val - 64 = l.val; omega))

theorem twice_at' (x : FVec Ideal S8192x64 .f32) (s : Fin 8192) (l : Fin 128) : twice x (ix2 s l) = cos64 (fun k => x (ix2 s k)) l := by
  pointwise [cos64]

theorem sinHead128_at (x : FVec Ideal S8192x64 .f32) (s : Fin 8192) (l : Fin 128) : sinHead128 x (ix2 s l) = sin64 (fun k => x (ix2 s k)) l := by
  pointwise [sin64]

theorem cosHead_at (x : FVec Ideal S8192x8 .f32) (s : Fin 8192) (l : Fin 64) : cosHead x (ix2 s l) = cos8 (fun k => x (ix2 s k)) l := by
  pointwise [cos8]
  by_cases h : l.val < 8
  · simp only [dif_pos h]
  · by_cases h' : l.val < 16
    · simp only [dif_neg h, dif_pos h', dif_pos (show l.val - 8 < 8 by omega)]
    · simp only [dif_neg h, dif_neg h', dif_neg (show ¬ l.val - 8 < 8 by omega)]
theorem sinHead_at (x : FVec Ideal S8192x8 .f32) (s : Fin 8192) (l : Fin 64) : sinHead x (ix2 s l) = sin8 (fun k => x (ix2 s k)) l := by
  pointwise [sin8]
  by_cases h : l.val < 8
  · simp only [dif_pos h]
  · by_cases h' : l.val < 16
    · simp only [dif_neg h, dif_pos h', dif_pos (show l.val - 8 < 8 by omega)]
    · simp only [dif_neg h, dif_neg h', dif_neg (show ¬ l.val - 8 < 8 by omega)]

theorem gains_at (x y z w : FVec Ideal S64 .f32) (i : Fin 2) (l : Fin 64) : gains x y z w (ix2 1 (two i l)) = y (ix1 l) := by
  pointwise
  by_cases h : 64 * i.val + l.val < 64
  · rw [dif_pos h]
    exact congrArg (fun z => y (ix1 z)) (Fin.ext (by show 64 * i.val + l.val = l.val; omega))
  · rw [dif_neg h]
    exact congrArg (fun z => y (ix1 z)) (Fin.ext (by show 64 * i.val + l.val - 64 = l.val; omega))

theorem headOf_at : ∀ k : Fin 256, headOf (ix1 k) = BitVec.ofNat 32 (k.val / 64) := by
  decide +kernel

theorem head_eq : ∀ p q : Fin 4, IntOp.cmpi CmpIPredicate.eq (BitVec.ofNat 32 p.val) (BitVec.ofNat 32 q.val) = BitVec.ofBool (decide (p.val = q.val)) := by
  decide +kernel

theorem avgV_at (k l : Fin 256) : avgV (ix2 k l) = avg k l := by
  pointwise [avg]
  rw [headOf_at, headOf_at, head_eq ⟨k.val / 64, by omega⟩ ⟨l.val / 64, by omega⟩]
  by_cases h : k.val / 64 = l.val / 64
  · rw [if_pos h, decide_eq_true h]
    rfl
  · rw [if_neg h, decide_eq_false h]
    rfl

end Cert.ProjIdeal.Gen

end
-- ==== Proof.ProjRefValue.lean ====
module

public import proofs.«01_k».proof.Proof.Gen.ProjReferenceIdeal.Run
public import proofs.«01_k».proof.Proof.ProjMath

@[expose] public section

set_option maxRecDepth 16384

noncomputable section

namespace Cert.ProjReferenceIdeal.Value

open Cert.ProjReferenceIdeal Cert.ProjReferenceIdeal.Gen Idealize.ShloMosaic Idealize.ShloMosaic.TcCoe Idealize.SL.Sem Idealize.ShloMosaic.StableHlo
open Cert.MergeMath Cert.ProjMath

/-! The reference's results, stage by stage. -/

variable (h : FVec Ideal S4x8192x1024 .f32) (g : FVec Ideal S1024 .f32) (w : FVec Ideal S1024x7424 .f32) (gk : FVec Ideal S64 .f32)
  (cd sd : FVec Ideal S8192x8 .f32) (cr sr : FVec Ideal S8192x64 .f32)

/-- The norm of the residual. -/
def refN : FVec Ideal S4x8192x1024 .f32 :=
  mulf (mulf h (broadcastInDim S4x8192x1024 ![0, 1, 2] bcast_S4x8192x1_S4x8192x1024_0_1_2 (Host.rsqrt (addf (Host.divf
    (broadcastInDim S4x8192x1 ![0, 1] bcast_S4x8192_S4x8192x1_0_1 (Host.reduceAdd (mulf h h) (constant S_ .f32 0x00000000#32) reducesTo_S4x8192x1024_S4x8192_d2 h_S_))
    (broadcastInDim S4x8192x1 ![] bcast_S_S4x8192x1 (constant S_ .f32 0x44800000#32)))
    (broadcastInDim S4x8192x1 ![] bcast_S_S4x8192x1 (constant S_ .f32 0x358637BD#32))))))
    (broadcastInDim S4x8192x1024 ![0, 1, 2] bcast_S1x1x1024_S4x8192x1024_0_1_2 (broadcastInDim S1x1x1024 ![2] bcast_S1024_S1x1x1024_2 g))

/-- Its projection. -/
def refP : FVec Ideal S4x8192x7424 .f32 :=
  Host.dotGeneral dot_S4x8192x1024_S1024x7424_S4x8192x7424_2_0_01_1_n_n none (refN h g) w

variable (P : FVec Ideal S4x8192x7424 .f32)

/-- The retention's queries in heads. -/
def refQ : FVec Ideal S4x8192x4x128 .f32 :=
  shapeCast S4x8192x4x128 (extractStridedSlice S4x8192x512 ![0, 0, 1536] P slices_S4x8192x7424_S4x8192x512_0_0_1536) shapeCasts_S4x8192x512_S4x8192x4x128

/-- The keys in heads. -/
def refK : FVec Ideal S4x8192x8x64 .f32 :=
  shapeCast S4x8192x8x64 (extractStridedSlice S4x8192x512 ![0, 0, 512] P slices_S4x8192x7424_S4x8192x512_0_0_512) shapeCasts_S4x8192x512_S4x8192x8x64

/-- The heads' norms. -/
def refKn (y : FVec Ideal S4x8192x8x64 .f32) : FVec Ideal S4x8192x8x64 .f32 :=
  mulf (mulf y (broadcastInDim S4x8192x8x64 ![0, 1, 2, 3] bcast_S4x8192x8x1_S4x8192x8x64_0_1_2_3 (Host.rsqrt (addf (Host.divf
    (broadcastInDim S4x8192x8x1 ![0, 1, 2] bcast_S4x8192x8_S4x8192x8x1_0_1_2 (Host.reduceAdd (mulf y y) (constant S_ .f32 0x00000000#32) reducesTo_S4x8192x8x64_S4x8192x8_d3 h_S_))
    (broadcastInDim S4x8192x8x1 ![] bcast_S_S4x8192x8x1 (constant S_ .f32 0x42800000#32)))
    (broadcastInDim S4x8192x8x1 ![] bcast_S_S4x8192x8x1 (constant S_ .f32 0x358637BD#32))))))
    (broadcastInDim S4x8192x8x64 ![0, 1, 2, 3] bcast_S1x1x1x64_S4x8192x8x64_0_1_2_3 (broadcastInDim S1x1x1x64 ![3] bcast_S64_S1x1x1x64_3 gk))

abbrev tab8 (c : FVec Ideal S8192x8 .f32) : FVec Ideal S4x8192x8x8 .f32 :=
  broadcastInDim S4x8192x8x8 ![0, 1, 2, 3] bcast_S1x8192x1x8_S4x8192x8x8_0_1_2_3 (shapeCast S1x8192x1x8 c shapeCasts_S8192x8_S1x8192x1x8)
abbrev tab64 (c : FVec Ideal S8192x64 .f32) : FVec Ideal S4x8192x4x64 .f32 :=
  broadcastInDim S4x8192x4x64 ![0, 1, 2, 3] bcast_S1x8192x1x64_S4x8192x4x64_0_1_2_3 (shapeCast S1x8192x1x64 c shapeCasts_S8192x64_S1x8192x1x64)

abbrev lo8 (z : FVec Ideal S4x8192x8x64 .f32) : FVec Ideal S4x8192x8x8 .f32 :=
  extractStridedSlice S4x8192x8x8 ![0, 0, 0, 0] (extractStridedSlice S4x8192x8x16 ![0, 0, 0, 0] z slices_S4x8192x8x64_S4x8192x8x16_0_0_0_0) slices_S4x8192x8x16_S4x8192x8x8_0_0_0_0
abbrev hi8 (z : FVec Ideal S4x8192x8x64 .f32) : FVec Ideal S4x8192x8x8 .f32 :=
  extractStridedSlice S4x8192x8x8 ![0, 0, 0, 8] (extractStridedSlice S4x8192x8x16 ![0, 0, 0, 0] z slices_S4x8192x8x64_S4x8192x8x16_0_0_0_0) slices_S4x8192x8x16_S4x8192x8x8_0_0_0_8

/-- The keys rotated. -/
def refKr (z : FVec Ideal S4x8192x8x64 .f32) : FVec Ideal S4x8192x8x64 .f32 :=
  concatenate S4x8192x8x64 3 [⟨S4x8192x8x16, concatenate S4x8192x8x16 3
      [⟨S4x8192x8x8, subf (mulf (lo8 z) (tab8 cd)) (mulf (hi8 z) (tab8 sd))⟩, ⟨S4x8192x8x8, addf (mulf (hi8 z) (tab8 cd)) (mulf (lo8 z) (tab8 sd))⟩]
      concatenates_S4x8192x8x8_S4x8192x8x8_S4x8192x8x16_d3⟩,
    ⟨S4x8192x8x48, extractStridedSlice S4x8192x8x48 ![0, 0, 0, 16] z slices_S4x8192x8x64_S4x8192x8x48_0_0_0_16⟩]
    concatenates_S4x8192x8x16_S4x8192x8x48_S4x8192x8x64_d3

abbrev lo64 (q : FVec Ideal S4x8192x4x128 .f32) : FVec Ideal S4x8192x4x64 .f32 :=
  extractStridedSlice S4x8192x4x64 ![0, 0, 0, 0] q slices_S4x8192x4x128_S4x8192x4x64_0_0_0_0
abbrev hi64 (q : FVec Ideal S4x8192x4x128 .f32) : FVec Ideal S4x8192x4x64 .f32 :=
  extractStridedSlice S4x8192x4x64 ![0, 0, 0, 64] q slices_S4x8192x4x128_S4x8192x4x64_0_0_0_64

/-- The queries rotated. -/
def refQr (q : FVec Ideal S4x8192x4x128 .f32) : FVec Ideal S4x8192x4x128 .f32 :=
  concatenate S4x8192x4x128 3 [⟨S4x8192x4x64, subf (mulf (lo64 q) (tab64 cr)) (mulf (hi64 q) (tab64 sr))⟩,
    ⟨S4x8192x4x64, addf (mulf (hi64 q) (tab64 cr)) (mulf (lo64 q) (tab64 sr))⟩] concatenates_S4x8192x4x64_S4x8192x4x64_S4x8192x4x128_d3

/-- The results, a row to a token. -/
def outU : FVec Ideal S32768x1024 .bf16 := truncf .bf16 (shapeCast S32768x1024 (refN h g) shapeCasts_S4x8192x1024_S32768x1024) bitsLt_bf16_f32
def outK : FVec Ideal S32768x512 .bf16 :=
  truncf .bf16 (shapeCast S32768x512 (refKr cd sd (refKn gk (refK (refP h g w)))) shapeCasts_S4x8192x8x64_S32768x512) bitsLt_bf16_f32
def outQ : FVec Ideal S32768x512 .bf16 :=
  truncf .bf16 (shapeCast S32768x512 (refQr cr sr (refQ (refP h g w))) shapeCasts_S4x8192x4x128_S32768x512) bitsLt_bf16_f32
def outV : FVec Ideal S32768x512 .bf16 :=
  truncf .bf16 (shapeCast S32768x512 (extractStridedSlice S4x8192x512 ![0, 0, 2560] (refP h g w) slices_S4x8192x7424_S4x8192x512_0_0_2560) shapeCasts_S4x8192x512_S32768x512) bitsLt_bf16_f32
def outG : FVec Ideal S32768x512 .bf16 :=
  truncf .bf16 (shapeCast S32768x512 (extractStridedSlice S4x8192x512 ![0, 0, 3072] (refP h g w) slices_S4x8192x7424_S4x8192x512_0_0_3072) shapeCasts_S4x8192x512_S32768x512) bitsLt_bf16_f32

/-! The stages at coordinates. -/

variable (B : Fin 4) (s : Fin 8192)

theorem refN_at (e : Fin 1024) : refN h g (ix3 B s e) = normed (fun k => h (ix3 B s k)) (fun k => g (ix1 k)) e := by
  pointwise [refN, normed]

theorem refP_at (c : Fin 7424) : refP h g w (ix3 B s c) = dot (normed (fun k => h (ix3 B s k)) fun k => g (ix1 k)) fun k => w (ix2 k c) := by
  have e : refP h g w (ix3 B s c) = ∑ k : Fin 1024, refN h g (ix3 B s k) * w (ix2 k c) := by
    unfold refP
    generalize refN h g = x
    pointwise
  rw [e]
  exact Finset.sum_congr rfl fun k _ => congrArg (· * _) (refN_at h g B s k)

theorem refQ_at (n : Fin 4) (l : Fin 128) : refQ P (ix4 B s n l) = P (ix3 B s (⟨1536 + (128 * n.val + l.val), by omega⟩ : Fin 7424)) := by
  pointwise [refQ]
  exact congrArg (fun x => P (ix3 B s x)) (Fin.ext (by show 1536 + (n.val * 128 + l.val) = 1536 + (128 * n.val + l.val); omega))

theorem refK_at (n : Fin 8) (l : Fin 64) : refK P (ix4 B s n l) = P (ix3 B s (⟨512 + (64 * n.val + l.val), by omega⟩ : Fin 7424)) := by
  pointwise [refK]
  exact congrArg (fun x => P (ix3 B s x)) (Fin.ext (by show 512 + (n.val * 64 + l.val) = 512 + (64 * n.val + l.val); omega))

theorem refKn_at (y : FVec Ideal S4x8192x8x64 .f32) (n : Fin 8) (l : Fin 64) :
    refKn gk y (ix4 B s n l) = headNorm (fun k => y (ix4 B s n k)) (fun k => gk (ix1 k)) l := by
  pointwise [refKn, headNorm]

theorem refQr_at (q : FVec Ideal S4x8192x4x128 .f32) (n : Fin 4) (l : Fin 128) :
    refQr cr sr q (ix4 B s n l) = turn64 (fun k => q (ix4 B s n k)) (fun k => cr (ix2 s k)) (fun k => sr (ix2 s k)) l := by
  pointwise [refQr, turn64]
  by_cases hl : l.val < 64
  · simp only [dif_pos hl, Nat.add_comm 64]
  · simp only [dif_neg hl, show 64 + (l.val - 64) = l.val by omega]

theorem refKr_at (z : FVec Ideal S4x8192x8x64 .f32) (n : Fin 8) (l : Fin 64) :
    refKr cd sd z (ix4 B s n l) = turn8 (fun k => z (ix4 B s n k)) (fun k => cd (ix2 s k)) (fun k => sd (ix2 s k)) l := by
  pointwise [refKr, turn8]
  by_cases hl : l.val < 8
  · simp only [dif_pos hl, dif_pos (show l.val < 16 by omega), Nat.add_comm 8]
  · by_cases hl' : l.val < 16
    · simp only [dif_neg hl, dif_pos hl', show 8 + (l.val - 8) = l.val by omega]
    · simp only [dif_neg hl, dif_neg hl', show 16 + (l.val - 16) = l.val by omega]

/-! The results at coordinates. -/

/-- Row `R` of the results among the tokens. -/
abbrev batch (R : Fin 32768) : Fin 4 := ⟨R.val / 8192, by omega⟩
abbrev token (R : Fin 32768) : Fin 8192 := ⟨R.val % 8192, by omega⟩

/-- Column `c` of token `R`'s projection. -/
abbrev col (R : Fin 32768) (c : Fin 7424) : EReal :=
  dot (normed (fun k => h (ix3 (batch R) (token R) k)) fun k => g (ix1 k)) fun k => w (ix2 k c)

variable (R : Fin 32768)

theorem outU_at (e : Fin 1024) : outU h g (ix2 R e) = normed (fun k => h (ix3 (batch R) (token R) k)) (fun k => g (ix1 k)) e := by
  refine Eq.trans ?_ (refN_at h g (batch R) (token R) e)
  unfold outU
  generalize refN h g = x
  pointwise

theorem outV_at (l : Fin 512) : outV h g w (ix2 R l) = col h g w R (⟨2560 + l.val, by omega⟩ : Fin 7424) := by
  refine Eq.trans ?_ (refP_at h g w (batch R) (token R) _)
  unfold outV
  generalize refP h g w = x
  pointwise

theorem outG_at (l : Fin 512) : outG h g w (ix2 R l) = col h g w R (⟨3072 + l.val, by omega⟩ : Fin 7424) := by
  refine Eq.trans ?_ (refP_at h g w (batch R) (token R) _)
  unfold outG
  generalize refP h g w = x
  pointwise

theorem outQ_at (n : Fin 4) (l : Fin 128) : outQ h g w cr sr (ix2 R (⟨128 * n.val + l.val, by omega⟩ : Fin 512))
    = turn64 (fun k => col h g w R (⟨1536 + (128 * n.val + k.val), by omega⟩ : Fin 7424)) (fun k => cr (ix2 (token R) k)) (fun k => sr (ix2 (token R) k)) l := by
  have e : outQ h g w cr sr (ix2 R (⟨128 * n.val + l.val, by omega⟩ : Fin 512)) = refQr cr sr (refQ (refP h g w)) (ix4 (batch R) (token R) n l) := by
    unfold outQ
    generalize refQr cr sr (refQ (refP h g w)) = x
    pointwise
  rw [e, refQr_at]
  congr 1
  funext k
  rw [refQ_at, refP_at]

theorem outK_at (n : Fin 8) (l : Fin 64) : outK h g w gk cd sd (ix2 R (⟨64 * n.val + l.val, by omega⟩ : Fin 512))
    = turn8 (headNorm (fun k => col h g w R (⟨512 + (64 * n.val + k.val), by omega⟩ : Fin 7424)) fun k => gk (ix1 k))
        (fun k => cd (ix2 (token R) k)) (fun k => sd (ix2 (token R) k)) l := by
  have e : outK h g w gk cd sd (ix2 R (⟨64 * n.val + l.val, by omega⟩ : Fin 512))
      = refKr cd sd (refKn gk (refK (refP h g w))) (ix4 (batch R) (token R) n l) := by
    unfold outK
    generalize refKr cd sd (refKn gk (refK (refP h g w))) = x
    pointwise
  rw [e, refKr_at]
  congr 1
  funext k
  rw [refKn_at]
  congr 1
  funext j
  rw [refK_at, refP_at]

theorem outU_congr {h h' : FVec Ideal S4x8192x1024 .f32} {g g' : FVec Ideal S1024 .f32} (e_h : h = h') (e_g : g = g') :
    outU h g = outU h' g' := by
  subst e_h e_g
  rfl

theorem outK_congr {h h' : FVec Ideal S4x8192x1024 .f32} {g g' : FVec Ideal S1024 .f32} {w w' : FVec Ideal S1024x7424 .f32} {gk gk' : FVec Ideal S64 .f32} {cd cd' : FVec Ideal S8192x8 .f32} {sd sd' : FVec Ideal S8192x8 .f32} (e_h : h = h') (e_g : g = g') (e_w : w = w') (e_gk : gk = gk') (e_cd : cd = cd') (e_sd : sd = sd') :
    outK h g w gk cd sd = outK h' g' w' gk' cd' sd' := by
  subst e_h e_g e_w e_gk e_cd e_sd
  rfl

theorem outQ_congr {h h' : FVec Ideal S4x8192x1024 .f32} {g g' : FVec Ideal S1024 .f32} {w w' : FVec Ideal S1024x7424 .f32} {cr cr' : FVec Ideal S8192x64 .f32} {sr sr' : FVec Ideal S8192x64 .f32} (e_h : h = h') (e_g : g = g') (e_w : w = w') (e_cr : cr = cr') (e_sr : sr = sr') :
    outQ h g w cr sr = outQ h' g' w' cr' sr' := by
  subst e_h e_g e_w e_cr e_sr
  rfl

theorem outV_congr {h h' : FVec Ideal S4x8192x1024 .f32} {g g' : FVec Ideal S1024 .f32} {w w' : FVec Ideal S1024x7424 .f32} (e_h : h = h') (e_g : g = g') (e_w : w = w') :
    outV h g w = outV h' g' w' := by
  subst e_h e_g e_w
  rfl

theorem outG_congr {h h' : FVec Ideal S4x8192x1024 .f32} {g g' : FVec Ideal S1024 .f32} {w w' : FVec Ideal S1024x7424 .f32} (e_h : h = h') (e_g : g = g') (e_w : w = w') :
    outG h g w = outG h' g' w' := by
  subst e_h e_g e_w
  rfl

/-! The run, its results these stages. -/

theorem res69_eq (m : (ℓ : Loc nD τ sig) → Buf (Elt Ideal) ℓ) (c : Dev nD) :
    res_main_v69 m c = outK (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg7)) (m ((c.tc : Thread nD τ).loc main_arg8)) := rfl

theorem res71_eq (m : (ℓ : Loc nD τ sig) → Buf (Elt Ideal) ℓ) (c : Dev nD) :
    res_main_v71 m c = outQ (m ((c.tc : Thread nD τ).loc main_arg0)) (m ((c.tc : Thread nD τ).loc main_arg1)) (m ((c.tc : Thread nD τ).loc main_arg2)) (m ((c.tc : Thread nD τ).loc main_arg13)) (m ((c.tc : Thread nD τ).loc main_arg14)) := rfl

theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v67) = outU (m ((c.tc : Thread nD τ).loc main_arg0)) (m ((c.tc : Thread nD τ).loc main_arg1))
      ∧ r.2.mem ((c.tc : Thread nD τ).loc main_v69) = outK (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg7)) (m ((c.tc : Thread nD τ).loc main_arg8))
      ∧ r.2.mem ((c.tc : Thread nD τ).loc main_v71) = outQ (m ((c.tc : Thread nD τ).loc main_arg0)) (m ((c.tc : Thread nD τ).loc main_arg1)) (m ((c.tc : Thread nD τ).loc main_arg2)) (m ((c.tc : Thread nD τ).loc main_arg13)) (m ((c.tc : Thread nD τ).loc main_arg14))
      ∧ r.2.mem ((c.tc : Thread nD τ).loc main_v73) = outV (m ((c.tc : Thread nD τ).loc main_arg0)) (m ((c.tc : Thread nD τ).loc main_arg1)) (m ((c.tc : Thread nD τ).loc main_arg2))
      ∧ r.2.mem ((c.tc : Thread nD τ).loc main_v75) = outG (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c).1.trans rfl, (h c).2.1.trans (res69_eq m c), (h c).2.2.1.trans (res71_eq m c),
    (h c).2.2.2.1.trans rfl, (h c).2.2.2.2.1.trans rfl, (h c).2.2.2.2.2⟩) (run m ρ)

end Cert.ProjReferenceIdeal.Value

end
-- ==== Proof.ProjValue.lean ====
module

public import proofs.«01_k».proof.Proof.ProjOut
public import proofs.«01_k».proof.Proof.ProjHost
public import proofs.«01_k».proof.Proof.ProjRefValue

@[expose] public section

set_option maxRecDepth 16384

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MergeMath Cert.ProjMath
open Cert.ProjReferenceIdeal.Value (outU outK outQ outV outG outU_at outK_at outQ_at outV_at outG_at batch token col)

/-! The output arrays of the launch, element by element. -/

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val % 16, 0] ∧ win0_6.index t = ![t.val % 16, 0]
    ∧ win0_9.index t = ![t.val % 16, 0] ∧ win0_10.index t = ![t.val % 16, 0] ∧ win0_11.index t = ![t.val, 0] ∧ win0_13.index t = ![t.val, 0]
    ∧ win0_15.index t = ![t.val, 0] ∧ win0_17.index t = ![t.val, 0] ∧ win0_18.index t = ![t.val, 0] ∧ t.val < 64 :=
  (by decide +kernel : ∀ t : Fin grid0.N, _)

variable (t : Fin cfg0.N)

theorem lt_t : t.val < 64 := (idx t).2.2.2.2.2.2.2.2.2.2.2.2.2.2

/-- Row `r` of point `t` among the tokens. -/
abbrev tr (r : Fin 512) : Fin 32768 := ⟨512 * t.val + r.val, by have := lt_t t; omega⟩
/-- Its position in its sequence, as the tables are addressed. -/
abbrev tp (r : Fin 512) : Fin 8192 := ⟨512 * (t.val % 16) + r.val, by omega⟩

theorem tp_eq (r : Fin 512) : tp t r = token (tr t r) := Fin.ext (by
  have := r.isLt
  show 512 * (t.val % 16) + r.val = (512 * t.val + r.val) % 8192
  omega)

variable (r : Fin 512) (e : Fin 1024)

theorem blk0 : (iblk m c 0 t : Vec Ideal S512x1024 .f32) (ix2 r e) = a0 m c (ix3 (batch (tr t r)) (token (tr t r)) e) := by
  refine Eq.trans (b := (V m c main_v34 : Vec Ideal S32768x1024 .f32) (ix2 (tr t r) e)) ?_ ?_
  · blk_ext [iblk, idx t]
  · rw [V_v34]
    pointwise
theorem blk1 : (iblk m c 1 t : Vec Ideal S1x1024 .f32) (ix2 0 e) = a1 m c (ix1 e) := by
  refine Eq.trans (b := (V m c main_v35 : Vec Ideal S1x1024 .f32) (ix2 0 e)) ?_ ?_
  · blk_ext [iblk, idx t]
  · rw [V_v35]
    pointwise
theorem blk2 (d : Fin 4352) : (iblk m c 2 t : Vec Ideal S1024x4352 .bf16) (ix2 e d) = a2 m c (ix2 e (⟨d.val, by omega⟩ : Fin 7424)) := by
  refine Eq.trans (b := (V m c main_v37 : Vec Ideal S1024x4352 .bf16) (ix2 e d)) ?_ ?_
  · blk_ext [iblk, idx t]
  · rw [V_v37]
    pointwise
theorem blk3 (k l : Fin 256) : (iblk m c 3 t : Vec Ideal S256x256 .bf16) (ix2 k l) = avg k l := by
  refine Eq.trans (b := (V m c main_v24 : Vec Ideal S256x256 .bf16) (ix2 k l)) ?_ ?_
  · blk_ext [iblk, idx t]
  · rw [V_v24]
    exact avgV_at k l
theorem blk4 (i : Fin 2) (l : Fin 64) : (iblk m c 4 t : Vec Ideal S4x128 .f32) (ix2 1 (two i l)) = a4 m c (ix1 l) := by
  refine Eq.trans (b := (V m c main_v33 : Vec Ideal S4x128 .f32) (ix2 1 (two i l))) ?_ ?_
  · blk_ext [iblk, idx t]
  · rw [V_v33]
    exact gains_at _ _ _ _ i l
theorem blk5 (i : Fin 2) (l : Fin 64) : (iblk m c 5 t : Vec Ideal S512x128 .f32) (ix2 r (two i l)) = cos8 (fun k => a7 m c (ix2 (token (tr t r)) k)) l := by
  refine Eq.trans (b := (V m c main_v3 : Vec Ideal S8192x128 .f32) (ix2 (tp t r) (two i l))) ?_ ?_
  · blk_ext [iblk, idx t]
  · rw [V_v3, tp_eq]
    exact (twice_at _ _ i l).trans (cosHead_at _ _ l)
theorem blk6 (i : Fin 2) (l : Fin 64) : (iblk m c 6 t : Vec Ideal S512x128 .f32) (ix2 r (two i l)) = sin8 (fun k => a8 m c (ix2 (token (tr t r)) k)) l := by
  refine Eq.trans (b := (V m c main_v6 : Vec Ideal S8192x128 .f32) (ix2 (tp t r) (two i l))) ?_ ?_
  · blk_ext [iblk, idx t]
  · rw [V_v6, tp_eq]
    exact (twice_at _ _ i l).trans (sinHead_at _ _ l)
theorem blk9 (l : Fin 128) : (iblk m c 9 t : Vec Ideal S512x128 .f32) (ix2 r l) = cos64 (fun k => a13 m c (ix2 (token (tr t r)) k)) l := by
  refine Eq.trans (b := (V m c main_v13 : Vec Ideal S8192x128 .f32) (ix2 (tp t r) l)) ?_ ?_
  · blk_ext [iblk, idx t]
  · rw [V_v13, tp_eq]
    exact twice_at' _ _ l
theorem blk10 (l : Fin 128) : (iblk m c 10 t : Vec Ideal S512x128 .f32) (ix2 r l) = sin64 (fun k => a14 m c (ix2 (token (tr t r)) k)) l := by
  refine Eq.trans (b := (V m c main_v15 : Vec Ideal S8192x128 .f32) (ix2 (tp t r) l)) ?_ ?_
  · blk_ext [iblk, idx t]
  · rw [V_v15, tp_eq]
    exact sinHead128_at _ _ l

/-! A point's blocks at a row and a lane. -/

/-- A row of the tile's products is the token's projection. -/
theorem cols_at (o : ℕ) (ho : o + 512 ≤ 4352) (l : Fin 512) : colsV (iblk m c 0 t) (iblk m c 1 t) (iblk m c 2 t) o ho (ix2 r l)
    = col (a0 m c) (a1 m c) (a2 m c) (tr t r) (⟨o + l.val, by omega⟩ : Fin 7424) := by
  refine congrArg₂ dot (congrArg₂ normed (funext fun k => ?_) (funext fun k => ?_)) (funext fun k => ?_)
  · exact blk0 m c t r k
  · exact blk1 m c t k
  · exact blk2 m c t k _

/-- A head's lane, normalized: the averaging matrix's product is the mean of the head's squares. -/
theorem headed_eq (x3 : FVec Ideal S256x256 .bf16) (n4 : FVec Ideal S1x128 .f32) (Y : FVec Ideal S512x512 .f32) (C G : Fin 64 → EReal)
    (n : Fin 4) (i : Fin 2) (hY : ∀ (k : Fin 64) (x : Fin 512), x.val = 64 * (2 * n.val + i.val) + k.val → Y (ix2 r x) = C k)
    (hA : ∀ k l, x3 (ix2 k l) = avg k l) (l : Fin 64) (hG : n4 (ix2 0 (two i l)) = G l) (p q : Fin 2) (hp : p.val = n.val / 2) (hq : q.val = n.val % 2) :
    headed r x3 n4 Y (two i l) p q = headNorm C G l := by
  have hn := n.isLt
  have hi := i.isLt
  have hl := l.isLt
  have hs : (∑ k : Fin 256, Y (ix2 r (⟨256 * p.val + k.val, by omega⟩ : Fin 512)) * Y (ix2 r (⟨256 * p.val + k.val, by omega⟩ : Fin 512))
      * x3 (ix2 k (⟨128 * q.val + (two i l).val, by omega⟩ : Fin 256))) = Ideal.div (∑ k : Fin 64, C k * C k) (Ideal.ofBits .f32 0x42800000#32) := by
    have e1 := avg_eq (fun k : Fin 256 => Y (ix2 r (⟨256 * p.val + k.val, by omega⟩ : Fin 512))) (⟨2 * q.val + i.val, by omega⟩ : Fin 4) l
    have e2 : ∀ k : Fin 64, Y (ix2 r (⟨256 * p.val + (four (⟨2 * q.val + i.val, by omega⟩ : Fin 4) k).val, by omega⟩ : Fin 512)) = C k := fun k =>
      hY k _ (by have := k.isLt; show 256 * p.val + (64 * (2 * q.val + i.val) + k.val) = _; omega)
    simp only [e2] at e1
    rw [← e1]
    refine Finset.sum_congr rfl fun k _ => ?_
    rw [hA]
    exact congrArg (fun z => _ * avg k z) (Fin.ext (by show 128 * q.val + (64 * i.val + l.val) = 64 * (2 * q.val + i.val) + l.val; omega))
  unfold headed headNorm
  rw [hs, hG, hY l _ (by show 256 * p.val + (128 * q.val + (64 * i.val + l.val)) = _; omega)]

theorem at11 : (outsAt0 m c t).1 (ix2 r e)
    = normed (fun k => (iblk m c 0 t : Vec Ideal S512x1024 .f32) (ix2 r k)) (fun k => (iblk m c 1 t : Vec Ideal S1x1024 .f32) (ix2 0 k)) e := by
  refine (congrFun (by dsimp only [outsAt0] : (outsAt0 m c t).1 = out0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t)) _).trans ?_
  apply out11_at

theorem at17 (l : Fin 512) : (outsAt0 m c t).2.2.2.2.2.2.1 (ix2 r l)
    = colsV (iblk m c 0 t) (iblk m c 1 t) (iblk m c 2 t) 2560 (by omega) (ix2 r l) := by
  refine (congrFun (by dsimp only [outsAt0] : (outsAt0 m c t).2.2.2.2.2.2.1 = out0_A_17 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t)) _).trans ?_
  apply out17_at

theorem at18 (l : Fin 512) : (outsAt0 m c t).2.2.2.2.2.2.2.1 (ix2 r l)
    = colsV (iblk m c 0 t) (iblk m c 1 t) (iblk m c 2 t) 3072 (by omega) (ix2 r l) := by
  refine (congrFun (by dsimp only [outsAt0] : (outsAt0 m c t).2.2.2.2.2.2.2.1 = out0_A_18 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t)) _).trans ?_
  apply out18_at

theorem at13 (n : Fin 4) (l : Fin 128) : (outsAt0 m c t).2.2.1 (ix2 r (⟨128 * n.val + l.val, by omega⟩ : Fin 512))
    = rotated8 r (iblk m c 5 t) (iblk m c 6 t) (headV (iblk m c 0 t) (iblk m c 1 t) (iblk m c 2 t) (iblk m c 3 t) (iblk m c 4 t) n) l := by
  refine (congrFun (by dsimp only [outsAt0] : (outsAt0 m c t).2.2.1 = out0_A_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t)) _).trans ?_
  apply out13_at

theorem at15 (n : Fin 4) (l : Fin 128) : (outsAt0 m c t).2.2.2.2.1 (ix2 r (⟨128 * n.val + l.val, by omega⟩ : Fin 512))
    = rotated r (iblk m c 9 t) (iblk m c 10 t) (colsV (iblk m c 0 t) (iblk m c 1 t) (iblk m c 2 t) 1536 (by omega)) l n := by
  refine (congrFun (by dsimp only [outsAt0] : (outsAt0 m c t).2.2.2.2.1 = out0_A_15 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (iblk m c 0 t) (iblk m c 1 t) (iblk m c 2 t) (iblk m c 3 t) (iblk m c 4 t) (iblk m c 5 t) (iblk m c 6 t) (iblk m c 7 t) (iblk m c 8 t) (iblk m c 9 t) (iblk m c 10 t)) _).trans ?_
  apply out15_at

theorem point11 : (outsAt0 m c t).1 (ix2 r e) = outU (a0 m c) (a1 m c) (ix2 (tr t r) e) := by
  rw [outU_at]
  refine (at11 m c t r e).trans ?_
  exact congrArg₂ (fun a b => normed a b e) (funext fun k => blk0 m c t r k) (funext fun k => blk1 m c t k)

theorem point17 (l : Fin 512) : (outsAt0 m c t).2.2.2.2.2.2.1 (ix2 r l) = outV (a0 m c) (a1 m c) (a2 m c) (ix2 (tr t r) l) := by
  rw [outV_at]
  exact (at17 m c t r l).trans (cols_at m c t r 2560 _ l)

theorem point18 (l : Fin 512) : (outsAt0 m c t).2.2.2.2.2.2.2.1 (ix2 r l) = outG (a0 m c) (a1 m c) (a2 m c) (ix2 (tr t r) l) := by
  rw [outG_at]
  exact (at18 m c t r l).trans (cols_at m c t r 3072 _ l)

/-- 128 lanes rotated as one head. -/
theorem rotated_eq (x9 x10 : FVec Ideal S512x128 .f32) (Y : FVec Ideal S512x512 .f32) (C : Fin 128 → EReal) (c s : Fin 64 → EReal) (n : Fin 4)
    (hY : ∀ (k : Fin 128) (x : Fin 512), x.val = 128 * n.val + k.val → Y (ix2 r x) = C k)
    (h9 : ∀ l, x9 (ix2 r l) = cos64 c l) (h10 : ∀ l, x10 (ix2 r l) = sin64 s l) (l : Fin 128) : rotated r x9 x10 Y l n = turn64 C c s l := by
  rw [← turn64_eq]
  unfold rotated
  rw [hY l _ rfl, hY (back 64 l) _ rfl, h9, h10]

theorem point15 (n : Fin 4) (l : Fin 128) : (outsAt0 m c t).2.2.2.2.1 (ix2 r (⟨128 * n.val + l.val, by omega⟩ : Fin 512))
    = outQ (a0 m c) (a1 m c) (a2 m c) (a13 m c) (a14 m c) (ix2 (tr t r) (⟨128 * n.val + l.val, by omega⟩ : Fin 512)) := by
  rw [outQ_at]
  refine (at15 m c t r n l).trans ?_
  refine rotated_eq r _ _ _ _ _ _ n (fun k x hx => ?_) (fun l => blk9 m c t r l) (fun l => blk10 m c t r l) l
  exact (cols_at m c t r 1536 _ x).trans (congrArg (col (a0 m c) (a1 m c) (a2 m c) (tr t r)) (Fin.ext (by show 1536 + x.val = _; rw [hx])))

/-- 64 lanes rotated in their first 16. -/
theorem rotated8_eq (x5 x6 : FVec Ideal S512x128 .f32) (Z : FVec Ideal S512x128 .f32) (C : Fin 64 → EReal) (c s : Fin 8 → EReal) (i : Fin 2)
    (hZ : ∀ k : Fin 64, Z (ix2 r (two i k)) = C k)
    (h5 : ∀ l, x5 (ix2 r (two i l)) = cos8 c l) (h6 : ∀ l, x6 (ix2 r (two i l)) = sin8 s l) (l : Fin 64) : rotated8 r x5 x6 Z (two i l) = turn8 C c s l := by
  unfold rotated8
  rw [h5, h6]
  refine (turn8_eq (fun k => Z (ix2 r k)) c s i l).trans (congrArg (fun z => turn8 z c s l) (funext hZ))

theorem point13 (n : Fin 4) (i : Fin 2) (l : Fin 64) : (outsAt0 m c t).2.2.1 (ix2 r (⟨128 * n.val + (two i l).val, by omega⟩ : Fin 512))
    = outK (a0 m c) (a1 m c) (a2 m c) (a4 m c) (a7 m c) (a8 m c) (ix2 (tr t r) (⟨128 * n.val + (two i l).val, by omega⟩ : Fin 512)) := by
  have hi := i.isLt
  have hl := l.isLt
  refine Eq.trans ?_ ((outK_at (a0 m c) (a1 m c) (a2 m c) (a4 m c) (a7 m c) (a8 m c) (tr t r) (⟨2 * n.val + i.val, by omega⟩ : Fin 8) l).symm.trans
    (congrArg (fun z => outK (a0 m c) (a1 m c) (a2 m c) (a4 m c) (a7 m c) (a8 m c) (ix2 (tr t r) z))
      (Fin.ext (by show 64 * (2 * n.val + i.val) + l.val = 128 * n.val + (64 * i.val + l.val); omega))))
  refine (at13 m c t r n (two i l)).trans ?_
  refine rotated8_eq r _ _ _ _ _ _ i (fun k => ?_) (fun l => blk5 m c t r i l) (fun l => blk6 m c t r i l) l
  refine headed_eq r _ _ _ _ _ n i (fun k x hx => ?_) (fun k l => blk3 m c t k l) k (blk4 m c t i k) _ _ rfl rfl
  exact (cols_at m c t r 512 _ x).trans (congrArg (col (a0 m c) (a1 m c) (a2 m c) (tr t r)) (Fin.ext (by show 512 + x.val = _; rw [hx])))

/-! The output arrays after the run. -/

theorem final11 : (dats m 0 c).arrAt 11 (cfgs 0).N = outU (a0 m c) (a1 m c) := by
  refine Eq.trans (b := fun i : S32768x1024.Idx => outU (a0 m c) (a1 m c) (ix2 (i 0) (i 1))) ?_ (funext fun i => congrArg _ (eq_ix2 i).symm)
  refine (dats m 0 c).arrAt_eq_of_covers 11 _ (by decide +kernel) fun t _ y => ?_
  blk_simp
  rw [after0_11]
  have ht := lt_t t
  obtain ⟨y0, y1, rfl⟩ : ∃ (y0 : Fin 512) (y1 : Fin 1024), y = ix2 y0 y1 := ⟨y 0, y 1, eq_ix2 y⟩
  refine (point11 m c t y0 y1).trans (congrArg₂ (fun a b => outU (a0 m c) (a1 m c) (ix2 a b)) ?_ ?_)
  all_goals apply Fin.ext
  all_goals blk_simp [idx t]
  all_goals (try simp only)
  all_goals omega

theorem final13 : (dats m 0 c).arrAt 13 (cfgs 0).N = outK (a0 m c) (a1 m c) (a2 m c) (a4 m c) (a7 m c) (a8 m c) := by
  refine Eq.trans (b := fun i : S32768x512.Idx => outK (a0 m c) (a1 m c) (a2 m c) (a4 m c) (a7 m c) (a8 m c) (ix2 (i 0) (i 1))) ?_ (funext fun i => congrArg _ (eq_ix2 i).symm)
  refine (dats m 0 c).arrAt_eq_of_covers 13 _ (by decide +kernel) fun t _ y => ?_
  blk_simp
  rw [after0_13]
  have ht := lt_t t
  obtain ⟨y0, y1, rfl⟩ : ∃ (y0 : Fin 512) (y1 : Fin 512), y = ix2 y0 y1 := ⟨y 0, y 1, eq_ix2 y⟩
  obtain ⟨n, i, l, rfl⟩ : ∃ (n : Fin 4) (i : Fin 2) (l : Fin 64), y1 = ⟨128 * n.val + (two i l).val, by omega⟩ :=
    ⟨⟨y1.val / 128, by omega⟩, ⟨y1.val % 128 / 64, by omega⟩, ⟨y1.val % 64, by omega⟩, Fin.ext (by show y1.val = 128 * (y1.val / 128) + (64 * (y1.val % 128 / 64) + y1.val % 64); omega)⟩
  refine (point13 m c t y0 n i l).trans (congrArg₂ (fun a b => outK (a0 m c) (a1 m c) (a2 m c) (a4 m c) (a7 m c) (a8 m c) (ix2 a b)) ?_ ?_)
  all_goals apply Fin.ext
  all_goals blk_simp [idx t]
  all_goals (try simp only)
  all_goals omega

theorem final15 : (dats m 0 c).arrAt 15 (cfgs 0).N = outQ (a0 m c) (a1 m c) (a2 m c) (a13 m c) (a14 m c) := by
  refine Eq.trans (b := fun i : S32768x512.Idx => outQ (a0 m c) (a1 m c) (a2 m c) (a13 m c) (a14 m c) (ix2 (i 0) (i 1))) ?_ (funext fun i => congrArg _ (eq_ix2 i).symm)
  refine (dats m 0 c).arrAt_eq_of_covers 15 _ (by decide +kernel) fun t _ y => ?_
  blk_simp
  rw [after0_15]
  have ht := lt_t t
  obtain ⟨y0, y1, rfl⟩ : ∃ (y0 : Fin 512) (y1 : Fin 512), y = ix2 y0 y1 := ⟨y 0, y 1, eq_ix2 y⟩
  obtain ⟨n, l, rfl⟩ : ∃ (n : Fin 4) (l : Fin 128), y1 = ⟨128 * n.val + l.val, by omega⟩ :=
    ⟨⟨y1.val / 128, by omega⟩, ⟨y1.val % 128, by omega⟩, Fin.ext (by show y1.val = 128 * (y1.val / 128) + y1.val % 128; omega)⟩
  refine (point15 m c t y0 n l).trans (congrArg₂ (fun a b => outQ (a0 m c) (a1 m c) (a2 m c) (a13 m c) (a14 m c) (ix2 a b)) ?_ ?_)
  all_goals apply Fin.ext
  all_goals blk_simp [idx t]
  all_goals (try simp only)
  all_goals omega

theorem final17 : (dats m 0 c).arrAt 17 (cfgs 0).N = outV (a0 m c) (a1 m c) (a2 m c) := by
  refine Eq.trans (b := fun i : S32768x512.Idx => outV (a0 m c) (a1 m c) (a2 m c) (ix2 (i 0) (i 1))) ?_ (funext fun i => congrArg _ (eq_ix2 i).symm)
  refine (dats m 0 c).arrAt_eq_of_covers 17 _ (by decide +kernel) fun t _ y => ?_
  blk_simp
  rw [after0_17]
  have ht := lt_t t
  obtain ⟨y0, y1, rfl⟩ : ∃ (y0 : Fin 512) (y1 : Fin 512), y = ix2 y0 y1 := ⟨y 0, y 1, eq_ix2 y⟩
  refine (point17 m c t y0 y1).trans (congrArg₂ (fun a b => outV (a0 m c) (a1 m c) (a2 m c) (ix2 a b)) ?_ ?_)
  all_goals apply Fin.ext
  all_goals blk_simp [idx t]
  all_goals (try simp only)
  all_goals omega

theorem final18 : (dats m 0 c).arrAt 18 (cfgs 0).N = outG (a0 m c) (a1 m c) (a2 m c) := by
  refine Eq.trans (b := fun i : S32768x512.Idx => outG (a0 m c) (a1 m c) (a2 m c) (ix2 (i 0) (i 1))) ?_ (funext fun i => congrArg _ (eq_ix2 i).symm)
  refine (dats m 0 c).arrAt_eq_of_covers 18 _ (by decide +kernel) fun t _ y => ?_
  blk_simp
  rw [after0_18]
  have ht := lt_t t
  obtain ⟨y0, y1, rfl⟩ : ∃ (y0 : Fin 512) (y1 : Fin 512), y = ix2 y0 y1 := ⟨y 0, y 1, eq_ix2 y⟩
  refine (point18 m c t y0 y1).trans (congrArg₂ (fun a b => outG (a0 m c) (a1 m c) (a2 m c) (ix2 a b)) ?_ ?_)
  all_goals apply Fin.ext
  all_goals blk_simp [idx t]
  all_goals (try simp only)
  all_goals omega

end Cert.ProjIdeal.Gen

end
-- ==== Proof.lean ====
module

public import proofs.«01_k».proof.Defs
public import proofs.«01_k».proof.Proof.KernelFrame
public import proofs.«01_k».proof.Proof.KernelValue
public import proofs.«01_k».proof.Proof.RefValue
public import proofs.«01_k».proof.Proof.Finite
public import proofs.«01_k».proof.Proof.Gen.Merge.Frame
public import proofs.«01_k».proof.Proof.Gen.MergeIdeal.Value
public import proofs.«01_k».proof.Proof.Gen.MergeReferenceIdeal.Run
public import proofs.«01_k».proof.Proof.GqaFrame
public import proofs.«01_k».proof.Proof.GqaKernelValue
public import proofs.«01_k».proof.Proof.GqaRefValue
public import proofs.«01_k».proof.Proof.GqaFinite
public import proofs.«01_k».proof.Proof.MergeValue
public import proofs.«01_k».proof.Proof.MergeRefValue
public import proofs.«01_k».proof.Proof.ProjWordFrame
public import proofs.«01_k».proof.Proof.ProjFrame
public import proofs.«01_k».proof.Proof.ProjValue
public import proofs.«01_k».proof.Proof.ProjRefValue
public import proofs.«01_k».proof.Proof.Gen.ProjReferenceIdeal.Run
public import Idealize.ShloMosaic.Lib.Claim

@[expose] public section

set_option maxRecDepth 16384

noncomputable section

namespace Cert.KernelIdeal.Gen

open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The idealized kernel's run: the result's array as the launch leaves it, the arguments as they were. -/
theorem run_main : θ_run defs (onTc (τ := τ) (main (F := Ideal))) (s₀ m ρ) (Pipeline.FramePost cfgs (dats m) 0 (V m)) :=
  (θ_run defs _ _).mono (fun _ h => h.1) (run_quiescent m ρ (flag_block m))

/-- Its frame, with every counter back at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ))
    ((θ_run defs _ _).mono (fun _ h => h.2) (run_quiescent m ρ (flag_block m)))

end Cert.KernelIdeal.Gen

namespace Cert.GqaIdeal.Gen

open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The idealized grouped attention's run: the result's array as the launch leaves it, the arguments as they were. -/
theorem run_main : θ_run defs (onTc (τ := τ) (main (F := Ideal))) (s₀ m ρ) (Pipeline.FramePost cfgs (dats m) 0 (V m)) :=
  (θ_run defs _ _).mono (fun _ h => h.1) (run_quiescent m ρ (flag_block m))

/-- Its frame, with every counter back at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ))
    ((θ_run defs _ _).mono (fun _ h => h.2) (run_quiescent m ρ (flag_block m)))

end Cert.GqaIdeal.Gen

namespace Cert.Proof

open Idealize.ShloMosaic Idealize.ShloMosaic.TcCoe Idealize.SL.Sem

/-- The reference's run from memories whose arguments are the kernel's. -/
theorem ref_result {m : (ℓ : Loc Cert.KernelIdeal.nD Cert.KernelIdeal.τ Cert.KernelIdeal.sig) → Buf (Elt Ideal) ℓ}
    (hpre : Cert.Pre_KernelIdeal_finite m) (c : Dev Cert.KernelIdeal.nD) :
    Cert.ReferenceIdeal.Value.refN (Cert.KernelIdeal.Gen.ag m c) (Cert.ReferenceIdeal.Value.refA (Cert.KernelIdeal.Gen.av m c)
      (Cert.ReferenceIdeal.Value.refP (Cert.ReferenceIdeal.Value.refE (Cert.ReferenceIdeal.Value.refS (Cert.KernelIdeal.Gen.aq m c) (Cert.KernelIdeal.Gen.ak m c))))
      (Cert.ReferenceIdeal.Value.refLam (Cert.KernelIdeal.Gen.al m c 0) (Cert.KernelIdeal.Gen.al m c 1) (Cert.KernelIdeal.Gen.al m c 2) (Cert.KernelIdeal.Gen.al m c 3)))
    = (Cert.KernelIdeal.Gen.dats m 0 c).arrAt 6 (Cert.KernelIdeal.cfgs 0).N := by
  obtain ⟨hq, hk, hv, ha, hb, hc, hd⟩ := Cert.Pre_finite.Gen.finite_reals (hpre c)
  rw [Cert.KernelIdeal.Gen.final m c hq hk hv]
  funext i
  rw [eq_ix2 i]
  exact Cert.ReferenceIdeal.Value.ref_at _ _ _ _ _ _ _ _ hq hk hv ha hb hc hd (i 0) (i 1)

/-- The reference's run leaves its arguments; it declares no counter. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0) :=
  (θ_run Cert.ReferenceIdeal.defs _ _).mono (fun r h => And.intro (fun c => (h c).2) (sem_eq_zero_of_no_sems (by decide) r.2))
    (Cert.ReferenceIdeal.Value.run m ρ)

theorem algebraic : Cert.algebraic_KernelIdeal_ReferenceIdeal_pre_finite := by
  intro m g m' g' hpre hagree
  refine ⟨fun c => (Cert.KernelIdeal.Gen.dats m 0 c).arrAt 6 (Cert.KernelIdeal.cfgs 0).N,
    (θ_run Cert.KernelIdeal.defs _ _).mono (fun _ h c => ⟨(h.1 c).1 6, h.2.1 c⟩)
      (θ_run_and (Cert.KernelIdeal.Gen.run_main m g) (Cert.KernelIdeal.Gen.frame m g)),
    (θ_run Cert.ReferenceIdeal.defs _ _).mono (fun _ h c => ⟨(h c).1.trans ?_, (h c).2⟩) (Cert.ReferenceIdeal.Value.run m' g')⟩
  obtain ⟨e0, e1, e2, e3, e4, e5, e6, e7, e8, e9⟩ := hagree c
  refine (Cert.ReferenceIdeal.Value.res_eq m' c).trans ?_
  rw [e0, e1, e2, e5, e6, e7, e8, e9]
  exact ref_result hpre c

/-- The merge's reference leaves its arguments; it declares no counter. -/
theorem merge_reference_frame (m : (ℓ : Loc Cert.MergeReferenceIdeal.nD Cert.MergeReferenceIdeal.τ Cert.MergeReferenceIdeal.sig) → Buf (Elt Ideal) ℓ)
    (ρ : Dev Cert.MergeReferenceIdeal.nD → PrngReg) :
    θ_run Cert.MergeReferenceIdeal.defs (onTc (τ := Cert.MergeReferenceIdeal.τ) (Cert.MergeReferenceIdeal.main (F := Ideal))) ⟨m, fun _ => 0, ρ⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10))
      ∧ r.2.sem = fun _ => 0) :=
  (θ_run Cert.MergeReferenceIdeal.defs _ _).mono (fun r h => And.intro (fun c => (h c).2) (sem_eq_zero_of_no_sems (by decide) r.2))
    (Cert.MergeReferenceIdeal.Value.run m ρ)

theorem merge_algebraic : Cert.algebraic_MergeIdeal_MergeReferenceIdeal := by
  intro m g m' g' hpre hagree
  refine ⟨fun c => (Cert.MergeIdeal.Gen.dats m 0 c).arrAt 11 (Cert.MergeIdeal.cfgs 0).N, Cert.MergeIdeal.Value.run_blocks m g,
    (θ_run Cert.MergeReferenceIdeal.defs _ _).mono (fun _ h c => ⟨(h c).1.trans ?_, (h c).2⟩) (Cert.MergeReferenceIdeal.Value.run m' g')⟩
  obtain ⟨e0, e1, e2, e3, e4, e5, e6, e7, e8, e9, e10⟩ := hagree c
  refine (Cert.MergeReferenceIdeal.Value.res_eq m' c).trans ?_
  rw [e0, e1, e2, e3, e4, e5, e6, e7, e8, e9, e10]
  refine Eq.trans ?_ (Cert.MergeIdeal.Gen.final m c).symm
  funext i
  rw [eq_ix2 i]
  exact Cert.MergeReferenceIdeal.Value.ref_at _ _ _ _ _ _ _ _ _ _ _ (i 1) (i 0)

/-- The grouped attention's reference run leaves its arguments; it declares no counter. -/
theorem gqa_reference_frame (m : (ℓ : Loc Cert.GqaReferenceIdeal.nD Cert.GqaReferenceIdeal.τ Cert.GqaReferenceIdeal.sig) → Buf (Elt Ideal) ℓ)
    (ρ : Dev Cert.GqaReferenceIdeal.nD → PrngReg) :
    θ_run Cert.GqaReferenceIdeal.defs (onTc (τ := Cert.GqaReferenceIdeal.τ) (Cert.GqaReferenceIdeal.main (F := Ideal))) ⟨m, fun _ => 0, ρ⟩ (fun r => (∀ c : Dev Cert.GqaReferenceIdeal.nD,
      r.2.mem ((c.tc : Thread Cert.GqaReferenceIdeal.nD Cert.GqaReferenceIdeal.τ).loc Cert.GqaReferenceIdeal.main_arg0) = m ((c.tc : Thread Cert.GqaReferenceIdeal.nD Cert.GqaReferenceIdeal.τ).loc Cert.GqaReferenceIdeal.main_arg0)
      ∧ r.2.mem ((c.tc : Thread Cert.GqaReferenceIdeal.nD Cert.GqaReferenceIdeal.τ).loc Cert.GqaReferenceIdeal.main_arg1) = m ((c.tc : Thread Cert.GqaReferenceIdeal.nD Cert.GqaReferenceIdeal.τ).loc Cert.GqaReferenceIdeal.main_arg1)
      ∧ r.2.mem ((c.tc : Thread Cert.GqaReferenceIdeal.nD Cert.GqaReferenceIdeal.τ).loc Cert.GqaReferenceIdeal.main_arg2) = m ((c.tc : Thread Cert.GqaReferenceIdeal.nD Cert.GqaReferenceIdeal.τ).loc Cert.GqaReferenceIdeal.main_arg2)
      ∧ r.2.mem ((c.tc : Thread Cert.GqaReferenceIdeal.nD Cert.GqaReferenceIdeal.τ).loc Cert.GqaReferenceIdeal.main_arg3) = m ((c.tc : Thread Cert.GqaReferenceIdeal.nD Cert.GqaReferenceIdeal.τ).loc Cert.GqaReferenceIdeal.main_arg3)
      ∧ r.2.mem ((c.tc : Thread Cert.GqaReferenceIdeal.nD Cert.GqaReferenceIdeal.τ).loc Cert.GqaReferenceIdeal.main_arg4) = m ((c.tc : Thread Cert.GqaReferenceIdeal.nD Cert.GqaReferenceIdeal.τ).loc Cert.GqaReferenceIdeal.main_arg4))
      ∧ r.2.sem = fun _ => 0) :=
  (θ_run Cert.GqaReferenceIdeal.defs _ _).mono (fun r h => And.intro (fun c => (h c).2) (sem_eq_zero_of_no_sems (by decide) r.2))
    (Cert.GqaReferenceIdeal.Value.run m ρ)

theorem gqa_algebraic : Cert.algebraic_GqaIdeal_GqaReferenceIdeal_pre_gqa_finite := by
  intro m g m' g' hpre hagree
  refine ⟨fun c => (Cert.GqaIdeal.Gen.dats m 0 c).arrAt 4 (Cert.GqaIdeal.cfgs 0).N,
    (θ_run Cert.GqaIdeal.defs _ _).mono (fun _ h c => ⟨(h.1 c).1 4, h.2.1 c⟩)
      (θ_run_and (Cert.GqaIdeal.Gen.run_main m g) (Cert.GqaIdeal.Gen.frame m g)),
    (θ_run Cert.GqaReferenceIdeal.defs _ _).mono (fun _ h c => ⟨(h c).1.trans ?_, (h c).2⟩) (Cert.GqaReferenceIdeal.Value.run_stages m' g')⟩
  obtain ⟨e0, e1, e2, e3, e4⟩ := hagree c
  obtain ⟨hq, hk, hv⟩ := Cert.Pre_gqa_finite.Gen.finite_reals (hpre c)
  rw [e0, e1, e2]
  refine Eq.trans ?_ (Cert.GqaIdeal.Gen.final m c hq hk hv).symm
  funext i
  rw [eq_ix2 i]
  exact Cert.GqaReferenceIdeal.Value.ref_at _ _ _ hq hk hv (i 0) (i 1)

/-- The projection's reference leaves its arguments; it declares no counter. -/
theorem proj_reference_frame (m : (ℓ : Loc Cert.ProjReferenceIdeal.nD Cert.ProjReferenceIdeal.τ Cert.ProjReferenceIdeal.sig) → Buf (Elt Ideal) ℓ)
    (ρ : Dev Cert.ProjReferenceIdeal.nD → PrngReg) :
    θ_run Cert.ProjReferenceIdeal.defs (onTc (τ := Cert.ProjReferenceIdeal.τ) (Cert.ProjReferenceIdeal.main (F := Ideal))) ⟨m, fun _ => 0, ρ⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8)
      ∧ r.2.mem ((c.tc : Thread Cert.ProjReferenceIdeal.nD Cert.ProjReferenceIdeal.τ).loc Cert.ProjReferenceIdeal.main_arg9) = m ((c.tc : Thread Cert.ProjReferenceIdeal.nD Cert.ProjReferenceIdeal.τ).loc Cert.ProjReferenceIdeal.main_arg9)
      ∧ r.2.mem ((c.tc : Thread Cert.ProjReferenceIdeal.nD Cert.ProjReferenceIdeal.τ).loc Cert.ProjReferenceIdeal.main_arg10) = m ((c.tc : Thread Cert.ProjReferenceIdeal.nD Cert.ProjReferenceIdeal.τ).loc Cert.ProjReferenceIdeal.main_arg10)
      ∧ r.2.mem ((c.tc : Thread Cert.ProjReferenceIdeal.nD Cert.ProjReferenceIdeal.τ).loc Cert.ProjReferenceIdeal.main_arg11) = m ((c.tc : Thread Cert.ProjReferenceIdeal.nD Cert.ProjReferenceIdeal.τ).loc Cert.ProjReferenceIdeal.main_arg11)
      ∧ r.2.mem ((c.tc : Thread Cert.ProjReferenceIdeal.nD Cert.ProjReferenceIdeal.τ).loc Cert.ProjReferenceIdeal.main_arg12) = m ((c.tc : Thread Cert.ProjReferenceIdeal.nD Cert.ProjReferenceIdeal.τ).loc Cert.ProjReferenceIdeal.main_arg12)
      ∧ r.2.mem ((c.tc : Thread Cert.ProjReferenceIdeal.nD Cert.ProjReferenceIdeal.τ).loc Cert.ProjReferenceIdeal.main_arg13) = m ((c.tc : Thread Cert.ProjReferenceIdeal.nD Cert.ProjReferenceIdeal.τ).loc Cert.ProjReferenceIdeal.main_arg13)
      ∧ r.2.mem ((c.tc : Thread Cert.ProjReferenceIdeal.nD Cert.ProjReferenceIdeal.τ).loc Cert.ProjReferenceIdeal.main_arg14) = m ((c.tc : Thread Cert.ProjReferenceIdeal.nD Cert.ProjReferenceIdeal.τ).loc Cert.ProjReferenceIdeal.main_arg14))
      ∧ r.2.sem = fun _ => 0) :=
  (θ_run Cert.ProjReferenceIdeal.defs _ _).mono (fun r h => And.intro (fun c => (h c).2.2.2.2.2) (sem_eq_zero_of_no_sems (by decide) r.2))
    (Cert.ProjReferenceIdeal.Value.run m ρ)

set_option maxHeartbeats 4000000 in
theorem proj_algebraic : Cert.algebraic_ProjIdeal_ProjReferenceIdeal := by
  intro m g m' g' hpre hagree
  refine ⟨fun c => Cert.ProjReferenceIdeal.Value.outU (Cert.ProjIdeal.Gen.a0 m c) (Cert.ProjIdeal.Gen.a1 m c),
    fun c => Cert.ProjReferenceIdeal.Value.outK (Cert.ProjIdeal.Gen.a0 m c) (Cert.ProjIdeal.Gen.a1 m c) (Cert.ProjIdeal.Gen.a2 m c) (Cert.ProjIdeal.Gen.a4 m c) (Cert.ProjIdeal.Gen.a7 m c) (Cert.ProjIdeal.Gen.a8 m c),
    fun c => Cert.ProjReferenceIdeal.Value.outQ (Cert.ProjIdeal.Gen.a0 m c) (Cert.ProjIdeal.Gen.a1 m c) (Cert.ProjIdeal.Gen.a2 m c) (Cert.ProjIdeal.Gen.a13 m c) (Cert.ProjIdeal.Gen.a14 m c),
    fun c => Cert.ProjReferenceIdeal.Value.outV (Cert.ProjIdeal.Gen.a0 m c) (Cert.ProjIdeal.Gen.a1 m c) (Cert.ProjIdeal.Gen.a2 m c),
    fun c => Cert.ProjReferenceIdeal.Value.outG (Cert.ProjIdeal.Gen.a0 m c) (Cert.ProjIdeal.Gen.a1 m c) (Cert.ProjIdeal.Gen.a2 m c),
    (θ_run Cert.ProjIdeal.defs _ _).mono (fun _ h c => ⟨((h.1 c).1 11).trans (Cert.ProjIdeal.Gen.final11 m c), ((h.1 c).1 13).trans (Cert.ProjIdeal.Gen.final13 m c), ((h.1 c).1 15).trans (Cert.ProjIdeal.Gen.final15 m c), ((h.1 c).1 17).trans (Cert.ProjIdeal.Gen.final17 m c), ((h.1 c).1 18).trans (Cert.ProjIdeal.Gen.final18 m c), h.2.1 c⟩)
      (θ_run_and (Cert.ProjIdeal.Gen.run_main m g) (Cert.ProjIdeal.Gen.frame m g)),
    (θ_run Cert.ProjReferenceIdeal.defs _ _).mono (fun _ h c => ?_) (Cert.ProjReferenceIdeal.Value.run_values m' g')⟩
  obtain ⟨e0, e1, e2, e3, e4, e5, e6, e7, e8, e9, e10, e11, e12, e13, e14⟩ := hagree c
  obtain ⟨r0, r1, r2, r3, r4, ha⟩ := h c
  refine ⟨r0.trans ?_, r1.trans ?_, r2.trans ?_, r3.trans ?_, r4.trans ?_, ha⟩
  · exact Cert.ProjReferenceIdeal.Value.outU_congr e0 e1
  · exact Cert.ProjReferenceIdeal.Value.outK_congr e0 e1 e2 e4 e7 e8
  · exact Cert.ProjReferenceIdeal.Value.outQ_congr e0 e1 e2 e13 e14
  · exact Cert.ProjReferenceIdeal.Value.outV_congr e0 e1 e2
  · exact Cert.ProjReferenceIdeal.Value.outG_congr e0 e1 e2

theorem claim : Cert.Claim := ⟨Cert.Kernel.Gen.facts, Cert.KernelIdeal.Gen.facts, Cert.ReferenceIdeal.Gen.facts,
  Cert.Merge.Gen.facts, Cert.MergeIdeal.Gen.facts, Cert.MergeReferenceIdeal.Gen.facts,
  Cert.Gqa.Gen.facts, Cert.GqaIdeal.Gen.facts, Cert.GqaReferenceIdeal.Gen.facts,
  Cert.Proj.Gen.facts, Cert.ProjIdeal.Gen.facts, Cert.ProjReferenceIdeal.Gen.facts, Cert.Pre_finite.Gen.facts, Cert.Pre_gqa_finite.Gen.facts,
  fun m ρ _ => Cert.Kernel.Gen.frame m ρ, fun m ρ _ => Cert.KernelIdeal.Gen.frame m ρ, fun m ρ _ => Cert.KernelIdeal.Gen.frame m ρ,
  fun m ρ _ => reference_frame m ρ, fun m ρ _ => reference_frame m ρ,
  fun m ρ _ => Cert.Merge.Gen.frame m ρ, fun m ρ _ => Cert.MergeIdeal.Gen.frame m ρ, fun m ρ _ => merge_reference_frame m ρ,
  fun m ρ _ => Cert.Gqa.Gen.frame m ρ, fun m ρ _ => Cert.GqaIdeal.Gen.frame m ρ, fun m ρ _ => Cert.GqaIdeal.Gen.frame m ρ,
  fun m ρ _ => gqa_reference_frame m ρ, fun m ρ _ => gqa_reference_frame m ρ,
  fun m ρ _ => Cert.Proj.Gen.frame m ρ, fun m ρ _ => Cert.ProjIdeal.Gen.frame m ρ, fun m ρ _ => proj_reference_frame m ρ,
  ⟨IdealRules.named_const.statement Cert.KernelIdeal.κ "qscale" .f32 0x3E38AA3B#32 (((8 * (Real.log 2))⁻¹ : ℝ) : EReal) rfl,
    IdealRules.named_const.statement Cert.KernelIdeal.κ "mask" .f32 0xF149F2CA#32 ⊥ rfl⟩,
  algebraic, trivial, merge_algebraic,
  ⟨IdealRules.named_const.statement Cert.GqaIdeal.κ "qscale" .f32 0x3E38AA3B#32 (((8 * (Real.log 2))⁻¹ : ℝ) : EReal) rfl,
    IdealRules.named_const.statement Cert.GqaIdeal.κ "mask" .f32 0xF149F2CA#32 ⊥ rfl⟩,
  gqa_algebraic, trivial, proj_algebraic⟩

end Cert.Proof

end
